-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)) (v3 : (c : Dev Cert.KernelIdeal.nD) → Buf (Elt Ideal) ((c.tc : Thread Cert.KernelIdeal.nD Cert.KernelIdeal.τ).loc Cert.KernelIdeal.main_v85_3)) (v4 : (c : Dev Cert.KernelIdeal.nD) → Buf (Elt Ideal) ((c.tc : Thread Cert.KernelIdeal.nD Cert.KernelIdeal.τ).loc Cert.KernelIdeal.main_v85_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v85_0) i = v0 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v85_1) i = v1 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v85_2) i = v2 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v85_3) i = v3 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.KernelIdeal.nD Cert.KernelIdeal.τ).loc Cert.KernelIdeal.main_v85_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v193) i = v0 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v194) i = v1 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v195) i = v2 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v197) i = v3 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.ReferenceIdeal.nD Cert.ReferenceIdeal.τ).loc Cert.ReferenceIdeal.main_v199) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v7)) (v2 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v7) = v1 c
          ∧ r.2.mem ((c.tc : Thread Cert.Kernel2Ideal.nD Cert.Kernel2Ideal.τ).loc Cert.Kernel2Ideal.main_v3) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v12) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v5)) (v1 : (c : Dev Cert.Kernel3Ideal.nD) → Buf (Elt Ideal) ((c.tc : Thread Cert.Kernel3Ideal.nD Cert.Kernel3Ideal.τ).loc Cert.Kernel3Ideal.main_v3)) (v2 : (c : Dev Cert.Kernel3Ideal.nD) → Buf (Elt Ideal) ((c.tc : Thread Cert.Kernel3Ideal.nD Cert.Kernel3Ideal.τ).loc Cert.Kernel3Ideal.main_v4)) (v3 : (c : Dev Cert.Kernel3Ideal.nD) → Buf (Elt Ideal) ((c.tc : Thread Cert.Kernel3Ideal.nD Cert.Kernel3Ideal.τ).loc Cert.Kernel3Ideal.main_v6)) (v4 : (c : Dev Cert.Kernel3Ideal.nD) → Buf (Elt Ideal) ((c.tc : Thread Cert.Kernel3Ideal.nD Cert.Kernel3Ideal.τ).loc Cert.Kernel3Ideal.main_v7)) (v5 : (c : Dev Cert.Kernel3Ideal.nD) → Buf (Elt Ideal) ((c.tc : Thread Cert.Kernel3Ideal.nD Cert.Kernel3Ideal.τ).loc Cert.Kernel3Ideal.main_v8)) (v6 : (c : Dev Cert.Kernel3Ideal.nD) → Buf (Elt Ideal) ((c.tc : Thread Cert.Kernel3Ideal.nD Cert.Kernel3Ideal.τ).loc Cert.Kernel3Ideal.main_v9)) (v7 : (c : Dev Cert.Kernel3Ideal.nD) → Buf (Elt Ideal) ((c.tc : Thread Cert.Kernel3Ideal.nD Cert.Kernel3Ideal.τ).loc Cert.Kernel3Ideal.main_v10)) (v8 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_v3) = v1 c
          ∧ r.2.mem ((c.tc : Thread Cert.Kernel3Ideal.nD Cert.Kernel3Ideal.τ).loc Cert.Kernel3Ideal.main_v4) = v2 c
          ∧ r.2.mem ((c.tc : Thread Cert.Kernel3Ideal.nD Cert.Kernel3Ideal.τ).loc Cert.Kernel3Ideal.main_v6) = v3 c
          ∧ r.2.mem ((c.tc : Thread Cert.Kernel3Ideal.nD Cert.Kernel3Ideal.τ).loc Cert.Kernel3Ideal.main_v7) = v4 c
          ∧ r.2.mem ((c.tc : Thread Cert.Kernel3Ideal.nD Cert.Kernel3Ideal.τ).loc Cert.Kernel3Ideal.main_v8) = v5 c
          ∧ r.2.mem ((c.tc : Thread Cert.Kernel3Ideal.nD Cert.Kernel3Ideal.τ).loc Cert.Kernel3Ideal.main_v9) = v6 c
          ∧ r.2.mem ((c.tc : Thread Cert.Kernel3Ideal.nD Cert.Kernel3Ideal.τ).loc Cert.Kernel3Ideal.main_v10) = v7 c
          ∧ r.2.mem ((c.tc : Thread Cert.Kernel3Ideal.nD Cert.Kernel3Ideal.τ).loc Cert.Kernel3Ideal.main_v11) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v30) = v4 c
          ∧ r.2.mem ((c.tc : Thread Cert.Reference3Ideal.nD Cert.Reference3Ideal.τ).loc Cert.Reference3Ideal.main_v32) = v5 c
          ∧ r.2.mem ((c.tc : Thread Cert.Reference3Ideal.nD Cert.Reference3Ideal.τ).loc Cert.Reference3Ideal.main_v44) = v6 c
          ∧ r.2.mem ((c.tc : Thread Cert.Reference3Ideal.nD Cert.Reference3Ideal.τ).loc Cert.Reference3Ideal.main_v41) = v7 c
          ∧ r.2.mem ((c.tc : Thread Cert.Reference3Ideal.nD Cert.Reference3Ideal.τ).loc Cert.Reference3Ideal.main_v38) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v4)) (v4 : (c : Dev Cert.Kernel4Ideal.nD) → Buf (Elt Ideal) ((c.tc : Thread Cert.Kernel4Ideal.nD Cert.Kernel4Ideal.τ).loc Cert.Kernel4Ideal.main_v3)) (v5 : (c : Dev Cert.Kernel4Ideal.nD) → Buf (Elt Ideal) ((c.tc : Thread Cert.Kernel4Ideal.nD Cert.Kernel4Ideal.τ).loc Cert.Kernel4Ideal.main_v5)) (v6 : (c : Dev Cert.Kernel4Ideal.nD) → Buf (Elt Ideal) ((c.tc : Thread Cert.Kernel4Ideal.nD Cert.Kernel4Ideal.τ).loc Cert.Kernel4Ideal.main_v6)) (v7 : (c : Dev Cert.Kernel4Ideal.nD) → Buf (Elt Ideal) ((c.tc : Thread Cert.Kernel4Ideal.nD Cert.Kernel4Ideal.τ).loc Cert.Kernel4Ideal.main_v8)) (v8 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v4) = v3 c
          ∧ r.2.mem ((c.tc : Thread Cert.Kernel4Ideal.nD Cert.Kernel4Ideal.τ).loc Cert.Kernel4Ideal.main_v3) = v4 c
          ∧ r.2.mem ((c.tc : Thread Cert.Kernel4Ideal.nD Cert.Kernel4Ideal.τ).loc Cert.Kernel4Ideal.main_v5) = v5 c
          ∧ r.2.mem ((c.tc : Thread Cert.Kernel4Ideal.nD Cert.Kernel4Ideal.τ).loc Cert.Kernel4Ideal.main_v6) = v6 c
          ∧ r.2.mem ((c.tc : Thread Cert.Kernel4Ideal.nD Cert.Kernel4Ideal.τ).loc Cert.Kernel4Ideal.main_v8) = v7 c
          ∧ r.2.mem ((c.tc : Thread Cert.Kernel4Ideal.nD Cert.Kernel4Ideal.τ).loc Cert.Kernel4Ideal.main_v7) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v14) = v3 c
          ∧ r.2.mem ((c.tc : Thread Cert.Reference4Ideal.nD Cert.Reference4Ideal.τ).loc Cert.Reference4Ideal.main_v13) = v4 c
          ∧ r.2.mem ((c.tc : Thread Cert.Reference4Ideal.nD Cert.Reference4Ideal.τ).loc Cert.Reference4Ideal.main_v26) = v5 c
          ∧ r.2.mem ((c.tc : Thread Cert.Reference4Ideal.nD Cert.Reference4Ideal.τ).loc Cert.Reference4Ideal.main_v21) = v6 c
          ∧ r.2.mem ((c.tc : Thread Cert.Reference4Ideal.nD Cert.Reference4Ideal.τ).loc Cert.Reference4Ideal.main_v32) = v7 c
          ∧ r.2.mem ((c.tc : Thread Cert.Reference4Ideal.nD Cert.Reference4Ideal.τ).loc Cert.Reference4Ideal.main_v31) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_written.lean ====
abbrev S2048x6144 : Shape := ⟨2, ![2048, 6144]⟩
abbrev S2048x1024 : Shape := ⟨2, ![2048, 1024]⟩
abbrev S1x1024 : Shape := ⟨2, ![1, 1024]⟩
abbrev S2048x4096 : Shape := ⟨2, ![2048, 4096]⟩
abbrev S1x4096 : Shape := ⟨2, ![1, 4096]⟩
abbrev S6144 : Shape := ⟨1, ![6144]⟩
abbrev S_ : Shape := ⟨0, ![]⟩

class Facts : Prop where
  bcast_S_S6144 : S_.BroadcastsInDim S6144 (![] : Fin 0 → Fin S6144.rank)
  bcast_S6144_S2048x6144_1 : S6144.BroadcastsInDim S2048x6144 (![1] : Fin 1 → Fin S2048x6144.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x6144 .f32) (main_arg1 : FVec F S2048x1024 .f32) (main_arg2 : FVec F S1x1024 .f32) (main_arg3 : FVec F S2048x4096 .f32) (main_arg4 : FVec F S1x4096 .f32) : IVec S2048x6144 1 × IVec S2048x1024 1 × IVec S2048x1024 1 × IVec S2048x1024 1 × IVec S1x1024 1 :=
  let main_v0 : IVec S6144 32 := iotaInDim S6144 32 0
  let main_c : IVec S_ 32 := constantI S_ 32 4096#32
  let main_v1 : IVec S6144 32 := broadcastInDim S6144 ![] bcast_S_S6144 main_c
  let main_v2 : IVec S6144 1 := cmpi .slt main_v0 main_v1
  let main_v3 : IVec S2048x6144 1 := broadcastInDim S2048x6144 ![1] bcast_S6144_S2048x6144_1 main_v2
  let main_c_0 : IVec S_ 1 := constantI S_ 1 1#1
  let main_v4 : IVec S2048x1024 1 := broadcastInDim S2048x1024 ![] bcast_S_S2048x1024 main_c_0
  let main_c_1 : IVec S_ 1 := constantI S_ 1 1#1
  let main_v5 : IVec S2048x1024 1 := broadcastInDim S2048x1024 ![] bcast_S_S2048x1024 main_c_1
  let main_c_2 : IVec S_ 1 := constantI S_ 1 1#1
  let main_v6 : IVec S2048x1024 1 := broadcastInDim S2048x1024 ![] bcast_S_S2048x1024 main_c_2
  let main_c_3 : IVec S_ 1 := constantI S_ 1 1#1
  let main_v7 : IVec S1x1024 1 := broadcastInDim S1x1024 ![] bcast_S_S1x1024 main_c_3
  (main_v3, main_v4, main_v5, main_v6, main_v7)
-- ==== Pre_finite.lean ====
abbrev S2048x6144 : Shape := ⟨2, ![2048, 6144]⟩
abbrev S2048x1024 : Shape := ⟨2, ![2048, 1024]⟩
abbrev S1x1024 : Shape := ⟨2, ![1, 1024]⟩
abbrev S2048x4096 : Shape := ⟨2, ![2048, 4096]⟩
abbrev S1x4096 : Shape := ⟨2, ![1, 4096]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg1 : FVec F S2048x1024 .f32) (main_arg4 : FVec F S1x4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_cst_8 : FVec F S_ .f32 := constant S_ .f32 0x00000000#32
  let main_v24 : FVec F S2048x1024 .f32 := broadcastInDim S2048x1024 ![] bcast_S_S2048x1024 main_cst_8
  let main_v25 : IVec S2048x1024 1 := cmpf .oge main_arg1 main_v24
  let main_c_9 : IVec S_ 1 := constantI S_ 1 1#1
  let main_v26 : IVec S_ 1 := (fun x v => Host.reduce IntOp.andi x v reducesTo_S2048x1024_S_d0_1 h_S_) main_v25 main_c_9
  let main_v27 : IVec S_ 1 := andi main_v23 main_v26
  main_v27

def fn {F : FTy → Type} [FloatOps F] (main_arg0 : FVec F S2048x6144 .f32) (main_arg1 : FVec F S2048x1024 .f32) (main_arg2 : FVec F S1x1024 .f32) (main_arg3 : FVec F S2048x4096 .f32) (main_arg4 : FVec F S1x4096 .f32) : IVec S_ 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg1 main_arg4 main_v13 main_v16
-- ==== Pre_finite2.lean ====
abbrev S2048x2048 : Shape := ⟨2, ![2048, 2048]⟩
abbrev S4x2048x1408 : Shape := ⟨3, ![4, 2048, 1408]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S4x2048x1408 : S_.BroadcastsInDim S4x2048x1408 (![] : Fin 0 → Fin S4x2048x1408.rank)
  reducesTo_S4x2048x1408_S_d0_1_2 : S4x2048x1408.ReducesTo [0, 1, 2] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .bf16) (main_arg1 : FVec F S4x2048x1408 .bf16) (main_arg2 : FVec F S4x2048x1408 .bf16) (main_arg3 : FVec F S5632x2048 .bf16) (main_arg4 : FVec F S2048x2048 .f32) : IVec S_ 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S4x2048x1408 .bf16 := Host.absf main_arg2
  let main_cst_0 : FVec F S_ .bf16 := constant S_ .bf16 0x7F80#16
  let main_v5 : FVec F S4x2048x1408 .bf16 := broadcastInDim S4x2048x1408 ![] bcast_S_S4x2048x1408 main_cst_0
  let main_v6 : IVec S4x2048x1408 1 := cmpf .olt main_v4 main_v5
  let main_c_1 : IVec S_ 1 := constantI S_ 1 1#1
  let main_v7 : IVec S_ 1 := (fun x v => Host.reduce IntOp.andi x v reducesTo_S4x2048x1408_S_d0_1_2 h_S_) main_v6 main_c_1
  let main_v8 : IVec S_ 1 := andi main_v3 main_v7
  let main_v9 : FVec F S5632x2048 .bf16 := Host.absf main_arg3
  let main_cst_2 : FVec F S_ .bf16 := constant S_ .bf16 0x7F80#16
  let main_v10 : FVec F S5632x2048 .bf16 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2048x6144 : Shape := ⟨2, ![2048, 6144]⟩
abbrev S2048x1024 : Shape := ⟨2, ![2048, 1024]⟩
abbrev S1x1024 : Shape := ⟨2, ![1, 1024]⟩
abbrev S2048x4096 : Shape := ⟨2, ![2048, 4096]⟩
abbrev S1x4096 : Shape := ⟨2, ![1, 4096]⟩
abbrev S16x128x8x8x64 : Shape := ⟨5, ![16, 128, 8, 8, 64]⟩
abbrev S16x128x8x128 : Shape := ⟨4, ![16, 128, 8, 128]⟩
abbrev S16x128x8x8 : Shape := ⟨4, ![16, 128, 8, 8]⟩
abbrev S8x128 : Shape := ⟨2, ![8, 128]⟩
abbrev S8x8 : Shape := ⟨2, ![8, 8]⟩
abbrev S16x128x8x8x1 : Shape := ⟨5, ![16, 128, 8, 8, 1]⟩
abbrev S1x1x8x8 : Shape := ⟨4, ![1, 1, 8, 8]⟩
abbrev S8x8x16x128 : Shape := ⟨4, ![8, 8, 16, 128]⟩
abbrev S_ : Shape := ⟨0, ![]⟩
abbrev S8x16x128x128 : Shape := ⟨4, ![8, 16, 128, 128]⟩
abbrev S8x1x16x128x128 : Shape := ⟨5, ![8, 1, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x8x16x128x1 : Shape := ⟨5, ![8, 8, 16, 128, 1]⟩
abbrev S8x8x16x1x128 : Shape := ⟨5, ![8, 8, 16, 1, 128]⟩
abbrev S8x8x16x128x128 : Shape := ⟨5, ![8, 8, 16, 128, 128]⟩
abbrev S16x8x8x64x128 : Shape := ⟨5, ![16, 8, 8, 64, 128]⟩
abbrev S8x8x16x1 : Shape := ⟨4, ![8, 8, 16, 1]⟩
abbrev S1x8x8x64x128 : Shape := ⟨5, ![1, 8, 8, 64, 128]⟩
abbrev S17x8x8x64x128 : Shape := ⟨5, ![17, 8, 8, 64, 128]⟩
abbrev S8x8x1x1 : Shape := ⟨4, ![8, 8, 1, 1]⟩
abbrev S8x8x1 : Shape := ⟨3, ![8, 8, 1]⟩
abbrev S8x8x16 : Shape := ⟨3, ![8, 8, 16]⟩
abbrev S8x8x17 : Shape := ⟨3, ![8, 8, 17]⟩
abbrev S17 : Shape := ⟨1, ![17]⟩
abbrev S17x1 : Shape := ⟨2, ![17, 1]⟩
abbrev S1x17 : Shape := ⟨2, ![1, 17]⟩
abbrev S17x17 : Shape := ⟨2, ![17, 17]⟩
abbrev S8x8x17x1 : Shape := ⟨4, ![8, 8, 17, 1]⟩
abbrev S8x8x1x17 : Shape := ⟨4, ![8, 8, 1, 17]⟩
abbrev S8x8x17x17 : Shape := ⟨4, ![8, 8, 17, 17]⟩
abbrev S8x8x64x128x17 : Shape := ⟨5, ![8, 8, 64, 128, 17]⟩
abbrev S16x128x4096 : Shape := ⟨3, ![16, 128, 4096]⟩
abbrev S128x512 : Shape := ⟨2, ![128, 512]⟩
abbrev S1x128x512 : Shape := ⟨3, ![1, 128, 512]⟩
abbrev S1x512 : Shape := ⟨2, ![1, 512]⟩

abbrev nBuf : Space → Nat
  | .hbm => 109
  | .vmem => 31
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S1x1024, .f32⟩
  | .hbm, ⟨3, _⟩ => ⟨S2048x4096, .f32⟩
  | .hbm, ⟨4, _⟩ => ⟨S1x4096, .f32⟩
  | .hbm, ⟨5, _⟩ => ⟨S2048x4096, .f32⟩
  | .hbm, ⟨6, _⟩ => ⟨S16x128x8x8x64, .f32⟩
  | .hbm, ⟨7, _⟩ => ⟨S2048x1024, .f32⟩
  | .hbm, ⟨8, _⟩ => ⟨S16x128x8x128, .f32⟩
  | .hbm, ⟨9, _⟩ => ⟨S2048x1024, .f32⟩
  | .hbm, ⟨10, _⟩ => ⟨S16x128x8x128, .f32⟩
  | .hbm, ⟨11, _⟩ => ⟨S16x128x8x128, .f32⟩
  | .hbm, ⟨12, _⟩ => ⟨S16x128x8x8, .f32⟩
  | .hbm, ⟨13, _⟩ => ⟨S8x128, .f32⟩
  | .hbm, ⟨14, _⟩ => ⟨S8x8, .f32⟩
  | .hbm, ⟨15, _⟩ => ⟨S8x8, .f32⟩
  | .hbm, ⟨16, _⟩ => ⟨S8x8, .f32⟩
  | .hbm, ⟨17, _⟩ => ⟨S16x128x8x8x1, .f32⟩
  | .hbm, ⟨18, _⟩ => ⟨S16x128x8x8x64, .f32⟩
  | .hbm, ⟨19, _⟩ => ⟨S16x128x8x8x64, .f32⟩
  | .hbm, ⟨20, _⟩ => ⟨S1x1x8x8, .f32⟩
  | .hbm, ⟨21, _⟩ => ⟨S16x128x8x8, .f32⟩
  | .hbm, ⟨22, _⟩ => ⟨S16x128x8x8, .f32⟩
  | .hbm, ⟨23, _⟩ => ⟨S8x8x16x128, .f32⟩
  | .hbm, ⟨24, _⟩ => ⟨S_, .f32⟩
  | .hbm, ⟨25, _⟩ => ⟨S_, .f32⟩
  | .hbm, ⟨26, _⟩ => ⟨S8x8x16x128, .f32⟩
  | .hbm, ⟨27, _⟩ => ⟨S8x16x128x128, .f32⟩
  | .hbm, ⟨28, _⟩ => ⟨S8x1x16x128x128, .f32⟩
  | .hbm, ⟨29, _⟩ => ⟨S128, .i32⟩
  | .hbm, ⟨30, _⟩ => ⟨S128x1, .i32⟩
  | .hbm, ⟨31, _⟩ => ⟨S1x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S8x8x16x128x1, .f32⟩
  | .hbm, ⟨36, _⟩ => ⟨S8x8x16x1x128, .f32⟩
  | .hbm, ⟨37, _⟩ => ⟨S8x8x16x128x128, .f32⟩
  | .hbm, ⟨38, _⟩ => ⟨S8x8x16x128x128, .f32⟩
  | .hbm, ⟨39, _⟩ => ⟨S8x8x16x128x128, .f32⟩
  | .hbm, ⟨40, _⟩ => ⟨S_, .f32⟩
  | .hbm, ⟨41, _⟩ => ⟨S_, .f32⟩
  | .hbm, ⟨42, _⟩ => ⟨S8x8x16x128x128, .i1⟩
  | .hbm, ⟨43, _⟩ => ⟨S8x8x16x128x128, .f32⟩
  | .hbm, ⟨44, _⟩ => ⟨S8x8x16x128x128, .f32⟩
  | .hbm, ⟨45, _⟩ => ⟨S8x8x16x128x128, .f32⟩
  | .hbm, ⟨46, _⟩ => ⟨S8x8x16x128x128, .f32⟩
  | .hbm, ⟨47, _⟩ => ⟨S8x8x16x128x128, .f32⟩
  | .hbm, ⟨48, _⟩ => ⟨S16x8x8x64x128, .f32⟩
  | .hbm, ⟨49, _⟩ => ⟨S16x128x8x8x64, .f32⟩
  | .hbm, ⟨50, _⟩ => ⟨S8x8x16x1, .f32⟩
  | .hbm, ⟨51, _⟩ => ⟨S8x8x16x128, .f32⟩
  | .hbm, ⟨52, _⟩ => ⟨S8x8x16x128, .f32⟩
  | .hbm, ⟨53, _⟩ => ⟨S8x8x16x128, .f32⟩
  | .hbm, ⟨54, _⟩ => ⟨S16x128x8x8, .f32⟩
  | .hbm, ⟨55, _⟩ => ⟨S16x128x8x8x1, .f32⟩
  | .hbm, ⟨56, _⟩ => ⟨S16x128x8x8x64, .f32⟩
  | .hbm, ⟨57, _⟩ => ⟨S16x128x8x8x64, .f32⟩
  | .hbm, ⟨58, _⟩ => ⟨S16x8x8x64x128, .f32⟩
  | .hbm, ⟨59, _⟩ => ⟨S1x8x8x64x128, .f32⟩
  | .hbm, ⟨60, _⟩ => ⟨S_, .f32⟩
  | .hbm, ⟨61, _⟩ => ⟨S1x8x8x64x128, .f32⟩
  | .hbm, ⟨62, _⟩ => ⟨S17x8x8x64x128, .f32⟩
  | .hbm, ⟨63, _⟩ => ⟨S8x8x1x1, .f32⟩
  | .hbm, ⟨64, _⟩ => ⟨S8x8x1, .f32⟩
  | .hbm, ⟨65, _⟩ => ⟨S_, .f32⟩
  | .hbm, ⟨66, _⟩ => ⟨S8x8x1, .f32⟩
  | .hbm, ⟨67, _⟩ => ⟨S8x8x16x1, .f32⟩
  | .hbm, ⟨68, _⟩ => ⟨S8x8x16, .f32⟩
  | .hbm, ⟨69, _⟩ => ⟨S8x8x17, .f32⟩
  | .hbm, ⟨70, _⟩ => ⟨S_, .f32⟩
  | .hbm, ⟨71, _⟩ => ⟨S_, .f32⟩
  | .hbm, ⟨72, _⟩ => ⟨S8x8x17, .f32⟩
  | .hbm, ⟨73, _⟩ => ⟨S17, .i32⟩
  | .hbm, ⟨74, _⟩ => ⟨S17x1, .i32⟩
  | .hbm, ⟨75, _⟩ => ⟨S1x17, .i32⟩
  | .hbm, ⟨76, _⟩ => ⟨S17x17, .i32⟩
  | .hbm, ⟨77, _⟩ => ⟨S17x17, .i32⟩
  | .hbm, ⟨78, _⟩ => ⟨S17x17, .i1⟩
  | .hbm, ⟨79, _⟩ => ⟨S8x8x17x1, .f32⟩
  | .hbm, ⟨80, _⟩ => ⟨S8x8x1x17, .f32⟩
  | .hbm, ⟨81, _⟩ => ⟨S8x8x17x17, .f32⟩
  | .hbm, ⟨82, _⟩ => ⟨S8x8x17x17, .f32⟩
  | .hbm, ⟨83, _⟩ => ⟨S8x8x17x17, .f32⟩
  | .hbm, ⟨84, _⟩ => ⟨S_, .f32⟩
  | .hbm, ⟨85, _⟩ => ⟨S_, .f32⟩
  | .hbm, ⟨86, _⟩ => ⟨S8x8x17x17, .i1⟩
  | .hbm, ⟨87, _⟩ => ⟨S8x8x17x17, .f32⟩
  | .hbm, ⟨88, _⟩ => ⟨S8x8x17x17, .f32⟩
  | .hbm, ⟨89, _⟩ => ⟨S8x8x17x17, .f32⟩
  | .hbm, ⟨90, _⟩ => ⟨S8x8x64x128x17, .f32⟩
  | .hbm, ⟨91, _⟩ => ⟨S17x8x8x64x128, .f32⟩
  | .hbm, ⟨92, _⟩ => ⟨S16x8x8x64x128, .f32⟩
  | .hbm, ⟨93, _⟩ => ⟨S16x8x8x64x128, .f32⟩
  | .hbm, ⟨94, _⟩ => ⟨S16x128x8x8x64, .f32⟩
  | .hbm, ⟨95, _⟩ => ⟨S8x8x16x128, .f32⟩
  | .hbm, ⟨96, _⟩ => ⟨S16x128x8x8, .f32⟩
  | .hbm, ⟨97, _⟩ => ⟨S16x128x8x8x1, .f32⟩
  | .hbm, ⟨98, _⟩ => ⟨S16x128x8x8x64, .f32⟩
  | .hbm, ⟨99, _⟩ => ⟨S16x128x8x8x64, .f32⟩
  | .hbm, ⟨100, _⟩ => ⟨S16x128x8x8x64, .f32⟩
  | .hbm, ⟨101, _⟩ => ⟨S16x128x8x8x64, .f32⟩
  | .hbm, ⟨102, _⟩ => ⟨S16x128x4096, .f32⟩
  | .hbm, ⟨103, _⟩ => ⟨S2048x4096, .f32⟩
  | .hbm, ⟨104, _⟩ => ⟨S2048x6144, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S1x1024, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x512, .f32⟩
  | .local _ .vmem, ⟨19, _⟩ => ⟨S1x512, .f32⟩
  | .local _ .vmem, ⟨20, _⟩ => ⟨S128x512, .f32⟩
  | .local _ .vmem, ⟨21, _⟩ => ⟨S128x512, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S128x512, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_call0_cst : Ref sig .tc := ⟨.hbm, 24, rfl⟩
abbrev main_call0_call0_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_0 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_1 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call2_call0_cst : Ref sig .tc := ⟨.hbm, 70, rfl⟩
abbrev main_call2_call0_v0 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_2 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85_0 : Ref sig .tc := ⟨.hbm, 104, rfl⟩
abbrev main_v85_1 : Ref sig .tc := ⟨.hbm, 105, rfl⟩
abbrev main_v85_2 : Ref sig .tc := ⟨.hbm, 106, rfl⟩
abbrev main_v85_3 : Ref sig .tc := ⟨.hbm, 107, rfl⟩
abbrev main_v85_4 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c0_i32_201 : BitVec 32 := 0#32
  let v732 : BitVec 1 := Scalar.cmpi .eq arg1 c0_i32_201
  let v733 : BitVec 32 := Scalar.extui v732
  let c0_i32_202 : BitVec 32 := 0#32
  let v734 : BitVec 1 := Scalar.cmpi .ne v733 c0_i32_202
  v734

def k0_cond3 (i : grid0.Coords) : BitVec 1 :=
  let arg1 : BitVec 32 := BitVec.ofNat 32 (i 1).val
  let c0_i32_203 : BitVec 32 := 0#32
  let v735 : BitVec 1 := Scalar.cmpi .sgt arg1 c0_i32_203
  let v736 : BitVec 32 := Scalar.extui v735
  let c0_i32_204 : BitVec 32 := 0#32
  let v737 : BitVec 1 := Scalar.cmpi .ne v736 c0_i32_204
  v737

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.addi c32_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c40_i32 : BitVec 32 := 40#32
  let v1 : BitVec 32 := Scalar.addi c40_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi v0 c1_i32
  let c15_i32_0 : BitVec 32 := 15#32
  let v2 : BitVec 32 := Scalar.minsi v1 c15_i32_0
  let c0_i32 : BitVec 32 := 0#32
  let c0_i32_1 : BitVec 32 := 0#32
  ![v2.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S2048x6144 : Shape := ⟨2, ![2048, 6144]⟩
abbrev S2048x1024 : Shape := ⟨2, ![2048, 1024]⟩
abbrev S1x1024 : Shape := ⟨2, ![1, 1024]⟩
abbrev S2048x4096 : Shape := ⟨2, ![2048, 4096]⟩
abbrev S1x4096 : Shape := ⟨2, ![1, 4096]⟩
abbrev S16x128x8x8x64 : Shape := ⟨5, ![16, 128, 8, 8, 64]⟩
abbrev S16x128x8x128 : Shape := ⟨4, ![16, 128, 8, 128]⟩
abbrev S16x128x8x8 : Shape := ⟨4, ![16, 128, 8, 8]⟩
abbrev S8x128 : Shape := ⟨2, ![8, 128]⟩
abbrev S8x8 : Shape := ⟨2, ![8, 8]⟩
abbrev S8x8x64 : Shape := ⟨3, ![8, 8, 64]⟩
abbrev S16x128x8x8x1 : Shape := ⟨5, ![16, 128, 8, 8, 1]⟩
abbrev S1x1x8x8 : Shape := ⟨4, ![1, 1, 8, 8]⟩
abbrev S8x8x16x128 : Shape := ⟨4, ![8, 8, 16, 128]⟩
abbrev S_ : Shape := ⟨0, ![]⟩
abbrev S8x16x128x128 : Shape := ⟨4, ![8, 16, 128, 128]⟩
abbrev S8x1x16x128x128 : Shape := ⟨5, ![8, 1, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x8x16x128x1 : Shape := ⟨5, ![8, 8, 16, 128, 1]⟩
abbrev S8x8x16x1x128 : Shape := ⟨5, ![8, 8, 16, 1, 128]⟩
abbrev S8x8x16x128x128 : Shape := ⟨5, ![8, 8, 16, 128, 128]⟩
abbrev S16x8x8x64x128 : Shape := ⟨5, ![16, 8, 8, 64, 128]⟩
abbrev S8x8x16x1 : Shape := ⟨4, ![8, 8, 16, 1]⟩
abbrev S1x8x8x64x128 : Shape := ⟨5, ![1, 8, 8, 64, 128]⟩
abbrev S17x8x8x64x128 : Shape := ⟨5, ![17, 8, 8, 64, 128]⟩
abbrev S8x8x1x1 : Shape := ⟨4, ![8, 8, 1, 1]⟩
abbrev S8x8x1 : Shape := ⟨3, ![8, 8, 1]⟩
abbrev S8x8x16 : Shape := ⟨3, ![8, 8, 16]⟩
abbrev S8x8x17 : Shape := ⟨3, ![8, 8, 17]⟩
abbrev S17 : Shape := ⟨1, ![17]⟩
abbrev S17x1 : Shape := ⟨2, ![17, 1]⟩
abbrev S1x17 : Shape := ⟨2, ![1, 17]⟩
abbrev S17x17 : Shape := ⟨2, ![17, 17]⟩
abbrev S8x8x17x1 : Shape := ⟨4, ![8, 8, 17, 1]⟩
abbrev S8x8x1x17 : Shape := ⟨4, ![8, 8, 1, 17]⟩
abbrev S8x8x17x17 : Shape := ⟨4, ![8, 8, 17, 17]⟩
abbrev S8x8x64x128x17 : Shape := ⟨5, ![8, 8, 64, 128, 17]⟩
abbrev S1x1x8x8x64 : Shape := ⟨5, ![1, 1, 8, 8, 64]⟩
abbrev S16x8x128x128 : Shape := ⟨4, ![16, 8, 128, 128]⟩
abbrev S16x8x8x128x128 : Shape := ⟨5, ![16, 8, 8, 128, 128]⟩

abbrev nBuf : Space → Nat
  | .hbm => 261
  | .vmem => 0
  | .smem => 0
  | _ => 0

abbrev hbmTy0_0 (i : Nat) : BufTy := match i % 128 with
  | 0 => ⟨S2048x6144, .f32⟩
  | 1 => ⟨S2048x1024, .f32⟩
  | 2 => ⟨S1x1024, .f32⟩
  | 3 => ⟨S2048x4096, .f32⟩
  | 4 => ⟨S1x4096, .f32⟩
  | 5 => ⟨S2048x4096, .f32⟩
  | 6 => ⟨S16x128x8x8x64, .f32⟩
  | 7 => ⟨S2048x1024, .f32⟩
  | 8 => ⟨S16x128x8x128, .f32⟩
  | 9 => ⟨S2048x1024, .f32⟩
  | 10 => ⟨S16x128x8x128, .f32⟩
  | 11 => ⟨S16x128x8x128, .f32⟩
  | 12 => ⟨S16x128x8x8, .f32⟩
  | 13 => ⟨S8x128, .f32⟩
  | 14 => ⟨S8x8, .f32⟩
  | 15 => ⟨S8x8x64, .f32⟩
  | 16 => ⟨S8x8, .f32⟩
  | 17 => ⟨S8x8, .f32⟩
  | 18 => ⟨S16x128x8x8x1, .f32⟩
  | 19 => ⟨S16x128x8x8x64, .f32⟩
  | 20 => ⟨S16x128x8x8x64, .f32⟩
  | 21 => ⟨S1x1x8x8, .f32⟩
  | 22 => ⟨S16x128x8x8, .f32⟩
  | 23 => ⟨S16x128x8x8, .f32⟩
  | 24 => ⟨S8x8x16x128, .f32⟩
  | 25 => ⟨S_, .f32⟩
  | 26 => ⟨S_, .f32⟩
  | 27 => ⟨S8x8x16x128, .f32⟩
  | 28 => ⟨S8x16x128x128, .f32⟩
  | 29 => ⟨S8x1x16x128x128, .f32⟩
  | 30 => ⟨S128, .i32⟩
  | 31 => ⟨S128x1, .i32⟩
  | 32 => ⟨S1x128, .i32⟩
  | 33 => ⟨S128x128, .i32⟩
  | 34 => ⟨S128x128, .i32⟩
  | 35 => ⟨S128x128, .i1⟩
  | 36 => ⟨S8x8x16x128x1, .f32⟩
  | 37 => ⟨S8x8x16x1x128, .f32⟩
  | 38 => ⟨S8x8x16x128x128, .f32⟩
  | 39 => ⟨S8x8x16x128x128, .f32⟩
  | 40 => ⟨S8x8x16x128x128, .f32⟩
  | 41 => ⟨S_, .f32⟩
  | 42 => ⟨S_, .f32⟩
  | 43 => ⟨S8x8x16x128x128, .i1⟩
  | 44 => ⟨S8x8x16x128x128, .f32⟩
  | 45 => ⟨S8x8x16x128x128, .f32⟩
  | 46 => ⟨S_, .f32⟩
  | 47 => ⟨S8x8x16x128x128, .f32⟩
  | 48 => ⟨S8x8x16x128x128, .f32⟩
  | 49 => ⟨S8x8x16x128x128, .f32⟩
  | 50 => ⟨S8x8x16x128x128, .f32⟩
  | 51 => ⟨S16x8x8x64x128, .f32⟩
  | 52 => ⟨S16x128x8x8x64, .f32⟩
  | 53 => ⟨S8x8x16x1, .f32⟩
  | 54 => ⟨S8x8x16x128, .f32⟩
  | 55 => ⟨S8x8x16x128, .f32⟩
  | 56 => ⟨S8x8x16x128, .f32⟩
  | 57 => ⟨S16x128x8x8, .f32⟩
  | 58 => ⟨S16x128x8x8x1, .f32⟩
  | 59 => ⟨S16x128x8x8x64, .f32⟩
  | 60 => ⟨S16x128x8x8x64, .f32⟩
  | 61 => ⟨S16x8x8x64x128, .f32⟩
  | 62 => ⟨S1x8x8x64x128, .f32⟩
  | 63 => ⟨S_, .f32⟩
  | 64 => ⟨S1x8x8x64x128, .f32⟩
  | 65 => ⟨S17x8x8x64x128, .f32⟩
  | 66 => ⟨S_, .f32⟩
  | 67 => ⟨S1x8x8x64x128, .f32⟩
  | 68 => ⟨S8x8x1x1, .f32⟩
  | 69 => ⟨S8x8x1, .f32⟩
  | 70 => ⟨S_, .f32⟩
  | 71 => ⟨S8x8x1, .f32⟩
  | 72 => ⟨S8x8x16x1, .f32⟩
  | 73 => ⟨S8x8x16, .f32⟩
  | 74 => ⟨S8x8x17, .f32⟩
  | 75 => ⟨S_, .f32⟩
  | 76 => ⟨S8x8x1, .f32⟩
  | 77 => ⟨S_, .f32⟩
  | 78 => ⟨S_, .f32⟩
  | 79 => ⟨S8x8x17, .f32⟩
  | 80 => ⟨S17, .i32⟩
  | 81 => ⟨S17x1, .i32⟩
  | 82 => ⟨S1x17, .i32⟩
  | 83 => ⟨S17x17, .i32⟩
  | 84 => ⟨S17x17, .i32⟩
  | 85 => ⟨S17x17, .i1⟩
  | 86 => ⟨S8x8x17x1, .f32⟩
  | 87 => ⟨S8x8x1x17, .f32⟩
  | 88 => ⟨S8x8x17x17, .f32⟩
  | 89 => ⟨S8x8x17x17, .f32⟩
  | 90 => ⟨S8x8x17x17, .f32⟩
  | 91 => ⟨S_, .f32⟩
  | 92 => ⟨S_, .f32⟩
  | 93 => ⟨S8x8x17x17, .i1⟩
  | 94 => ⟨S8x8x17x17, .f32⟩
  | 95 => ⟨S8x8x17x17, .f32⟩
  | 96 => ⟨S_, .f32⟩
  | 97 => ⟨S8x8x17x17, .f32⟩
  | 98 => ⟨S8x8x17x17, .f32⟩
  | 99 => ⟨S8x8x64x128x17, .f32⟩
  | 100 => ⟨S17x8x8x64x128, .f32⟩
  | 101 => ⟨S16x8x8x64x128, .f32⟩
  | 102 => ⟨S16x8x8x64x128, .f32⟩
  | 103 => ⟨S16x128x8x8x64, .f32⟩
  | 104 => ⟨S8x8x16x128, .f32⟩
  | 105 => ⟨S16x128x8x8, .f32⟩
  | 106 => ⟨S16x128x8x8x1, .f32⟩
  | 107 => ⟨S16x128x8x8x64, .f32⟩
  | 108 => ⟨S16x128x8x8x64, .f32⟩
  | 109 => ⟨S16x128x8x8x64, .f32⟩
  | 110 => ⟨S1x1x8x8x64, .f32⟩
  | 111 => ⟨S16x128x8x8x64, .f32⟩
  | 112 => ⟨S16x128x8x8x64, .f32⟩
  | 113 => ⟨S16x128x8x8x64, .f32⟩
  | 114 => ⟨S16x128x8x8x64, .f32⟩
  | 115 => ⟨S16x128x8x8x64, .f32⟩
  | 116 => ⟨S16x128x8x8x64, .f32⟩
  | 117 => ⟨S16x128x8x8x64, .f32⟩
  | 118 => ⟨S_, .f32⟩
  | 119 => ⟨S16x128x8x8, .f32⟩
  | 120 => ⟨S16x128x8x8x1, .f32⟩
  | 121 => ⟨S16x128x8x8x64, .f32⟩
  | 122 => ⟨S16x128x8x8x64, .f32⟩
  | 123 => ⟨S_, .f32⟩
  | 124 => ⟨S16x128x8x8, .f32⟩
  | 125 => ⟨S8x8x16x128, .f32⟩
  | 126 => ⟨S8x8x16x128, .f32⟩
  | 127 => ⟨S16x8x8x64x128, .f32⟩
  | _ => ⟨S2048x6144, .f32⟩

abbrev hbmTy0_1 (i : Nat) : BufTy := match i % 128 with
  | 0 => ⟨S16x8x128x128, .f32⟩
  | 1 => ⟨S16x128x8x128, .f32⟩
  | 2 => ⟨S16x8x8x64x128, .f32⟩
  | 3 => ⟨S_, .f32⟩
  | 4 => ⟨S17x8x8x64x128, .f32⟩
  | 5 => ⟨S8x8x64x128x17, .f32⟩
  | 6 => ⟨S8x8x17x17, .f32⟩
  | 7 => ⟨S8x8x64x128x17, .f32⟩
  | 8 => ⟨S17x8x8x64x128, .f32⟩
  | 9 => ⟨S8x8x17x17, .f32⟩
  | 10 => ⟨S_, .f32⟩
  | 11 => ⟨S8x8x17x17, .f32⟩
  | 12 => ⟨S8x8x17x17, .f32⟩
  | 13 => ⟨S_, .f32⟩
  | 14 => ⟨S8x8x17, .f32⟩
  | 15 => ⟨S8x8x17x1, .f32⟩
  | 16 => ⟨S8x8x17x17, .f32⟩
  | 17 => ⟨S_, .f32⟩
  | 18 => ⟨S8x8x17, .f32⟩
  | 19 => ⟨S8x8x1x17, .f32⟩
  | 20 => ⟨S_, .f32⟩
  | 21 => ⟨S8x8x17, .f32⟩
  | 22 => ⟨S_, .f32⟩
  | 23 => ⟨S8x8x17, .f32⟩
  | 24 => ⟨S8x8x17, .f32⟩
  | 25 => ⟨S_, .f32⟩
  | 26 => ⟨S_, .f32⟩
  | 27 => ⟨S8x8x17, .f32⟩
  | 28 => ⟨S8x8x1, .f32⟩
  | 29 => ⟨S8x8x16, .f32⟩
  | 30 => ⟨S8x8x16x1, .f32⟩
  | 31 => ⟨S_, .f32⟩
  | 32 => ⟨S8x8x16x128, .f32⟩
  | 33 => ⟨S8x8x16x128, .f32⟩
  | 34 => ⟨S1x8x8x64x128, .f32⟩
  | 35 => ⟨S16x8x8x64x128, .f32⟩
  | 36 => ⟨S16x8x128x128, .f32⟩
  | 37 => ⟨S16x128x8x128, .f32⟩
  | 38 => ⟨S16x8x8x64x128, .f32⟩
  | 39 => ⟨S16x128x8x8x64, .f32⟩
  | 40 => ⟨S16x128x8x8x64, .f32⟩
  | 41 => ⟨S16x128x8x8x64, .f32⟩
  | 42 => ⟨S16x128x8x8x64, .f32⟩
  | 43 => ⟨S_, .f32⟩
  | 44 => ⟨S16x128x8x8, .f32⟩
  | 45 => ⟨S16x128x8x8x1, .f32⟩
  | 46 => ⟨S_, .f32⟩
  | 47 => ⟨S16x128x8x8, .f32⟩
  | 48 => ⟨S8x8x16x128, .f32⟩
  | 49 => ⟨S8x8x16x128, .f32⟩
  | 50 => ⟨S_, .f32⟩
  | 51 => ⟨S8x8x16, .f32⟩
  | 52 => ⟨S8x8x16x1, .f32⟩
  | 53 => ⟨S8x8x16x128, .f32⟩
  | 54 => ⟨S8x8x16x128, .f32⟩
  | 55 => ⟨S_, .f32⟩
  | 56 => ⟨S8x8x16x128, .f32⟩
  | 57 => ⟨S8x8x16x128, .f32⟩
  | 58 => ⟨S16x8x8x64x128, .f32⟩
  | 59 => ⟨S16x8x8x128x128, .f32⟩
  | 60 => ⟨S8x8x16x128x128, .f32⟩
  | 61 => ⟨S16x8x8x64x128, .f32⟩
  | 62 => ⟨S16x128x8x8x64, .f32⟩
  | 63 => ⟨S16x128x8x8x64, .f32⟩
  | 64 => ⟨S8x8x16x128x128, .f32⟩
  | 65 => ⟨S8x8x16x128x128, .f32⟩
  | 66 => ⟨S8x8x16x128x128, .f32⟩
  | 67 => ⟨S_, .f32⟩
  | 68 => ⟨S8x16x128x128, .f32⟩
  | 69 => ⟨S8x1x16x128x128, .f32⟩
  | 70 => ⟨S8x8x16x128x128, .f32⟩
  | 71 => ⟨S_, .f32⟩
  | 72 => ⟨S8x8x16x128x128, .f32⟩
  | 73 => ⟨S8x8x16x128x128, .f32⟩
  | 74 => ⟨S_, .f32⟩
  | 75 => ⟨S8x8x16x128, .f32⟩
  | 76 => ⟨S8x8x16x128x1, .f32⟩
  | 77 => ⟨S8x8x16x128x128, .f32⟩
  | 78 => ⟨S_, .f32⟩
  | 79 => ⟨S8x8x16x128, .f32⟩
  | 80 => ⟨S8x8x16x1x128, .f32⟩
  | 81 => ⟨S_, .f32⟩
  | 82 => ⟨S8x8x16x128, .f32⟩
  | 83 => ⟨S8x8x16x128, .f32⟩
  | 84 => ⟨S_, .f32⟩
  | 85 => ⟨S8x8x16x128, .f32⟩
  | 86 => ⟨S8x8x16x128, .f32⟩
  | 87 => ⟨S_, .f32⟩
  | 88 => ⟨S8x16x128x128, .f32⟩
  | 89 => ⟨S8x16x128x128, .f32⟩
  | 90 => ⟨S16x128x8x128, .f32⟩
  | 91 => ⟨S16x128x8x128, .f32⟩
  | 92 => ⟨S8x16x128x128, .f32⟩
  | 93 => ⟨S16x128x8x128, .f32⟩
  | 94 => ⟨S16x128x8x128, .f32⟩
  | 95 => ⟨S_, .f32⟩
  | 96 => ⟨S_, .f32⟩
  | 97 => ⟨S8x8x16x128, .f32⟩
  | 98 => ⟨S16x128x8x8, .f32⟩
  | 99 => ⟨S16x128x8x8, .f32⟩
  | 100 => ⟨S16x128x8x8, .f32⟩
  | 101 => ⟨S16x128x8x8, .f32⟩
  | 102 => ⟨S_, .f32⟩
  | 103 => ⟨S8x8, .f32⟩
  | 104 => ⟨S1x1x8x8, .f32⟩
  | 105 => ⟨S_, .f32⟩
  | 106 => ⟨S8x8, .f32⟩
  | 107 => ⟨S16x128x8x8x64, .f32⟩
  | 108 => ⟨S_, .f32⟩
  | 109 => ⟨S16x128x8x8, .f32⟩
  | 110 => ⟨S16x128x8x8x1, .f32⟩
  | 111 => ⟨S16x128x8x8x64, .f32⟩
  | 112 => ⟨S16x128x8x8x64, .f32⟩
  | 113 => ⟨S16x128x8x8x64, .f32⟩
  | 114 => ⟨S_, .f32⟩
  | 115 => ⟨S16x128x8x8, .f32⟩
  | 116 => ⟨S16x128x8x8, .f32⟩
  | 117 => ⟨S8x8, .f32⟩
  | 118 => ⟨S8x8, .f32⟩
  | 119 => ⟨S2048x4096, .f32⟩
  | 120 => ⟨S_, .i32⟩
  | 121 => ⟨S_, .f32⟩
  | 122 => ⟨S2048x6144, .f32⟩
  | 123 => ⟨S2048x1024, .f32⟩
  | 124 => ⟨S2048x1024, .f32⟩
  | 125 => ⟨S_, .i32⟩
  | 126 => ⟨S_, .f32⟩
  | 127 => ⟨S16x128x8x128, .f32⟩
  | _ => ⟨S2048x6144, .f32⟩

abbrev hbmTy0_2 (i : Nat) : BufTy := match i % 128 with
  | 0 => ⟨S2048x1024, .f32⟩
  | 1 => ⟨S_, .i32⟩
  | 2 => ⟨S_, .f32⟩
  | 3 => ⟨S8x128, .f32⟩
  | 4 => ⟨S1x1024, .f32⟩
  | _ => ⟨S2048x6144, .f32⟩

abbrev hbmTy (i : Nat) : BufTy := match i / 128 with
  | 0 => hbmTy0_0 i
  | 1 => hbmTy0_1 i
  | 2 => hbmTy0_2 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_call0_cst : Ref sig .tc := ⟨.hbm, 25, rfl⟩
abbrev main_call0_call0_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_call1_v0 : Ref sig .tc := ⟨.hbm, 42, rfl⟩
abbrev main_v34_1 : Ref sig .tc := ⟨.hbm, 43, rfl⟩
abbrev main_call1_v2 : Ref sig .tc := ⟨.hbm, 44, rfl⟩
abbrev main_v34_0 : Ref sig .tc := ⟨.hbm, 45, rfl⟩
abbrev main_call1_cst : Ref sig .tc := ⟨.hbm, 46, rfl⟩
abbrev main_v34_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_0 : Ref sig .tc := ⟨.hbm, 63, rfl⟩
abbrev main_v50 : Ref sig .tc := ⟨.hbm, 64, rfl⟩
abbrev main_v51 : Ref sig .tc := ⟨.hbm, 65, rfl⟩
abbrev main_cst_1 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_2 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_3 : Ref sig .tc := ⟨.hbm, 75, rfl⟩
abbrev main_v59 : Ref sig .tc := ⟨.hbm, 76, rfl⟩
abbrev main_call2_call0_cst : Ref sig .tc := ⟨.hbm, 77, rfl⟩
abbrev main_call2_call0_v0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_4 : Ref sig .tc := ⟨.hbm, 91, rfl⟩
abbrev main_call3_v0 : Ref sig .tc := ⟨.hbm, 92, rfl⟩
abbrev main_v72_1 : Ref sig .tc := ⟨.hbm, 93, rfl⟩
abbrev main_call3_v2 : Ref sig .tc := ⟨.hbm, 94, rfl⟩
abbrev main_v72_0 : Ref sig .tc := ⟨.hbm, 95, rfl⟩
abbrev main_call3_cst : Ref sig .tc := ⟨.hbm, 96, rfl⟩
abbrev main_v72_2 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_5 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_6 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_7 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_call4_cst : Ref sig .tc := ⟨.hbm, 138, rfl⟩
abbrev main_call4_v0 : Ref sig .tc := ⟨.hbm, 139, rfl⟩
abbrev main_v110 : Ref sig .tc := ⟨.hbm, 140, rfl⟩
abbrev main_cst_8 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_9 : Ref sig .tc := ⟨.hbm, 145, rfl⟩
abbrev main_v114 : Ref sig .tc := ⟨.hbm, 146, rfl⟩
abbrev main_v115 : Ref sig .tc := ⟨.hbm, 147, rfl⟩
abbrev main_cst_10 : Ref sig .tc := ⟨.hbm, 148, rfl⟩
abbrev main_v116 : Ref sig .tc := ⟨.hbm, 149, rfl⟩
abbrev main_cst_11 : Ref sig .tc := ⟨.hbm, 150, rfl⟩
abbrev main_v117 : Ref sig .tc := ⟨.hbm, 151, rfl⟩
abbrev main_v118 : Ref sig .tc := ⟨.hbm, 152, rfl⟩
abbrev main_call5_call0_cst : Ref sig .tc := ⟨.hbm, 153, rfl⟩
abbrev main_call5_call0_v0 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_12 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_13 : Ref sig .tc := ⟨.hbm, 171, rfl⟩
abbrev main_v134 : Ref sig .tc := ⟨.hbm, 172, rfl⟩
abbrev main_v135 : Ref sig .tc := ⟨.hbm, 173, rfl⟩
abbrev main_cst_14 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_15 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_16 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_17 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_call6_cst : Ref sig .tc := ⟨.hbm, 199, rfl⟩
abbrev main_call6_v0 : Ref sig .tc := ⟨.hbm, 200, rfl⟩
abbrev main_v157 : Ref sig .tc := ⟨.hbm, 201, rfl⟩
abbrev main_cst_18 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_cst_19 : Ref sig .tc := ⟨.hbm, 206, rfl⟩
abbrev main_v161 : Ref sig .tc := ⟨.hbm, 207, rfl⟩
abbrev main_v162 : Ref sig .tc := ⟨.hbm, 208, rfl⟩
abbrev main_cst_20 : Ref sig .tc := ⟨.hbm, 209, rfl⟩
abbrev main_v163 : Ref sig .tc := ⟨.hbm, 210, rfl⟩
abbrev main_v164 : Ref sig .tc := ⟨.hbm, 211, rfl⟩
abbrev main_cst_21 : Ref sig .tc := ⟨.hbm, 212, rfl⟩
abbrev main_v165 : Ref sig .tc := ⟨.hbm, 213, rfl⟩
abbrev main_v166 : Ref sig .tc := ⟨.hbm, 214, rfl⟩
abbrev main_cst_22 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_call7_call0_cst : Ref sig .tc := ⟨.hbm, 223, rfl⟩
abbrev main_call7_call0_v0 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_cst_23 : Ref sig .tc := ⟨.hbm, 230, rfl⟩
abbrev main_v179 : Ref sig .tc := ⟨.hbm, 231, rfl⟩
abbrev main_v180 : Ref sig .tc := ⟨.hbm, 232, rfl⟩
abbrev main_cst_24 : Ref sig .tc := ⟨.hbm, 233, rfl⟩
abbrev main_v181 : Ref sig .tc := ⟨.hbm, 234, rfl⟩
abbrev main_v182 : Ref sig .tc := ⟨.hbm, 235, rfl⟩
abbrev main_cst_25 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_cst_26 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_c : Ref sig .tc := ⟨.hbm, 248, rfl⟩
abbrev main_call8_v0 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_c_27 : Ref sig .tc := ⟨.hbm, 253, rfl⟩
abbrev main_call9_v0 : Ref sig .tc := ⟨.hbm, 254, rfl⟩
abbrev main_v196 : Ref sig .tc := ⟨.hbm, 255, rfl⟩
abbrev main_v197 : Ref sig .tc := ⟨.hbm, 256, rfl⟩
abbrev main_c_28 : Ref sig .tc := ⟨.hbm, 257, rfl⟩
abbrev main_call10_v0 : Ref sig .tc := ⟨.hbm, 258, rfl⟩
abbrev main_v198 : Ref sig .tc := ⟨.hbm, 259, rfl⟩
abbrev main_v199 : Ref sig .tc := ⟨.hbm, 260, rfl⟩

abbrev nD : Nat := 1
abbrev τ : Topo := Topo.v7x

variable {F : FTy → Type} [FloatOps F]
-- ==== Kernel2.lean ====
abbrev S2048x2048 : Shape := ⟨2, ![2048, 2048]⟩
abbrev S4x2048x1408 : Shape := ⟨3, ![4, 2048, 1408]⟩
abbrev S5632x2048 : Shape := ⟨2, ![5632, 2048]⟩
abbrev S2048x5632 : Shape := ⟨2, ![2048, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S512x512 : Shape := ⟨2, ![512, 512]⟩
abbrev S2048x1024 : Shape := ⟨2, ![2048, 1024]⟩
abbrev S1408x1024 : Shape := ⟨2, ![1408, 1024]⟩
abbrev S1408x2048 : Shape := ⟨2, ![1408, 2048]⟩
abbrev S1x1024x1408 : Shape := ⟨3, ![1, 1024, 1408]⟩

abbrev nBuf : Space → Nat
  | .hbm => 14
  | .vmem => 52
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S2048x2048, .f32⟩
  | .hbm, ⟨5, _⟩ => ⟨S2048x5632, .bf16⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S2048x5632, .f32⟩
  | .hbm, ⟨10, _⟩ => ⟨S2048x5632, .bf16⟩
  | .hbm, ⟨11, _⟩ => ⟨S2048x5632, .bf16⟩
  | .hbm, ⟨12, _⟩ => ⟨S4x2048x1408, .bf16⟩
  | .hbm, ⟨13, _⟩ => ⟨S4x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048x1408, .bf16⟩
  | .local _ .vmem, ⟨9, _⟩ => ⟨S1x2048x1408, .bf16⟩
  | .local _ .vmem, ⟨10, _⟩ => ⟨S1024x1408, .bf16⟩
  | .local _ .vmem, ⟨11, _⟩ => ⟨S1024x1408, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S2048x1408, .bf16⟩
  | .local _ .vmem, ⟨19, _⟩ => ⟨S2048x1408, .bf16⟩
  | .local _ .vmem, ⟨20, _⟩ => ⟨S2048x1024, .f32⟩
  | .local _ .vmem, ⟨21, _⟩ => ⟨S2048x1024, .f32⟩
  | .local _ .vmem, ⟨22, _⟩ => ⟨S1408x1024, .bf16⟩
  | .local _ .vmem, ⟨23, _⟩ => ⟨S1408x1024, .bf16⟩
  | .local _ .vmem, ⟨24, _⟩ => ⟨S1024x2048, .f32⟩
  | .local _ .vmem, ⟨25, _⟩ => ⟨S1024x2048, .f32⟩
  | .local _ .vmem, ⟨26, _⟩ => ⟨S1408x2048, .bf16⟩
  | .local _ .vmem, ⟨27, _⟩ => ⟨S1408x2048, .bf16⟩
  | .local _ .vmem, ⟨28, _⟩ => ⟨S1024x1408, .f32⟩
  | .local _ .vmem, ⟨29, _⟩ => ⟨S1024x1408, .f32⟩
  | .local _ .vmem, ⟨30, _⟩ => ⟨S512x512, .f32⟩
  | .local _ .vmem, ⟨31, _⟩ => ⟨S512x512, .f32⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S2048x1024, .bf16⟩
  | .local _ .vmem, ⟨41, _⟩ => ⟨S2048x1024, .bf16⟩
  | .local _ .vmem, ⟨42, _⟩ => ⟨S2048x1408, .bf16⟩
  | .local _ .vmem, ⟨43, _⟩ => ⟨S2048x1408, .bf16⟩
  | .local _ .vmem, ⟨44, _⟩ => ⟨S1x1024x1408, .bf16⟩
  | .local _ .vmem, ⟨45, _⟩ => ⟨S1x1024x1408, .bf16⟩
  | .local _ .vmem, ⟨46, _⟩ => ⟨S2048x1024, .bf16⟩
  | .local _ .vmem, ⟨47, _⟩ => ⟨S2048x1024, .bf16⟩
  | .local _ .vmem, ⟨48, _⟩ => ⟨S2048x1408, .bf16⟩
  | .local _ .vmem, ⟨49, _⟩ => ⟨S2048x1408, .bf16⟩
  | .local _ .vmem, ⟨50, _⟩ => ⟨S1x1024x1408, .bf16⟩
  | .local _ .vmem, ⟨51, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![11, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1408x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1408x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![11, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S512x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S512x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨3, ![2, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x1024x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x1024x1408 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference2Ideal.lean ====
abbrev S2048x2048 : Shape := ⟨2, ![2048, 2048]⟩
abbrev S4x2048x1408 : Shape := ⟨3, ![4, 2048, 1408]⟩
abbrev S5632x2048 : Shape := ⟨2, ![5632, 2048]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S2048x2048, .f32⟩
  | .hbm, ⟨5, _⟩ => ⟨S2048x2048, .f32⟩
  | .hbm, ⟨6, _⟩ => ⟨S2048x4x1408, .bf16⟩
  | .hbm, ⟨7, _⟩ => ⟨S2048x5632, .bf16⟩
  | .hbm, ⟨8, _⟩ => ⟨S2048x4x1408, .bf16⟩
  | .hbm, ⟨9, _⟩ => ⟨S2048x5632, .bf16⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x2048, .f32⟩
  | .hbm, ⟨27, _⟩ => ⟨S2048x5632, .f32⟩
  | .hbm, ⟨28, _⟩ => ⟨S5632x2048, .f32⟩
  | .hbm, ⟨29, _⟩ => ⟨S5632x2048, .bf16⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S5632x2048, .f32⟩
  | .hbm, ⟨34, _⟩ => ⟨S2048x5632, .f32⟩
  | .hbm, ⟨35, _⟩ => ⟨S2048x5632, .bf16⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x5632, .f32⟩
  | .hbm, ⟨40, _⟩ => ⟨S5632x2048, .f32⟩
  | .hbm, ⟨41, _⟩ => ⟨S2048x5632, .f32⟩
  | .hbm, ⟨42, _⟩ => ⟨S2048x5632, .bf16⟩
  | .hbm, ⟨43, _⟩ => ⟨S2048x4x1408, .bf16⟩
  | .hbm, ⟨44, _⟩ => ⟨S4x2048x1408, .bf16⟩
  | .hbm, ⟨45, _⟩ => ⟨S2048x4x1408, .bf16⟩
  | .hbm, ⟨46, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Kernel3.lean ====
abbrev S2048x2048 : Shape := ⟨2, ![2048, 2048]⟩
abbrev S2048x256 : Shape := ⟨2, ![2048, 256]⟩
abbrev S4x256x512 : Shape := ⟨3, ![4, 256, 512]⟩
abbrev S2048x4096 : Shape := ⟨2, ![2048, 4096]⟩
abbrev S2048x6144 : Shape := ⟨2, ![2048, 6144]⟩
abbrev S2048x128 : Shape := ⟨2, ![2048, 128]⟩
abbrev S1024x2048 : Shape := ⟨2, ![1024, 2048]⟩
abbrev S2048x1024 : Shape := ⟨2, ![2048, 1024]⟩
abbrev S1024x1024 : Shape := ⟨2, ![1024, 1024]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩
abbrev S512x1024 : Shape := ⟨2, ![512, 1024]⟩
abbrev S2048x512 : Shape := ⟨2, ![2048, 512]⟩
abbrev S1024x128 : Shape := ⟨2, ![1024, 128]⟩

abbrev nBuf : Space → Nat
  | .hbm => 25
  | .vmem => 73
  | .smem => 0
  | _ => 0

abbrev bufTy : (tb : Table) → Fin (tcTables nBuf tb) → BufTy
  | .hbm, ⟨0, _⟩ => ⟨S2048x2048, .bf16⟩
  | .hbm, ⟨1, _⟩ => ⟨S2048x256, .f32⟩
  | .hbm, ⟨2, _⟩ => ⟨S2048x2048, .bf16⟩
  | .hbm, ⟨3, _⟩ => ⟨S4x256x512, .bf16⟩
  | .hbm, ⟨4, _⟩ => ⟨S2048x2048, .f32⟩
  | .hbm, ⟨5, _⟩ => ⟨S2048x2048, .bf16⟩
  | .hbm, ⟨6, _⟩ => ⟨S2048x4096, .bf16⟩
  | .hbm, ⟨7, _⟩ => ⟨S2048x6144, .bf16⟩
  | .hbm, ⟨8, _⟩ => ⟨S2048x128, .bf16⟩
  | .hbm, ⟨9, _⟩ => ⟨S2048x4096, .bf16⟩
  | .hbm, ⟨10, _⟩ => ⟨S2048x6144, .bf16⟩
  | .hbm, ⟨11, _⟩ => ⟨S2048x128, .bf16⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S4x256x512, .bf16⟩
  | .hbm, ⟨18, _⟩ => ⟨S2048x2048, .f32⟩
  | .hbm, ⟨19, _⟩ => ⟨S2048x4096, .f32⟩
  | .hbm, ⟨20, _⟩ => ⟨S2048x6144, .f32⟩
  | .hbm, ⟨21, _⟩ => ⟨S2048x128, .f32⟩
  | .hbm, ⟨22, _⟩ => ⟨S2048x4096, .bf16⟩
  | .hbm, ⟨23, _⟩ => ⟨S2048x6144, .bf16⟩
  | .hbm, ⟨24, _⟩ => ⟨S2048x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1x256x512, .bf16⟩
  | .local _ .vmem, ⟨9, _⟩ => ⟨S1x256x512, .bf16⟩
  | .local _ .vmem, ⟨10, _⟩ => ⟨S1024x512, .f32⟩
  | .local _ .vmem, ⟨11, _⟩ => ⟨S1024x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1024, .bf16⟩
  | .local _ .vmem, ⟨27, _⟩ => ⟨S1024x1024, .bf16⟩
  | .local _ .vmem, ⟨28, _⟩ => ⟨S2048x256, .f32⟩
  | .local _ .vmem, ⟨29, _⟩ => ⟨S2048x512, .bf16⟩
  | .local _ .vmem, ⟨30, _⟩ => ⟨S2048x512, .bf16⟩
  | .local _ .vmem, ⟨31, _⟩ => ⟨S1x256x512, .bf16⟩
  | .local _ .vmem, ⟨32, _⟩ => ⟨S1x256x512, .bf16⟩
  | .local _ .vmem, ⟨33, _⟩ => ⟨S1024x2048, .bf16⟩
  | .local _ .vmem, ⟨34, _⟩ => ⟨S1024x2048, .bf16⟩
  | .local _ .vmem, ⟨35, _⟩ => ⟨S1024x2048, .bf16⟩
  | .local _ .vmem, ⟨36, _⟩ => ⟨S1024x2048, .bf16⟩
  | .local _ .vmem, ⟨37, _⟩ => ⟨S1024x1024, .f32⟩
  | .local _ .vmem, ⟨38, _⟩ => ⟨S1024x1024, .f32⟩
  | .local _ .vmem, ⟨39, _⟩ => ⟨S1024x2048, .bf16⟩
  | .local _ .vmem, ⟨40, _⟩ => ⟨S1024x2048, .bf16⟩
  | .local _ .vmem, ⟨41, _⟩ => ⟨S2048x1024, .bf16⟩
  | .local _ .vmem, ⟨42, _⟩ => ⟨S2048x1024, .bf16⟩
  | .local _ .vmem, ⟨43, _⟩ => ⟨S1024x1024, .f32⟩
  | .local _ .vmem, ⟨44, _⟩ => ⟨S1024x1024, .f32⟩
  | .local _ .vmem, ⟨45, _⟩ => ⟨S1024x2048, .bf16⟩
  | .local _ .vmem, ⟨46, _⟩ => ⟨S1024x2048, .bf16⟩
  | .local _ .vmem, ⟨47, _⟩ => ⟨S2048x1024, .bf16⟩
  | .local _ .vmem, ⟨48, _⟩ => ⟨S2048x1024, .bf16⟩
  | .local _ .vmem, ⟨49, _⟩ => ⟨S1024x1024, .f32⟩
  | .local _ .vmem, ⟨50, _⟩ => ⟨S1024x1024, .f32⟩
  | .local _ .vmem, ⟨51, _⟩ => ⟨S1024x2048, .bf16⟩
  | .local _ .vmem, ⟨52, _⟩ => ⟨S1024x2048, .bf16⟩
  | .local _ .vmem, ⟨53, _⟩ => ⟨S2048x128, .bf16⟩
  | .local _ .vmem, ⟨54, _⟩ => ⟨S1024x128, .f32⟩
  | .local _ .vmem, ⟨55, _⟩ => ⟨S1024x128, .f32⟩
  | .local _ .vmem, ⟨56, _⟩ => ⟨S2048x1024, .bf16⟩
  | .local _ .vmem, ⟨57, _⟩ => ⟨S2048x1024, .bf16⟩
  | .local _ .vmem, ⟨58, _⟩ => ⟨S2048x1024, .bf16⟩
  | .local _ .vmem, ⟨59, _⟩ => ⟨S2048x1024, .bf16⟩
  | .local _ .vmem, ⟨60, _⟩ => ⟨S1024x1024, .bf16⟩
  | .local _ .vmem, ⟨61, _⟩ => ⟨S1024x1024, .bf16⟩
  | .local _ .vmem, ⟨62, _⟩ => ⟨S2048x1024, .bf16⟩
  | .local _ .vmem, ⟨63, _⟩ => ⟨S2048x1024, .bf16⟩
  | .local _ .vmem, ⟨64, _⟩ => ⟨S2048x1024, .bf16⟩
  | .local _ .vmem, ⟨65, _⟩ => ⟨S2048x1024, .bf16⟩
  | .local _ .vmem, ⟨66, _⟩ => ⟨S1024x1024, .bf16⟩
  | .local _ .vmem, ⟨67, _⟩ => ⟨S1024x1024, .bf16⟩
  | .local _ .vmem, ⟨68, _⟩ => ⟨S2048x1024, .bf16⟩
  | .local _ .vmem, ⟨69, _⟩ => ⟨S2048x1024, .bf16⟩
  | .local _ .vmem, ⟨70, _⟩ => ⟨S2048x128, .bf16⟩
  | .local _ .vmem, ⟨71, _⟩ => ⟨S1024x128, .bf16⟩
  | .local _ .vmem, ⟨72, _⟩ => ⟨S1024x128, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg2_0 : Ref sig .tc := ⟨.vmem, 71, rfl⟩
abbrev cc11_stg2_1 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem2_1 : DmaSem sig := 67
abbrev cc11_sem0_0 : DmaSem sig := 68
abbrev cc11_sem0_1 : DmaSem sig := 69
abbrev cc11_sem1_0 : DmaSem sig := 70
abbrev cc11_sem2_0 : DmaSem sig := 71
abbrev cc11_sem2_1 : DmaSem sig := 72

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 1 → Memref sig .tc .vmem S2048x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x256x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 6, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S2048x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 4, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S2048x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S2048x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![2, 6, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S2048x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S2048x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1024x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![2, 1, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S2048x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 1 → Memref sig .tc .vmem S2048x128 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true, true]

abbrev stage11_2 : Fin 2 → Memref sig .tc .vmem S1024x128 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]
-- ==== Reference3Ideal.lean ====
abbrev S2048x2048 : Shape := ⟨2, ![2048, 2048]⟩
abbrev S2048x256 : Shape := ⟨2, ![2048, 256]⟩
abbrev S4x256x512 : Shape := ⟨3, ![4, 256, 512]⟩
abbrev S2048x4096 : Shape := ⟨2, ![2048, 4096]⟩
abbrev S2048x6144 : Shape := ⟨2, ![2048, 6144]⟩
abbrev S2048x128 : Shape := ⟨2, ![2048, 128]⟩
abbrev S_ : Shape := ⟨0, ![]⟩
abbrev S256x4x512 : Shape := ⟨3, ![256, 4, 512]⟩
abbrev S256x2048 : Shape := ⟨2, ![256, 2048]⟩
abbrev S128x2048 : Shape := ⟨2, ![128, 2048]⟩
abbrev S6144x2048 : Shape := ⟨2, ![6144, 2048]⟩
abbrev S4096x2048 : Shape := ⟨2, ![4096, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x256, .f32⟩
  | .hbm, ⟨2, _⟩ => ⟨S2048x2048, .bf16⟩
  | .hbm, ⟨3, _⟩ => ⟨S4x256x512, .bf16⟩
  | .hbm, ⟨4, _⟩ => ⟨S2048x2048, .f32⟩
  | .hbm, ⟨5, _⟩ => ⟨S2048x2048, .bf16⟩
  | .hbm, ⟨6, _⟩ => ⟨S2048x4096, .bf16⟩
  | .hbm, ⟨7, _⟩ => ⟨S2048x6144, .bf16⟩
  | .hbm, ⟨8, _⟩ => ⟨S2048x128, .bf16⟩
  | .hbm, ⟨9, _⟩ => ⟨S2048x4096, .bf16⟩
  | .hbm, ⟨10, _⟩ => ⟨S2048x6144, .bf16⟩
  | .hbm, ⟨11, _⟩ => ⟨S2048x128, .bf16⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S256x4x512, .bf16⟩
  | .hbm, ⟨27, _⟩ => ⟨S256x2048, .bf16⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x256, .f32⟩
  | .hbm, ⟨33, _⟩ => ⟨S256x2048, .f32⟩
  | .hbm, ⟨34, _⟩ => ⟨S256x2048, .bf16⟩
  | .hbm, ⟨35, _⟩ => ⟨S256x4x512, .bf16⟩
  | .hbm, ⟨36, _⟩ => ⟨S4x256x512, .bf16⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .bf16⟩
  | .hbm, ⟨41, _⟩ => ⟨S2048x2048, .f32⟩
  | .hbm, ⟨42, _⟩ => ⟨S2048x2048, .f32⟩
  | .hbm, ⟨43, _⟩ => ⟨S2048x4096, .f32⟩
  | .hbm, ⟨44, _⟩ => ⟨S2048x2048, .f32⟩
  | .hbm, ⟨45, _⟩ => ⟨S2048x6144, .f32⟩
  | .hbm, ⟨46, _⟩ => ⟨S2048x2048, .f32⟩
  | .hbm, ⟨47, _⟩ => ⟨S2048x128, .f32⟩
  | .hbm, ⟨48, _⟩ => ⟨S2048x4096, .f32⟩
  | .hbm, ⟨49, _⟩ => ⟨S2048x6144, .f32⟩
  | .hbm, ⟨50, _⟩ => ⟨S2048x128, .f32⟩
  | .hbm, ⟨51, _⟩ => ⟨S128x2048, .f32⟩
  | .hbm, ⟨52, _⟩ => ⟨S2048x128, .f32⟩
  | .hbm, ⟨53, _⟩ => ⟨S2048x128, .bf16⟩
  | .hbm, ⟨54, _⟩ => ⟨S6144x2048, .f32⟩
  | .hbm, ⟨55, _⟩ => ⟨S2048x6144, .f32⟩
  | .hbm, ⟨56, _⟩ => ⟨S2048x6144, .bf16⟩
  | .hbm, ⟨57, _⟩ => ⟨S4096x2048, .f32⟩
  | .hbm, ⟨58, _⟩ => ⟨S2048x4096, .f32⟩
  | .hbm, ⟨59, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel4.lean ====
abbrev S2048x2048 : Shape := ⟨2, ![2048, 2048]⟩
abbrev S2x2048x1024 : Shape := ⟨3, ![2, 2048, 1024]⟩
abbrev S2048x4096 : Shape := ⟨2, ![2048, 4096]⟩
abbrev S4096x2048 : Shape := ⟨2, ![4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x1024x1024 : Shape := ⟨3, ![1, 1024, 1024]⟩

abbrev nBuf : Space → Nat
  | .hbm => 21
  | .vmem => 56
  | .smem => 0
  | _ => 0

abbrev bufTy : (tb : Table) → Fin (tcTables nBuf tb) → BufTy
  | .hbm, ⟨0, _⟩ => ⟨S2048x2048, .bf16⟩
  | .hbm, ⟨1, _⟩ => ⟨S2x2048x1024, .bf16⟩
  | .hbm, ⟨2, _⟩ => ⟨S2x2048x1024, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x4096, .bf16⟩
  | .hbm, ⟨10, _⟩ => ⟨S4096x2048, .bf16⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .bf16⟩
  | .hbm, ⟨16, _⟩ => ⟨S2048x2048, .f32⟩
  | .hbm, ⟨17, _⟩ => ⟨S2x2048x1024, .bf16⟩
  | .hbm, ⟨18, _⟩ => ⟨S2x2048x1024, .bf16⟩
  | .hbm, ⟨19, _⟩ => ⟨S4096x2048, .bf16⟩
  | .hbm, ⟨20, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x2048, .bf16⟩
  | .local _ .vmem, ⟨13, _⟩ => ⟨S1024x2048, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S2048x1024, .bf16⟩
  | .local _ .vmem, ⟨21, _⟩ => ⟨S2048x1024, .bf16⟩
  | .local _ .vmem, ⟨22, _⟩ => ⟨S2048x1024, .f32⟩
  | .local _ .vmem, ⟨23, _⟩ => ⟨S2048x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x2048, .f32⟩
  | .local _ .vmem, ⟨27, _⟩ => ⟨S1024x2048, .f32⟩
  | .local _ .vmem, ⟨28, _⟩ => ⟨S1024x2048, .bf16⟩
  | .local _ .vmem, ⟨29, _⟩ => ⟨S1024x2048, .bf16⟩
  | .local _ .vmem, ⟨30, _⟩ => ⟨S1024x1024, .f32⟩
  | .local _ .vmem, ⟨31, _⟩ => ⟨S1024x1024, .f32⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S2048x1024, .bf16⟩
  | .local _ .vmem, ⟨36, _⟩ => ⟨S1x1024x1024, .bf16⟩
  | .local _ .vmem, ⟨37, _⟩ => ⟨S1x1024x1024, .bf16⟩
  | .local _ .vmem, ⟨38, _⟩ => ⟨S2048x1024, .bf16⟩
  | .local _ .vmem, ⟨39, _⟩ => ⟨S2048x1024, .bf16⟩
  | .local _ .vmem, ⟨40, _⟩ => ⟨S2048x1024, .bf16⟩
  | .local _ .vmem, ⟨41, _⟩ => ⟨S2048x1024, .bf16⟩
  | .local _ .vmem, ⟨42, _⟩ => ⟨S1x1024x1024, .bf16⟩
  | .local _ .vmem, ⟨43, _⟩ => ⟨S1x1024x1024, .bf16⟩
  | .local _ .vmem, ⟨44, _⟩ => ⟨S2048x1024, .bf16⟩
  | .local _ .vmem, ⟨45, _⟩ => ⟨S2048x1024, .bf16⟩
  | .local _ .vmem, ⟨46, _⟩ => ⟨S2048x1024, .f32⟩
  | .local _ .vmem, ⟨47, _⟩ => ⟨S2048x1024, .f32⟩
  | .local _ .vmem, ⟨48, _⟩ => ⟨S1024x1024, .bf16⟩
  | .local _ .vmem, ⟨49, _⟩ => ⟨S1024x1024, .bf16⟩
  | .local _ .vmem, ⟨50, _⟩ => ⟨S1024x2048, .f32⟩
  | .local _ .vmem, ⟨51, _⟩ => ⟨S1024x2048, .f32⟩
  | .local _ .vmem, ⟨52, _⟩ => ⟨S1024x2048, .bf16⟩
  | .local _ .vmem, ⟨53, _⟩ => ⟨S1024x2048, .bf16⟩
  | .local _ .vmem, ⟨54, _⟩ => ⟨S1024x1024, .f32⟩
  | .local _ .vmem, ⟨55, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1024x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference4Ideal.lean ====
abbrev S2048x2048 : Shape := ⟨2, ![2048, 2048]⟩
abbrev S2x2048x1024 : Shape := ⟨3, ![2, 2048, 1024]⟩
abbrev S2048x4096 : Shape := ⟨2, ![2048, 4096]⟩
abbrev S4096x2048 : Shape := ⟨2, ![4096, 2048]⟩
abbrev S2048x2x1024 : Shape := ⟨3, ![2048, 2, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x1024, .bf16⟩
  | .hbm, ⟨2, _⟩ => ⟨S2x2048x1024, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x4096, .bf16⟩
  | .hbm, ⟨10, _⟩ => ⟨S4096x2048, .bf16⟩
  | .hbm, ⟨11, _⟩ => ⟨S2048x2048, .f32⟩
  | .hbm, ⟨12, _⟩ => ⟨S2048x2048, .f32⟩
  | .hbm, ⟨13, _⟩ => ⟨S2048x2x1024, .bf16⟩
  | .hbm, ⟨14, _⟩ => ⟨S2048x2048, .bf16⟩
  | .hbm, ⟨15, _⟩ => ⟨S2048x2048, .f32⟩
  | .hbm, ⟨16, _⟩ => ⟨S2048x2048, .f32⟩
  | .hbm, ⟨17, _⟩ => ⟨S2048x2x1024, .bf16⟩
  | .hbm, ⟨18, _⟩ => ⟨S2048x2048, .bf16⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | .hbm, ⟨32, _⟩ => ⟨S2048x2x1024, .bf16⟩
  | .hbm, ⟨33, _⟩ => ⟨S2x2048x1024, .bf16⟩
  | .hbm, ⟨34, _⟩ => ⟨S2048x2048, .f32⟩
  | .hbm, ⟨35, _⟩ => ⟨S2048x2048, .f32⟩
  | .hbm, ⟨36, _⟩ => ⟨S2048x2048, .bf16⟩
  | .hbm, ⟨37, _⟩ => ⟨S2048x2x1024, .bf16⟩
  | .hbm, ⟨38, _⟩ => ⟨S2x2048x1024, .bf16⟩
  | .hbm, ⟨39, _⟩ => ⟨S2048x4096, .f32⟩
  | .hbm, ⟨40, _⟩ => ⟨S2048x2048, .f32⟩
  | .hbm, ⟨41, _⟩ => ⟨S2048x4096, .f32⟩
  | .hbm, ⟨42, _⟩ => ⟨S4096x2048, .f32⟩
  | .hbm, ⟨43, _⟩ => ⟨S4096x2048, .bf16⟩
  | .hbm, ⟨44, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel5.lean ====
abbrev S2048x5632 : Shape := ⟨2, ![2048, 5632]⟩
abbrev S5632x2048 : Shape := ⟨2, ![5632, 2048]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S2048x2048, .f32⟩
  | .hbm, ⟨5, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2048x5632 : Shape := ⟨2, ![2048, 5632]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x5632 : Shape := ⟨2, ![2048, 5632]⟩
abbrev S4x2048x1408 : Shape := ⟨3, ![4, 2048, 1408]⟩
abbrev S_ : Shape := ⟨0, ![]⟩
abbrev S2048x2048 : Shape := ⟨2, ![2048, 2048]⟩
abbrev S2048x4x1408 : Shape := ⟨3, ![2048, 4, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S_, .f32⟩
  | .hbm, ⟨3, _⟩ => ⟨S2048x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x5632 : Shape := ⟨2, ![2048, 5632]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x2048, .f32⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x5632 : Shape := ⟨2, ![2048, 5632]⟩
abbrev S4x2048x1408 : Shape := ⟨3, ![4, 2048, 1408]⟩
abbrev S2048x2048 : Shape := ⟨2, ![2048, 2048]⟩
abbrev S_ : Shape := ⟨0, ![]⟩
abbrev S2048x4x1408 : Shape := ⟨3, ![2048, 4, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x2048, .f32⟩
  | .hbm, ⟨11, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Math.lean ====
/- The mathematics of the state-space scan's gradient over the real numbers: the scan's quantities, its gradients, and the two
   facts the comparison turns on — the adjoint state's recursion over the chunks, and the gradient of a chunk's whole decay.
   Every function takes natural numbers; the ranges are 16 chunks `c` of 128 tokens `l`, 8 groups `g` of 8 heads `e` of 64
   columns `p`, and 128 states `n`. -/
module

public import Mathlib.Analysis.SpecialFunctions.Exp
public import Mathlib.Algebra.BigOperators.Ring.Finset
public import Mathlib.Algebra.BigOperators.Intervals

@[expose] public section

noncomputable section

namespace Ssd

open Finset

/-- The five arguments as real matrices. -/
structure Args where
  x0 : ℕ → ℕ → ℝ
  x1 : ℕ → ℕ → ℝ
  x2 : ℕ → ℕ → ℝ
  x3 : ℕ → ℕ → ℝ
  x4 : ℕ → ℕ → ℝ

namespace Args

variable (a : Args)

def xs (c l g e p : ℕ) : ℝ := a.x0 (128 * c + l) (512 * g + 64 * e + p)
def B (c l g n : ℕ) : ℝ := a.x0 (128 * c + l) (4096 + (128 * g + n))
def C (c l g n : ℕ) : ℝ := a.x0 (128 * c + l) (5120 + (128 * g + n))
def dt (c l g e : ℕ) : ℝ := a.x1 (128 * c + l) (128 * g + e)
def al (g e : ℕ) : ℝ := a.x2 0 (128 * g + e)
def dy (c l g e p : ℕ) : ℝ := a.x3 (128 * c + l) (512 * g + 64 * e + p)
def dk (g e p : ℕ) : ℝ := a.x4 0 (512 * g + 64 * e + p)

/-- A head's decay rate. -/
def A (g e : ℕ) : ℝ := -Real.exp (a.al g e)
/-- The running sum of the decays inside a chunk. -/
def cs (c g e l : ℕ) : ℝ := ∑ j ∈ range 128, if j ≤ l then a.A g e * a.dt c j g e else 0
/-- The decay of a whole chunk. -/
def tot (c g e : ℕ) : ℝ := a.cs c g e 127
/-- The decay from token `s` to token `l` of a chunk. -/
def Lm (c g e l s : ℕ) : ℝ := if s ≤ l then Real.exp (a.cs c g e l - a.cs c g e s) else 0
def CB (c g l s : ℕ) : ℝ := ∑ n ∈ range 128, a.C c l g n * a.B c s g n
def X (c l g e p : ℕ) : ℝ := a.xs c l g e p * a.dt c l g e
def dec (c g e l : ℕ) : ℝ := Real.exp (a.tot c g e - a.cs c g e l)
/-- What a chunk adds to the state. -/
def st (c g e p n : ℕ) : ℝ := ∑ l ∈ range 128, a.dec c g e l * a.X c l g e p * a.B c l g n
/-- The states before chunk 0 and after each chunk, each without what came before it. -/
def stc (k g e p n : ℕ) : ℝ := if k = 0 then 0 else a.st (k - 1) g e p n
/-- The decay of the chunks before `z`. -/
def ct (g e k : ℕ) : ℝ := if k = 0 then 0 else a.tot (k - 1) g e
def cs2 (g e z : ℕ) : ℝ := ∑ j ∈ range 17, if j ≤ z then a.ct g e j else 0
/-- The decay from before chunk `k` to before chunk `z`. -/
def dch (g e z k : ℕ) : ℝ := if k ≤ z then Real.exp (a.cs2 g e z - a.cs2 g e k) else 0
/-- The state before chunk `z`. -/
def sin (z g e p n : ℕ) : ℝ := ∑ k ∈ range 17, a.stc k g e p n * a.dch g e z k
/-- What the states before a chunk give to its output, before the decay inside the chunk. -/
def y0 (c l g e p : ℕ) : ℝ := ∑ n ∈ range 128, a.sin c g e p n * a.C c l g n
def y (c l g e p : ℕ) : ℝ :=
  (∑ s ∈ range 128, a.X c s g e p * (a.CB c g l s * a.Lm c g e l s)) + a.y0 c l g e p * Real.exp (a.cs c g e l)

/-- What a chunk's output gradient gives to the state before the chunk. -/
def W (c g e p n : ℕ) : ℝ := ∑ l ∈ range 128, a.dy c l g e p * Real.exp (a.cs c g e l) * a.C c l g n
def Wp (z g e p n : ℕ) : ℝ := if z < 16 then a.W z g e p n else 0
/-- The gradient of what enters the state before chunk `k`. -/
def G (k g e p n : ℕ) : ℝ := ∑ z ∈ range 17, a.Wp z g e p n * a.dch g e z k
/-- The gradient of the state that chunk `c` leaves. -/
def D (c g e p n : ℕ) : ℝ := a.G (c + 1) g e p n

/-- The gradient of the scaled inputs. -/
def BD (c l g e p : ℕ) : ℝ := ∑ n ∈ range 128, a.D c g e p n * a.B c l g n
def dX (c s g e p : ℕ) : ℝ :=
  a.dec c g e s * a.BD c s g e p + ∑ l ∈ range 128, a.dy c l g e p * (a.CB c g l s * a.Lm c g e l s)
def dxs (c l g e p : ℕ) : ℝ := a.dy c l g e p * a.dk g e p + a.dX c l g e p * a.dt c l g e
/-- The product of an output gradient with a scaled input. -/
def P (c g e l s : ℕ) : ℝ := ∑ p ∈ range 64, a.dy c l g e p * a.X c s g e p
/-- The gradient of `C · Bᵀ` in a chunk. -/
def dcb (c g l s : ℕ) : ℝ := ∑ e ∈ range 8, a.P c g e l s * a.Lm c g e l s
def dB (c s g n : ℕ) : ℝ :=
  (∑ e ∈ range 8, ∑ p ∈ range 64, a.D c g e p n * (a.dec c g e s * a.X c s g e p)) + ∑ l ∈ range 128, a.dcb c g l s * a.C c l g n
def dC (c l g n : ℕ) : ℝ :=
  (∑ e ∈ range 8, ∑ p ∈ range 64, a.dy c l g e p * Real.exp (a.cs c g e l) * a.sin c g e p n)
    + ∑ s ∈ range 128, a.dcb c g l s * a.B c s g n
/-- The gradient of a token's running decay. -/
def dcs (c g e l : ℕ) : ℝ :=
  (∑ p ∈ range 64, (a.y c l g e p * a.dy c l g e p - a.X c l g e p * a.dX c l g e p))
    + if l = 127 then ∑ p ∈ range 64, ∑ n ∈ range 128, a.sin (c + 1) g e p n * a.D c g e p n else 0
/-- The gradient of a token's own decay. -/
def dadt (c g e l : ℕ) : ℝ := ∑ i ∈ range 128, if l ≤ i then a.dcs c g e i else 0
def ddt (c l g e : ℕ) : ℝ := a.A g e * a.dadt c g e l + ∑ p ∈ range 64, a.xs c l g e p * a.dX c l g e p
def dal (g e : ℕ) : ℝ := a.A g e * ∑ c ∈ range 16, ∑ l ∈ range 128, a.dadt c g e l * a.dt c l g e

/- Decays. -/

theorem dch_self (g e z : ℕ) : a.dch g e z z = 1 := by simp [dch]

theorem dch_of_lt {g e z k : ℕ} (h : z < k) : a.dch g e z k = 0 := by simp [dch, Nat.not_le.mpr h]

theorem dch_mul {g e z j k : ℕ} (h₁ : k ≤ j) (h₂ : j ≤ z) : a.dch g e z j * a.dch g e j k = a.dch g e z k := by
  rw [dch, dch, dch, if_pos h₂, if_pos h₁, if_pos (h₁.trans h₂), ← Real.exp_add]
  congr 1; ring

theorem cs2_succ {g e c : ℕ} (h : c < 16) : a.cs2 g e (c + 1) = a.cs2 g e c + a.tot c g e := by
  have hs : ∀ j ∈ range 17, (if j ≤ c + 1 then a.ct g e j else 0)
      = (if j ≤ c then a.ct g e j else 0) + if j = c + 1 then a.ct g e j else 0 := fun j _ => by
    split_ifs <;> first | omega | simp
  rw [cs2, sum_congr rfl hs, sum_add_distrib, sum_ite_eq' (range 17) (c + 1), if_pos (mem_range.mpr (by omega))]
  simp [cs2, ct]

theorem dch_succ {g e z c : ℕ} (hc : c < 16) (h : c + 1 ≤ z) :
    a.dch g e z c = Real.exp (a.tot c g e) * a.dch g e z (c + 1) := by
  rw [← a.dch_mul (Nat.le_succ c) h, mul_comm]
  congr 1
  rw [dch, if_pos (Nat.le_succ c), a.cs2_succ hc]; congr 1; ring

/-- The adjoint state's recursion, from the last chunk down. -/
theorem G_rec {c g e p n : ℕ} (hc : c < 16) :
    a.G c g e p n = Real.exp (a.tot c g e) * a.G (c + 1) g e p n + a.W c g e p n := by
  have hs : ∀ z ∈ range 17, a.Wp z g e p n * a.dch g e z c
      = Real.exp (a.tot c g e) * (a.Wp z g e p n * a.dch g e z (c + 1)) + if z = c then a.Wp z g e p n else 0 := fun z _ => by
    rcases lt_trichotomy z c with h | h | h
    · rw [a.dch_of_lt h, a.dch_of_lt (by omega), if_neg (by omega)]; ring
    · subst h; rw [a.dch_self, a.dch_of_lt (by omega), if_pos rfl]; ring
    · rw [a.dch_succ hc (by omega), if_neg (by omega)]; ring
  rw [G, sum_congr rfl hs, sum_add_distrib, sum_ite_eq' (range 17) c, if_pos (mem_range.mpr (by omega)), ← mul_sum, G, Wp,
    if_pos hc]

theorem G_last {g e p n : ℕ} : a.G 16 g e p n = 0 := by
  refine sum_eq_zero fun z hz => ?_
  have hz := mem_range.mp hz
  rcases Nat.lt_or_ge z 16 with h | h
  · rw [a.dch_of_lt h, mul_zero]
  · rw [Wp, if_neg (by omega), zero_mul]

theorem D_last {g e p n : ℕ} : a.D 15 g e p n = 0 := a.G_last

theorem D_rec {c g e p n : ℕ} (hc : c + 1 < 16) :
    a.D c g e p n = Real.exp (a.tot (c + 1) g e) * a.D (c + 1) g e p n + a.W (c + 1) g e p n := a.G_rec hc

/- The gradient of the decays of whole chunks. -/

/-- The gradient of the logarithm of one decay between two chunks. -/
def M (g e z k : ℕ) : ℝ :=
  (∑ p ∈ range 64, ∑ n ∈ range 128, a.Wp z g e p n * a.stc k g e p n) * a.dch g e z k
/-- The gradient of the running decay of chunks. -/
def dcs2 (g e i : ℕ) : ℝ := (∑ z ∈ range 17, -a.M g e z i) + ∑ k ∈ range 17, a.M g e i k
/-- The gradient of a chunk's whole decay through the decays between chunks. -/
def dct (g e j : ℕ) : ℝ := ∑ i ∈ range 17, if j ≤ i then a.dcs2 g e i else 0

theorem M_of_lt {g e z k : ℕ} (h : z < k) : a.M g e z k = 0 := by rw [M, a.dch_of_lt h, mul_zero]

theorem dct_eq (g e j : ℕ) :
    a.dct g e j = ∑ z ∈ range 17, ∑ k ∈ range 17, if j ≤ z ∧ k < j then a.M g e z k else 0 := by
  have h1 : a.dct g e j = (∑ i ∈ range 17, ∑ k ∈ range 17, if j ≤ i then a.M g e i k else 0)
      - ∑ i ∈ range 17, ∑ z ∈ range 17, if j ≤ i then a.M g e z i else 0 := by
    rw [← sum_sub_distrib]
    refine sum_congr rfl fun i _ => ?_
    rw [← sum_sub_distrib]
    by_cases h : j ≤ i
    · simp only [if_pos h, dcs2, sum_neg_distrib, sum_sub_distrib]; ring
    · simp only [if_neg h, sub_self, sum_const_zero]
  rw [h1, sum_comm (s := range 17) (t := range 17) (f := fun i z => if j ≤ i then a.M g e z i else 0), ← sum_sub_distrib]
  refine sum_congr rfl fun z _ => ?_
  rw [← sum_sub_distrib]
  refine sum_congr rfl fun k _ => ?_
  by_cases h1 : j ≤ z
  · by_cases h2 : k < j
    · rw [if_pos h1, if_neg (by omega), if_pos ⟨h1, h2⟩, sub_zero]
    · rw [if_pos h1, if_pos (by omega), if_neg (by omega), sub_self]
  · by_cases h2 : j ≤ k
    · rw [if_neg h1, if_pos h2, if_neg (by omega), a.M_of_lt (by omega), sub_self]
    · rw [if_neg h1, if_neg h2, if_neg (by omega), sub_self]

/-- The state after chunk `c` is what the chunk adds and the decayed states before it. -/
theorem sin_succ {c g e p n : ℕ} (hc : c < 16) :
    a.sin (c + 1) g e p n = (∑ k ∈ range 17, if k < c + 1 then a.stc k g e p n * a.dch g e (c + 1) k else 0) + a.st c g e p n := by
  have hs : ∀ k ∈ range 17, a.stc k g e p n * a.dch g e (c + 1) k
      = (if k < c + 1 then a.stc k g e p n * a.dch g e (c + 1) k else 0) + if k = c + 1 then a.stc k g e p n else 0 := fun k _ => by
    rcases lt_trichotomy k (c + 1) with h | h | h
    · rw [if_pos h, if_neg (by omega), add_zero]
    · subst h; rw [a.dch_self, if_neg (lt_irrefl _), if_pos rfl]; ring
    · rw [a.dch_of_lt h, if_neg (by omega), if_neg (by omega)]; ring
  rw [sin, sum_congr rfl hs, sum_add_distrib, sum_ite_eq' (range 17) (c + 1), if_pos (mem_range.mpr (by omega))]
  simp [stc]

/-- The two ways to the gradient of a chunk's whole decay. -/
theorem dtot_eq {c g e : ℕ} (hc : c < 16) :
    a.dct g e (c + 1) + ∑ l ∈ range 128, (∑ p ∈ range 64, a.BD c l g e p * a.X c l g e p) * a.dec c g e l
      = ∑ p ∈ range 64, ∑ n ∈ range 128, a.sin (c + 1) g e p n * a.D c g e p n := by
  have h1 : a.dct g e (c + 1) = ∑ p ∈ range 64, ∑ n ∈ range 128,
      (∑ k ∈ range 17, if k < c + 1 then a.stc k g e p n * a.dch g e (c + 1) k else 0) * a.D c g e p n := by
    rw [a.dct_eq]
    have hM : ∀ z ∈ range 17, ∀ k ∈ range 17, (if c + 1 ≤ z ∧ k < c + 1 then a.M g e z k else 0)
        = ∑ p ∈ range 64, ∑ n ∈ range 128, (if k < c + 1 then a.stc k g e p n * a.dch g e (c + 1) k else 0)
            * (a.Wp z g e p n * a.dch g e z (c + 1)) := fun z _ k _ => by
      by_cases hk : k < c + 1
      · by_cases hz : c + 1 ≤ z
        · rw [if_pos ⟨hz, hk⟩, M, ← a.dch_mul (Nat.le_of_lt hk) hz, sum_mul]
          refine sum_congr rfl fun p _ => ?_
          rw [sum_mul]
          refine sum_congr rfl fun n _ => ?_
          rw [if_pos hk]; ring
        · rw [if_neg (by omega), a.dch_of_lt (z := z) (k := c + 1) (by omega)]; simp
      · rw [if_neg (by omega)]; simp [hk]
    rw [sum_congr rfl fun z hz => sum_congr rfl fun k hk => hM z hz k hk]
    rw [sum_congr rfl fun z _ => (sum_comm (s := range 17) (t := range 64))]
    rw [sum_comm (s := range 17) (t := range 64)]
    refine sum_congr rfl fun p _ => ?_
    rw [sum_congr rfl fun z _ => (sum_comm (s := range 17) (t := range 128))]
    rw [sum_comm (s := range 17) (t := range 128)]
    refine sum_congr rfl fun n _ => ?_
    rw [D, G, sum_mul_sum, sum_comm]
  have h2 : ∑ l ∈ range 128, (∑ p ∈ range 64, a.BD c l g e p * a.X c l g e p) * a.dec c g e l
      = ∑ p ∈ range 64, ∑ n ∈ range 128, a.st c g e p n * a.D c g e p n := by
    simp only [sum_mul]
    rw [sum_comm]
    refine sum_congr rfl fun p _ => ?_
    simp only [BD, st, sum_mul]
    rw [sum_comm]
    exact sum_congr rfl fun n _ => sum_congr rfl fun l _ => by ring
  rw [h1, h2, ← sum_add_distrib]
  refine sum_congr rfl fun p _ => ?_
  rw [← sum_add_distrib]
  refine sum_congr rfl fun n _ => ?_
  rw [a.sin_succ hc]; ring

/-- A token's running decay's gradient the way the chain rule writes it: through the decays inside the chunk, the decay from
    the chunk's start, the decay to the chunk's end, and the chunk's whole decay. -/
theorem dcs_eq {c g e l : ℕ} (hc : c < 16) :
    a.dcs c g e l =
      ((∑ i ∈ range 128, -(a.CB c g i l * a.P c g e i l * a.Lm c g e i l)) + ∑ s ∈ range 128, a.CB c g l s * a.P c g e l s * a.Lm c g e l s)
      + ((((∑ p ∈ range 64, a.y0 c l g e p * a.dy c l g e p) * Real.exp (a.cs c g e l) + if l = 127 then a.dct g e (c + 1) else 0)
          + -((∑ p ∈ range 64, a.BD c l g e p * a.X c l g e p) * a.dec c g e l))
        + if l = 127 then ∑ i ∈ range 128, (∑ p ∈ range 64, a.BD c i g e p * a.X c i g e p) * a.dec c g e i else 0) := by
  have hA : ∑ p ∈ range 64, a.y c l g e p * a.dy c l g e p = (∑ s ∈ range 128, a.CB c g l s * a.P c g e l s * a.Lm c g e l s)
      + (∑ p ∈ range 64, a.y0 c l g e p * a.dy c l g e p) * Real.exp (a.cs c g e l) := by
    simp only [y, add_mul, sum_add_distrib, sum_mul, P, mul_sum]
    rw [sum_comm]
    congr 1
    · exact sum_congr rfl fun _ _ => sum_congr rfl fun _ _ => by ring
    · exact sum_congr rfl fun _ _ => by ring
  have hB : ∑ p ∈ range 64, a.X c l g e p * a.dX c l g e p = (∑ p ∈ range 64, a.BD c l g e p * a.X c l g e p) * a.dec c g e l
      + ∑ i ∈ range 128, a.CB c g i l * a.P c g e i l * a.Lm c g e i l := by
    simp only [dX, mul_add, sum_add_distrib, sum_mul, P, mul_sum]
    congr 1
    · exact sum_congr rfl fun _ _ => by ring
    · rw [sum_comm]
      exact sum_congr rfl fun _ _ => sum_congr rfl fun _ _ => by ring
  rw [dcs, sum_sub_distrib, hA, hB, ← a.dtot_eq hc]
  simp only [sum_neg_distrib]
  split_ifs <;> ring

/-- The decay inside a chunk never grows where no step is negative. -/
theorem cs_anti {c g e l s : ℕ} (h : ∀ j < 128, 0 ≤ a.dt c j g e) (hs : s ≤ l) : a.cs c g e l ≤ a.cs c g e s := by
  refine sum_le_sum fun j hj => ?_
  have : a.A g e * a.dt c j g e ≤ 0 := mul_nonpos_of_nonpos_of_nonneg (neg_nonpos.mpr (Real.exp_pos _).le) (h j (mem_range.mp hj))
  split_ifs <;> first | omega | linarith

end Args

end Ssd
-- ==== Proof.Lift.lean ====
/- Real matrices as arrays of the ideal instance. `up2 f` is the array whose element at `(i, j)` is the real number `f i j`;
   each lemma says that one operation of a kernel's body takes such arrays to such an array. -/
module

public import proofs.«01_k».proof.Proof.Gen.KernelIdeal.Skeleton
public import Idealize.ShloMosaic.Lib.Pointwise
public import Idealize.ShloMosaic.Lib.ValueIdx

@[expose] public section

set_option maxRecDepth 16384

noncomputable section

namespace Ssd

open Idealize.ShloMosaic Finset

/-- A matrix of reals as an array. -/
def up2 {φ : FTy} {m n : ℕ} (f : ℕ → ℕ → ℝ) : FVec Ideal (⟨2, ![m, n]⟩ : Shape) φ := fun i => ((f (i 0).val (i 1).val : ℝ) : EReal)
/-- A vector of reals as an array. -/
def up1 {φ : FTy} {n : ℕ} (f : ℕ → ℝ) : FVec Ideal (⟨1, ![n]⟩ : Shape) φ := fun i => ((f (i 0).val : ℝ) : EReal)
/-- A matrix of truth values as an array of bits. -/
def bit2 {m n : ℕ} (p : ℕ → ℕ → Prop) [∀ i j, Decidable (p i j)] : IVec (⟨2, ![m, n]⟩ : Shape) 1 :=
  fun i => if p (i 0).val (i 1).val then 1#1 else 0#1

theorem up2_congr {φ : FTy} {m n : ℕ} {f g : ℕ → ℕ → ℝ} (h : ∀ i < m, ∀ j < n, f i j = g i j) :
    (up2 f : FVec Ideal ⟨2, ![m, n]⟩ φ) = up2 g :=
  funext fun i => congrArg _ (h _ (i 0).isLt _ (i 1).isLt)

theorem coe_sum {ι : Type} (s : Finset ι) (f : ι → ℝ) : ((∑ i ∈ s, f i : ℝ) : EReal) = ∑ i ∈ s, (f i : EReal) :=
  map_sum (⟨⟨(fun x : ℝ => (x : EReal)), EReal.coe_zero⟩, EReal.coe_add⟩ : ℝ →+ EReal) f s

theorem coe_sum_fin {n : ℕ} (f : ℕ → ℝ) : (∑ k : Fin n, (f k.val : EReal)) = ((∑ k ∈ range n, f k : ℝ) : EReal) := by
  rw [Finset.sum_range, coe_sum]

section Elementwise
variable {φ ψ : FTy} {m n : ℕ} (f g : ℕ → ℕ → ℝ)

theorem addf_up2 : addf (F := Ideal) (up2 f : FVec Ideal ⟨2, ![m, n]⟩ φ) (up2 g) = up2 fun i j => f i j + g i j :=
  funext fun _ => (EReal.coe_add _ _).symm
theorem subf_up2 : subf (F := Ideal) (up2 f : FVec Ideal ⟨2, ![m, n]⟩ φ) (up2 g) = up2 fun i j => f i j - g i j :=
  funext fun _ => (EReal.coe_sub _ _).symm
theorem mulf_up2 : mulf (F := Ideal) (up2 f : FVec Ideal ⟨2, ![m, n]⟩ φ) (up2 g) = up2 fun i j => f i j * g i j :=
  funext fun _ => (EReal.coe_mul _ _).symm
theorem minimumf_up2 : minimumf (F := Ideal) (up2 f : FVec Ideal ⟨2, ![m, n]⟩ φ) (up2 g) = up2 fun i j => min (f i j) (g i j) :=
  funext fun _ => (EReal.coe_strictMono.monotone.map_min).symm
theorem exp_up2 : exp (F := Ideal) (up2 f : FVec Ideal ⟨2, ![m, n]⟩ φ) = up2 fun i j => Real.exp (f i j) :=
  funext fun _ => rfl
theorem truncf_up2 (h : ψ.bits < φ.bits) : truncf (F := Ideal) ψ (up2 f : FVec Ideal ⟨2, ![m, n]⟩ φ) h = up2 f := rfl
theorem extf_up2 (h : φ.bits < ψ.bits) : extf (F := Ideal) ψ (up2 f : FVec Ideal ⟨2, ![m, n]⟩ φ) h = up2 f := rfl
theorem select_up2 (p : ℕ → ℕ → Prop) [∀ i j, Decidable (p i j)] :
    select (bit2 p : IVec ⟨2, ![m, n]⟩ 1) (up2 f : FVec Ideal ⟨2, ![m, n]⟩ φ) (up2 g) = up2 fun i j => if p i j then f i j else g i j := by
  funext i
  simp only [select, Scalar.select, bit2, up2]
  split_ifs <;> simp_all
end Elementwise

theorem zero_up2 {m n : ℕ} : (broadcast (⟨2, ![m, n]⟩ : Shape) (Scalar.ofBits (F := Ideal) .f32 0x00000000#32) : FVec Ideal _ .f32)
    = up2 fun _ _ => 0 :=
  funext fun _ => by pointwise; simp [up2]
theorem zero_up2_bf16 {m n : ℕ} : (broadcast (⟨2, ![m, n]⟩ : Shape) (Scalar.ofBits (F := Ideal) .bf16 0x0000#16) : FVec Ideal _ .bf16)
    = up2 fun _ _ => 0 :=
  funext fun _ => by pointwise; simp [up2]
theorem constant_up2 {m n : ℕ} : constant (F := Ideal) (⟨2, ![m, n]⟩ : Shape) .f32 0x00000000#32 = up2 fun _ _ => 0 :=
  funext fun _ => by pointwise; simp [up2]

section Layout
variable {φ : FTy} {m n m' n' : ℕ} (f : ℕ → ℕ → ℝ)

theorem slice_up2 (o : Fin 2 → ℕ) (h : (⟨2, ![m, n]⟩ : Shape).Slices o ⟨2, ![m', n']⟩) :
    extractStridedSlice (⟨2, ![m', n']⟩ : Shape) o (up2 f : FVec Ideal ⟨2, ![m, n]⟩ φ) h = up2 fun i j => f (o 0 + i) (o 1 + j) := rfl

theorem transpose_up2 (h : (⟨2, ![m, n]⟩ : Shape).Transposes [1, 0] ⟨2, ![n, m]⟩) :
    transpose (⟨2, ![n, m]⟩ : Shape) [1, 0] (up2 f : FVec Ideal ⟨2, ![m, n]⟩ φ) h = up2 fun i j => f j i := rfl

theorem row_up2 (hn : n ≠ 1) (h : (⟨2, ![1, n]⟩ : Shape).Broadcasts ⟨2, ![m, n]⟩) :
    broadcastTo (⟨2, ![m, n]⟩ : Shape) (up2 f : FVec Ideal ⟨2, ![1, n]⟩ φ) h = up2 fun _ j => f 0 j := by
  funext i
  simp [broadcastTo, up2, hn]
theorem col_up2 (hm : m ≠ 1) (h : (⟨2, ![m, 1]⟩ : Shape).Broadcasts ⟨2, ![m, n]⟩) :
    broadcastTo (⟨2, ![m, n]⟩ : Shape) (up2 f : FVec Ideal ⟨2, ![m, 1]⟩ φ) h = up2 fun i _ => f i 0 := by
  funext i
  simp [broadcastTo, up2, hm]
end Layout

section Body
open Cert.KernelIdeal Cert.KernelIdeal.Gen
variable {φ ψ : FTy} (f g : ℕ → ℕ → ℝ)

theorem zeros_up2 : (constant (F := Ideal) S128x128 .f32 0x00000000#32 : FVec Ideal S128x128 .f32) = up2 fun _ _ => 0 := constant_up2

/-- A product of two matrices, added to zeros. -/
theorem matmul_nn (p : Option ContractPrecision) :
    matmul (F := Ideal) dot_S128x128_S128x128_S128x128_1_0_0_1_n_n p (up2 f : FVec Ideal S128x128 φ) (up2 g : FVec Ideal S128x128 ψ) (constant S128x128 .f32 0x00000000#32)
      = up2 fun i j => ∑ k ∈ range 128, f i k * g k j := by
  funext j
  idx_vars j
  pointwise
  simp only [up2, ← EReal.coe_mul]
  rw [← coe_sum_fin]
  simp
/-- A product with the second matrix transposed. -/
theorem matmul_nt (p : Option ContractPrecision) :
    matmul (F := Ideal) dot_S128x128_S128x128_S128x128_1_1_0_0_n_n p (up2 f : FVec Ideal S128x128 φ) (up2 g : FVec Ideal S128x128 ψ) (constant S128x128 .f32 0x00000000#32)
      = up2 fun i j => ∑ k ∈ range 128, f i k * g j k := by
  funext j
  idx_vars j
  pointwise
  simp only [up2, ← EReal.coe_mul]
  rw [← coe_sum_fin]
  simp
/-- A product with the first matrix transposed. -/
theorem matmul_tn (p : Option ContractPrecision) :
    matmul (F := Ideal) dot_S128x128_S128x128_S128x128_0_0_1_1_n_n p (up2 f : FVec Ideal S128x128 φ) (up2 g : FVec Ideal S128x128 ψ) (constant S128x128 .f32 0x00000000#32)
      = up2 fun i j => ∑ k ∈ range 128, f k i * g k j := by
  funext j
  idx_vars j
  pointwise
  simp only [up2, ← EReal.coe_mul]
  rw [← coe_sum_fin]
  simp

/-- The sums of a matrix's rows, as a column. -/
theorem rowsum_up2 :
    shapeCast S128x1 (multiReduction (F := Ideal) .add [1] S128 (up2 f : FVec Ideal S128x128 .f32) 0x00000000#32 reduces_S128x128_S128 (.inl rfl) rfl)
      shapeCasts_S128_S128x1 = up2 fun i _ => ∑ k ∈ range 128, f i k := by
  funext j
  idx_vars j
  pointwise
  simp only [up2]
  rw [← coe_sum_fin]
  simp
/-- The sums of a matrix's columns, as a row. -/
theorem colsum_up2 :
    shapeCast S1x128 (multiReduction (F := Ideal) .add [0] S128 (up2 f : FVec Ideal S128x128 .f32) 0x00000000#32 reduces_S128x128_S128_2 (.inl rfl) rfl)
      shapeCasts_S128_S1x128 = up2 fun _ j => ∑ k ∈ range 128, f k j := by
  funext j
  idx_vars j
  pointwise
  simp only [up2]
  rw [← coe_sum_fin]
  simp

theorem cmp_small {i j : ℕ} (hi : i < 128) (hj : j < 128) :
    IntOp.cmpi .sge (BitVec.ofNat 32 i) (BitVec.ofNat 32 j) = (if j ≤ i then 1#1 else 0#1)
    ∧ IntOp.cmpi .sle (BitVec.ofNat 32 i) (BitVec.ofNat 32 j) = (if i ≤ j then 1#1 else 0#1)
    ∧ IntOp.cmpi .slt (BitVec.ofNat 32 i) (BitVec.ofNat 32 j) = (if i < j then 1#1 else 0#1)
    ∧ IntOp.cmpi .eq (BitVec.ofNat 32 i) (BitVec.ofNat 32 j) = (if i = j then 1#1 else 0#1) := by
  have ti : (BitVec.ofNat 32 i).toInt = i := by
    rw [BitVec.toInt_eq_toNat_of_lt (by rw [BitVec.toNat_ofNat]; omega), BitVec.toNat_ofNat]; omega
  have tj : (BitVec.ofNat 32 j).toInt = j := by
    rw [BitVec.toInt_eq_toNat_of_lt (by rw [BitVec.toNat_ofNat]; omega), BitVec.toNat_ofNat]; omega
  have e : BitVec.ofNat 32 i = BitVec.ofNat 32 j ↔ i = j := by
    rw [← BitVec.toInt_inj, ti, tj]; omega
  simp only [IntOp.cmpi, BitVec.sle, BitVec.slt, ti, tj, Nat.cast_le, Nat.cast_lt]
  refine ⟨?_, ?_, ?_, ?_⟩
  · by_cases h : j ≤ i <;> simp [h]
  · by_cases h : i ≤ j <;> simp [h]
  · by_cases h : i < j <;> simp [h]
  · by_cases h : i = j
    · simp [h]
    · rw [if_neg h, show (BitVec.ofNat 32 i == BitVec.ofNat 32 j) = false from beq_eq_false_iff_ne.2 (mt e.1 h)]; rfl

theorem ge_bit2 : cmpi .sge (iota .tc S128x128 32 [0] iota_S128x128_d0_w32) (iota .tc S128x128 32 [1] iota_S128x128_d1_w32)
    = bit2 fun i j => j ≤ i := by
  funext j
  idx_vars j
  pointwise
  exact (cmp_small (by omega) (by omega)).1
theorem le_bit2 : cmpi .sle (iota .tc S128x128 32 [0] iota_S128x128_d0_w32) (iota .tc S128x128 32 [1] iota_S128x128_d1_w32)
    = bit2 fun i j => i ≤ j := by
  funext j
  idx_vars j
  pointwise
  exact (cmp_small (by omega) (by omega)).2.1
theorem lane_lt_bit2 : cmpi .slt (iota .tc S128x128 32 [1] iota_S128x128_d1_w32) (broadcast S128x128 64#32) = bit2 fun _ j => j < 64 := by
  funext j
  idx_vars j
  pointwise
  exact (cmp_small (by omega) (by omega)).2.2.1
theorem lane_eq_bit2 (k : ℕ) (hk : k < 128) :
    cmpi .eq (iota .tc S128x128 32 [1] iota_S128x128_d1_w32) (broadcast S128x128 (BitVec.ofNat 32 k)) = bit2 fun _ j => j = k := by
  funext j
  idx_vars j
  pointwise
  exact (cmp_small (by omega) (by omega)).2.2.2
theorem row_eq_bit2 (k : ℕ) (hk : k < 128) :
    cmpi .eq (iota .tc S128x128 32 [0] iota_S128x128_d0_w32) (broadcast S128x128 (BitVec.ofNat 32 k)) = bit2 fun i _ => i = k := by
  funext j
  idx_vars j
  pointwise
  exact (cmp_small (by omega) (by omega)).2.2.2
/-- Truth values as the numbers 1 and 0. -/
theorem num_bit2 (p : ℕ → ℕ → Prop) [∀ i j, Decidable (p i j)] (h : 1 < 32) :
    sitofp (F := Ideal) .f32 (extui 32 (bit2 p : IVec S128x128 1) h) = up2 fun i j => if p i j then 1 else 0 := by
  funext j
  idx_vars j
  pointwise
  simp only [bit2, up2]
  split_ifs
  · change (((1#32 : BitVec 32).toInt : ℝ) : EReal) = ((1 : ℝ) : EReal); norm_num
  · change (((0#32 : BitVec 32).toInt : ℝ) : EReal) = ((0 : ℝ) : EReal); norm_num

theorem shapeCast_self {α : Type} {s : Shape} (f : s.Idx → α) (h : s.ShapeCasts s) : shapeCast s f h = f := by
  funext j
  exact shapeCast_apply f h j j rfl

/-- Four matrices side by side. -/
theorem concat_up2 (f : ℕ → ℕ → ℕ → ℝ) :
    concatenate S128x512 1 [⟨S128x128, (up2 (f 0) : FVec Ideal S128x128 φ)⟩, ⟨S128x128, (up2 (f 1) : FVec Ideal S128x128 φ)⟩,
        ⟨S128x128, (up2 (f 2) : FVec Ideal S128x128 φ)⟩, ⟨S128x128, (up2 (f 3) : FVec Ideal S128x128 φ)⟩]
        concatenates_S128x128_S128x128_S128x128_S128x128_S128x512_d1 = (up2 fun i j => f (j / 128) i (j % 128) : FVec Ideal S128x512 φ) := by
  funext j
  idx_vars j
  pointwise
  have hj := j1.isLt
  have piece (k r : ℕ) (h : k * 128 + r = j1.val) (hr : r < 128) :
      ((f k j0.val r : ℝ) : EReal) = ((f (j1.val / 128) j0.val (j1.val % 128) : ℝ) : EReal) := by
    rw [show j1.val / 128 = k by omega, show j1.val % 128 = r by omega]
  by_cases h₁ : j1.val < 128
  · rw [dif_pos h₁]; exact piece 0 j1.val (by omega) h₁
  rw [dif_neg h₁]
  by_cases h₂ : j1.val - 128 < 128
  · rw [dif_pos h₂]; exact piece 1 (j1.val - 128) (by omega) h₂
  rw [dif_neg h₂]
  by_cases h₃ : j1.val - 128 - 128 < 128
  · rw [dif_pos h₃]; exact piece 2 (j1.val - 128 - 128) (by omega) h₃
  rw [dif_neg h₃]
  exact piece 3 (j1.val - 128 - 128 - 128) (by omega) (by omega)

end Body

end Ssd
-- ==== Proof.RefOps.lean ====
/- The reference's operations that read more than one element of an operand, over arrays whose elements are real numbers: running
   sums, joined and padded arrays, contractions and sums over two axes. -/
module

public import proofs.«01_k».proof.Proof.Lift
public import proofs.«01_k».proof.Proof.Gen.ReferenceIdeal.Read
public import Idealize.ShloMosaic.Lib.TwoAxisContraction
public import Idealize.ShloMosaic.Lib.KernelVsHost

@[expose] public section

set_option maxRecDepth 16384

noncomputable section

namespace Ssd

open Idealize.ShloMosaic hiding ix0 ix1 ix2 ix3 ix4 ix5 ix6 eq_ix2 eq_ix3 eq_ix4 eq_ix5
open Idealize.ShloMosaic.ValueIdx Finset

/-- A sum whose terms are real numbers. -/
theorem sum_real {n : ℕ} (F : Fin n → EReal) (f : ℕ → ℝ) (h : ∀ k : Fin n, F k = ((f k.val : ℝ) : EReal)) :
    ∑ k, F k = ((∑ k ∈ range n, f k : ℝ) : EReal) := by
  rw [← coe_sum_fin]; exact Finset.sum_congr rfl fun k _ => h k

/-- The same from an initial value that is zero. -/
theorem init_sum_real {n : ℕ} {z : EReal} (hz : z = 0) (F : Fin n → EReal) (f : ℕ → ℝ) (h : ∀ k : Fin n, F k = ((f k.val : ℝ) : EReal)) :
    z + ∑ k, F k = ((∑ k ∈ range n, f k : ℝ) : EReal) := by
  rw [hz, zero_add, sum_real F f h]

theorem ofBits_zero : (FloatOps.ofBits (F := Ideal) .f32 0x00000000#32 : EReal) = 0 := by
  have := congrFun (zero_up2 (m := 1) (n := 1)) (ix2 0 0)
  simpa [up2] using this

theorem select_real {p : Prop} [Decidable p] {b : BitVec 1} (hb : b = if p then 1#1 else 0#1) (x y : EReal) :
    Scalar.select b x y = if p then x else y := by
  subst hb; split_ifs <;> simp [Scalar.select]

/- Running sums. -/

theorem foldl_add {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- A window sum at an index, over the window's positions. -/
theorem window_sum {s t : Shape} (window strides lo hi : Fin s.rank → Nat) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  unfold Ideal.hostReduceWindowAdd Host.reduceWindow
  dsimp only
  rw [foldl_add, zero_add, ← Equiv.sum_comp (⟨s.rank, window⟩ : Shape).rowMajor.symm, ← Fin.sum_univ_def]
  exact Finset.sum_congr rfl fun i _ => by congr

theorem prefix_sum {n j : ℕ} (hj : j < n + 1) (f : ℕ → ℝ) :
    ∑ w ∈ range (n + 1), (if n ≤ j + w then f (j + w - n) else 0) = ∑ k ∈ range (n + 1), if k ≤ j then f k else 0 := by
  rw [← sum_filter, ← sum_filter]
  refine sum_nbij' (fun w => j + w - n) (fun k => k + n - j) ?_ ?_ ?_ ?_ ?_ <;>
    simp only [mem_filter, mem_range] <;> intros <;> first | omega | trivial | rfl

theorem suffix_sum {N j : ℕ} (f : ℕ → ℝ) :
    ∑ w ∈ range N, (if j + w < N then f (j + w) else 0) = ∑ k ∈ range N, if j ≤ k then f k else 0 := by
  rw [← sum_filter, ← sum_filter]
  refine sum_nbij' (fun w => j + w) (fun k => k - j) ?_ ?_ ?_ ?_ ?_ <;>
    simp only [mem_filter, mem_range] <;> intros <;> first | omega | trivial | rfl

theorem sum_idx4 {n : ℕ} (f : (⟨4, ![1, 1, 1, n]⟩ : Shape).Idx → EReal) : ∑ w, f w = ∑ k : Fin n, f (ix4 0 0 0 k) := by
  let e : Fin n ≃ (⟨4, ![1, 1, 1, n]⟩ : Shape).Idx :=
    { toFun := fun k => ix4 0 0 0 k
      invFun := fun w => w 3
      left_inv := fun k => rfl
      right_inv := fun w => by
        have h0 : w 0 = (0 : Fin 1) := Subsingleton.elim (α := Fin 1) _ _
        have h1 : w 1 = (0 : Fin 1) := Subsingleton.elim (α := Fin 1) _ _
        have h2 : w 2 = (0 : Fin 1) := Subsingleton.elim (α := Fin 1) _ _
        rw [eq_ix4 w, h0, h1, h2]; rfl }
  exact (Equiv.sum_comp e f).symm

theorem sum_idx3 {n : ℕ} (f : (⟨3, ![1, 1, n]⟩ : Shape).Idx → EReal) : ∑ w, f w = ∑ k : Fin n, f (ix3 0 0 k) := by
  let e : Fin n ≃ (⟨3, ![1, 1, n]⟩ : Shape).Idx :=
    { toFun := fun k => ix3 0 0 k
      invFun := fun w => w 2
      left_inv := fun k => rfl
      right_inv := fun w => by
        have h0 : w 0 = (0 : Fin 1) := Subsingleton.elim (α := Fin 1) _ _
        have h1 : w 1 = (0 : Fin 1) := Subsingleton.elim (α := Fin 1) _ _
        rw [eq_ix3 w, h0, h1]; rfl }
  exact (Equiv.sum_comp e f).symm

variable {n0 n1 n2 n : ℕ}

/-- A running sum over the last of four axes. -/
theorem prefix4 (x : (⟨4, ![n0, n1, n2, n + 1]⟩ : Shape).Idx → EReal) (f : ℕ → ℕ → ℕ → ℕ → ℝ)
    (hx : ∀ i, x i = ((f (i 0).val (i 1).val (i 2).val (i 3).val : ℝ) : EReal))
    (h : (⟨4, ![n0, n1, n2, n + 1]⟩ : Shape).ReduceWindows (![1, 1, 1, n + 1] : Fin 4 → Nat) ![1, 1, 1, 1] ![0, 0, 0, n] ![0, 0, 0, 0] ⟨4, ![n0, n1, n2, n + 1]⟩)
    (j : (⟨4, ![n0, n1, n2, n + 1]⟩ : Shape).Idx) :
    Ideal.hostReduceWindowAdd (![1, 1, 1, n + 1] : Fin 4 → Nat) ![1, 1, 1, 1] ![0, 0, 0, n] ![0, 0, 0, 0] h x 0 j
      = ((∑ k ∈ range (n + 1), if k ≤ (j 3).val then f (j 0).val (j 1).val (j 2).val k else 0 : ℝ) : EReal) := by
  rw [window_sum, sum_idx4, ← prefix_sum (show (j 3).val < n + 1 from (j 3).isLt)]
  refine sum_real _ _ fun k => ?_
  have h3 : (j 3).val < n + 1 := (j 3).isLt
  have hk := k.isLt
  by_cases hc : n ≤ (j 3).val + k.val
  · have hin : ∀ a : Fin 4, (![0, 0, 0, n] : Fin 4 → Nat) a ≤ (j (a.cast h.1.symm)).val * (![1, 1, 1, 1] : Fin 4 → Nat) a + ((ix4 (0 : Fin 1) (0 : Fin 1) (0 : Fin 1) k) a).val
        ∧ (j (a.cast h.1.symm)).val * (![1, 1, 1, 1] : Fin 4 → Nat) a + ((ix4 (0 : Fin 1) (0 : Fin 1) (0 : Fin 1) k) a).val - (![0, 0, 0, n] : Fin 4 → Nat) a < (![n0, n1, n2, n + 1] : Fin 4 → Nat) a := fun a => by
      match a with
      | ⟨0, _⟩ => exact ⟨Nat.zero_le _, by have := (j 0).isLt; show (j 0).val * 1 + 0 - 0 < n0; have : (j 0).val < n0 := this; omega⟩
      | ⟨1, _⟩ => exact ⟨Nat.zero_le _, by have := (j 1).isLt; show (j 1).val * 1 + 0 - 0 < n1; have : (j 1).val < n1 := this; omega⟩
      | ⟨2, _⟩ => exact ⟨Nat.zero_le _, by have := (j 2).isLt; show (j 2).val * 1 + 0 - 0 < n2; have : (j 2).val < n2 := this; omega⟩
      | ⟨3, _⟩ => exact ⟨by show n ≤ (j 3).val * 1 + k.val; omega, by show (j 3).val * 1 + k.val - n < n + 1; omega⟩
    rw [dif_pos hin, if_pos hc, hx]
    show ((f ((j 0).val * 1 + 0 - 0) ((j 1).val * 1 + 0 - 0) ((j 2).val * 1 + 0 - 0) ((j 3).val * 1 + k.val - n) : ℝ) : EReal) = _
    simp
  · rw [dif_neg fun hin => hc (by have := (hin 3).1; change n ≤ (j 3).val * 1 + k.val at this; omega), if_neg hc]; rfl

/-- A running sum from the end over the last of four axes. -/
theorem suffix4 (x : (⟨4, ![n0, n1, n2, n + 1]⟩ : Shape).Idx → EReal) (f : ℕ → ℕ → ℕ → ℕ → ℝ)
    (hx : ∀ i, x i = ((f (i 0).val (i 1).val (i 2).val (i 3).val : ℝ) : EReal))
    (h : (⟨4, ![n0, n1, n2, n + 1]⟩ : Shape).ReduceWindows (![1, 1, 1, n + 1] : Fin 4 → Nat) ![1, 1, 1, 1] ![0, 0, 0, 0] ![0, 0, 0, n] ⟨4, ![n0, n1, n2, n + 1]⟩)
    (j : (⟨4, ![n0, n1, n2, n + 1]⟩ : Shape).Idx) :
    Ideal.hostReduceWindowAdd (![1, 1, 1, n + 1] : Fin 4 → Nat) ![1, 1, 1, 1] ![0, 0, 0, 0] ![0, 0, 0, n] h x 0 j
      = ((∑ k ∈ range (n + 1), if (j 3).val ≤ k then f (j 0).val (j 1).val (j 2).val k else 0 : ℝ) : EReal) := by
  rw [window_sum, sum_idx4, ← suffix_sum]
  refine sum_real _ _ fun k => ?_
  by_cases hc : (j 3).val + k.val < n + 1
  · have hin : ∀ a : Fin 4, (![0, 0, 0, 0] : Fin 4 → Nat) a ≤ (j (a.cast h.1.symm)).val * (![1, 1, 1, 1] : Fin 4 → Nat) a + ((ix4 (0 : Fin 1) (0 : Fin 1) (0 : Fin 1) k) a).val
        ∧ (j (a.cast h.1.symm)).val * (![1, 1, 1, 1] : Fin 4 → Nat) a + ((ix4 (0 : Fin 1) (0 : Fin 1) (0 : Fin 1) k) a).val - (![0, 0, 0, 0] : Fin 4 → Nat) a < (![n0, n1, n2, n + 1] : Fin 4 → Nat) a := fun a => by
      match a with
      | ⟨0, _⟩ => exact ⟨Nat.zero_le _, by have := (j 0).isLt; show (j 0).val * 1 + 0 - 0 < n0; have : (j 0).val < n0 := this; omega⟩
      | ⟨1, _⟩ => exact ⟨Nat.zero_le _, by have := (j 1).isLt; show (j 1).val * 1 + 0 - 0 < n1; have : (j 1).val < n1 := this; omega⟩
      | ⟨2, _⟩ => exact ⟨Nat.zero_le _, by have := (j 2).isLt; show (j 2).val * 1 + 0 - 0 < n2; have : (j 2).val < n2 := this; omega⟩
      | ⟨3, _⟩ => exact ⟨Nat.zero_le _, by show (j 3).val * 1 + k.val - 0 < n + 1; omega⟩
    rw [dif_pos hin, if_pos hc, hx]
    show ((f ((j 0).val * 1 + 0 - 0) ((j 1).val * 1 + 0 - 0) ((j 2).val * 1 + 0 - 0) ((j 3).val * 1 + k.val - 0) : ℝ) : EReal) = _
    simp
  · rw [dif_neg fun hin => hc (by have := (hin 3).2; change (j 3).val * 1 + k.val - 0 < n + 1 at this; omega), if_neg hc]; rfl

/-- A running sum over the last of three axes. -/
theorem prefix3 (x : (⟨3, ![n0, n1, n + 1]⟩ : Shape).Idx → EReal) (f : ℕ → ℕ → ℕ → ℝ)
    (hx : ∀ i, x i = ((f (i 0).val (i 1).val (i 2).val : ℝ) : EReal))
    (h : (⟨3, ![n0, n1, n + 1]⟩ : Shape).ReduceWindows (![1, 1, n + 1] : Fin 3 → Nat) ![1, 1, 1] ![0, 0, n] ![0, 0, 0] ⟨3, ![n0, n1, n + 1]⟩)
    (j : (⟨3, ![n0, n1, n + 1]⟩ : Shape).Idx) :
    Ideal.hostReduceWindowAdd (![1, 1, n + 1] : Fin 3 → Nat) ![1, 1, 1] ![0, 0, n] ![0, 0, 0] h x 0 j
      = ((∑ k ∈ range (n + 1), if k ≤ (j 2).val then f (j 0).val (j 1).val k else 0 : ℝ) : EReal) := by
  rw [window_sum, sum_idx3, ← prefix_sum (show (j 2).val < n + 1 from (j 2).isLt)]
  refine sum_real _ _ fun k => ?_
  have h3 : (j 2).val < n + 1 := (j 2).isLt
  have hk := k.isLt
  by_cases hc : n ≤ (j 2).val + k.val
  · have hin : ∀ a : Fin 3, (![0, 0, n] : Fin 3 → Nat) a ≤ (j (a.cast h.1.symm)).val * (![1, 1, 1] : Fin 3 → Nat) a + ((ix3 (0 : Fin 1) (0 : Fin 1) k) a).val
        ∧ (j (a.cast h.1.symm)).val * (![1, 1, 1] : Fin 3 → Nat) a + ((ix3 (0 : Fin 1) (0 : Fin 1) k) a).val - (![0, 0, n] : Fin 3 → Nat) a < (![n0, n1, n + 1] : Fin 3 → Nat) a := fun a => by
      match a with
      | ⟨0, _⟩ => exact ⟨Nat.zero_le _, by have := (j 0).isLt; show (j 0).val * 1 + 0 - 0 < n0; have : (j 0).val < n0 := this; omega⟩
      | ⟨1, _⟩ => exact ⟨Nat.zero_le _, by have := (j 1).isLt; show (j 1).val * 1 + 0 - 0 < n1; have : (j 1).val < n1 := this; omega⟩
      | ⟨2, _⟩ => exact ⟨by show n ≤ (j 2).val * 1 + k.val; omega, by show (j 2).val * 1 + k.val - n < n + 1; omega⟩
    rw [dif_pos hin, if_pos hc, hx]
    show ((f ((j 0).val * 1 + 0 - 0) ((j 1).val * 1 + 0 - 0) ((j 2).val * 1 + k.val - n) : ℝ) : EReal) = _
    simp
  · rw [dif_neg fun hin => hc (by have := (hin 2).1; change n ≤ (j 2).val * 1 + k.val at this; omega), if_neg hc]; rfl

/-- A running sum from the end over the last of three axes. -/
theorem suffix3 (x : (⟨3, ![n0, n1, n + 1]⟩ : Shape).Idx → EReal) (f : ℕ → ℕ → ℕ → ℝ)
    (hx : ∀ i, x i = ((f (i 0).val (i 1).val (i 2).val : ℝ) : EReal))
    (h : (⟨3, ![n0, n1, n + 1]⟩ : Shape).ReduceWindows (![1, 1, n + 1] : Fin 3 → Nat) ![1, 1, 1] ![0, 0, 0] ![0, 0, n] ⟨3, ![n0, n1, n + 1]⟩)
    (j : (⟨3, ![n0, n1, n + 1]⟩ : Shape).Idx) :
    Ideal.hostReduceWindowAdd (![1, 1, n + 1] : Fin 3 → Nat) ![1, 1, 1] ![0, 0, 0] ![0, 0, n] h x 0 j
      = ((∑ k ∈ range (n + 1), if (j 2).val ≤ k then f (j 0).val (j 1).val k else 0 : ℝ) : EReal) := by
  rw [window_sum, sum_idx3, ← suffix_sum]
  refine sum_real _ _ fun k => ?_
  by_cases hc : (j 2).val + k.val < n + 1
  · have hin : ∀ a : Fin 3, (![0, 0, 0] : Fin 3 → Nat) a ≤ (j (a.cast h.1.symm)).val * (![1, 1, 1] : Fin 3 → Nat) a + ((ix3 (0 : Fin 1) (0 : Fin 1) k) a).val
        ∧ (j (a.cast h.1.symm)).val * (![1, 1, 1] : Fin 3 → Nat) a + ((ix3 (0 : Fin 1) (0 : Fin 1) k) a).val - (![0, 0, 0] : Fin 3 → Nat) a < (![n0, n1, n + 1] : Fin 3 → Nat) a := fun a => by
      match a with
      | ⟨0, _⟩ => exact ⟨Nat.zero_le _, by have := (j 0).isLt; show (j 0).val * 1 + 0 - 0 < n0; have : (j 0).val < n0 := this; omega⟩
      | ⟨1, _⟩ => exact ⟨Nat.zero_le _, by have := (j 1).isLt; show (j 1).val * 1 + 0 - 0 < n1; have : (j 1).val < n1 := this; omega⟩
      | ⟨2, _⟩ => exact ⟨Nat.zero_le _, by show (j 2).val * 1 + k.val - 0 < n + 1; omega⟩
    rw [dif_pos hin, if_pos hc, hx]
    show ((f ((j 0).val * 1 + 0 - 0) ((j 1).val * 1 + 0 - 0) ((j 2).val * 1 + k.val - 0) : ℝ) : EReal) = _
    simp
  · rw [dif_neg fun hin => hc (by have := (hin 2).2; change (j 2).val * 1 + k.val - 0 < n + 1 at this; omega), if_neg hc]; rfl

/- Contractions and sums over two axes. -/
open Cert.ReferenceIdeal Cert.ReferenceIdeal.Gen

theorem double_sum {m k : ℕ} (F : Fin m → Fin k → EReal) (f : ℕ → ℕ → ℝ) (h : ∀ i j, F i j = ((f i.val j.val : ℝ) : EReal)) :
    ∑ i, ∑ j, F i j = ((∑ i ∈ range m, ∑ j ∈ range k, f i j : ℝ) : EReal) :=
  sum_real _ _ fun i => sum_real _ _ fun j => h i j

theorem dot_state (x y : FVec Ideal S16x8x8x64x128 .f32) (i : S16x8x128x128.Idx) :
    Host.dotGeneral (F := Ideal) dot_S16x8x8x64x128_S16x8x8x64x128_S16x8x128x128_23_23_4_4_01_01 none x y i
      = ∑ e : Fin 8, ∑ p : Fin 64, x (ix5 (i 0) (i 1) e p (i 2)) * y (ix5 (i 0) (i 1) e p (i 3)) := by
  simp only [Host.dotGeneral]
  rw [Ideal.dotGeneral_apply, sum_contr2 _ 8 64 rfl rfl rfl]
  refine Finset.sum_congr rfl fun e _ => Finset.sum_congr rfl fun p _ => ?_
  congr 1
  · exact congrArg x (funext fun a => by match a with | ⟨0, _⟩ => rfl | ⟨1, _⟩ => rfl | ⟨2, _⟩ => rfl | ⟨3, _⟩ => rfl | ⟨4, _⟩ => rfl)
  · exact congrArg y (funext fun a => by match a with | ⟨0, _⟩ => rfl | ⟨1, _⟩ => rfl | ⟨2, _⟩ => rfl | ⟨3, _⟩ => rfl | ⟨4, _⟩ => rfl)

theorem dot_chunks (x : FVec Ideal S8x8x64x128x17 .f32) (y : FVec Ideal S17x8x8x64x128 .f32) (i : S8x8x17x17.Idx) :
    Host.dotGeneral (F := Ideal) dot_S8x8x64x128x17_S17x8x8x64x128_S8x8x17x17_23_34_4_0_01_12 none x y i
      = ∑ p : Fin 64, ∑ n : Fin 128, x (ix5 (i 0) (i 1) p n (i 2)) * y (ix5 (i 3) (i 0) (i 1) p n) := by
  simp only [Host.dotGeneral]
  rw [Ideal.dotGeneral_apply, sum_contr2 _ 64 128 rfl rfl rfl]
  refine Finset.sum_congr rfl fun e _ => Finset.sum_congr rfl fun p _ => ?_
  congr 1
  · exact congrArg x (funext fun a => by match a with | ⟨0, _⟩ => rfl | ⟨1, _⟩ => rfl | ⟨2, _⟩ => rfl | ⟨3, _⟩ => rfl | ⟨4, _⟩ => rfl)
  · exact congrArg y (funext fun a => by match a with | ⟨0, _⟩ => rfl | ⟨1, _⟩ => rfl | ⟨2, _⟩ => rfl | ⟨3, _⟩ => rfl | ⟨4, _⟩ => rfl)

theorem dot_inputs (x : FVec Ideal S16x8x8x64x128 .f32) (y : FVec Ideal S16x128x8x8x64 .f32) (i : S16x8x128x128.Idx) :
    Host.dotGeneral (F := Ideal) dot_S16x8x8x64x128_S16x128x8x8x64_S16x8x128x128_23_34_4_1_01_02 none x y i
      = ∑ e : Fin 8, ∑ p : Fin 64, x (ix5 (i 0) (i 1) e p (i 2)) * y (ix5 (i 0) (i 3) (i 1) e p) := by
  simp only [Host.dotGeneral]
  rw [Ideal.dotGeneral_apply, sum_contr2 _ 8 64 rfl rfl rfl]
  refine Finset.sum_congr rfl fun e _ => Finset.sum_congr rfl fun p _ => ?_
  congr 1
  · exact congrArg x (funext fun a => by match a with | ⟨0, _⟩ => rfl | ⟨1, _⟩ => rfl | ⟨2, _⟩ => rfl | ⟨3, _⟩ => rfl | ⟨4, _⟩ => rfl)
  · exact congrArg y (funext fun a => by match a with | ⟨0, _⟩ => rfl | ⟨1, _⟩ => rfl | ⟨2, _⟩ => rfl | ⟨3, _⟩ => rfl | ⟨4, _⟩ => rfl)

/-- The sum over the first two of four axes. -/
theorem sum_outer {n0 n1 n2 n3 : ℕ} (h : (⟨4, ![n0, n1, n2, n3]⟩ : Shape).ReducesTo [0, 1] ⟨2, ![n2, n3]⟩)
    (hd : ∀ i j, h.drop i = j ↔ i 2 = j 0 ∧ i 3 = j 1)
    (x : (⟨4, ![n0, n1, n2, n3]⟩ : Shape).Idx → EReal) (j : (⟨2, ![n2, n3]⟩ : Shape).Idx) :
    Ideal.hostReduceAdd h x 0 j = ∑ c : Fin n0, ∑ l : Fin n1, x (ix4 c l (j 0) (j 1)) := by
  unfold Ideal.hostReduceAdd
  rw [zero_add, ← Fintype.sum_prod_type']
  refine Finset.sum_nbij' (fun i => (i 0, i 1)) (fun p => ix4 p.1 p.2 (j 0) (j 1)) ?_ ?_ ?_ ?_ ?_
  · intro i hi; exact mem_univ _
  · intro p hp; exact mem_filter.mpr ⟨mem_univ _, (hd _ _).mpr ⟨rfl, rfl⟩⟩
  · intro i hi
    obtain ⟨h2, h3⟩ := (hd _ _).mp (mem_filter.mp hi).2
    show ix4 (i 0) (i 1) (j 0) (j 1) = i
    rw [← h2, ← h3]; exact (eq_ix4 i).symm
  · intro p hp; rfl
  · intro i hi
    obtain ⟨h2, h3⟩ := (hd _ _).mp (mem_filter.mp hi).2
    show x i = x (ix4 (i 0) (i 1) (j 0) (j 1))
    rw [← h2, ← h3]; exact congrArg x (eq_ix4 i)

theorem drop_outer {n0 n1 n2 n3 : ℕ} (h : (⟨4, ![n0, n1, n2, n3]⟩ : Shape).ReducesTo [0, 1] ⟨2, ![n2, n3]⟩)
    (i : (⟨4, ![n0, n1, n2, n3]⟩ : Shape).Idx) (j : (⟨2, ![n2, n3]⟩ : Shape).Idx) : h.drop i = j ↔ i 2 = j 0 ∧ i 3 = j 1 := by
  constructor
  · rintro rfl; exact ⟨rfl, rfl⟩
  · rintro ⟨h2, h3⟩
    funext b
    match b with
    | ⟨0, _⟩ => exact h2
    | ⟨1, _⟩ => exact h3

end Ssd
-- ==== Proof.RefFwd.lean ====
/- The reference's forward part over the reals: each lemma says what one array of the reference holds at an index, in the terms of
   Math.lean, when the five arguments are arrays of real numbers. -/
module

public import proofs.«01_k».proof.Proof.Math
public import proofs.«01_k».proof.Proof.RefOps

@[expose] public section

set_option maxRecDepth 16384

noncomputable section

namespace Ssd

open Idealize.ShloMosaic hiding ix0 ix1 ix2 ix3 ix4 ix5 ix6 eq_ix2 eq_ix3 eq_ix4 eq_ix5
open Idealize.ShloMosaic.ValueIdx Finset
open Cert.ReferenceIdeal Cert.ReferenceIdeal.Gen Cert.ReferenceIdeal.Read

/-- The arguments as arrays. -/
abbrev A0 (a : Args) : (⟨S2048x6144, .f32⟩ : BufTy).Contents (Elt Ideal) := up2 (φ := .f32) a.x0
abbrev A1 (a : Args) : (⟨S2048x1024, .f32⟩ : BufTy).Contents (Elt Ideal) := up2 (φ := .f32) a.x1
abbrev A2 (a : Args) : (⟨S1x1024, .f32⟩ : BufTy).Contents (Elt Ideal) := up2 (φ := .f32) a.x2
abbrev A3 (a : Args) : (⟨S2048x4096, .f32⟩ : BufTy).Contents (Elt Ideal) := up2 (φ := .f32) a.x3
abbrev A4 (a : Args) : (⟨S1x4096, .f32⟩ : BufTy).Contents (Elt Ideal) := up2 (φ := .f32) a.x4

theorem coe2 {f : ℕ → ℕ → ℝ} {i j i' j' : ℕ} (hi : i = i') (hj : j = j') : ((f i j : ℝ) : EReal) = ((f i' j' : ℝ) : EReal) := by
  rw [hi, hj]

variable (a : Args)

theorem r1 (i : S16x128x8x8x64.Idx) :
    val_main_v1 (F := Ideal) (A0 a) i = ((a.xs (i 0).val (i 1).val (i 2).val (i 3).val (i 4).val : ℝ) : EReal) := by
  have h0 : (i 0).val < 16 := (i 0).isLt
  have h1 : (i 1).val < 128 := (i 1).isLt
  have h2 : (i 2).val < 8 := (i 2).isLt
  have h3 : (i 3).val < 8 := (i 3).isLt
  have h4 : (i 4).val < 64 := (i 4).isLt
  rw [val_main_v1_apply, val_main_v0_apply]
  exact coe2 (f := a.x0)
    (show (((((i 0).val * 128 + (i 1).val) * 8 + (i 2).val) * 8 + (i 3).val) * 64 + (i 4).val) / 4096 = 128 * (i 0).val + (i 1).val by omega)
    (show (((((i 0).val * 128 + (i 1).val) * 8 + (i 2).val) * 8 + (i 3).val) * 64 + (i 4).val) % 4096 = 512 * (i 2).val + 64 * (i 3).val + (i 4).val by omega)

theorem r3 (i : S16x128x8x128.Idx) :
    val_main_v3 (F := Ideal) (A0 a) i = ((a.B (i 0).val (i 1).val (i 2).val (i 3).val : ℝ) : EReal) := by
  have h0 : (i 0).val < 16 := (i 0).isLt
  have h1 : (i 1).val < 128 := (i 1).isLt
  have h2 : (i 2).val < 8 := (i 2).isLt
  have h3 : (i 3).val < 128 := (i 3).isLt
  rw [val_main_v3_apply, val_main_v2_apply]
  exact coe2 (f := a.x0)
    (show ((((i 0).val * 128 + (i 1).val) * 8 + (i 2).val) * 128 + (i 3).val) / 1024 = 128 * (i 0).val + (i 1).val by omega)
    (show 4096 + ((((i 0).val * 128 + (i 1).val) * 8 + (i 2).val) * 128 + (i 3).val) % 1024 = 4096 + (128 * (i 2).val + (i 3).val) by omega)

theorem r5 (i : S16x128x8x128.Idx) :
    val_main_v5 (F := Ideal) (A0 a) i = ((a.C (i 0).val (i 1).val (i 2).val (i 3).val : ℝ) : EReal) := by
  have h0 : (i 0).val < 16 := (i 0).isLt
  have h1 : (i 1).val < 128 := (i 1).isLt
  have h2 : (i 2).val < 8 := (i 2).isLt
  have h3 : (i 3).val < 128 := (i 3).isLt
  rw [val_main_v5_apply, val_main_v4_apply]
  exact coe2 (f := a.x0)
    (show ((((i 0).val * 128 + (i 1).val) * 8 + (i 2).val) * 128 + (i 3).val) / 1024 = 128 * (i 0).val + (i 1).val by omega)
    (show 5120 + ((((i 0).val * 128 + (i 1).val) * 8 + (i 2).val) * 128 + (i 3).val) % 1024 = 5120 + (128 * (i 2).val + (i 3).val) by omega)

theorem r7 (i : S16x128x8x8.Idx) :
    val_main_v7 (F := Ideal) (A1 a) i = ((a.dt (i 0).val (i 1).val (i 2).val (i 3).val : ℝ) : EReal) := by
  have h0 : (i 0).val < 16 := (i 0).isLt
  have h1 : (i 1).val < 128 := (i 1).isLt
  have h2 : (i 2).val < 8 := (i 2).isLt
  have h3 : (i 3).val < 8 := (i 3).isLt
  rw [val_main_v7_apply, val_main_v6_apply]
  exact coe2 (f := a.x1)
    (show ((((i 0).val * 128 + (i 1).val) * 8 + (i 2).val) * 128 + (i 3).val) / 1024 = 128 * (i 0).val + (i 1).val by omega)
    (show ((((i 0).val * 128 + (i 1).val) * 8 + (i 2).val) * 128 + (i 3).val) % 1024 = 128 * (i 2).val + (i 3).val by omega)

theorem r9 (i : S8x8.Idx) : val_main_v9 (F := Ideal) (A2 a) i = ((a.al (i 0).val (i 1).val : ℝ) : EReal) := by
  have h0 : (i 0).val < 8 := (i 0).isLt
  have h1 : (i 1).val < 8 := (i 1).isLt
  rw [val_main_v9_apply, val_main_v8_apply]
  exact coe2 (f := a.x2) rfl (show ((i 0).val * 128 + (i 1).val) % 1024 = 128 * (i 0).val + (i 1).val by omega)

theorem r10 (i : S8x8x64.Idx) : val_main_v10 (F := Ideal) (A4 a) i = ((a.dk (i 0).val (i 1).val (i 2).val : ℝ) : EReal) := by
  have h0 : (i 0).val < 8 := (i 0).isLt
  have h1 : (i 1).val < 8 := (i 1).isLt
  have h2 : (i 2).val < 64 := (i 2).isLt
  rw [val_main_v10_apply]
  exact coe2 (f := a.x4) rfl
    (show (((i 0).val * 8 + (i 1).val) * 64 + (i 2).val) % 4096 = 512 * (i 0).val + 64 * (i 1).val + (i 2).val by omega)

theorem r11 (i : S8x8.Idx) : val_main_v11 (F := Ideal) (A2 a) i = ((Real.exp (a.al (i 0).val (i 1).val) : ℝ) : EReal) := by
  rw [val_main_v11_apply, r9]; rfl

theorem r12 (i : S8x8.Idx) : val_main_v12 (F := Ideal) (A2 a) i = ((a.A (i 0).val (i 1).val : ℝ) : EReal) := by
  rw [val_main_v12_apply, r11]; exact (EReal.coe_neg _).symm

theorem r15 (i : S16x128x8x8x64.Idx) :
    val_main_v15 (F := Ideal) (A0 a) (A1 a) i = ((a.X (i 0).val (i 1).val (i 2).val (i 3).val (i 4).val : ℝ) : EReal) := by
  rw [val_main_v15_apply, val_main_v14_apply, val_main_v13_apply, r1, r7]; exact (EReal.coe_mul _ _).symm

theorem r19 (i : S8x8x16x128.Idx) :
    val_main_v19 (F := Ideal) (A1 a) (A2 a) i = ((a.A (i 0).val (i 1).val * a.dt (i 2).val (i 3).val (i 0).val (i 1).val : ℝ) : EReal) := by
  rw [val_main_v19_apply, val_main_v18_apply, val_main_v17_apply, val_main_v16_apply, r12, r7]; exact (EReal.coe_mul _ _).symm

theorem r20 (i : S8x8x16x128.Idx) :
    val_main_v20 (F := Ideal) (A1 a) (A2 a) i = ((a.cs (i 2).val (i 0).val (i 1).val (i 3).val : ℝ) : EReal) := by
  unfold val_main_v20 Host.reduceWindowAdd
  rw [show (val_main_call0_call0_v0 (F := Ideal)) (Shape.Idx.first h_S_) = 0 from
    (val_main_call0_call0_v0_apply _).trans ((val_main_call0_call0_cst_apply _).trans ofBits_zero)]
  exact prefix4 (n := 127) _ (fun g e c l => a.A g e * a.dt c l g e) (r19 a) _ i

theorem r21 (i : S8x16x128x128.Idx) :
    val_main_v21 (F := Ideal) (A0 a) i = ((a.CB (i 1).val (i 0).val (i 2).val (i 3).val : ℝ) : EReal) := by
  rw [val_main_v21_apply]
  exact sum_real _ (fun n => a.C (i 1).val (i 2).val (i 0).val n * a.B (i 1).val (i 3).val (i 0).val n) fun k => by
    rw [r5, r3]; exact (EReal.coe_mul _ _).symm

theorem r34_1 (i : S8x8x16x128x128.Idx) :
    val_main_v34_1 (F := Ideal) i = if (i 4).val ≤ (i 3).val then 1#1 else 0#1 := by
  rw [val_main_v34_1_apply, val_main_v28_apply, val_main_v26_apply, val_main_v27_apply, val_main_v24_apply, val_main_v25_apply,
    val_main_v23_apply, val_main_v23_apply]
  exact (cmp_small (i := (i 3).val) (j := (i 4).val) (i 3).isLt (i 4).isLt).1

theorem exp_masked (p : Prop) [Decidable p] (x : ℝ) :
    Ideal.exp (if p then (x : EReal) else ⊥) = ((if p then Real.exp x else 0 : ℝ) : EReal) := by
  split_ifs <;> rfl

theorem ofBits_bot : (FloatOps.ofBits (F := Ideal) .f32 0xFF800000#32 : EReal) = ⊥ := by
  change Ideal.ofBits .f32 0xFF800000#32 = ⊥
  simp [Ideal.ofBits, Ideal.ieee]

theorem r35 (i : S8x8x16x128x128.Idx) :
    val_main_v35 (F := Ideal) (A1 a) (A2 a) i = ((a.Lm (i 2).val (i 0).val (i 1).val (i 3).val (i 4).val : ℝ) : EReal) := by
  rw [val_main_v35_apply, val_main_v34_0_apply, val_main_call1_v2_apply, val_main_call1_v0_apply, val_main_cst_apply, ofBits_bot,
    select_real (r34_1 i), val_main_v33_apply, val_main_v31_apply, val_main_v29_apply, val_main_v32_apply, val_main_v30_apply, r20, r20]
  exact exp_masked _ _

theorem r37 (i : S8x8x16x128x128.Idx) :
    val_main_v37 (F := Ideal) (A0 a) (A1 a) (A2 a) i
      = ((a.CB (i 2).val (i 0).val (i 3).val (i 4).val * a.Lm (i 2).val (i 0).val (i 1).val (i 3).val (i 4).val : ℝ) : EReal) := by
  rw [val_main_v37_apply, val_main_v36_apply, val_main_v22_apply, r21, r35]; exact (EReal.coe_mul _ _).symm

theorem r39 (i : S16x128x8x8x64.Idx) :
    val_main_v39 (F := Ideal) (A0 a) (A1 a) (A2 a) i
      = ((∑ s ∈ range 128, a.X (i 0).val s (i 2).val (i 3).val (i 4).val
          * (a.CB (i 0).val (i 2).val (i 1).val s * a.Lm (i 0).val (i 2).val (i 3).val (i 1).val s) : ℝ) : EReal) := by
  rw [val_main_v39_apply, val_main_v38_apply]
  exact sum_real _ _ fun k => by rw [r15, r37]; exact (EReal.coe_mul _ _).symm

theorem r43 (i : S8x8x16x128.Idx) :
    val_main_v43 (F := Ideal) (A1 a) (A2 a) i = ((a.dec (i 2).val (i 0).val (i 1).val (i 3).val : ℝ) : EReal) := by
  rw [val_main_v43_apply, val_main_v42_apply, val_main_v41_apply, val_main_v40_apply, r20, r20]; rfl

theorem r45 (i : S16x128x8x8x1.Idx) :
    val_main_v45 (F := Ideal) (A1 a) (A2 a) i = ((a.dec (i 0).val (i 2).val (i 3).val (i 1).val : ℝ) : EReal) := by
  rw [val_main_v45_apply, val_main_v44_apply, r43]

theorem r47 (i : S16x128x8x8x64.Idx) :
    val_main_v47 (F := Ideal) (A0 a) (A1 a) (A2 a) i
      = ((a.dec (i 0).val (i 2).val (i 3).val (i 1).val * a.X (i 0).val (i 1).val (i 2).val (i 3).val (i 4).val : ℝ) : EReal) := by
  rw [val_main_v47_apply, val_main_v46_apply, r45, r15]; exact (EReal.coe_mul _ _).symm

theorem r48 (i : S16x8x8x64x128.Idx) :
    val_main_v48 (F := Ideal) (A0 a) (A1 a) (A2 a) i = ((a.st (i 0).val (i 1).val (i 2).val (i 3).val (i 4).val : ℝ) : EReal) := by
  rw [val_main_v48_apply]
  exact sum_real _ (fun l => a.dec (i 0).val (i 1).val (i 2).val l * a.X (i 0).val l (i 1).val (i 2).val (i 3).val * a.B (i 0).val l (i 1).val (i 4).val)
    fun k => by rw [r47, r3]; exact (EReal.coe_mul _ _).symm

theorem r51 (i : S17x8x8x64x128.Idx) :
    val_main_v51 (F := Ideal) (A0 a) (A1 a) (A2 a) i = ((a.stc (i 0).val (i 1).val (i 2).val (i 3).val (i 4).val : ℝ) : EReal) := by
  have h0 : (i 0).val < 17 := (i 0).isLt
  unfold val_main_v51
  by_cases hi : (i 0).val = 0
  · rw [concatenate_pair_apply_left (s₁ := S1x8x8x64x128) (s₂ := S16x8x8x64x128) (0 : Fin 5) _ _ _ i rfl
      (ix5 (⟨0, by decide⟩ : Fin 1) (i 1) (i 2) (i 3) (i 4))
      (fun b => by match b with | ⟨0, _⟩ => exact hi.symm | ⟨1, _⟩ => rfl | ⟨2, _⟩ => rfl | ⟨3, _⟩ => rfl | ⟨4, _⟩ => rfl),
      val_main_v50_apply, val_main_cst_0_apply, ofBits_zero, Args.stc, if_pos hi]; rfl
  · rw [concatenate_pair_apply_right (s₁ := S1x8x8x64x128) (s₂ := S16x8x8x64x128) (0 : Fin 5) _ _ _ i rfl rfl
      (ix5 (⟨(i 0).val - 1, by omega⟩ : Fin 16) (i 1) (i 2) (i 3) (i 4))
      (fun b hb => by match b with | ⟨0, _⟩ => exact absurd rfl hb | ⟨1, _⟩ => rfl | ⟨2, _⟩ => rfl | ⟨3, _⟩ => rfl | ⟨4, _⟩ => rfl)
      (by show (i 0).val - 1 + 1 = (i 0).val; omega), r48, Args.stc, if_neg hi]

theorem r58 (i : S8x8x17.Idx) :
    val_main_v58 (F := Ideal) (A1 a) (A2 a) i = ((a.ct (i 0).val (i 1).val (i 2).val : ℝ) : EReal) := by
  have h0 : (i 0).val < 8 := (i 0).isLt
  have h1 : (i 1).val < 8 := (i 1).isLt
  have h2 : (i 2).val < 17 := (i 2).isLt
  unfold val_main_v58
  by_cases hi : (i 2).val = 0
  · rw [concatenate_pair_apply_left (s₁ := S8x8x1) (s₂ := S8x8x16) (2 : Fin 3) _ _ _ i rfl
      (ix3 (i 0) (i 1) (⟨0, by decide⟩ : Fin 1))
      (fun b => by match b with | ⟨0, _⟩ => rfl | ⟨1, _⟩ => rfl | ⟨2, _⟩ => exact hi.symm),
      val_main_v55_apply, val_main_cst_2_apply, ofBits_zero, Args.ct, if_pos hi]; rfl
  · rw [concatenate_pair_apply_right (s₁ := S8x8x1) (s₂ := S8x8x16) (2 : Fin 3) _ _ _ i rfl rfl
      (ix3 (i 0) (i 1) (⟨(i 2).val - 1, by omega⟩ : Fin 16))
      (fun b hb => by match b with | ⟨0, _⟩ => rfl | ⟨1, _⟩ => rfl | ⟨2, _⟩ => exact absurd rfl hb)
      (by show (i 2).val - 1 + 1 = (i 2).val; omega), val_main_v57_apply, val_main_v56_apply, r20, Args.ct, if_neg hi, Args.tot]
    show ((a.cs ((((i 0).val * 8 + (i 1).val) * 16 + ((i 2).val - 1)) / 1 % 16) ((((i 0).val * 8 + (i 1).val) * 16 + ((i 2).val - 1)) / 128)
      ((((i 0).val * 8 + (i 1).val) * 16 + ((i 2).val - 1)) / 16 % 8) _ : ℝ) : EReal) = _
    rw [show (((i 0).val * 8 + (i 1).val) * 16 + ((i 2).val - 1)) / 1 % 16 = (i 2).val - 1 by omega,
      show (((i 0).val * 8 + (i 1).val) * 16 + ((i 2).val - 1)) / 128 = (i 0).val by omega,
      show (((i 0).val * 8 + (i 1).val) * 16 + ((i 2).val - 1)) / 16 % 8 = (i 1).val by omega]
    rfl

theorem r60 (i : S8x8x17.Idx) :
    val_main_v60 (F := Ideal) (A1 a) (A2 a) i = ((a.cs2 (i 0).val (i 1).val (i 2).val : ℝ) : EReal) := by
  unfold val_main_v60 Host.reduceWindowAdd
  rw [show (val_main_call2_call0_v0 (F := Ideal)) (Shape.Idx.first h_S_) = 0 from
    (val_main_call2_call0_v0_apply _).trans ((val_main_call2_call0_cst_apply _).trans ofBits_zero)]
  exact prefix3 (n := 16) _ a.ct (r58 a) _ i

theorem r72_1 (i : S8x8x17x17.Idx) :
    val_main_v72_1 (F := Ideal) i = if (i 3).val ≤ (i 2).val then 1#1 else 0#1 := by
  have h2 : (i 2).val < 17 := (i 2).isLt
  have h3 : (i 3).val < 17 := (i 3).isLt
  rw [val_main_v72_1_apply, val_main_v66_apply, val_main_v64_apply, val_main_v65_apply, val_main_v62_apply, val_main_v63_apply,
    val_main_v61_apply, val_main_v61_apply]
  exact (cmp_small (i := (i 2).val) (j := (i 3).val) (by omega) (by omega)).1

theorem r73 (i : S8x8x17x17.Idx) :
    val_main_v73 (F := Ideal) (A1 a) (A2 a) i = ((a.dch (i 0).val (i 1).val (i 2).val (i 3).val : ℝ) : EReal) := by
  rw [val_main_v73_apply, val_main_v72_0_apply, val_main_call3_v2_apply, val_main_call3_v0_apply, val_main_cst_4_apply, ofBits_bot,
    select_real (r72_1 i), val_main_v71_apply, val_main_v69_apply, val_main_v67_apply, val_main_v70_apply, val_main_v68_apply, r60, r60]
  exact exp_masked _ _

theorem r76 (i : S16x8x8x64x128.Idx) :
    val_main_v76 (F := Ideal) (A0 a) (A1 a) (A2 a) i = ((a.sin (i 0).val (i 1).val (i 2).val (i 3).val (i 4).val : ℝ) : EReal) := by
  rw [val_main_v76_apply, val_main_v75_apply, val_main_v74_apply]
  exact sum_real _ (fun k => a.stc k (i 1).val (i 2).val (i 3).val (i 4).val * a.dch (i 1).val (i 2).val (i 0).val k) fun k => by
    rw [r51, r73]; exact (EReal.coe_mul _ _).symm

theorem r78 (i : S16x128x8x8x64.Idx) :
    val_main_v78 (F := Ideal) (A0 a) (A1 a) (A2 a) i = ((a.y0 (i 0).val (i 1).val (i 2).val (i 3).val (i 4).val : ℝ) : EReal) := by
  rw [val_main_v78_apply, val_main_v77_apply]
  exact sum_real _ (fun n => a.sin (i 0).val (i 2).val (i 3).val (i 4).val n * a.C (i 0).val (i 1).val (i 2).val n) fun k => by
    rw [r76, r5]; exact (EReal.coe_mul _ _).symm

theorem r79 (i : S8x8x16x128.Idx) :
    val_main_v79 (F := Ideal) (A1 a) (A2 a) i = ((Real.exp (a.cs (i 2).val (i 0).val (i 1).val (i 3).val) : ℝ) : EReal) := by
  rw [val_main_v79_apply, r20]; rfl

theorem r81 (i : S16x128x8x8x1.Idx) :
    val_main_v81 (F := Ideal) (A1 a) (A2 a) i = ((Real.exp (a.cs (i 0).val (i 2).val (i 3).val (i 1).val) : ℝ) : EReal) := by
  rw [val_main_v81_apply, val_main_v80_apply, r79]

theorem r84 (i : S16x128x8x8x64.Idx) :
    val_main_v84 (F := Ideal) (A0 a) (A1 a) (A2 a) i = ((a.y (i 0).val (i 1).val (i 2).val (i 3).val (i 4).val : ℝ) : EReal) := by
  rw [val_main_v84_apply, r39, val_main_v83_apply, r78, val_main_v82_apply, r81]
  exact (congrArg _ (EReal.coe_mul _ _).symm).trans (EReal.coe_add _ _).symm

end Ssd
-- ==== Proof.Pre.lean ====
/- What the precondition says: the arguments are arrays of real numbers and `dt` is not negative. And which results the
   comparison covers: the first 4096 columns of the first, all of the others. -/
module

public import proofs.«01_k».proof.Pre_finite
public import proofs.«01_k».proof.On_written
public import proofs.«01_k».proof.Proof.RefFwd
public import Idealize.ShloMosaic.Lib.ReduceAll
public import Idealize.ShloMosaic.Lib.WordCmp

@[expose] public section

set_option maxRecDepth 16384

noncomputable section

namespace Ssd

open Idealize.ShloMosaic hiding ix0 ix1 ix2 ix3 ix4 ix5 ix6 eq_ix2 eq_ix3 eq_ix4 eq_ix5
open Idealize.ShloMosaic.ValueIdx Finset

theorem pre_facts : Cert.Pre_finite.Facts where
  bcast_S_S2048x6144 := by decide
  reducesTo_S2048x6144_S_d0_1 := by decide
  h_S_ := by decide
  bcast_S_S2048x1024 := by decide
  reducesTo_S2048x1024_S_d0_1 := by decide
  bcast_S_S1x1024 := by decide
  reducesTo_S1x1024_S_d0_1 := by decide
  bcast_S_S2048x4096 := by decide
  reducesTo_S2048x4096_S_d0_1 := by decide
  bcast_S_S1x4096 := by decide
  reducesTo_S1x4096_S_d0_1 := by decide

theorem on_facts : Cert.On_written.Facts where
  bcast_S_S6144 := by decide
  bcast_S6144_S2048x6144_1 := by decide
  bcast_S_S2048x1024 := by decide
  bcast_S_S1x1024 := by decide

theorem ofBool_one {b : Bool} (h : BitVec.ofBool b = 1#1) : b = true := by
  revert h; cases b <;> decide

/-- An extended real whose size is under infinity is a real number. -/
theorem real_of_lt (x : EReal) (h : FloatOps.cmpf (F := Ideal) (φ := .f32) .olt (FloatOps.absf (F := Ideal) (φ := .f32) x)
    (FloatOps.ofBits (F := Ideal) .f32 0x7F800000#32) = 1#1) : x = ((x.toReal : ℝ) : EReal) := by
  have htop : Ideal.ofBits .f32 0x7F800000#32 = ⊤ := by simp [Ideal.ofBits, Ideal.ieee]
  rw [Ideal.cmpf_def, Ideal.absf_def, Ideal.ofBits_def, htop] at h
  have hlt : max x (-x) < ⊤ := of_decide_eq_true (ofBool_one h)
  refine (EReal.coe_toReal ?_ ?_).symm
  · rintro rfl
    exact absurd (lt_of_le_of_lt (le_max_left _ _) hlt) (lt_irrefl _)
  · rintro rfl
    exact absurd (lt_of_le_of_lt (le_max_right _ _) hlt) (by simp)

theorem nonneg_of_ge (x : EReal) (h : FloatOps.cmpf (F := Ideal) (φ := .f32) .oge x
    (FloatOps.ofBits (F := Ideal) .f32 0x00000000#32) = 1#1) : 0 ≤ x := by
  rw [Ideal.cmpf_def, Ideal.ofBits_def, Ideal.ofBits_zero_f32] at h
  exact of_decide_eq_true (ofBool_one h)

/-- The real numbers an array holds, zero outside it. -/
def real2 {m n : ℕ} (x : (⟨2, ![m, n]⟩ : Shape).Idx → EReal) (i j : ℕ) : ℝ :=
  if h : i < m ∧ j < n then (x (ix2 ⟨i, h.1⟩ ⟨j, h.2⟩)).toReal else 0

theorem eq_up2_real2 {m n : ℕ} (x : (⟨2, ![m, n]⟩ : Shape).Idx → EReal) (h : ∀ i, x i = ((x i).toReal : EReal)) :
    x = up2 (φ := .f32) (real2 x) := by
  funext i
  show x i = ((real2 x (i 0).val (i 1).val : ℝ) : EReal)
  unfold real2
  have b0 : (i 0).val < m := (i 0).isLt
  have b1 : (i 1).val < n := (i 1).isLt
  rw [dif_pos ⟨b0, b1⟩]
  have e : i = ix2 ⟨(i 0).val, b0⟩ ⟨(i 1).val, b1⟩ := eq_ix2 i
  exact (h i).trans (congrArg (fun k => ((x k).toReal : EReal)) e)

theorem real2_nonneg {m n : ℕ} (x : (⟨2, ![m, n]⟩ : Shape).Idx → EReal) (h : ∀ i, 0 ≤ x i) (i j : ℕ) : 0 ≤ real2 x i j := by
  unfold real2
  split
  · exact EReal.toReal_nonneg (h _)
  · exact le_refl _

instance : Subsingleton Cert.Pre_finite.S_.Idx := ⟨fun a b => funext fun i => i.elim0⟩

/-- The precondition, element by element. -/
theorem fn_says [Cert.Pre_finite.Facts] (x0 : FVec Ideal Cert.Pre_finite.S2048x6144 .f32) (x1 : FVec Ideal Cert.Pre_finite.S2048x1024 .f32)
    (x2 : FVec Ideal Cert.Pre_finite.S1x1024 .f32) (x3 : FVec Ideal Cert.Pre_finite.S2048x4096 .f32)
    (x4 : FVec Ideal Cert.Pre_finite.S1x4096 .f32) (h : Cert.Pre_finite.fn (F := Ideal) x0 x1 x2 x3 x4 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ ∀ i, 0 ≤ x1 i := by
  have h := congrFun h (fun b => b.elim0)
  unfold Cert.Pre_finite.fn Cert.Pre_finite.fn_part1 at h
  simp only [andi] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => nonneg_of_ge _ (Host.reduce_andi_all _ _ _ _ _ h5 i)⟩

/-- The first result is compared on its first 4096 columns. -/
theorem on_col [Cert.On_written.Facts] (x0 : FVec Ideal Cert.On_written.S2048x6144 .f32) (x1 : FVec Ideal Cert.On_written.S2048x1024 .f32)
    (x2 : FVec Ideal Cert.On_written.S1x1024 .f32) (x3 : FVec Ideal Cert.On_written.S2048x4096 .f32)
    (x4 : FVec Ideal Cert.On_written.S1x4096 .f32) (i : Cert.On_written.S2048x6144.Idx)
    (h : (Cert.On_written.fn (F := Ideal) x0 x1 x2 x3 x4).1 i = 1#1) : (i 1).val < 4096 := by
  have b1 : (i 1).val < 6144 := (i 1).isLt
  have h' : IntOp.cmpi .slt (BitVec.ofNat 32 (i 1).val) (BitVec.ofNat 32 4096) = 1#1 := h
  exact (WordCmp.cmpi_slt_ofNat_eq_one_iff (by omega) (by norm_num)).mp h'

end Ssd
-- ==== Proof.FfnLift.lean ====
/- Arrays of extended reals given by functions of natural numbers, and what each kernel of the feed-forward block computes from
   blocks of that form. -/
module

public import proofs.«01_k».proof.Proof.Gen.Kernel2Ideal.Skeleton
public import Idealize.ShloMosaic.Lib.Pointwise
public import Idealize.ShloMosaic.Lib.ValueIdx

@[expose] public section

set_option maxRecDepth 16384

noncomputable section

namespace Ffn

open Idealize.ShloMosaic Finset
open Cert.Kernel2Ideal Cert.Kernel2Ideal.Gen

/-- The matrix with the element `f i j` at `(i, j)`. -/
def e2 (φ : FTy) {m n : ℕ} (f : ℕ → ℕ → EReal) : FVec Ideal (⟨2, ![m, n]⟩ : Shape) φ := fun i => f (i 0).val (i 1).val
/-- The stack of matrices with the element `f s i j` at `(s, i, j)`. -/
def e3 (φ : FTy) {s m n : ℕ} (f : ℕ → ℕ → ℕ → EReal) : FVec Ideal (⟨3, ![s, m, n]⟩ : Shape) φ :=
  fun i => f (i 0).val (i 1).val (i 2).val

theorem e2_congr {φ : FTy} {m n : ℕ} {f g : ℕ → ℕ → EReal} (h : ∀ i < m, ∀ j < n, f i j = g i j) :
    (e2 φ f : FVec Ideal ⟨2, ![m, n]⟩ φ) = e2 φ g :=
  funext fun i => h _ (i 0).isLt _ (i 1).isLt

theorem eq2 {f : ℕ → ℕ → EReal} {i j i' j' : ℕ} (h0 : i = i') (h1 : j = j') : f i j = f i' j' := by rw [h0, h1]
theorem eq3 {f : ℕ → ℕ → ℕ → EReal} {s i j s' i' j' : ℕ} (h0 : s = s') (h1 : i = i') (h2 : j = j') : f s i j = f s' i' j' := by
  rw [h0, h1, h2]

/-- The logistic function. -/
def logistic (x : EReal) : EReal := Ideal.div (1 : EReal) (1 + Ideal.exp (-x))
/-- `x` times its logistic. -/
def silu (x : EReal) : EReal := x * logistic x
/-- The derivative of `silu`, as the kernel writes it. -/
def dsilu (x : EReal) : EReal := logistic x * (1 + x * (1 - logistic x))

variable (f g : ℕ → ℕ → EReal) (w : ℕ → ℕ → ℕ → EReal)

theorem pay_gate : k0_pay1 (F := Ideal) (e3 .bf16 w) (e2 .bf16 f) = e2 .bf16 fun i j => ∑ k ∈ range 2048, f i k * w 0 k j := by
  funext j
  idx_vars j
  unfold k0_pay1
  pointwise
  simp only [e2, e3, Finset.sum_range]
  simp

/-- The second product's body has the first one's text. -/
theorem pay_up : k1_pay1 (F := Ideal) (e3 .bf16 w) (e2 .bf16 f) = e2 .bf16 fun i j => ∑ k ∈ range 2048, f i k * w 0 k j := pay_gate f w

theorem pay_down_dw : k3_pay1 (F := Ideal) (e2 .f32 g) (e2 .bf16 f) = e2 .bf16 fun i j => ∑ k ∈ range 2048, f k i * g k j := by
  funext j
  idx_vars j
  unfold k3_pay1
  pointwise
  simp only [e2, e3, Finset.sum_range]
  simp

theorem pay_down_dx : k4_pay1 (F := Ideal) (e2 .bf16 g) (e2 .f32 f) = e2 .f32 fun i j => ∑ k ∈ range 2048, f i k * g j k := by
  funext j
  idx_vars j
  unfold k4_pay1
  pointwise
  simp only [e2, e3, Finset.sum_range]
  simp

theorem pay_gate_dw : k6_pay1 (F := Ideal) (e2 .bf16 g) (e2 .bf16 f) = e3 .bf16 fun _ i j => ∑ k ∈ range 2048, f k i * g k j := by
  funext j
  idx_vars j
  unfold k6_pay1
  pointwise
  simp only [e2, e3, Finset.sum_range]
  simp

theorem pay_up_dw : k7_pay1 (F := Ideal) (e2 .bf16 g) (e2 .bf16 f) = e3 .bf16 fun _ i j => ∑ k ∈ range 2048, f k i * g k j :=
  pay_gate_dw f g

theorem pay_act : k2_pay1 (F := Ideal) (e2 .bf16 f) (e2 .bf16 g) = e2 .bf16 fun i j => silu (f i j) * g i j := by
  funext j
  idx_vars j
  unfold k2_pay1
  pointwise
  simp only [e2, silu, logistic]
  simp

theorem pay_dup (d : ℕ → ℕ → EReal) : k5_pay4 (F := Ideal) (e2 .f32 d) (e2 .bf16 g) = e2 .bf16 fun i j => d i j * silu (g i j) := by
  funext j
  idx_vars j
  unfold k5_pay4 k5_pay2 k5_pay1
  pointwise
  simp only [e2, silu, logistic]
  simp

theorem pay_dgt (d : ℕ → ℕ → EReal) : k5_pay3 (F := Ideal) (e2 .f32 d) (e2 .bf16 g) (e2 .bf16 f)
    = e2 .bf16 fun i j => d i j * f i j * dsilu (g i j) := by
  funext j
  idx_vars j
  unfold k5_pay3 k5_pay2 k5_pay1
  pointwise
  simp only [e2, dsilu, logistic]
  simp

end Ffn
-- ==== Proof.FfnMath.lean ====
/- The feed-forward block's backward pass as functions of natural numbers. -/
module

public import proofs.«01_k».proof.Proof.FfnLift

@[expose] public section

noncomputable section

namespace Ffn

open Idealize.ShloMosaic Finset

/-- The block's arguments: its inputs, the weights of the gate and of the up product in the four chips' parts, the weights
    down and the gradient of the block's output. -/
structure FArgs where
  u : ℕ → ℕ → EReal
  wg : ℕ → ℕ → ℕ → EReal
  wu : ℕ → ℕ → ℕ → EReal
  wd : ℕ → ℕ → EReal
  dh : ℕ → ℕ → EReal

namespace FArgs
variable (a : FArgs)

/-- The gate. -/
def gate (s j : ℕ) : EReal := ∑ k ∈ range 2048, a.u s k * a.wg (j / 1408) k (j % 1408)
/-- The up product. -/
def up (s j : ℕ) : EReal := ∑ k ∈ range 2048, a.u s k * a.wu (j / 1408) k (j % 1408)
/-- The activation. -/
def act (s j : ℕ) : EReal := silu (a.gate s j) * a.up s j
/-- The activation's gradient. -/
def dact (s j : ℕ) : EReal := ∑ k ∈ range 2048, a.dh s k * a.wd j k
/-- The gate's gradient. -/
def dgate (s j : ℕ) : EReal := a.dact s j * a.up s j * dsilu (a.gate s j)
/-- The up product's gradient. -/
def dup (s j : ℕ) : EReal := a.dact s j * silu (a.gate s j)
/-- The gradient of the weights down. -/
def dwd (i j : ℕ) : EReal := ∑ k ∈ range 2048, a.act k i * a.dh k j
/-- The gradient of the gate's weights. -/
def dwg (s i j : ℕ) : EReal := ∑ k ∈ range 2048, a.u k i * a.dgate k (s * 1408 + j)
/-- The gradient of the up product's weights. -/
def dwu (s i j : ℕ) : EReal := ∑ k ∈ range 2048, a.u k i * a.dup k (s * 1408 + j)

end FArgs

/-- An extended real that is a real number. -/
def IsReal (x : EReal) : Prop := ∃ r : ℝ, x = (r : EReal)

theorem IsReal.mul {x y : EReal} : IsReal x → IsReal y → IsReal (x * y) := by
  rintro ⟨r, rfl⟩ ⟨s, rfl⟩; exact ⟨r * s, (EReal.coe_mul r s).symm⟩
theorem IsReal.add {x y : EReal} : IsReal x → IsReal y → IsReal (x + y) := by
  rintro ⟨r, rfl⟩ ⟨s, rfl⟩; exact ⟨r + s, (EReal.coe_add r s).symm⟩
theorem IsReal.sum {n : ℕ} {f : ℕ → EReal} (h : ∀ k, IsReal (f k)) : IsReal (∑ k ∈ range n, f k) := by
  induction n with
  | zero => exact ⟨0, by simp⟩
  | succ n ih => rw [Finset.sum_range_succ]; exact ih.add (h n)
theorem IsReal.logistic {x : EReal} : IsReal x → IsReal (logistic x) := by
  rintro ⟨r, rfl⟩
  refine ⟨1 / (1 + Real.exp (-r)), ?_⟩
  have h : (1 + Real.exp (-r)) ≠ 0 := by positivity
  unfold Ffn.logistic
  rw [← EReal.coe_neg, Ideal.exp_coe, ← EReal.coe_one, ← EReal.coe_add, Ideal.div_coe h, EReal.coe_one, one_mul]

theorem logistic_top : logistic ⊤ = 1 := Ideal.logistic_top
theorem one_sub_one : (1 : EReal) - 1 = 0 := by
  rw [← EReal.coe_one, ← EReal.coe_sub, sub_self, EReal.coe_zero]
theorem logistic_bot : logistic ⊥ = 0 := Ideal.logistic_bot

theorem IsReal.cases (x : EReal) : x = ⊤ ∨ x = ⊥ ∨ IsReal x := by
  induction x using EReal.rec with
  | bot => exact .inr (.inl rfl)
  | top => exact .inl rfl
  | coe r => exact .inr (.inr ⟨r, rfl⟩)

/-- Every argument but the weights of the gate is a real number. -/
structure FArgs.Finite (a : FArgs) : Prop where
  u : ∀ i j, IsReal (a.u i j)
  wu : ∀ s i j, IsReal (a.wu s i j)
  wd : ∀ i j, IsReal (a.wd i j)
  dh : ∀ i j, IsReal (a.dh i j)

/-- The gate's gradient, as the rule for a product gives it. -/
theorem FArgs.dgate_eq {a : FArgs} (h : a.Finite) (s j : ℕ) :
    a.dgate s j = a.dact s j * a.up s j * logistic (a.gate s j)
      + a.gate s j * (a.dact s j * a.up s j) * (logistic (a.gate s j) * (1 - logistic (a.gate s j))) := by
  have hu : IsReal (a.up s j) := IsReal.sum fun k => (h.u _ _).mul (h.wu _ _ _)
  have hd : IsReal (a.dact s j) := IsReal.sum fun k => (h.dh _ _).mul (h.wd _ _)
  unfold FArgs.dgate dsilu
  generalize a.gate s j = gt
  rcases IsReal.cases gt with rfl | rfl | hg
  · rw [logistic_top, one_sub_one]; simp
  · rw [logistic_bot]; simp
  have hs := hg.logistic
  obtain ⟨g, eg⟩ := hg; obtain ⟨u, eu⟩ := hu; obtain ⟨d, ed⟩ := hd; obtain ⟨s', es⟩ := hs
  rw [es, eg, eu, ed]
  have one : (1 : EReal) = ((1 : ℝ) : EReal) := rfl
  rw [one]
  simp only [← EReal.coe_mul, ← EReal.coe_add, ← EReal.coe_sub]
  refine congrArg _ ?_
  ring

end Ffn
-- ==== Proof.FfnRegions.lean ====
/- The array each call of the feed-forward block writes, from the arrays it reads. -/
module

public import proofs.«01_k».proof.Proof.FfnLift
public import proofs.«01_k».proof.Proof.Gen.Kernel2Ideal.Frame
public import Idealize.ShloMosaic.Lib.Pipeline.ValueKit

@[expose] public section

set_option maxRecDepth 16384

noncomputable section

namespace Ffn

open Idealize.ShloMosaic hiding ix0 ix1 ix2 ix3 ix4 ix5 ix6 eq_ix2 eq_ix3 eq_ix4 eq_ix5
open Idealize.ShloMosaic.ValueIdx Finset
open Cert.Kernel2Ideal Cert.Kernel2Ideal.Gen Idealize.SL.Sem
open Idealize.ShloMosaic.TcCoe

variable (V : (c : Dev nD) → (b : Ref sig .tc) → Buf (Elt Ideal) ((c : Thread nD τ).loc b)) (c : Dev nD)
variable {f g h : ℕ → ℕ → EReal} {w : ℕ → ℕ → ℕ → EReal}

theorem off2 : (![0, 0] : Fin 2 → ℕ) = fun _ => 0 := funext fun b => by fin_cases b <;> rfl
theorem off3 : (![0, 0, 0] : Fin 3 → ℕ) = fun _ => 0 := funext fun b => by fin_cases b <;> rfl

/- Which block of its array a window shows at point `t`. -/

theorem at0_0 : ∀ t : Fin grid0.N, win0_0.index t 0 = t.val / 4 ∧ win0_0.index t 1 = 0 := by decide +kernel
theorem at0_1 : ∀ t : Fin grid0.N, win0_1.index t 0 = t.val % 4 ∧ win0_1.index t 1 = 0 ∧ win0_1.index t 2 = 0 := by decide +kernel
theorem at0_2 : ∀ t : Fin grid0.N, win0_2.index t 0 = t.val / 4 ∧ win0_2.index t 1 = t.val % 4 := by decide +kernel
theorem at1_0 : ∀ t : Fin grid1.N, win1_0.index t 0 = t.val / 4 ∧ win1_0.index t 1 = 0 := by decide +kernel
theorem at1_1 : ∀ t : Fin grid1.N, win1_1.index t 0 = t.val % 4 ∧ win1_1.index t 1 = 0 ∧ win1_1.index t 2 = 0 := by decide +kernel
theorem at1_2 : ∀ t : Fin grid1.N, win1_2.index t 0 = t.val / 4 ∧ win1_2.index t 1 = t.val % 4 := by decide +kernel
theorem at2_0 : ∀ t : Fin grid2.N, win2_0.index t 0 = t.val % 4 ∧ win2_0.index t 1 = t.val / 4 := by decide +kernel
theorem at2_1 : ∀ t : Fin grid2.N, win2_1.index t 0 = t.val % 4 ∧ win2_1.index t 1 = t.val / 4 := by decide +kernel
theorem at2_2 : ∀ t : Fin grid2.N, win2_2.index t 0 = t.val % 4 ∧ win2_2.index t 1 = t.val / 4 := by decide +kernel
theorem at3_0 : ∀ t : Fin grid3.N, win3_0.index t 0 = 0 ∧ win3_0.index t 1 = t.val / 2 := by decide +kernel
theorem at3_1 : ∀ t : Fin grid3.N, win3_1.index t 0 = 0 ∧ win3_1.index t 1 = t.val % 2 := by decide +kernel
theorem at3_2 : ∀ t : Fin grid3.N, win3_2.index t 0 = t.val / 2 ∧ win3_2.index t 1 = t.val % 2 := by decide +kernel
theorem at4_0 : ∀ t : Fin grid4.N, win4_0.index t 0 = t.val / 4 ∧ win4_0.index t 1 = 0 := by decide +kernel
theorem at4_1 : ∀ t : Fin grid4.N, win4_1.index t 0 = t.val % 4 ∧ win4_1.index t 1 = 0 := by decide +kernel
theorem at4_2 : ∀ t : Fin grid4.N, win4_2.index t 0 = t.val / 4 ∧ win4_2.index t 1 = t.val % 4 := by decide +kernel
theorem at5_0 : ∀ t : Fin grid5.N, win5_0.index t 0 = t.val % 4 ∧ win5_0.index t 1 = t.val / 4 := by decide +kernel
theorem at5_1 : ∀ t : Fin grid5.N, win5_1.index t 0 = t.val % 4 ∧ win5_1.index t 1 = t.val / 4 := by decide +kernel
theorem at5_2 : ∀ t : Fin grid5.N, win5_2.index t 0 = t.val % 4 ∧ win5_2.index t 1 = t.val / 4 := by decide +kernel
theorem at5_3 : ∀ t : Fin grid5.N, win5_3.index t 0 = t.val % 4 ∧ win5_3.index t 1 = t.val / 4 := by decide +kernel
theorem at5_4 : ∀ t : Fin grid5.N, win5_4.index t 0 = t.val % 4 ∧ win5_4.index t 1 = t.val / 4 := by decide +kernel
theorem at6_0 : ∀ t : Fin grid6.N, win6_0.index t 0 = 0 ∧ win6_0.index t 1 = t.val / 4 := by decide +kernel
theorem at6_1 : ∀ t : Fin grid6.N, win6_1.index t 0 = 0 ∧ win6_1.index t 1 = t.val % 4 := by decide +kernel
theorem at6_2 : ∀ t : Fin grid6.N, win6_2.index t 0 = t.val % 4 ∧ win6_2.index t 1 = t.val / 4 ∧ win6_2.index t 2 = 0 := by decide +kernel
theorem at7_0 : ∀ t : Fin grid7.N, win7_0.index t 0 = 0 ∧ win7_0.index t 1 = t.val / 4 := by decide +kernel
theorem at7_1 : ∀ t : Fin grid7.N, win7_1.index t 0 = 0 ∧ win7_1.index t 1 = t.val % 4 := by decide +kernel
theorem at7_2 : ∀ t : Fin grid7.N, win7_2.index t 0 = t.val % 4 ∧ win7_2.index t 1 = t.val / 4 ∧ win7_2.index t 2 = 0 := by decide +kernel

/-- The gate product: the inputs by the weights, whose columns the four chips' parts hold side by side. -/
theorem arr_gate (h0 : (V c main_arg0 : FVec Ideal S2048x2048 .bf16) = e2 .bf16 f)
    (h1 : (V c main_arg1 : FVec Ideal S4x2048x1408 .bf16) = e3 .bf16 w) :
    ((dat0 V c).arrAt 2 cfg0.N : FVec Ideal S2048x5632 .bf16) = e2 .bf16 fun i j => ∑ k ∈ range 2048, f i k * w (j / 1408) k (j % 1408) := by
  refine (dat0 V c).arrAt_eq_of_covers 2 _ (by decide +kernel) fun t hf' y => ?_
  blk_simp
  rw [after0_2]
  have x0 : (iblk0 V c 0 t : FVec Ideal S1024x2048 .bf16) = e2 .bf16 fun i k => f (t.val / 4 * 1024 + i) k := by
    obtain ⟨a0, a1⟩ := at0_0 t
    funext j
    refine (congrFun h0 (((cfg0.win 0).blk t).view.emb j)).trans (eq2 (f := f) ?_ ?_)
    · blk_simp [a0] <;> omega
    · blk_simp [a1] <;> omega
  have x1 : (iblk0 V c 1 t : FVec Ideal S1x2048x1408 .bf16) = e3 .bf16 fun _ k j => w (t.val % 4) k j := by
    obtain ⟨a0, a1, a2⟩ := at0_1 t
    funext j
    refine (congrFun h1 (((cfg0.win 1).blk t).view.emb j)).trans (eq3 (f := w) ?_ ?_ ?_)
    · blk_simp [a0] <;> omega
    · blk_simp [a1] <;> omega
    · blk_simp [a2] <;> omega
  obtain ⟨o0, o1⟩ := at0_2 t
  rw [x0, x1]
  unfold out0_2
  rw [View.canon_cons_unit_zero off2, View.ld_unit_zero (S := S1x2048x1408) off3, View.ld_unit_zero (S := S1024x2048) off2]
  rw [pay_gate]
  have y0 : (y 0).val < 1024 := (y 0).isLt
  have y1 : (y 1).val < 1408 := (y 1).isLt
  refine Finset.sum_congr (M := EReal) rfl fun k hk => ?_
  refine congrArg₂ _ (eq2 (f := f) ?_ rfl) (eq3 (f := w) ?_ rfl ?_)
  · blk_simp [o0] <;> omega
  · blk_simp [o1] <;> omega
  · blk_simp [o1] <;> omega

/-- The up product: the inputs by the weights, whose columns the four chips' parts hold side by side. -/
theorem arr_up (h0 : (V c main_arg0 : FVec Ideal S2048x2048 .bf16) = e2 .bf16 f)
    (h1 : (V c main_arg2 : FVec Ideal S4x2048x1408 .bf16) = e3 .bf16 w) :
    ((dat1 V c).arrAt 2 cfg1.N : FVec Ideal S2048x5632 .bf16) = e2 .bf16 fun i j => ∑ k ∈ range 2048, f i k * w (j / 1408) k (j % 1408) := by
  refine (dat1 V c).arrAt_eq_of_covers 2 _ (by decide +kernel) fun t hf' y => ?_
  blk_simp
  rw [after1_2]
  have x0 : (iblk1 V c 0 t : FVec Ideal S1024x2048 .bf16) = e2 .bf16 fun i k => f (t.val / 4 * 1024 + i) k := by
    obtain ⟨a0, a1⟩ := at1_0 t
    funext j
    refine (congrFun h0 (((cfg1.win 0).blk t).view.emb j)).trans (eq2 (f := f) ?_ ?_)
    · blk_simp [a0] <;> omega
    · blk_simp [a1] <;> omega
  have x1 : (iblk1 V c 1 t : FVec Ideal S1x2048x1408 .bf16) = e3 .bf16 fun _ k j => w (t.val % 4) k j := by
    obtain ⟨a0, a1, a2⟩ := at1_1 t
    funext j
    refine (congrFun h1 (((cfg1.win 1).blk t).view.emb j)).trans (eq3 (f := w) ?_ ?_ ?_)
    · blk_simp [a0] <;> omega
    · blk_simp [a1] <;> omega
    · blk_simp [a2] <;> omega
  obtain ⟨o0, o1⟩ := at1_2 t
  rw [x0, x1]
  unfold out1_2
  rw [View.canon_cons_unit_zero off2, View.ld_unit_zero (S := S1x2048x1408) off3, View.ld_unit_zero (S := S1024x2048) off2]
  rw [pay_up]
  have y0 : (y 0).val < 1024 := (y 0).isLt
  have y1 : (y 1).val < 1408 := (y 1).isLt
  refine Finset.sum_congr (M := EReal) rfl fun k hk => ?_
  refine congrArg₂ _ (eq2 (f := f) ?_ rfl) (eq3 (f := w) ?_ rfl ?_)
  · blk_simp [o0] <;> omega
  · blk_simp [o1] <;> omega
  · blk_simp [o1] <;> omega

/-- The activation: the gate's `silu` times the up product. -/
theorem arr_act (h0 : (V c main_v0 : FVec Ideal S2048x5632 .bf16) = e2 .bf16 f)
    (h1 : (V c main_v1 : FVec Ideal S2048x5632 .bf16) = e2 .bf16 g) :
    ((dat2 V c).arrAt 2 cfg2.N : FVec Ideal S2048x5632 .bf16) = e2 .bf16 fun i j => silu (f i j) * g i j := by
  refine (dat2 V c).arrAt_eq_of_covers 2 _ (by decide +kernel) fun t hf' y => ?_
  blk_simp
  rw [after2_2]
  have x0 : (iblk2 V c 0 t : FVec Ideal S512x512 .bf16) = e2 .bf16 fun i j => f (t.val % 4 * 512 + i) (t.val / 4 * 512 + j) := by
    obtain ⟨a0, a1⟩ := at2_0 t
    funext j
    refine (congrFun h0 (((cfg2.win 0).blk t).view.emb j)).trans (eq2 (f := f) ?_ ?_)
    · blk_simp [a0] <;> omega
    · blk_simp [a1] <;> omega
  have x1 : (iblk2 V c 1 t : FVec Ideal S512x512 .bf16) = e2 .bf16 fun i j => g (t.val % 4 * 512 + i) (t.val / 4 * 512 + j) := by
    obtain ⟨a0, a1⟩ := at2_1 t
    funext j
    refine (congrFun h1 (((cfg2.win 1).blk t).view.emb j)).trans (eq2 (f := g) ?_ ?_)
    · blk_simp [a0] <;> omega
    · blk_simp [a1] <;> omega
  obtain ⟨o0, o1⟩ := at2_2 t
  rw [x0, x1]
  unfold out2_2
  rw [View.canon_cons_unit_zero off2, View.ld_unit_zero (S := S512x512) off2, View.ld_unit_zero (S := S512x512) off2]
  rw [pay_act]
  have y0 : (y 0).val < 512 := (y 0).isLt
  have y1 : (y 1).val < 512 := (y 1).isLt
  refine eq2 (f := fun i j => silu (f i j) * g i j) ?_ ?_
  · blk_simp [o0] <;> omega
  · blk_simp [o1] <;> omega

/-- The gradient of the weights down: the activation transposed by the output's gradient. -/
theorem arr_down_dw (h0 : (V c main_v2 : FVec Ideal S2048x5632 .bf16) = e2 .bf16 f)
    (h1 : (V c main_arg4 : FVec Ideal S2048x2048 .f32) = e2 .f32 g) :
    ((dat3 V c).arrAt 2 cfg3.N : FVec Ideal S5632x2048 .bf16) = e2 .bf16 fun i j => ∑ k ∈ range 2048, f k i * g k j := by
  refine (dat3 V c).arrAt_eq_of_covers 2 _ (by decide +kernel) fun t hf' y => ?_
  blk_simp
  rw [after3_2]
  have x0 : (iblk3 V c 0 t : FVec Ideal S2048x1408 .bf16) = e2 .bf16 fun k i => f k (t.val / 2 * 1408 + i) := by
    obtain ⟨a0, a1⟩ := at3_0 t
    funext j
    refine (congrFun h0 (((cfg3.win 0).blk t).view.emb j)).trans (eq2 (f := f) ?_ ?_)
    · blk_simp [a0] <;> omega
    · blk_simp [a1] <;> omega
  have x1 : (iblk3 V c 1 t : FVec Ideal S2048x1024 .f32) = e2 .f32 fun k j => g k (t.val % 2 * 1024 + j) := by
    obtain ⟨a0, a1⟩ := at3_1 t
    funext j
    refine (congrFun h1 (((cfg3.win 1).blk t).view.emb j)).trans (eq2 (f := g) ?_ ?_)
    · blk_simp [a0] <;> omega
    · blk_simp [a1] <;> omega
  obtain ⟨o0, o1⟩ := at3_2 t
  rw [x0, x1]
  unfold out3_2
  rw [View.canon_cons_unit_zero off2, View.ld_unit_zero (S := S2048x1024) off2, View.ld_unit_zero (S := S2048x1408) off2]
  rw [pay_down_dw]
  have y0 : (y 0).val < 1408 := (y 0).isLt
  have y1 : (y 1).val < 1024 := (y 1).isLt
  refine Finset.sum_congr (M := EReal) rfl fun k hk => ?_
  refine congrArg₂ _ (eq2 (f := f) rfl ?_) (eq2 (f := g) rfl ?_)
  · blk_simp [o0] <;> omega
  · blk_simp [o1] <;> omega

/-- The activation's gradient: the output's gradient by the weights down transposed. -/
theorem arr_down_dx (h0 : (V c main_arg4 : FVec Ideal S2048x2048 .f32) = e2 .f32 f)
    (h1 : (V c main_arg3 : FVec Ideal S5632x2048 .bf16) = e2 .bf16 g) :
    ((dat4 V c).arrAt 2 cfg4.N : FVec Ideal S2048x5632 .f32) = e2 .f32 fun i j => ∑ k ∈ range 2048, f i k * g j k := by
  refine (dat4 V c).arrAt_eq_of_covers 2 _ (by decide +kernel) fun t hf' y => ?_
  blk_simp
  rw [after4_2]
  have x0 : (iblk4 V c 0 t : FVec Ideal S1024x2048 .f32) = e2 .f32 fun i k => f (t.val / 4 * 1024 + i) k := by
    obtain ⟨a0, a1⟩ := at4_0 t
    funext j
    refine (congrFun h0 (((cfg4.win 0).blk t).view.emb j)).trans (eq2 (f := f) ?_ ?_)
    · blk_simp [a0] <;> omega
    · blk_simp [a1] <;> omega
  have x1 : (iblk4 V c 1 t : FVec Ideal S1408x2048 .bf16) = e2 .bf16 fun j k => g (t.val % 4 * 1408 + j) k := by
    obtain ⟨a0, a1⟩ := at4_1 t
    funext j
    refine (congrFun h1 (((cfg4.win 1).blk t).view.emb j)).trans (eq2 (f := g) ?_ ?_)
    · blk_simp [a0] <;> omega
    · blk_simp [a1] <;> omega
  obtain ⟨o0, o1⟩ := at4_2 t
  rw [x0, x1]
  unfold out4_2
  rw [View.canon_cons_unit_zero off2, View.ld_unit_zero (S := S1408x2048) off2, View.ld_unit_zero (S := S1024x2048) off2]
  rw [pay_down_dx]
  have y0 : (y 0).val < 1024 := (y 0).isLt
  have y1 : (y 1).val < 1408 := (y 1).isLt
  refine Finset.sum_congr (M := EReal) rfl fun k hk => ?_
  refine congrArg₂ _ (eq2 (f := f) ?_ rfl) (eq2 (f := g) ?_ rfl)
  · blk_simp [o0] <;> omega
  · blk_simp [o1] <;> omega

/-- The gate's gradient. -/
theorem arr_dgt (h0 : (V c main_v4 : FVec Ideal S2048x5632 .f32) = e2 .f32 f)
    (h1 : (V c main_v0 : FVec Ideal S2048x5632 .bf16) = e2 .bf16 g)
    (h2 : (V c main_v1 : FVec Ideal S2048x5632 .bf16) = e2 .bf16 h) :
    ((dat5 V c).arrAt 3 cfg5.N : FVec Ideal S2048x5632 .bf16) = e2 .bf16 fun i j => f i j * h i j * dsilu (g i j) := by
  refine (dat5 V c).arrAt_eq_of_covers 3 _ (by decide +kernel) fun t hf' y => ?_
  blk_simp
  rw [after5_3]
  have x0 : (iblk5 V c 0 t : FVec Ideal S512x512 .f32) = e2 .f32 fun i j => f (t.val % 4 * 512 + i) (t.val / 4 * 512 + j) := by
    obtain ⟨a0, a1⟩ := at5_0 t
    funext j
    refine (congrFun h0 (((cfg5.win 0).blk t).view.emb j)).trans (eq2 (f := f) ?_ ?_)
    · blk_simp [a0] <;> omega
    · blk_simp [a1] <;> omega
  have x1 : (iblk5 V c 1 t : FVec Ideal S512x512 .bf16) = e2 .bf16 fun i j => g (t.val % 4 * 512 + i) (t.val / 4 * 512 + j) := by
    obtain ⟨a0, a1⟩ := at5_1 t
    funext j
    refine (congrFun h1 (((cfg5.win 1).blk t).view.emb j)).trans (eq2 (f := g) ?_ ?_)
    · blk_simp [a0] <;> omega
    · blk_simp [a1] <;> omega
  have x2 : (iblk5 V c 2 t : FVec Ideal S512x512 .bf16) = e2 .bf16 fun i j => h (t.val % 4 * 512 + i) (t.val / 4 * 512 + j) := by
    obtain ⟨a0, a1⟩ := at5_2 t
    funext j
    refine (congrFun h2 (((cfg5.win 2).blk t).view.emb j)).trans (eq2 (f := h) ?_ ?_)
    · blk_simp [a0] <;> omega
    · blk_simp [a1] <;> omega
  obtain ⟨o0, o1⟩ := at5_3 t
  rw [x0, x1, x2]
  unfold out5_3
  rw [View.canon_cons_unit_zero off2, View.ld_unit_zero (S := S512x512) off2, View.ld_unit_zero (S := S512x512) off2, View.ld_unit_zero (S := S512x512) off2]
  rw [pay_dgt]
  have y0 : (y 0).val < 512 := (y 0).isLt
  have y1 : (y 1).val < 512 := (y 1).isLt
  refine eq2 (f := fun i j => f i j * h i j * dsilu (g i j)) ?_ ?_
  · blk_simp [o0] <;> omega
  · blk_simp [o1] <;> omega

/-- The gradient of the up product. -/
theorem arr_dup (h0 : (V c main_v4 : FVec Ideal S2048x5632 .f32) = e2 .f32 f)
    (h1 : (V c main_v0 : FVec Ideal S2048x5632 .bf16) = e2 .bf16 g)
    (h2 : (V c main_v1 : FVec Ideal S2048x5632 .bf16) = e2 .bf16 h) :
    ((dat5 V c).arrAt 4 cfg5.N : FVec Ideal S2048x5632 .bf16) = e2 .bf16 fun i j => f i j * silu (g i j) := by
  refine (dat5 V c).arrAt_eq_of_covers 4 _ (by decide +kernel) fun t hf' y => ?_
  blk_simp
  rw [after5_4]
  have x0 : (iblk5 V c 0 t : FVec Ideal S512x512 .f32) = e2 .f32 fun i j => f (t.val % 4 * 512 + i) (t.val / 4 * 512 + j) := by
    obtain ⟨a0, a1⟩ := at5_0 t
    funext j
    refine (congrFun h0 (((cfg5.win 0).blk t).view.emb j)).trans (eq2 (f := f) ?_ ?_)
    · blk_simp [a0] <;> omega
    · blk_simp [a1] <;> omega
  have x1 : (iblk5 V c 1 t : FVec Ideal S512x512 .bf16) = e2 .bf16 fun i j => g (t.val % 4 * 512 + i) (t.val / 4 * 512 + j) := by
    obtain ⟨a0, a1⟩ := at5_1 t
    funext j
    refine (congrFun h1 (((cfg5.win 1).blk t).view.emb j)).trans (eq2 (f := g) ?_ ?_)
    · blk_simp [a0] <;> omega
    · blk_simp [a1] <;> omega
  have x2 : (iblk5 V c 2 t : FVec Ideal S512x512 .bf16) = e2 .bf16 fun i j => h (t.val % 4 * 512 + i) (t.val / 4 * 512 + j) := by
    obtain ⟨a0, a1⟩ := at5_2 t
    funext j
    refine (congrFun h2 (((cfg5.win 2).blk t).view.emb j)).trans (eq2 (f := h) ?_ ?_)
    · blk_simp [a0] <;> omega
    · blk_simp [a1] <;> omega
  obtain ⟨o0, o1⟩ := at5_4 t
  rw [x0, x1, x2]
  unfold out5_4
  rw [View.canon_cons_unit_zero off2, View.ld_unit_zero (S := S512x512) off2, View.ld_unit_zero (S := S512x512) off2]
  rw [pay_dup]
  have y0 : (y 0).val < 512 := (y 0).isLt
  have y1 : (y 1).val < 512 := (y 1).isLt
  refine eq2 (f := fun i j => f i j * silu (g i j)) ?_ ?_
  · blk_simp [o0] <;> omega
  · blk_simp [o1] <;> omega

/-- The gradient of the gate weights, in the four chips' parts: the inputs transposed by the gradient of the gate product. -/
theorem arr_gate_dw (h0 : (V c main_arg0 : FVec Ideal S2048x2048 .bf16) = e2 .bf16 f)
    (h1 : (V c main_v5_0 : FVec Ideal S2048x5632 .bf16) = e2 .bf16 g) :
    ((dat6 V c).arrAt 2 cfg6.N : FVec Ideal S4x2048x1408 .bf16) = e3 .bf16 fun s i j => ∑ k ∈ range 2048, f k i * g k (s * 1408 + j) := by
  refine (dat6 V c).arrAt_eq_of_covers 2 _ (by decide +kernel) fun t hf' y => ?_
  blk_simp
  rw [after6_2]
  have x0 : (iblk6 V c 0 t : FVec Ideal S2048x1024 .bf16) = e2 .bf16 fun k i => f k (t.val / 4 * 1024 + i) := by
    obtain ⟨a0, a1⟩ := at6_0 t
    funext j
    refine (congrFun h0 (((cfg6.win 0).blk t).view.emb j)).trans (eq2 (f := f) ?_ ?_)
    · blk_simp [a0] <;> omega
    · blk_simp [a1] <;> omega
  have x1 : (iblk6 V c 1 t : FVec Ideal S2048x1408 .bf16) = e2 .bf16 fun k j => g k (t.val % 4 * 1408 + j) := by
    obtain ⟨a0, a1⟩ := at6_1 t
    funext j
    refine (congrFun h1 (((cfg6.win 1).blk t).view.emb j)).trans (eq2 (f := g) ?_ ?_)
    · blk_simp [a0] <;> omega
    · blk_simp [a1] <;> omega
  obtain ⟨o0, o1, o2⟩ := at6_2 t
  rw [x0, x1]
  unfold out6_2
  rw [View.canon_cons_unit_zero off3, View.ld_unit_zero (S := S2048x1408) off2, View.ld_unit_zero (S := S2048x1024) off2]
  rw [pay_gate_dw]
  have y0 : (y 0).val < 1 := (y 0).isLt
  have y1 : (y 1).val < 1024 := (y 1).isLt
  have y2 : (y 2).val < 1408 := (y 2).isLt
  refine Finset.sum_congr (M := EReal) rfl fun k hk => ?_
  refine congrArg₂ _ (eq2 (f := f) rfl ?_) (eq2 (f := g) rfl ?_)
  · blk_simp [o1] <;> omega
  · blk_simp [o0, o2] <;> omega

/-- The gradient of the up weights, in the four chips' parts: the inputs transposed by the gradient of the up product. -/
theorem arr_up_dw (h0 : (V c main_arg0 : FVec Ideal S2048x2048 .bf16) = e2 .bf16 f)
    (h1 : (V c main_v5_1 : FVec Ideal S2048x5632 .bf16) = e2 .bf16 g) :
    ((dat7 V c).arrAt 2 cfg7.N : FVec Ideal S4x2048x1408 .bf16) = e3 .bf16 fun s i j => ∑ k ∈ range 2048, f k i * g k (s * 1408 + j) := by
  refine (dat7 V c).arrAt_eq_of_covers 2 _ (by decide +kernel) fun t hf' y => ?_
  blk_simp
  rw [after7_2]
  have x0 : (iblk7 V c 0 t : FVec Ideal S2048x1024 .bf16) = e2 .bf16 fun k i => f k (t.val / 4 * 1024 + i) := by
    obtain ⟨a0, a1⟩ := at7_0 t
    funext j
    refine (congrFun h0 (((cfg7.win 0).blk t).view.emb j)).trans (eq2 (f := f) ?_ ?_)
    · blk_simp [a0] <;> omega
    · blk_simp [a1] <;> omega
  have x1 : (iblk7 V c 1 t : FVec Ideal S2048x1408 .bf16) = e2 .bf16 fun k j => g k (t.val % 4 * 1408 + j) := by
    obtain ⟨a0, a1⟩ := at7_1 t
    funext j
    refine (congrFun h1 (((cfg7.win 1).blk t).view.emb j)).trans (eq2 (f := g) ?_ ?_)
    · blk_simp [a0] <;> omega
    · blk_simp [a1] <;> omega
  obtain ⟨o0, o1, o2⟩ := at7_2 t
  rw [x0, x1]
  unfold out7_2
  rw [View.canon_cons_unit_zero off3, View.ld_unit_zero (S := S2048x1408) off2, View.ld_unit_zero (S := S2048x1024) off2]
  rw [pay_up_dw]
  have y0 : (y 0).val < 1 := (y 0).isLt
  have y1 : (y 1).val < 1024 := (y 1).isLt
  have y2 : (y 2).val < 1408 := (y 2).isLt
  refine Finset.sum_congr (M := EReal) rfl fun k hk => ?_
  refine congrArg₂ _ (eq2 (f := f) rfl ?_) (eq2 (f := g) rfl ?_)
  · blk_simp [o1] <;> omega
  · blk_simp [o0, o2] <;> omega

end Ffn
-- ==== Proof.FfnRun.lean ====
/- What the feed-forward block's backward program leaves in memory: every call's array, followed through the eight calls. -/
module

public import proofs.«01_k».proof.Proof.FfnMath
public import proofs.«01_k».proof.Proof.FfnRegions

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The program runs, and every device's buffers end with the contents followed through the calls. -/
theorem contents : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Kernel2Ideal.Gen

namespace Ffn

open Idealize.ShloMosaic Idealize.ShloMosaic.TcCoe Idealize.SL.Sem
open Cert.Kernel2Ideal Cert.Kernel2Ideal.Gen

variable (m : (ℓ : Loc nD τ sig) → Buf (Elt Ideal) ℓ) (ρ : Dev nD → PrngReg) (c : Dev nD) (a : FArgs)

/-- The five arguments in memory are `a`'s. -/
structure Holds : Prop where
  u : (m ((c : Thread nD τ).loc main_arg0) : FVec Ideal S2048x2048 .bf16) = e2 .bf16 a.u
  wg : (m ((c : Thread nD τ).loc main_arg1) : FVec Ideal S4x2048x1408 .bf16) = e3 .bf16 a.wg
  wu : (m ((c : Thread nD τ).loc main_arg2) : FVec Ideal S4x2048x1408 .bf16) = e3 .bf16 a.wu
  wd : (m ((c : Thread nD τ).loc main_arg3) : FVec Ideal S5632x2048 .bf16) = e2 .bf16 a.wd
  dh : (m ((c : Thread nD τ).loc main_arg4) : FVec Ideal S2048x2048 .f32) = e2 .f32 a.dh

variable {m ρ c a}

theorem v0_1 (h : Holds m c a) : (W1 m ρ c (Proc.devRef .tc main_v0) : FVec Ideal S2048x5632 .bf16) = e2 .bf16 a.gate :=
  (W1_arr m ρ c 2).trans (arr_gate (V0 m ρ) c h.u h.wg)

theorem v1_2 (h : Holds m c a) : (W2 m ρ c (Proc.devRef .tc main_v1) : FVec Ideal S2048x5632 .bf16) = e2 .bf16 a.up :=
  (W2_arr m ρ c 2).trans (arr_up (V1 m ρ) c ((W1_args m ρ c main_arg0 (by decide)).trans h.u) ((W1_args m ρ c main_arg2 (by decide)).trans h.wu))
theorem v0_2 (h : Holds m c a) : (W2 m ρ c (Proc.devRef .tc main_v0) : FVec Ideal S2048x5632 .bf16) = e2 .bf16 a.gate :=
  (W2_of m ρ c main_v0 (by decide)).trans (v0_1 h)

theorem v2_3 (h : Holds m c a) : (W3 m ρ c (Proc.devRef .tc main_v2) : FVec Ideal S2048x5632 .bf16) = e2 .bf16 a.act :=
  (W3_arr m ρ c 2).trans (arr_act (V2 m ρ) c (v0_2 h) (v1_2 h))
theorem v0_3 (h : Holds m c a) : (W3 m ρ c (Proc.devRef .tc main_v0) : FVec Ideal S2048x5632 .bf16) = e2 .bf16 a.gate :=
  (W3_of m ρ c main_v0 (by decide)).trans (v0_2 h)
theorem v1_3 (h : Holds m c a) : (W3 m ρ c (Proc.devRef .tc main_v1) : FVec Ideal S2048x5632 .bf16) = e2 .bf16 a.up :=
  (W3_of m ρ c main_v1 (by decide)).trans (v1_2 h)

theorem v3_4 (h : Holds m c a) : (W4 m ρ c (Proc.devRef .tc main_v3) : FVec Ideal S5632x2048 .bf16) = e2 .bf16 a.dwd :=
  (W4_arr m ρ c 2).trans (arr_down_dw (V3 m ρ) c (v2_3 h) ((W3_args m ρ c main_arg4 (by decide)).trans h.dh))
theorem v0_4 (h : Holds m c a) : (W4 m ρ c (Proc.devRef .tc main_v0) : FVec Ideal S2048x5632 .bf16) = e2 .bf16 a.gate :=
  (W4_of m ρ c main_v0 (by decide)).trans (v0_3 h)
theorem v1_4 (h : Holds m c a) : (W4 m ρ c (Proc.devRef .tc main_v1) : FVec Ideal S2048x5632 .bf16) = e2 .bf16 a.up :=
  (W4_of m ρ c main_v1 (by decide)).trans (v1_3 h)

theorem v4_5 (h : Holds m c a) : (W5 m ρ c (Proc.devRef .tc main_v4) : FVec Ideal S2048x5632 .f32) = e2 .f32 a.dact :=
  (W5_arr m ρ c 2).trans (arr_down_dx (V4 m ρ) c ((W4_args m ρ c main_arg4 (by decide)).trans h.dh) ((W4_args m ρ c main_arg3 (by decide)).trans h.wd))
theorem v0_5 (h : Holds m c a) : (W5 m ρ c (Proc.devRef .tc main_v0) : FVec Ideal S2048x5632 .bf16) = e2 .bf16 a.gate :=
  (W5_of m ρ c main_v0 (by decide)).trans (v0_4 h)
theorem v1_5 (h : Holds m c a) : (W5 m ρ c (Proc.devRef .tc main_v1) : FVec Ideal S2048x5632 .bf16) = e2 .bf16 a.up :=
  (W5_of m ρ c main_v1 (by decide)).trans (v1_4 h)
theorem v3_5 (h : Holds m c a) : (W5 m ρ c (Proc.devRef .tc main_v3) : FVec Ideal S5632x2048 .bf16) = e2 .bf16 a.dwd :=
  (W5_of m ρ c main_v3 (by decide)).trans (v3_4 h)

theorem v5_0_6 (h : Holds m c a) : (W6 m ρ c (Proc.devRef .tc main_v5_0) : FVec Ideal S2048x5632 .bf16) = e2 .bf16 a.dgate :=
  (W6_arr m ρ c 3).trans (arr_dgt (V5 m ρ) c (v4_5 h) (v0_5 h) (v1_5 h))
theorem v5_1_6 (h : Holds m c a) : (W6 m ρ c (Proc.devRef .tc main_v5_1) : FVec Ideal S2048x5632 .bf16) = e2 .bf16 a.dup :=
  (W6_arr m ρ c 4).trans (arr_dup (V5 m ρ) c (v4_5 h) (v0_5 h) (v1_5 h))
theorem v3_6 (h : Holds m c a) : (W6 m ρ c (Proc.devRef .tc main_v3) : FVec Ideal S5632x2048 .bf16) = e2 .bf16 a.dwd :=
  (W6_of m ρ c main_v3 (by decide)).trans (v3_5 h)

theorem v6_7 (h : Holds m c a) : (W7 m ρ c (Proc.devRef .tc main_v6) : FVec Ideal S4x2048x1408 .bf16) = e3 .bf16 a.dwg :=
  (W7_arr m ρ c 2).trans (arr_gate_dw (V6 m ρ) c ((W6_args m ρ c main_arg0 (by decide)).trans h.u) (v5_0_6 h))
theorem v3_7 (h : Holds m c a) : (W7 m ρ c (Proc.devRef .tc main_v3) : FVec Ideal S5632x2048 .bf16) = e2 .bf16 a.dwd :=
  (W7_of m ρ c main_v3 (by decide)).trans (v3_6 h)
theorem v5_1_7 (h : Holds m c a) : (W7 m ρ c (Proc.devRef .tc main_v5_1) : FVec Ideal S2048x5632 .bf16) = e2 .bf16 a.dup :=
  (W7_of m ρ c main_v5_1 (by decide)).trans (v5_1_6 h)

theorem v7_8 (h : Holds m c a) : (W8 m ρ c (Proc.devRef .tc main_v7) : FVec Ideal S4x2048x1408 .bf16) = e3 .bf16 a.dwu :=
  (W8_arr m ρ c 2).trans (arr_up_dw (V7 m ρ) c ((W7_args m ρ c main_arg0 (by decide)).trans h.u) (v5_1_7 h))
theorem v3_8 (h : Holds m c a) : (W8 m ρ c (Proc.devRef .tc main_v3) : FVec Ideal S5632x2048 .bf16) = e2 .bf16 a.dwd :=
  (W8_of m ρ c main_v3 (by decide)).trans (v3_7 h)
theorem v6_8 (h : Holds m c a) : (W8 m ρ c (Proc.devRef .tc main_v6) : FVec Ideal S4x2048x1408 .bf16) = e3 .bf16 a.dwg :=
  (W8_of m ρ c main_v6 (by decide)).trans (v6_7 h)

/-- The program's three results, and its arguments unchanged. -/
theorem results : θ_run defs (onTc (τ := τ) (main (F := Ideal))) ⟨m, fun _ => 0, ρ⟩ (fun r => ∀ c : Dev nD, ∀ a, Holds m c a →
      (r.2.mem ((c.tc : Thread nD τ).loc main_v6) : FVec Ideal S4x2048x1408 .bf16) = e3 .bf16 a.dwg
      ∧ (r.2.mem ((c.tc : Thread nD τ).loc main_v7) : FVec Ideal S4x2048x1408 .bf16) = e3 .bf16 a.dwu
      ∧ (r.2.mem ((c.tc : Thread nD τ).loc main_v3) : FVec Ideal S5632x2048 .bf16) = e2 .bf16 a.dwd
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r k c a h =>
    ⟨(k c _ (mem_uc main_v6 (by decide))).trans (v6_8 h), (k c _ (mem_uc main_v7 (by decide))).trans (v7_8 h),
      (k c _ (mem_uc main_v3 (by decide))).trans (v3_8 h), (k c _ (mem_uc main_arg0 (by decide))).trans (W8_main_arg0 m ρ c),
      (k c _ (mem_uc main_arg1 (by decide))).trans (W8_main_arg1 m ρ c), (k c _ (mem_uc main_arg2 (by decide))).trans (W8_main_arg2 m ρ c),
      (k c _ (mem_uc main_arg3 (by decide))).trans (W8_main_arg3 m ρ c),
      (k c _ (mem_uc main_arg4 (by decide))).trans (W8_main_arg4 m ρ c)⟩) (contents m ρ)

end Ffn
-- ==== Proof.FfnRef.lean ====
/- The reference of the feed-forward block's backward pass, result by result. -/
module

public import proofs.«01_k».proof.Proof.FfnMath
public import proofs.«01_k».proof.Proof.Gen.Reference2Ideal.Read

@[expose] public section

set_option maxRecDepth 16384

noncomputable section

namespace Ffn

open Idealize.ShloMosaic hiding ix0 ix1 ix2 ix3 ix4 ix5 ix6 eq_ix2 eq_ix3 eq_ix4 eq_ix5
open Idealize.ShloMosaic.ValueIdx Finset
open Cert.Reference2Ideal Cert.Reference2Ideal.Read

/-- A sum over the first `n` numbers, term by term. -/
theorem sum_fin {n : ℕ} {F : Fin n → EReal} {G : ℕ → EReal} (h : ∀ k : Fin n, F k = G k.val) : ∑ k, F k = ∑ k ∈ range n, G k :=
  (Finset.sum_congr rfl fun k _ => h k).trans (Finset.sum_range G).symm

variable (a : FArgs)

/-- The five arguments as arrays. -/
abbrev U : FVec Ideal S2048x2048 .bf16 := e2 .bf16 a.u
abbrev Wg : FVec Ideal S4x2048x1408 .bf16 := e3 .bf16 a.wg
abbrev Wu : FVec Ideal S4x2048x1408 .bf16 := e3 .bf16 a.wu
abbrev Wd : FVec Ideal S5632x2048 .bf16 := e2 .bf16 a.wd
abbrev Dh : FVec Ideal S2048x2048 .f32 := e2 .f32 a.dh

theorem val_wg (i : S2048x5632.Idx) : val_main_v2 (F := Ideal) (Wg a) i = a.wg ((i 1).val / 1408) (i 0).val ((i 1).val % 1408) := by
  have h0 : (i 0).val < 2048 := (i 0).isLt
  have h1 : (i 1).val < 5632 := (i 1).isLt
  rw [val_main_v2_apply, val_main_v1_apply]
  exact eq3 (f := a.wg) (show ((i 0).val * 5632 + (i 1).val) / 1408 % 4 = (i 1).val / 1408 by omega)
    (show ((i 0).val * 5632 + (i 1).val) / 5632 = (i 0).val by omega)
    (show ((i 0).val * 5632 + (i 1).val) % 1408 = (i 1).val % 1408 by omega)

theorem val_wu (i : S2048x5632.Idx) : val_main_v4 (F := Ideal) (Wu a) i = a.wu ((i 1).val / 1408) (i 0).val ((i 1).val % 1408) := by
  have h0 : (i 0).val < 2048 := (i 0).isLt
  have h1 : (i 1).val < 5632 := (i 1).isLt
  rw [val_main_v4_apply, val_main_v3_apply]
  exact eq3 (f := a.wu) (show ((i 0).val * 5632 + (i 1).val) / 1408 % 4 = (i 1).val / 1408 by omega)
    (show ((i 0).val * 5632 + (i 1).val) / 5632 = (i 0).val by omega)
    (show ((i 0).val * 5632 + (i 1).val) % 1408 = (i 1).val % 1408 by omega)

theorem val_gate (i : S2048x5632.Idx) : val_main_v5 (F := Ideal) (U a) (Wg a) i = a.gate (i 0).val (i 1).val := by
  rw [val_main_v5_apply]
  exact sum_fin fun k => congrArg₂ _ (val_main_v0_apply _ _) (val_wg a _)

theorem val_up (i : S2048x5632.Idx) : val_main_v7 (F := Ideal) (U a) (Wu a) i = a.up (i 0).val (i 1).val := by
  rw [val_main_v7_apply]
  exact sum_fin fun k => congrArg₂ _ (val_main_v0_apply _ _) (val_wu a _)

theorem ofBits_one : FloatOps.ofBits (F := Ideal) .f32 0x3F800000#32 = (1 : EReal) := by
  rw [Ideal.ofBits_def]
  simp [Ideal.ofBits, Ideal.ieee]
  rw [← EReal.coe_mul]
  norm_num

theorem val_logistic (i : S2048x5632.Idx) : val_main_v6_2 (F := Ideal) (U a) (Wg a) i = logistic (a.gate (i 0).val (i 1).val) := by
  rw [val_main_v6_2_apply, val_main_call0_v4_apply, val_main_call0_cst_0_apply, val_main_call0_v3_apply, val_main_call0_v2_apply,
    val_main_call0_cst_apply, val_main_call0_v1_apply, val_main_call0_v0_apply, val_gate, ofBits_one]
  rfl

theorem val_slope (i : S2048x5632.Idx) : val_main_v6_1 (F := Ideal) (U a) (Wg a) i
    = logistic (a.gate (i 0).val (i 1).val) * (1 - logistic (a.gate (i 0).val (i 1).val)) := by
  rw [val_main_v6_1_apply, val_main_call0_v7_apply, val_main_call0_v6_apply, val_main_call0_cst_1_apply, val_logistic, ofBits_one]
  rfl

theorem val_silu (i : S2048x5632.Idx) : val_main_v6_0 (F := Ideal) (U a) (Wg a) i = silu (a.gate (i 0).val (i 1).val) := by
  rw [val_main_v6_0_apply, val_logistic, val_gate]
  rfl

theorem val_act (i : S2048x5632.Idx) : val_main_v8 (F := Ideal) (U a) (Wg a) (Wu a) i = a.act (i 0).val (i 1).val := by
  rw [val_main_v8_apply, val_silu, val_up]
  rfl

theorem val_dact (i : S2048x5632.Idx) : val_main_v13 (F := Ideal) (Wd a) (Dh a) i = a.dact (i 0).val (i 1).val := by
  rw [val_main_v13_apply]
  exact sum_fin fun k => rfl

theorem val_dup (i : S2048x5632.Idx) : val_main_v14 (F := Ideal) (U a) (Wg a) (Wd a) (Dh a) i = a.dup (i 0).val (i 1).val := by
  rw [val_main_v14_apply, val_silu, val_dact]
  exact mul_comm _ _

theorem val_dgate (h : a.Finite) (i : S2048x5632.Idx) :
    val_main_v19 (F := Ideal) (U a) (Wg a) (Wu a) (Wd a) (Dh a) i = a.dgate (i 0).val (i 1).val := by
  rw [val_main_v19_apply, val_main_call1_v1_apply, val_main_call1_v2_apply, val_main_call1_v0_apply, val_main_v15_apply, val_slope,
    val_logistic, val_gate, val_dact, val_up, FArgs.dgate_eq h]
  rfl

/-- The gradient of the weights down. -/
theorem ref_dwd : val_main_v12 (F := Ideal) (U a) (Wg a) (Wu a) (Dh a) = e2 .bf16 a.dwd := by
  funext i
  rw [val_main_v12_apply, val_main_v11_apply, val_main_v10_apply, Ideal.truncf_def]
  exact sum_fin (G := fun k => a.act k (i 0).val * a.dh k (i 1).val) fun k => (congrArg₂ _ rfl (val_act a _)).trans (mul_comm _ _)

/-- The gradient of the gate's weights. -/
theorem ref_dwg (h : a.Finite) : val_main_v26 (F := Ideal) (U a) (Wg a) (Wu a) (Wd a) (Dh a) = e3 .bf16 a.dwg := by
  funext i
  have h0 : (i 0).val < 4 := (i 0).isLt
  have h1 : (i 1).val < 2048 := (i 1).isLt
  have h2 : (i 2).val < 1408 := (i 2).isLt
  rw [val_main_v26_apply, val_main_v25_apply, val_main_v22_apply, val_main_v21_apply, val_main_v20_apply, Ideal.truncf_def]
  refine sum_fin (G := fun k => a.u k (i 1).val * a.dgate k ((i 0).val * 1408 + (i 2).val)) fun k => ?_
  refine (congrArg₂ _ (val_dgate a h _) (val_main_v0_apply _ _)).trans ((mul_comm _ _).trans (congrArg₂ _ ?_ ?_))
  · exact eq2 (f := a.u) rfl (show (((i 1).val * 4 + (i 0).val) * 1408 + (i 2).val) / 5632 = (i 1).val by omega)
  · exact eq2 (f := a.dgate) rfl (show (((i 1).val * 4 + (i 0).val) * 1408 + (i 2).val) % 5632 = (i 0).val * 1408 + (i 2).val by omega)

/-- The gradient of the up product's weights. -/
theorem ref_dwu : val_main_v24 (F := Ideal) (U a) (Wg a) (Wd a) (Dh a) = e3 .bf16 a.dwu := by
  funext i
  have h0 : (i 0).val < 4 := (i 0).isLt
  have h1 : (i 1).val < 2048 := (i 1).isLt
  have h2 : (i 2).val < 1408 := (i 2).isLt
  rw [val_main_v24_apply, val_main_v23_apply, val_main_v18_apply, val_main_v17_apply, val_main_v16_apply, Ideal.truncf_def]
  refine sum_fin (G := fun k => a.u k (i 1).val * a.dup k ((i 0).val * 1408 + (i 2).val)) fun k => ?_
  refine (congrArg₂ _ (val_dup a _) (val_main_v0_apply _ _)).trans ((mul_comm _ _).trans (congrArg₂ _ ?_ ?_))
  · exact eq2 (f := a.u) rfl (show (((i 1).val * 4 + (i 0).val) * 1408 + (i 2).val) / 5632 = (i 1).val by omega)
  · exact eq2 (f := a.dup) rfl (show (((i 1).val * 4 + (i 0).val) * 1408 + (i 2).val) % 5632 = (i 0).val * 1408 + (i 2).val by omega)

end Ffn
-- ==== Proof.FfnPre.lean ====
/- What the second precondition says: the arguments but the weights of the gate are arrays of real numbers. -/
module

public import proofs.«01_k».proof.Pre_finite2
public import proofs.«01_k».proof.Proof.Pre
public import proofs.«01_k».proof.Proof.FfnMath
public import proofs.«01_k».proof.Proof.FfnRun

@[expose] public section

set_option maxRecDepth 16384

noncomputable section

namespace Ffn

open Idealize.ShloMosaic hiding ix0 ix1 ix2 ix3 ix4 ix5 ix6 eq_ix2 eq_ix3 eq_ix4 eq_ix5
open Idealize.ShloMosaic.ValueIdx Finset

theorem pre_facts : Cert.Pre_finite2.Facts where
  bcast_S_S2048x2048 := by decide
  reducesTo_S2048x2048_S_d0_1 := by decide
  h_S_ := by decide
  bcast_S_S4x2048x1408 := by decide
  reducesTo_S4x2048x1408_S_d0_1_2 := by decide
  bcast_S_S5632x2048 := by decide
  reducesTo_S5632x2048_S_d0_1 := by decide

/-- An element of the narrower format whose size is under infinity is a real number: its infinity is the same. -/
theorem real_of_lt16 (x : EReal) (h : FloatOps.cmpf (F := Ideal) (φ := .bf16) .olt (FloatOps.absf (F := Ideal) (φ := .bf16) x)
    (FloatOps.ofBits (F := Ideal) .bf16 0x7F80#16) = 1#1) : x = ((x.toReal : ℝ) : EReal) := by
  have htop : Ideal.ofBits .bf16 0x7F80#16 = ⊤ := by simp [Ideal.ofBits, Ideal.ieee]
  have htop' : Ideal.ofBits .f32 0x7F800000#32 = ⊤ := by simp [Ideal.ofBits, Ideal.ieee]
  refine Ssd.real_of_lt x ?_
  rw [Ideal.cmpf_def, Ideal.absf_def, Ideal.ofBits_def, htop] at h
  rw [Ideal.cmpf_def, Ideal.absf_def, Ideal.ofBits_def, htop']
  exact h

/-- The elements of a matrix, zero outside it. -/
def entry2 {m n : ℕ} (x : (⟨2, ![m, n]⟩ : Shape).Idx → EReal) (i j : ℕ) : EReal :=
  if h : i < m ∧ j < n then x (ix2 ⟨i, h.1⟩ ⟨j, h.2⟩) else 0
/-- The elements of a stack of matrices, zero outside it. -/
def entry3 {s m n : ℕ} (x : (⟨3, ![s, m, n]⟩ : Shape).Idx → EReal) (k i j : ℕ) : EReal :=
  if h : k < s ∧ i < m ∧ j < n then x (ix3 ⟨k, h.1⟩ ⟨i, h.2.1⟩ ⟨j, h.2.2⟩) else 0

theorem eq_e2 (φ : FTy) {m n : ℕ} (x : (⟨2, ![m, n]⟩ : Shape).Idx → EReal) : x = e2 φ (entry2 x) := by
  funext i
  have b0 : (i 0).val < m := (i 0).isLt
  have b1 : (i 1).val < n := (i 1).isLt
  show x i = entry2 x (i 0).val (i 1).val
  unfold entry2
  rw [dif_pos ⟨b0, b1⟩]
  exact congrArg x (eq_ix2 i)

theorem eq_e3 (φ : FTy) {s m n : ℕ} (x : (⟨3, ![s, m, n]⟩ : Shape).Idx → EReal) : x = e3 φ (entry3 x) := by
  funext i
  have b0 : (i 0).val < s := (i 0).isLt
  have b1 : (i 1).val < m := (i 1).isLt
  have b2 : (i 2).val < n := (i 2).isLt
  show x i = entry3 x (i 0).val (i 1).val (i 2).val
  unfold entry3
  rw [dif_pos ⟨b0, b1, b2⟩]
  exact congrArg x (eq_ix3 i)

theorem entry2_real {m n : ℕ} {x : (⟨2, ![m, n]⟩ : Shape).Idx → EReal} (h : ∀ i, x i = ((x i).toReal : EReal)) (i j : ℕ) :
    IsReal (entry2 x i j) := by
  unfold entry2
  split
  · exact ⟨_, h _⟩
  · exact ⟨0, rfl⟩

theorem entry3_real {s m n : ℕ} {x : (⟨3, ![s, m, n]⟩ : Shape).Idx → EReal} (h : ∀ i, x i = ((x i).toReal : EReal)) (k i j : ℕ) :
    IsReal (entry3 x k i j) := by
  unfold entry3
  split
  · exact ⟨_, h _⟩
  · exact ⟨0, rfl⟩

instance : Subsingleton Cert.Pre_finite2.S_.Idx := ⟨fun a b => funext fun i => i.elim0⟩

/-- The precondition, element by element. -/
theorem fn_says [Cert.Pre_finite2.Facts] (x0 : FVec Ideal Cert.Pre_finite2.S2048x2048 .bf16)
    (x1 x2 : FVec Ideal Cert.Pre_finite2.S4x2048x1408 .bf16) (x3 : FVec Ideal Cert.Pre_finite2.S5632x2048 .bf16)
    (x4 : FVec Ideal Cert.Pre_finite2.S2048x2048 .f32) (h : Cert.Pre_finite2.fn (F := Ideal) x0 x1 x2 x3 x4 = fun _ => 1#1) :
    (∀ i, x0 i = ((x0 i).toReal : EReal)) ∧ (∀ i, x2 i = ((x2 i).toReal : EReal))
      ∧ (∀ i, x3 i = ((x3 i).toReal : EReal)) ∧ (∀ i, x4 i = ((x4 i).toReal : EReal)) := by
  have h := congrFun h (fun b => b.elim0)
  unfold Cert.Pre_finite2.fn Cert.Pre_finite2.fn_part1 at h
  simp only [andi] at h
  obtain ⟨h, h4⟩ := IntOp.andi_eq_one.1 h
  obtain ⟨h, h3⟩ := IntOp.andi_eq_one.1 h
  obtain ⟨h0, h2⟩ := IntOp.andi_eq_one.1 h
  exact ⟨fun i => real_of_lt16 _ (Host.reduce_andi_all _ _ _ _ _ h0 i),
    fun i => real_of_lt16 _ (Host.reduce_andi_all _ _ _ _ _ h2 i), fun i => real_of_lt16 _ (Host.reduce_andi_all _ _ _ _ _ h3 i),
    fun i => Ssd.real_of_lt _ (Host.reduce_andi_all _ _ _ _ _ h4 i)⟩

end Ffn
-- ==== Proof.FfnClaim.lean ====
/- The second program's claim: under its precondition it leaves what its reference leaves. -/
module

public import proofs.«01_k».proof.Defs
public import proofs.«01_k».proof.Proof.FfnRun
public import proofs.«01_k».proof.Proof.FfnRef
public import proofs.«01_k».proof.Proof.FfnPre

@[expose] public section

set_option maxRecDepth 16384

noncomputable section

namespace Ffn

open Idealize.ShloMosaic Idealize.ShloMosaic.TcCoe Idealize.SL.Sem

/-- Under the precondition every device's arguments but the weights of the gate are arrays of real numbers. -/
theorem holds_of_pre [Cert.Pre_finite2.Facts] {m : (ℓ : Loc Cert.Kernel2Ideal.nD Cert.Kernel2Ideal.τ Cert.Kernel2Ideal.sig) → Buf (Elt Ideal) ℓ}
    (h : Cert.Pre_Kernel2Ideal_finite2 m) (c : Dev Cert.Kernel2Ideal.nD) : ∃ a, Holds m c a ∧ a.Finite := by
  obtain ⟨r0, r2, r3, r4⟩ := fn_says _ _ _ _ _ (h c)
  exact ⟨⟨entry2 _, entry3 _, entry3 _, entry2 _, entry2 _⟩,
    ⟨eq_e2 _ _, eq_e3 _ _, eq_e3 _ _, eq_e2 _ _, eq_e2 _ _⟩,
    ⟨entry2_real r0, entry3_real r2, entry2_real r3, entry2_real r4⟩⟩

theorem reference_frame : Cert.quiescent_Reference2Ideal (hReference2Ideal := Cert.Reference2Ideal.Gen.facts) := fun m ρ _ =>
  (θ_run _ _ _).mono (fun r h => ⟨fun c => (h c).2.2.2, sem_eq_zero_of_no_sems rfl r.2⟩) (Cert.Reference2Ideal.Value.run m ρ)

theorem reference_frame_pre :
    Cert.quiescent_Reference2Ideal_pre_finite2 (hReference2Ideal := Cert.Reference2Ideal.Gen.facts) (hPre_finite2 := pre_facts) :=
  fun m ρ _ => reference_frame m ρ trivial

theorem algebraic [hP : Cert.Pre_finite2.Facts] :
    Cert.algebraic_Kernel2Ideal_Reference2Ideal_pre_finite2 (hKernel2Ideal := Cert.Kernel2Ideal.Gen.facts) (hReference2Ideal := Cert.Reference2Ideal.Gen.facts) := by
  intro m g m' g' hpre hm
  refine ⟨fun c => Cert.Reference2Ideal.Read.val_main_v26 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)),
    fun c => Cert.Reference2Ideal.Read.val_main_v24 (F := Ideal) (m (c.tc.loc Cert.Kernel2Ideal.main_arg0)) (m (c.tc.loc Cert.Kernel2Ideal.main_arg1)) (m (c.tc.loc Cert.Kernel2Ideal.main_arg3)) (m (c.tc.loc Cert.Kernel2Ideal.main_arg4)),
    fun c => Cert.Reference2Ideal.Read.val_main_v12 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg4)), ?_, ?_⟩
  · refine (θ_run _ _ _).mono (fun r h c => ?_) (results (m := m) (ρ := g))
    obtain ⟨a, H, hf⟩ := holds_of_pre hpre c
    obtain ⟨h0, h1, h2, k⟩ := h c a H
    refine ⟨h0.trans ?_, h1.trans ?_, h2.trans ?_, k⟩
    · beta_reduce
      rw [H.u, H.wg, H.wu, H.wd, H.dh]
      exact (ref_dwg a hf).symm
    · beta_reduce
      rw [H.u, H.wg, H.wd, H.dh]
      exact (ref_dwu a).symm
    · beta_reduce
      rw [H.u, H.wg, H.wu, H.dh]
      exact (ref_dwd a).symm
  · refine (θ_run _ _ _).mono (fun r h c => ?_) (Cert.Reference2Ideal.Value.run m' g')
    obtain ⟨h0, h1, h2, k⟩ := h c
    obtain ⟨e0, e1, e2, e3, e4⟩ := hm c
    refine ⟨(h0.trans (Cert.Reference2Ideal.Read.val_main_v26_eq (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)))).trans ?_,
      (h1.trans (Cert.Reference2Ideal.Read.val_main_v24_eq (F := Ideal) (m' (c.tc.loc Cert.Reference2Ideal.main_arg0)) (m' (c.tc.loc Cert.Reference2Ideal.main_arg1)) (m' (c.tc.loc Cert.Reference2Ideal.main_arg3)) (m' (c.tc.loc Cert.Reference2Ideal.main_arg4)))).trans ?_,
      (h2.trans (Cert.Reference2Ideal.Read.val_main_v12_eq (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg4)))).trans ?_, k⟩
    · beta_reduce
      rw [e0, e1, e2, e3, e4]
    · beta_reduce
      rw [e0, e1, e3, e4]
    · beta_reduce
      rw [e0, e1, e2, e4]

end Ffn
-- ==== Proof.ProjMath.lean ====
/- The per-layer embedding block's backward pass and the projections into the mixer, forward and backward, as functions of
   natural numbers. -/
module

public import proofs.«01_k».proof.Proof.FfnLift

@[expose] public section

noncomputable section

namespace Proj

open Idealize.ShloMosaic Finset
open Ffn (logistic)

/-- The arguments: the embedding block's input `n`, embeddings `p`, weights of the gate and of the embeddings (in the four
    chips' parts) and the gradient of its output; the mixer's input `u`, the weights of its three projections and the
    gradients of their results. -/
structure PArgs where
  n : ℕ → ℕ → EReal
  p : ℕ → ℕ → EReal
  wg : ℕ → ℕ → EReal
  wp : ℕ → ℕ → ℕ → EReal
  dh : ℕ → ℕ → EReal
  u : ℕ → ℕ → EReal
  wz : ℕ → ℕ → EReal
  wx : ℕ → ℕ → EReal
  wd : ℕ → ℕ → EReal
  dz : ℕ → ℕ → EReal
  dx : ℕ → ℕ → EReal
  dd : ℕ → ℕ → EReal

namespace PArgs
variable (a : PArgs)

/-- The gate's product. -/
def gp (i j : ℕ) : EReal := ∑ k ∈ range 2048, a.n i k * a.wg k j
/-- The projected embeddings. -/
def pp (i j : ℕ) : EReal := ∑ k ∈ range 256, a.p i k * a.wp (j / 512) k (j % 512)
/-- The gradient of the gate's product. -/
def dgp (i j : ℕ) : EReal := a.dh i j * a.pp i j * logistic (a.gp i j) * (1 - logistic (a.gp i j))
/-- The gradient of the projected embeddings. -/
def dpp (i j : ℕ) : EReal := a.dh i j * logistic (a.gp i j)
/-- The gradient of the gate's weights. -/
def dwg (i j : ℕ) : EReal := ∑ k ∈ range 2048, a.n k i * a.dgp k j
/-- The gradient of the embeddings' weights. -/
def dwp (s i j : ℕ) : EReal := ∑ k ∈ range 2048, a.p k i * a.dpp k (s * 512 + j)
/-- The gradient of the block's input. -/
def dn (i j : ℕ) : EReal := ∑ k ∈ range 2048, a.dgp i k * a.wg j k
/-- The mixer's projections. -/
def z (i j : ℕ) : EReal := ∑ k ∈ range 2048, a.u i k * a.wz k j
def xbc (i j : ℕ) : EReal := ∑ k ∈ range 2048, a.u i k * a.wx k j
def dt (i j : ℕ) : EReal := ∑ k ∈ range 2048, a.u i k * a.wd k j
/-- The gradients of their weights. -/
def dwz (i j : ℕ) : EReal := ∑ k ∈ range 2048, a.u k i * a.dz k j
def dwx (i j : ℕ) : EReal := ∑ k ∈ range 2048, a.u k i * a.dx k j
def dwd (i j : ℕ) : EReal := ∑ k ∈ range 2048, a.u k i * a.dd k j

end PArgs

end Proj
-- ==== Proof.ProjLift.lean ====
/- What each call of the third program makes of its blocks: the products of the per-layer embedding block and of the
   projections into the mixer, and the embedding block's gate backward. -/
module

public import proofs.«01_k».proof.Proof.FfnLift
public import proofs.«01_k».proof.Proof.Gen.Kernel3Ideal.Skeleton
public import Idealize.ShloMosaic.Lib.Pointwise

@[expose] public section

set_option maxRecDepth 16384

noncomputable section

namespace Proj

open Idealize.ShloMosaic hiding ix0 ix1 ix2 ix3 ix4 ix5 ix6 eq_ix2 eq_ix3 eq_ix4 eq_ix5
open Idealize.ShloMosaic.ValueIdx Finset
open Ffn Cert.Kernel3Ideal Cert.Kernel3Ideal.Gen

variable (f g : ℕ → ℕ → EReal) (w : ℕ → ℕ → ℕ → EReal)

/-- A product; two more calls have the same text. -/
theorem pay_mul : k0_pay1 (F := Ideal) (e2 .bf16 g) (e2 .bf16 f) = e2 .f32 fun i j => ∑ k ∈ range 2048, f i k * g k j := by
  funext j
  idx_vars j
  unfold k0_pay1
  pointwise
  simp only [e2, e3, Finset.sum_range]
  simp

theorem pay_z : k6_pay1 (F := Ideal) (e2 .bf16 g) (e2 .bf16 f) = e2 .f32 fun i j => ∑ k ∈ range 2048, f i k * g k j := pay_mul f g
theorem pay_xbc : k7_pay1 (F := Ideal) (e2 .bf16 g) (e2 .bf16 f) = e2 .f32 fun i j => ∑ k ∈ range 2048, f i k * g k j := pay_mul f g

theorem pay_dt : k8_pay1 (F := Ideal) (e2 .bf16 g) (e2 .bf16 f) = e2 .f32 fun i j => ∑ k ∈ range 2048, f i k * g k j := by
  funext j
  idx_vars j
  unfold k8_pay1
  pointwise
  simp only [e2, e3, Finset.sum_range]
  simp

theorem pay_proj : k1_pay1 (F := Ideal) (e3 .bf16 w) (e2 .f32 f) = e2 .f32 fun i j => ∑ k ∈ range 256, f i k * w 0 k j := by
  funext j
  idx_vars j
  unfold k1_pay1
  pointwise
  simp only [e2, e3, Finset.sum_range]
  simp

theorem pay_gate_dw : k3_pay1 (F := Ideal) (e2 .bf16 g) (e2 .bf16 f) = e2 .bf16 fun i j => ∑ k ∈ range 2048, f k i * g k j := by
  funext j
  idx_vars j
  unfold k3_pay1
  pointwise
  simp only [e2, e3, Finset.sum_range]
  simp

theorem pay_proj_dw : k4_pay1 (F := Ideal) (e2 .bf16 g) (e2 .f32 f) = e3 .bf16 fun _ i j => ∑ k ∈ range 2048, f k i * g k j := by
  funext j
  idx_vars j
  unfold k4_pay1
  pointwise
  simp only [e2, e3, Finset.sum_range]
  simp

theorem pay_gate_dx : k5_pay1 (F := Ideal) (e2 .bf16 g) (e2 .bf16 f) = e2 .f32 fun i j => ∑ k ∈ range 2048, f i k * g j k := by
  funext j
  idx_vars j
  unfold k5_pay1
  pointwise
  simp only [e2, e3, Finset.sum_range]
  simp

theorem pay_z_dw : k9_pay1 (F := Ideal) (e2 .bf16 g) (e2 .bf16 f) = e2 .bf16 fun i j => ∑ k ∈ range 2048, f k i * g k j := by
  funext j
  idx_vars j
  unfold k9_pay1
  pointwise
  simp only [e2, e3, Finset.sum_range]
  simp

theorem pay_xbc_dw : k10_pay1 (F := Ideal) (e2 .bf16 g) (e2 .bf16 f) = e2 .bf16 fun i j => ∑ k ∈ range 2048, f k i * g k j := pay_z_dw f g

theorem pay_dt_dw : k11_pay1 (F := Ideal) (e2 .bf16 g) (e2 .bf16 f) = e2 .bf16 fun i j => ∑ k ∈ range 2048, f k i * g k j := by
  funext j
  idx_vars j
  unfold k11_pay1
  pointwise
  simp only [e2, e3, Finset.sum_range]
  simp

theorem pay_dgp (d : ℕ → ℕ → EReal) : k2_pay2 (F := Ideal) (e2 .f32 d) (e2 .f32 g) (e2 .f32 f)
    = e2 .bf16 fun i j => d i j * f i j * Ffn.logistic (g i j) * (1 - Ffn.logistic (g i j)) := by
  funext j
  idx_vars j
  unfold k2_pay2 k2_pay1
  pointwise
  simp only [e2, Ffn.logistic]
  simp

theorem pay_dpp (d : ℕ → ℕ → EReal) : k2_pay3 (F := Ideal) (e2 .f32 d) (e2 .f32 g) = e2 .bf16 fun i j => d i j * Ffn.logistic (g i j) := by
  funext j
  idx_vars j
  unfold k2_pay3 k2_pay1
  pointwise
  simp only [e2, Ffn.logistic]
  simp

end Proj
-- ==== Proof.ProjRegions.lean ====
/- The array each call of the third program writes, from the arrays it reads. -/
module

public import proofs.«01_k».proof.Proof.FfnRegions
public import proofs.«01_k».proof.Proof.ProjLift
public import proofs.«01_k».proof.Proof.Gen.Kernel3Ideal.Frame
public import Idealize.ShloMosaic.Lib.Pipeline.ValueKit

@[expose] public section

set_option maxRecDepth 16384

noncomputable section

namespace Proj

open Idealize.ShloMosaic hiding ix0 ix1 ix2 ix3 ix4 ix5 ix6 eq_ix2 eq_ix3 eq_ix4 eq_ix5
open Idealize.ShloMosaic.ValueIdx Finset
open Ffn (e2 e3 eq2 eq3 off2 off3)
open Cert.Kernel3Ideal Cert.Kernel3Ideal.Gen Idealize.SL.Sem
open Idealize.ShloMosaic.TcCoe

variable (V : (c : Dev nD) → (b : Ref sig .tc) → Buf (Elt Ideal) ((c : Thread nD τ).loc b)) (c : Dev nD)
variable {f g h : ℕ → ℕ → EReal} {w : ℕ → ℕ → ℕ → EReal}

/- Which block of its array a window shows at point `t`. -/

theorem at0_0 : ∀ t : Fin grid0.N, win0_0.index t 0 = t.val / 2 ∧ win0_0.index t 1 = 0 := by decide +kernel
theorem at0_1 : ∀ t : Fin grid0.N, win0_1.index t 0 = 0 ∧ win0_1.index t 1 = t.val % 2 := by decide +kernel
theorem at0_2 : ∀ t : Fin grid0.N, win0_2.index t 0 = t.val / 2 ∧ win0_2.index t 1 = t.val % 2 := by decide +kernel
theorem at1_0 : ∀ t : Fin grid1.N, win1_0.index t 0 = t.val / 4 ∧ win1_0.index t 1 = 0 := by decide +kernel
theorem at1_1 : ∀ t : Fin grid1.N, win1_1.index t 0 = t.val % 4 ∧ win1_1.index t 1 = 0 ∧ win1_1.index t 2 = 0 := by decide +kernel
theorem at1_2 : ∀ t : Fin grid1.N, win1_2.index t 0 = t.val / 4 ∧ win1_2.index t 1 = t.val % 4 := by decide +kernel
theorem at2_0 : ∀ t : Fin grid2.N, win2_0.index t 0 = t.val % 4 ∧ win2_0.index t 1 = t.val / 4 := by decide +kernel
theorem at2_1 : ∀ t : Fin grid2.N, win2_1.index t 0 = t.val % 4 ∧ win2_1.index t 1 = t.val / 4 := by decide +kernel
theorem at2_2 : ∀ t : Fin grid2.N, win2_2.index t 0 = t.val % 4 ∧ win2_2.index t 1 = t.val / 4 := by decide +kernel
theorem at2_3 : ∀ t : Fin grid2.N, win2_3.index t 0 = t.val % 4 ∧ win2_3.index t 1 = t.val / 4 := by decide +kernel
theorem at2_4 : ∀ t : Fin grid2.N, win2_4.index t 0 = t.val % 4 ∧ win2_4.index t 1 = t.val / 4 := by decide +kernel
theorem at3_0 : ∀ t : Fin grid3.N, win3_0.index t 0 = 0 ∧ win3_0.index t 1 = t.val / 2 := by decide +kernel
theorem at3_1 : ∀ t : Fin grid3.N, win3_1.index t 0 = 0 ∧ win3_1.index t 1 = t.val % 2 := by decide +kernel
theorem at3_2 : ∀ t : Fin grid3.N, win3_2.index t 0 = t.val / 2 ∧ win3_2.index t 1 = t.val % 2 := by decide +kernel
theorem at4_0 : ∀ t : Fin grid4.N, win4_0.index t 0 = 0 ∧ win4_0.index t 1 = 0 := by decide +kernel
theorem at4_1 : ∀ t : Fin grid4.N, win4_1.index t 0 = 0 ∧ win4_1.index t 1 = t.val := by decide +kernel
theorem at4_2 : ∀ t : Fin grid4.N, win4_2.index t 0 = t.val ∧ win4_2.index t 1 = 0 ∧ win4_2.index t 2 = 0 := by decide +kernel
theorem at5_0 : ∀ t : Fin grid5.N, win5_0.index t 0 = t.val / 2 ∧ win5_0.index t 1 = 0 := by decide +kernel
theorem at5_1 : ∀ t : Fin grid5.N, win5_1.index t 0 = t.val % 2 ∧ win5_1.index t 1 = 0 := by decide +kernel
theorem at5_2 : ∀ t : Fin grid5.N, win5_2.index t 0 = t.val / 2 ∧ win5_2.index t 1 = t.val % 2 := by decide +kernel
theorem at6_0 : ∀ t : Fin grid6.N, win6_0.index t 0 = t.val / 4 ∧ win6_0.index t 1 = 0 := by decide +kernel
theorem at6_1 : ∀ t : Fin grid6.N, win6_1.index t 0 = 0 ∧ win6_1.index t 1 = t.val % 4 := by decide +kernel
theorem at6_2 : ∀ t : Fin grid6.N, win6_2.index t 0 = t.val / 4 ∧ win6_2.index t 1 = t.val % 4 := by decide +kernel
theorem at7_0 : ∀ t : Fin grid7.N, win7_0.index t 0 = t.val / 6 ∧ win7_0.index t 1 = 0 := by decide +kernel
theorem at7_1 : ∀ t : Fin grid7.N, win7_1.index t 0 = 0 ∧ win7_1.index t 1 = t.val % 6 := by decide +kernel
theorem at7_2 : ∀ t : Fin grid7.N, win7_2.index t 0 = t.val / 6 ∧ win7_2.index t 1 = t.val % 6 := by decide +kernel
theorem at8_0 : ∀ t : Fin grid8.N, win8_0.index t 0 = t.val ∧ win8_0.index t 1 = 0 := by decide +kernel
theorem at8_1 : ∀ t : Fin grid8.N, win8_1.index t 0 = 0 ∧ win8_1.index t 1 = 0 := by decide +kernel
theorem at8_2 : ∀ t : Fin grid8.N, win8_2.index t 0 = t.val ∧ win8_2.index t 1 = 0 := by decide +kernel
theorem at9_0 : ∀ t : Fin grid9.N, win9_0.index t 0 = 0 ∧ win9_0.index t 1 = t.val / 4 := by decide +kernel
theorem at9_1 : ∀ t : Fin grid9.N, win9_1.index t 0 = 0 ∧ win9_1.index t 1 = t.val % 4 := by decide +kernel
theorem at9_2 : ∀ t : Fin grid9.N, win9_2.index t 0 = t.val / 4 ∧ win9_2.index t 1 = t.val % 4 := by decide +kernel
theorem at10_0 : ∀ t : Fin grid10.N, win10_0.index t 0 = 0 ∧ win10_0.index t 1 = t.val / 6 := by decide +kernel
theorem at10_1 : ∀ t : Fin grid10.N, win10_1.index t 0 = 0 ∧ win10_1.index t 1 = t.val % 6 := by decide +kernel
theorem at10_2 : ∀ t : Fin grid10.N, win10_2.index t 0 = t.val / 6 ∧ win10_2.index t 1 = t.val % 6 := by decide +kernel
theorem at11_0 : ∀ t : Fin grid11.N, win11_0.index t 0 = 0 ∧ win11_0.index t 1 = t.val := by decide +kernel
theorem at11_1 : ∀ t : Fin grid11.N, win11_1.index t 0 = 0 ∧ win11_1.index t 1 = 0 := by decide +kernel
theorem at11_2 : ∀ t : Fin grid11.N, win11_2.index t 0 = t.val ∧ win11_2.index t 1 = 0 := by decide +kernel

/-- The gate's product. -/
theorem arr_gate (h0 : (V c main_arg0 : FVec Ideal S2048x2048 .bf16) = e2 .bf16 f)
    (h1 : (V c main_arg2 : FVec Ideal S2048x2048 .bf16) = e2 .bf16 g) :
    ((dat0 V c).arrAt 2 cfg0.N : FVec Ideal S2048x2048 .f32) = e2 .f32 fun i j => ∑ k ∈ range 2048, f i k * g k j := by
  refine (dat0 V c).arrAt_eq_of_covers 2 _ (by decide +kernel) fun t hf' y => ?_
  blk_simp
  rw [after0_2]
  have x0 : (iblk0 V c 0 t : FVec Ideal S1024x2048 .bf16) = e2 .bf16 fun i k => f (t.val / 2 * 1024 + i) k := by
    obtain ⟨a0, a1⟩ := at0_0 t
    funext j
    refine (congrFun h0 (((cfg0.win 0).blk t).view.emb j)).trans (eq2 (f := f) ?_ ?_)
    · blk_simp [a0] <;> omega
    · blk_simp [a1] <;> omega
  have x1 : (iblk0 V c 1 t : FVec Ideal S2048x1024 .bf16) = e2 .bf16 fun k j => g k (t.val % 2 * 1024 + j) := by
    obtain ⟨a0, a1⟩ := at0_1 t
    funext j
    refine (congrFun h1 (((cfg0.win 1).blk t).view.emb j)).trans (eq2 (f := g) ?_ ?_)
    · blk_simp [a0] <;> omega
    · blk_simp [a1] <;> omega
  obtain ⟨o0, o1⟩ := at0_2 t
  rw [x0, x1]
  unfold out0_2
  rw [View.canon_cons_unit_zero off2, View.ld_unit_zero (S := S2048x1024) off2, View.ld_unit_zero (S := S1024x2048) off2]
  rw [pay_mul]
  have y0 : (y 0).val < 1024 := (y 0).isLt
  have y1 : (y 1).val < 1024 := (y 1).isLt
  refine Finset.sum_congr (M := EReal) rfl fun k hk => ?_
  refine congrArg₂ _ (eq2 (f := f) ?_ rfl) (eq2 (f := g) rfl ?_)
  · blk_simp [o0] <;> omega
  · blk_simp [o1] <;> omega

/-- The embeddings by their weights, whose columns the four chips' parts hold side by side. -/
theorem arr_proj (h0 : (V c main_arg1 : FVec Ideal S2048x256 .f32) = e2 .f32 f)
    (h1 : (V c main_arg3 : FVec Ideal S4x256x512 .bf16) = e3 .bf16 w) :
    ((dat1 V c).arrAt 2 cfg1.N : FVec Ideal S2048x2048 .f32) = e2 .f32 fun i j => ∑ k ∈ range 256, f i k * w (j / 512) k (j % 512) := by
  refine (dat1 V c).arrAt_eq_of_covers 2 _ (by decide +kernel) fun t hf' y => ?_
  blk_simp
  rw [after1_2]
  have x0 : (iblk1 V c 0 t : FVec Ideal S1024x256 .f32) = e2 .f32 fun i k => f (t.val / 4 * 1024 + i) k := by
    obtain ⟨a0, a1⟩ := at1_0 t
    funext j
    refine (congrFun h0 (((cfg1.win 0).blk t).view.emb j)).trans (eq2 (f := f) ?_ ?_)
    · blk_simp [a0] <;> omega
    · blk_simp [a1] <;> omega
  have x1 : (iblk1 V c 1 t : FVec Ideal S1x256x512 .bf16) = e3 .bf16 fun _ k j => w (t.val % 4) k j := by
    obtain ⟨a0, a1, a2⟩ := at1_1 t
    funext j
    refine (congrFun h1 (((cfg1.win 1).blk t).view.emb j)).trans (eq3 (f := w) ?_ ?_ ?_)
    · blk_simp [a0] <;> omega
    · blk_simp [a1] <;> omega
    · blk_simp [a2] <;> omega
  obtain ⟨o0, o1⟩ := at1_2 t
  rw [x0, x1]
  unfold out1_2
  rw [View.canon_cons_unit_zero off2, View.ld_unit_zero (S := S1x256x512) off3, View.ld_unit_zero (S := S1024x256) off2]
  rw [pay_proj]
  have y0 : (y 0).val < 1024 := (y 0).isLt
  have y1 : (y 1).val < 512 := (y 1).isLt
  refine Finset.sum_congr (M := EReal) rfl fun k hk => ?_
  refine congrArg₂ _ (eq2 (f := f) ?_ rfl) (eq3 (f := w) ?_ rfl ?_)
  · blk_simp [o0] <;> omega
  · blk_simp [o1] <;> omega
  · blk_simp [o1] <;> omega

/-- The gradient of the gate's product. -/
theorem arr_dgp (h0 : (V c main_arg4 : FVec Ideal S2048x2048 .f32) = e2 .f32 f)
    (h1 : (V c main_v0 : FVec Ideal S2048x2048 .f32) = e2 .f32 g)
    (h2 : (V c main_v1 : FVec Ideal S2048x2048 .f32) = e2 .f32 h) :
    ((dat2 V c).arrAt 3 cfg2.N : FVec Ideal S2048x2048 .bf16) = e2 .bf16 fun i j => f i j * h i j * Ffn.logistic (g i j) * (1 - Ffn.logistic (g i j)) := by
  refine (dat2 V c).arrAt_eq_of_covers 3 _ (by decide +kernel) fun t hf' y => ?_
  blk_simp
  rw [after2_3]
  have x0 : (iblk2 V c 0 t : FVec Ideal S512x1024 .f32) = e2 .f32 fun i j => f (t.val % 4 * 512 + i) (t.val / 4 * 1024 + j) := by
    obtain ⟨a0, a1⟩ := at2_0 t
    funext j
    refine (congrFun h0 (((cfg2.win 0).blk t).view.emb j)).trans (eq2 (f := f) ?_ ?_)
    · blk_simp [a0] <;> omega
    · blk_simp [a1] <;> omega
  have x1 : (iblk2 V c 1 t : FVec Ideal S512x1024 .f32) = e2 .f32 fun i j => g (t.val % 4 * 512 + i) (t.val / 4 * 1024 + j) := by
    obtain ⟨a0, a1⟩ := at2_1 t
    funext j
    refine (congrFun h1 (((cfg2.win 1).blk t).view.emb j)).trans (eq2 (f := g) ?_ ?_)
    · blk_simp [a0] <;> omega
    · blk_simp [a1] <;> omega
  have x2 : (iblk2 V c 2 t : FVec Ideal S512x1024 .f32) = e2 .f32 fun i j => h (t.val % 4 * 512 + i) (t.val / 4 * 1024 + j) := by
    obtain ⟨a0, a1⟩ := at2_2 t
    funext j
    refine (congrFun h2 (((cfg2.win 2).blk t).view.emb j)).trans (eq2 (f := h) ?_ ?_)
    · blk_simp [a0] <;> omega
    · blk_simp [a1] <;> omega
  obtain ⟨o0, o1⟩ := at2_3 t
  rw [x0, x1, x2]
  unfold out2_3
  rw [View.canon_cons_unit_zero off2, View.ld_unit_zero (S := S512x1024) off2, View.ld_unit_zero (S := S512x1024) off2, View.ld_unit_zero (S := S512x1024) off2]
  rw [pay_dgp]
  have y0 : (y 0).val < 512 := (y 0).isLt
  have y1 : (y 1).val < 1024 := (y 1).isLt
  refine eq2 (f := fun i j => f i j * h i j * Ffn.logistic (g i j) * (1 - Ffn.logistic (g i j))) ?_ ?_
  · blk_simp [o0] <;> omega
  · blk_simp [o1] <;> omega

/-- The gradient of the projected embeddings. -/
theorem arr_dpp (h0 : (V c main_arg4 : FVec Ideal S2048x2048 .f32) = e2 .f32 f)
    (h1 : (V c main_v0 : FVec Ideal S2048x2048 .f32) = e2 .f32 g)
    (h2 : (V c main_v1 : FVec Ideal S2048x2048 .f32) = e2 .f32 h) :
    ((dat2 V c).arrAt 4 cfg2.N : FVec Ideal S2048x2048 .bf16) = e2 .bf16 fun i j => f i j * Ffn.logistic (g i j) := by
  refine (dat2 V c).arrAt_eq_of_covers 4 _ (by decide +kernel) fun t hf' y => ?_
  blk_simp
  rw [after2_4]
  have x0 : (iblk2 V c 0 t : FVec Ideal S512x1024 .f32) = e2 .f32 fun i j => f (t.val % 4 * 512 + i) (t.val / 4 * 1024 + j) := by
    obtain ⟨a0, a1⟩ := at2_0 t
    funext j
    refine (congrFun h0 (((cfg2.win 0).blk t).view.emb j)).trans (eq2 (f := f) ?_ ?_)
    · blk_simp [a0] <;> omega
    · blk_simp [a1] <;> omega
  have x1 : (iblk2 V c 1 t : FVec Ideal S512x1024 .f32) = e2 .f32 fun i j => g (t.val % 4 * 512 + i) (t.val / 4 * 1024 + j) := by
    obtain ⟨a0, a1⟩ := at2_1 t
    funext j
    refine (congrFun h1 (((cfg2.win 1).blk t).view.emb j)).trans (eq2 (f := g) ?_ ?_)
    · blk_simp [a0] <;> omega
    · blk_simp [a1] <;> omega
  have x2 : (iblk2 V c 2 t : FVec Ideal S512x1024 .f32) = e2 .f32 fun i j => h (t.val % 4 * 512 + i) (t.val / 4 * 1024 + j) := by
    obtain ⟨a0, a1⟩ := at2_2 t
    funext j
    refine (congrFun h2 (((cfg2.win 2).blk t).view.emb j)).trans (eq2 (f := h) ?_ ?_)
    · blk_simp [a0] <;> omega
    · blk_simp [a1] <;> omega
  obtain ⟨o0, o1⟩ := at2_4 t
  rw [x0, x1, x2]
  unfold out2_4
  rw [View.canon_cons_unit_zero off2, View.ld_unit_zero (S := S512x1024) off2, View.ld_unit_zero (S := S512x1024) off2]
  rw [pay_dpp]
  have y0 : (y 0).val < 512 := (y 0).isLt
  have y1 : (y 1).val < 1024 := (y 1).isLt
  refine eq2 (f := fun i j => f i j * Ffn.logistic (g i j)) ?_ ?_
  · blk_simp [o0] <;> omega
  · blk_simp [o1] <;> omega

/-- The gradient of the gate's weights. -/
theorem arr_gate_dw (h0 : (V c main_arg0 : FVec Ideal S2048x2048 .bf16) = e2 .bf16 f)
    (h1 : (V c main_v2_0 : FVec Ideal S2048x2048 .bf16) = e2 .bf16 g) :
    ((dat3 V c).arrAt 2 cfg3.N : FVec Ideal S2048x2048 .bf16) = e2 .bf16 fun i j => ∑ k ∈ range 2048, f k i * g k j := by
  refine (dat3 V c).arrAt_eq_of_covers 2 _ (by decide +kernel) fun t hf' y => ?_
  blk_simp
  rw [after3_2]
  have x0 : (iblk3 V c 0 t : FVec Ideal S2048x1024 .bf16) = e2 .bf16 fun k i => f k (t.val / 2 * 1024 + i) := by
    obtain ⟨a0, a1⟩ := at3_0 t
    funext j
    refine (congrFun h0 (((cfg3.win 0).blk t).view.emb j)).trans (eq2 (f := f) ?_ ?_)
    · blk_simp [a0] <;> omega
    · blk_simp [a1] <;> omega
  have x1 : (iblk3 V c 1 t : FVec Ideal S2048x1024 .bf16) = e2 .bf16 fun k j => g k (t.val % 2 * 1024 + j) := by
    obtain ⟨a0, a1⟩ := at3_1 t
    funext j
    refine (congrFun h1 (((cfg3.win 1).blk t).view.emb j)).trans (eq2 (f := g) ?_ ?_)
    · blk_simp [a0] <;> omega
    · blk_simp [a1] <;> omega
  obtain ⟨o0, o1⟩ := at3_2 t
  rw [x0, x1]
  unfold out3_2
  rw [View.canon_cons_unit_zero off2, View.ld_unit_zero (S := S2048x1024) off2, View.ld_unit_zero (S := S2048x1024) off2]
  rw [pay_gate_dw]
  have y0 : (y 0).val < 1024 := (y 0).isLt
  have y1 : (y 1).val < 1024 := (y 1).isLt
  refine Finset.sum_congr (M := EReal) rfl fun k hk => ?_
  refine congrArg₂ _ (eq2 (f := f) rfl ?_) (eq2 (f := g) rfl ?_)
  · blk_simp [o0] <;> omega
  · blk_simp [o1] <;> omega

/-- The gradient of the embeddings' weights, in the four chips' parts. -/
theorem arr_proj_dw (h0 : (V c main_arg1 : FVec Ideal S2048x256 .f32) = e2 .f32 f)
    (h1 : (V c main_v2_1 : FVec Ideal S2048x2048 .bf16) = e2 .bf16 g) :
    ((dat4 V c).arrAt 2 cfg4.N : FVec Ideal S4x256x512 .bf16) = e3 .bf16 fun s i j => ∑ k ∈ range 2048, f k i * g k (s * 512 + j) := by
  refine (dat4 V c).arrAt_eq_of_covers 2 _ (by decide +kernel) fun t hf' y => ?_
  blk_simp
  rw [after4_2]
  have x0 : (iblk4 V c 0 t : FVec Ideal S2048x256 .f32) = e2 .f32 fun k i => f k i := by
    obtain ⟨a0, a1⟩ := at4_0 t
    funext j
    refine (congrFun h0 (((cfg4.win 0).blk t).view.emb j)).trans (eq2 (f := f) ?_ ?_)
    · blk_simp [a0] <;> omega
    · blk_simp [a1] <;> omega
  have x1 : (iblk4 V c 1 t : FVec Ideal S2048x512 .bf16) = e2 .bf16 fun k j => g k (t.val * 512 + j) := by
    obtain ⟨a0, a1⟩ := at4_1 t
    funext j
    refine (congrFun h1 (((cfg4.win 1).blk t).view.emb j)).trans (eq2 (f := g) ?_ ?_)
    · blk_simp [a0] <;> omega
    · blk_simp [a1] <;> omega
  obtain ⟨o0, o1, o2⟩ := at4_2 t
  rw [x0, x1]
  unfold out4_2
  rw [View.canon_cons_unit_zero off3, View.ld_unit_zero (S := S2048x512) off2, View.ld_unit_zero (S := S2048x256) off2]
  rw [pay_proj_dw]
  have y0 : (y 0).val < 1 := (y 0).isLt
  have y1 : (y 1).val < 256 := (y 1).isLt
  have y2 : (y 2).val < 512 := (y 2).isLt
  refine Finset.sum_congr (M := EReal) rfl fun k hk => ?_
  refine congrArg₂ _ (eq2 (f := f) rfl ?_) (eq2 (f := g) rfl ?_)
  · blk_simp [o1] <;> omega
  · blk_simp [o0, o2] <;> omega

/-- The gradient of the gate's input. -/
theorem arr_gate_dx (h0 : (V c main_v2_0 : FVec Ideal S2048x2048 .bf16) = e2 .bf16 f)
    (h1 : (V c main_arg2 : FVec Ideal S2048x2048 .bf16) = e2 .bf16 g) :
    ((dat5 V c).arrAt 2 cfg5.N : FVec Ideal S2048x2048 .f32) = e2 .f32 fun i j => ∑ k ∈ range 2048, f i k * g j k := by
  refine (dat5 V c).arrAt_eq_of_covers 2 _ (by decide +kernel) fun t hf' y => ?_
  blk_simp
  rw [after5_2]
  have x0 : (iblk5 V c 0 t : FVec Ideal S1024x2048 .bf16) = e2 .bf16 fun i k => f (t.val / 2 * 1024 + i) k := by
    obtain ⟨a0, a1⟩ := at5_0 t
    funext j
    refine (congrFun h0 (((cfg5.win 0).blk t).view.emb j)).trans (eq2 (f := f) ?_ ?_)
    · blk_simp [a0] <;> omega
    · blk_simp [a1] <;> omega
  have x1 : (iblk5 V c 1 t : FVec Ideal S1024x2048 .bf16) = e2 .bf16 fun j k => g (t.val % 2 * 1024 + j) k := by
    obtain ⟨a0, a1⟩ := at5_1 t
    funext j
    refine (congrFun h1 (((cfg5.win 1).blk t).view.emb j)).trans (eq2 (f := g) ?_ ?_)
    · blk_simp [a0] <;> omega
    · blk_simp [a1] <;> omega
  obtain ⟨o0, o1⟩ := at5_2 t
  rw [x0, x1]
  unfold out5_2
  rw [View.canon_cons_unit_zero off2, View.ld_unit_zero (S := S1024x2048) off2, View.ld_unit_zero (S := S1024x2048) off2]
  rw [pay_gate_dx]
  have y0 : (y 0).val < 1024 := (y 0).isLt
  have y1 : (y 1).val < 1024 := (y 1).isLt
  refine Finset.sum_congr (M := EReal) rfl fun k hk => ?_
  refine congrArg₂ _ (eq2 (f := f) ?_ rfl) (eq2 (f := g) ?_ rfl)
  · blk_simp [o0] <;> omega
  · blk_simp [o1] <;> omega

/-- The projection into the mixer: z. -/
theorem arr_z (h0 : (V c main_arg5 : FVec Ideal S2048x2048 .bf16) = e2 .bf16 f)
    (h1 : (V c main_arg6 : FVec Ideal S2048x4096 .bf16) = e2 .bf16 g) :
    ((dat6 V c).arrAt 2 cfg6.N : FVec Ideal S2048x4096 .f32) = e2 .f32 fun i j => ∑ k ∈ range 2048, f i k * g k j := by
  refine (dat6 V c).arrAt_eq_of_covers 2 _ (by decide +kernel) fun t hf' y => ?_
  blk_simp
  rw [after6_2]
  have x0 : (iblk6 V c 0 t : FVec Ideal S1024x2048 .bf16) = e2 .bf16 fun i k => f (t.val / 4 * 1024 + i) k := by
    obtain ⟨a0, a1⟩ := at6_0 t
    funext j
    refine (congrFun h0 (((cfg6.win 0).blk t).view.emb j)).trans (eq2 (f := f) ?_ ?_)
    · blk_simp [a0] <;> omega
    · blk_simp [a1] <;> omega
  have x1 : (iblk6 V c 1 t : FVec Ideal S2048x1024 .bf16) = e2 .bf16 fun k j => g k (t.val % 4 * 1024 + j) := by
    obtain ⟨a0, a1⟩ := at6_1 t
    funext j
    refine (congrFun h1 (((cfg6.win 1).blk t).view.emb j)).trans (eq2 (f := g) ?_ ?_)
    · blk_simp [a0] <;> omega
    · blk_simp [a1] <;> omega
  obtain ⟨o0, o1⟩ := at6_2 t
  rw [x0, x1]
  unfold out6_2
  rw [View.canon_cons_unit_zero off2, View.ld_unit_zero (S := S2048x1024) off2, View.ld_unit_zero (S := S1024x2048) off2]
  rw [pay_z]
  have y0 : (y 0).val < 1024 := (y 0).isLt
  have y1 : (y 1).val < 1024 := (y 1).isLt
  refine Finset.sum_congr (M := EReal) rfl fun k hk => ?_
  refine congrArg₂ _ (eq2 (f := f) ?_ rfl) (eq2 (f := g) rfl ?_)
  · blk_simp [o0] <;> omega
  · blk_simp [o1] <;> omega

/-- The projection into the mixer: xbc. -/
theorem arr_xbc (h0 : (V c main_arg5 : FVec Ideal S2048x2048 .bf16) = e2 .bf16 f)
    (h1 : (V c main_arg7 : FVec Ideal S2048x6144 .bf16) = e2 .bf16 g) :
    ((dat7 V c).arrAt 2 cfg7.N : FVec Ideal S2048x6144 .f32) = e2 .f32 fun i j => ∑ k ∈ range 2048, f i k * g k j := by
  refine (dat7 V c).arrAt_eq_of_covers 2 _ (by decide +kernel) fun t hf' y => ?_
  blk_simp
  rw [after7_2]
  have x0 : (iblk7 V c 0 t : FVec Ideal S1024x2048 .bf16) = e2 .bf16 fun i k => f (t.val / 6 * 1024 + i) k := by
    obtain ⟨a0, a1⟩ := at7_0 t
    funext j
    refine (congrFun h0 (((cfg7.win 0).blk t).view.emb j)).trans (eq2 (f := f) ?_ ?_)
    · blk_simp [a0] <;> omega
    · blk_simp [a1] <;> omega
  have x1 : (iblk7 V c 1 t : FVec Ideal S2048x1024 .bf16) = e2 .bf16 fun k j => g k (t.val % 6 * 1024 + j) := by
    obtain ⟨a0, a1⟩ := at7_1 t
    funext j
    refine (congrFun h1 (((cfg7.win 1).blk t).view.emb j)).trans (eq2 (f := g) ?_ ?_)
    · blk_simp [a0] <;> omega
    · blk_simp [a1] <;> omega
  obtain ⟨o0, o1⟩ := at7_2 t
  rw [x0, x1]
  unfold out7_2
  rw [View.canon_cons_unit_zero off2, View.ld_unit_zero (S := S2048x1024) off2, View.ld_unit_zero (S := S1024x2048) off2]
  rw [pay_xbc]
  have y0 : (y 0).val < 1024 := (y 0).isLt
  have y1 : (y 1).val < 1024 := (y 1).isLt
  refine Finset.sum_congr (M := EReal) rfl fun k hk => ?_
  refine congrArg₂ _ (eq2 (f := f) ?_ rfl) (eq2 (f := g) rfl ?_)
  · blk_simp [o0] <;> omega
  · blk_simp [o1] <;> omega

/-- The projection into the mixer: dt. -/
theorem arr_dt (h0 : (V c main_arg5 : FVec Ideal S2048x2048 .bf16) = e2 .bf16 f)
    (h1 : (V c main_arg8 : FVec Ideal S2048x128 .bf16) = e2 .bf16 g) :
    ((dat8 V c).arrAt 2 cfg8.N : FVec Ideal S2048x128 .f32) = e2 .f32 fun i j => ∑ k ∈ range 2048, f i k * g k j := by
  refine (dat8 V c).arrAt_eq_of_covers 2 _ (by decide +kernel) fun t hf' y => ?_
  blk_simp
  rw [after8_2]
  have x0 : (iblk8 V c 0 t : FVec Ideal S1024x2048 .bf16) = e2 .bf16 fun i k => f (t.val * 1024 + i) k := by
    obtain ⟨a0, a1⟩ := at8_0 t
    funext j
    refine (congrFun h0 (((cfg8.win 0).blk t).view.emb j)).trans (eq2 (f := f) ?_ ?_)
    · blk_simp [a0] <;> omega
    · blk_simp [a1] <;> omega
  have x1 : (iblk8 V c 1 t : FVec Ideal S2048x128 .bf16) = e2 .bf16 fun k j => g k (j) := by
    obtain ⟨a0, a1⟩ := at8_1 t
    funext j
    refine (congrFun h1 (((cfg8.win 1).blk t).view.emb j)).trans (eq2 (f := g) ?_ ?_)
    · blk_simp [a0] <;> omega
    · blk_simp [a1] <;> omega
  obtain ⟨o0, o1⟩ := at8_2 t
  rw [x0, x1]
  unfold out8_2
  rw [View.canon_cons_unit_zero off2, View.ld_unit_zero (S := S2048x128) off2, View.ld_unit_zero (S := S1024x2048) off2]
  rw [pay_dt]
  have y0 : (y 0).val < 1024 := (y 0).isLt
  have y1 : (y 1).val < 128 := (y 1).isLt
  refine Finset.sum_congr (M := EReal) rfl fun k hk => ?_
  refine congrArg₂ _ (eq2 (f := f) ?_ rfl) (eq2 (f := g) rfl ?_)
  · blk_simp [o0] <;> omega
  · blk_simp [o1] <;> omega

/-- The gradient of the weights of z. -/
theorem arr_z_dw (h0 : (V c main_arg5 : FVec Ideal S2048x2048 .bf16) = e2 .bf16 f)
    (h1 : (V c main_arg9 : FVec Ideal S2048x4096 .bf16) = e2 .bf16 g) :
    ((dat9 V c).arrAt 2 cfg9.N : FVec Ideal S2048x4096 .bf16) = e2 .bf16 fun i j => ∑ k ∈ range 2048, f k i * g k j := by
  refine (dat9 V c).arrAt_eq_of_covers 2 _ (by decide +kernel) fun t hf' y => ?_
  blk_simp
  rw [after9_2]
  have x0 : (iblk9 V c 0 t : FVec Ideal S2048x1024 .bf16) = e2 .bf16 fun k i => f k (t.val / 4 * 1024 + i) := by
    obtain ⟨a0, a1⟩ := at9_0 t
    funext j
    refine (congrFun h0 (((cfg9.win 0).blk t).view.emb j)).trans (eq2 (f := f) ?_ ?_)
    · blk_simp [a0] <;> omega
    · blk_simp [a1] <;> omega
  have x1 : (iblk9 V c 1 t : FVec Ideal S2048x1024 .bf16) = e2 .bf16 fun k j => g k (t.val % 4 * 1024 + j) := by
    obtain ⟨a0, a1⟩ := at9_1 t
    funext j
    refine (congrFun h1 (((cfg9.win 1).blk t).view.emb j)).trans (eq2 (f := g) ?_ ?_)
    · blk_simp [a0] <;> omega
    · blk_simp [a1] <;> omega
  obtain ⟨o0, o1⟩ := at9_2 t
  rw [x0, x1]
  unfold out9_2
  rw [View.canon_cons_unit_zero off2, View.ld_unit_zero (S := S2048x1024) off2, View.ld_unit_zero (S := S2048x1024) off2]
  rw [pay_z_dw]
  have y0 : (y 0).val < 1024 := (y 0).isLt
  have y1 : (y 1).val < 1024 := (y 1).isLt
  refine Finset.sum_congr (M := EReal) rfl fun k hk => ?_
  refine congrArg₂ _ (eq2 (f := f) rfl ?_) (eq2 (f := g) rfl ?_)
  · blk_simp [o0] <;> omega
  · blk_simp [o1] <;> omega

/-- The gradient of the weights of xbc. -/
theorem arr_xbc_dw (h0 : (V c main_arg5 : FVec Ideal S2048x2048 .bf16) = e2 .bf16 f)
    (h1 : (V c main_arg10 : FVec Ideal S2048x6144 .bf16) = e2 .bf16 g) :
    ((dat10 V c).arrAt 2 cfg10.N : FVec Ideal S2048x6144 .bf16) = e2 .bf16 fun i j => ∑ k ∈ range 2048, f k i * g k j := by
  refine (dat10 V c).arrAt_eq_of_covers 2 _ (by decide +kernel) fun t hf' y => ?_
  blk_simp
  rw [after10_2]
  have x0 : (iblk10 V c 0 t : FVec Ideal S2048x1024 .bf16) = e2 .bf16 fun k i => f k (t.val / 6 * 1024 + i) := by
    obtain ⟨a0, a1⟩ := at10_0 t
    funext j
    refine (congrFun h0 (((cfg10.win 0).blk t).view.emb j)).trans (eq2 (f := f) ?_ ?_)
    · blk_simp [a0] <;> omega
    · blk_simp [a1] <;> omega
  have x1 : (iblk10 V c 1 t : FVec Ideal S2048x1024 .bf16) = e2 .bf16 fun k j => g k (t.val % 6 * 1024 + j) := by
    obtain ⟨a0, a1⟩ := at10_1 t
    funext j
    refine (congrFun h1 (((cfg10.win 1).blk t).view.emb j)).trans (eq2 (f := g) ?_ ?_)
    · blk_simp [a0] <;> omega
    · blk_simp [a1] <;> omega
  obtain ⟨o0, o1⟩ := at10_2 t
  rw [x0, x1]
  unfold out10_2
  rw [View.canon_cons_unit_zero off2, View.ld_unit_zero (S := S2048x1024) off2, View.ld_unit_zero (S := S2048x1024) off2]
  rw [pay_xbc_dw]
  have y0 : (y 0).val < 1024 := (y 0).isLt
  have y1 : (y 1).val < 1024 := (y 1).isLt
  refine Finset.sum_congr (M := EReal) rfl fun k hk => ?_
  refine congrArg₂ _ (eq2 (f := f) rfl ?_) (eq2 (f := g) rfl ?_)
  · blk_simp [o0] <;> omega
  · blk_simp [o1] <;> omega

/-- The gradient of the weights of dt. -/
theorem arr_dt_dw (h0 : (V c main_arg5 : FVec Ideal S2048x2048 .bf16) = e2 .bf16 f)
    (h1 : (V c main_arg11 : FVec Ideal S2048x128 .bf16) = e2 .bf16 g) :
    ((dat11 V c).arrAt 2 cfg11.N : FVec Ideal S2048x128 .bf16) = e2 .bf16 fun i j => ∑ k ∈ range 2048, f k i * g k j := by
  refine (dat11 V c).arrAt_eq_of_covers 2 _ (by decide +kernel) fun t hf' y => ?_
  blk_simp
  rw [after11_2]
  have x0 : (iblk11 V c 0 t : FVec Ideal S2048x1024 .bf16) = e2 .bf16 fun k i => f k (t.val * 1024 + i) := by
    obtain ⟨a0, a1⟩ := at11_0 t
    funext j
    refine (congrFun h0 (((cfg11.win 0).blk t).view.emb j)).trans (eq2 (f := f) ?_ ?_)
    · blk_simp [a0] <;> omega
    · blk_simp [a1] <;> omega
  have x1 : (iblk11 V c 1 t : FVec Ideal S2048x128 .bf16) = e2 .bf16 fun k j => g k (j) := by
    obtain ⟨a0, a1⟩ := at11_1 t
    funext j
    refine (congrFun h1 (((cfg11.win 1).blk t).view.emb j)).trans (eq2 (f := g) ?_ ?_)
    · blk_simp [a0] <;> omega
    · blk_simp [a1] <;> omega
  obtain ⟨o0, o1⟩ := at11_2 t
  rw [x0, x1]
  unfold out11_2
  rw [View.canon_cons_unit_zero off2, View.ld_unit_zero (S := S2048x128) off2, View.ld_unit_zero (S := S2048x1024) off2]
  rw [pay_dt_dw]
  have y0 : (y 0).val < 1024 := (y 0).isLt
  have y1 : (y 1).val < 128 := (y 1).isLt
  refine Finset.sum_congr (M := EReal) rfl fun k hk => ?_
  refine congrArg₂ _ (eq2 (f := f) rfl ?_) (eq2 (f := g) rfl ?_)
  · blk_simp [o0] <;> omega
  · blk_simp [o1] <;> omega

end Proj
-- ==== Proof.ProjRun.lean ====
/- What the third program leaves in memory: every call's array, followed through the twelve calls. -/
module

public import proofs.«01_k».proof.Proof.ProjMath
public import proofs.«01_k».proof.Proof.ProjRegions

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The program runs, and every device's buffers end with the contents followed through the calls. -/
theorem contents : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => h)

end Cert.Kernel3Ideal.Gen

namespace Proj

open Idealize.ShloMosaic Idealize.ShloMosaic.TcCoe Idealize.SL.Sem
open Ffn (e2 e3)
open Cert.Kernel3Ideal Cert.Kernel3Ideal.Gen

variable (m : (ℓ : Loc nD τ sig) → Buf (Elt Ideal) ℓ) (ρ : Dev nD → PrngReg) (c : Dev nD) (a : PArgs)

/-- The arguments in memory are `a`'s. -/
structure Holds : Prop where
  n : (m ((c : Thread nD τ).loc main_arg0) : FVec Ideal S2048x2048 .bf16) = e2 .bf16 a.n
  p : (m ((c : Thread nD τ).loc main_arg1) : FVec Ideal S2048x256 .f32) = e2 .f32 a.p
  wg : (m ((c : Thread nD τ).loc main_arg2) : FVec Ideal S2048x2048 .bf16) = e2 .bf16 a.wg
  wp : (m ((c : Thread nD τ).loc main_arg3) : FVec Ideal S4x256x512 .bf16) = e3 .bf16 a.wp
  dh : (m ((c : Thread nD τ).loc main_arg4) : FVec Ideal S2048x2048 .f32) = e2 .f32 a.dh
  u : (m ((c : Thread nD τ).loc main_arg5) : FVec Ideal S2048x2048 .bf16) = e2 .bf16 a.u
  wz : (m ((c : Thread nD τ).loc main_arg6) : FVec Ideal S2048x4096 .bf16) = e2 .bf16 a.wz
  wx : (m ((c : Thread nD τ).loc main_arg7) : FVec Ideal S2048x6144 .bf16) = e2 .bf16 a.wx
  wd : (m ((c : Thread nD τ).loc main_arg8) : FVec Ideal S2048x128 .bf16) = e2 .bf16 a.wd
  dz : (m ((c : Thread nD τ).loc main_arg9) : FVec Ideal S2048x4096 .bf16) = e2 .bf16 a.dz
  dx : (m ((c : Thread nD τ).loc main_arg10) : FVec Ideal S2048x6144 .bf16) = e2 .bf16 a.dx
  dd : (m ((c : Thread nD τ).loc main_arg11) : FVec Ideal S2048x128 .bf16) = e2 .bf16 a.dd

variable {m ρ c a}

theorem v0_made (h : Holds m c a) : (W1 m ρ c (Proc.devRef .tc main_v0) : FVec Ideal S2048x2048 .f32) = e2 .f32 a.gp :=
  (W1_arr m ρ c 2).trans (arr_gate (V0 m ρ) c h.n h.wg)
theorem v1_made (h : Holds m c a) : (W2 m ρ c (Proc.devRef .tc main_v1) : FVec Ideal S2048x2048 .f32) = e2 .f32 a.pp :=
  (W2_arr m ρ c 2).trans (arr_proj (V1 m ρ) c ((W1_args m ρ c main_arg1 (by decide)).trans h.p) ((W1_args m ρ c main_arg3 (by decide)).trans h.wp))
theorem v2_0_made (h : Holds m c a) : (W3 m ρ c (Proc.devRef .tc main_v2_0) : FVec Ideal S2048x2048 .bf16) = e2 .bf16 a.dgp :=
  (W3_arr m ρ c 3).trans (arr_dgp (V2 m ρ) c ((W2_args m ρ c main_arg4 (by decide)).trans h.dh) ((W2_of m ρ c main_v0 (by decide)).trans (v0_made h)) (v1_made h))
theorem v2_1_made (h : Holds m c a) : (W3 m ρ c (Proc.devRef .tc main_v2_1) : FVec Ideal S2048x2048 .bf16) = e2 .bf16 a.dpp :=
  (W3_arr m ρ c 4).trans (arr_dpp (V2 m ρ) c ((W2_args m ρ c main_arg4 (by decide)).trans h.dh) ((W2_of m ρ c main_v0 (by decide)).trans (v0_made h)) (v1_made h))
theorem v3_made (h : Holds m c a) : (W4 m ρ c (Proc.devRef .tc main_v3) : FVec Ideal S2048x2048 .bf16) = e2 .bf16 a.dwg :=
  (W4_arr m ρ c 2).trans (arr_gate_dw (V3 m ρ) c ((W3_args m ρ c main_arg0 (by decide)).trans h.n) (v2_0_made h))
theorem v4_made (h : Holds m c a) : (W5 m ρ c (Proc.devRef .tc main_v4) : FVec Ideal S4x256x512 .bf16) = e3 .bf16 a.dwp :=
  (W5_arr m ρ c 2).trans (arr_proj_dw (V4 m ρ) c ((W4_args m ρ c main_arg1 (by decide)).trans h.p) ((W4_of m ρ c main_v2_1 (by decide)).trans (v2_1_made h)))
theorem v5_made (h : Holds m c a) : (W6 m ρ c (Proc.devRef .tc main_v5) : FVec Ideal S2048x2048 .f32) = e2 .f32 a.dn :=
  (W6_arr m ρ c 2).trans (arr_gate_dx (V5 m ρ) c (((W5_of m ρ c main_v2_0 (by decide)).trans (W4_of m ρ c main_v2_0 (by decide))).trans (v2_0_made h)) ((W5_args m ρ c main_arg2 (by decide)).trans h.wg))
theorem v6_made (h : Holds m c a) : (W7 m ρ c (Proc.devRef .tc main_v6) : FVec Ideal S2048x4096 .f32) = e2 .f32 a.z :=
  (W7_arr m ρ c 2).trans (arr_z (V6 m ρ) c ((W6_args m ρ c main_arg5 (by decide)).trans h.u) ((W6_args m ρ c main_arg6 (by decide)).trans h.wz))
theorem v7_made (h : Holds m c a) : (W8 m ρ c (Proc.devRef .tc main_v7) : FVec Ideal S2048x6144 .f32) = e2 .f32 a.xbc :=
  (W8_arr m ρ c 2).trans (arr_xbc (V7 m ρ) c ((W7_args m ρ c main_arg5 (by decide)).trans h.u) ((W7_args m ρ c main_arg7 (by decide)).trans h.wx))
theorem v8_made (h : Holds m c a) : (W9 m ρ c (Proc.devRef .tc main_v8) : FVec Ideal S2048x128 .f32) = e2 .f32 a.dt :=
  (W9_arr m ρ c 2).trans (arr_dt (V8 m ρ) c ((W8_args m ρ c main_arg5 (by decide)).trans h.u) ((W8_args m ρ c main_arg8 (by decide)).trans h.wd))
theorem v9_made (h : Holds m c a) : (W10 m ρ c (Proc.devRef .tc main_v9) : FVec Ideal S2048x4096 .bf16) = e2 .bf16 a.dwz :=
  (W10_arr m ρ c 2).trans (arr_z_dw (V9 m ρ) c ((W9_args m ρ c main_arg5 (by decide)).trans h.u) ((W9_args m ρ c main_arg9 (by decide)).trans h.dz))
theorem v10_made (h : Holds m c a) : (W11 m ρ c (Proc.devRef .tc main_v10) : FVec Ideal S2048x6144 .bf16) = e2 .bf16 a.dwx :=
  (W11_arr m ρ c 2).trans (arr_xbc_dw (V10 m ρ) c ((W10_args m ρ c main_arg5 (by decide)).trans h.u) ((W10_args m ρ c main_arg10 (by decide)).trans h.dx))
theorem v11_made (h : Holds m c a) : (W12 m ρ c (Proc.devRef .tc main_v11) : FVec Ideal S2048x128 .bf16) = e2 .bf16 a.dwd :=
  (W12_arr m ρ c 2).trans (arr_dt_dw (V11 m ρ) c ((W11_args m ρ c main_arg5 (by decide)).trans h.u) ((W11_args m ρ c main_arg11 (by decide)).trans h.dd))

/-- The program's results, and its arguments unchanged. -/
theorem results : θ_run defs (onTc (τ := τ) (main (F := Ideal))) ⟨m, fun _ => 0, ρ⟩ (fun r => ∀ c : Dev nD, ∀ a, Holds m c a →
      (r.2.mem ((c.tc : Thread nD τ).loc main_v5) : FVec Ideal S2048x2048 .f32) = e2 .f32 a.dn
      ∧ (r.2.mem ((c.tc : Thread nD τ).loc main_v3) : FVec Ideal S2048x2048 .bf16) = e2 .bf16 a.dwg
      ∧ (r.2.mem ((c.tc : Thread nD τ).loc main_v4) : FVec Ideal S4x256x512 .bf16) = e3 .bf16 a.dwp
      ∧ (r.2.mem ((c.tc : Thread nD τ).loc main_v6) : FVec Ideal S2048x4096 .f32) = e2 .f32 a.z
      ∧ (r.2.mem ((c.tc : Thread nD τ).loc main_v7) : FVec Ideal S2048x6144 .f32) = e2 .f32 a.xbc
      ∧ (r.2.mem ((c.tc : Thread nD τ).loc main_v8) : FVec Ideal S2048x128 .f32) = e2 .f32 a.dt
      ∧ (r.2.mem ((c.tc : Thread nD τ).loc main_v9) : FVec Ideal S2048x4096 .bf16) = e2 .bf16 a.dwz
      ∧ (r.2.mem ((c.tc : Thread nD τ).loc main_v10) : FVec Ideal S2048x6144 .bf16) = e2 .bf16 a.dwx
      ∧ (r.2.mem ((c.tc : Thread nD τ).loc main_v11) : FVec Ideal S2048x128 .bf16) = e2 .bf16 a.dwd
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r k c a h =>
    ⟨(k c _ (mem_uc main_v5 (by decide))).trans (((((((W12_of m ρ c main_v5 (by decide)).trans (W11_of m ρ c main_v5 (by decide))).trans (W10_of m ρ c main_v5 (by decide))).trans (W9_of m ρ c main_v5 (by decide))).trans (W8_of m ρ c main_v5 (by decide))).trans (W7_of m ρ c main_v5 (by decide))).trans (v5_made h)),
      (k c _ (mem_uc main_v3 (by decide))).trans (((((((((W12_of m ρ c main_v3 (by decide)).trans (W11_of m ρ c main_v3 (by decide))).trans (W10_of m ρ c main_v3 (by decide))).trans (W9_of m ρ c main_v3 (by decide))).trans (W8_of m ρ c main_v3 (by decide))).trans (W7_of m ρ c main_v3 (by decide))).trans (W6_of m ρ c main_v3 (by decide))).trans (W5_of m ρ c main_v3 (by decide))).trans (v3_made h)),
      (k c _ (mem_uc main_v4 (by decide))).trans ((((((((W12_of m ρ c main_v4 (by decide)).trans (W11_of m ρ c main_v4 (by decide))).trans (W10_of m ρ c main_v4 (by decide))).trans (W9_of m ρ c main_v4 (by decide))).trans (W8_of m ρ c main_v4 (by decide))).trans (W7_of m ρ c main_v4 (by decide))).trans (W6_of m ρ c main_v4 (by decide))).trans (v4_made h)),
      (k c _ (mem_uc main_v6 (by decide))).trans ((((((W12_of m ρ c main_v6 (by decide)).trans (W11_of m ρ c main_v6 (by decide))).trans (W10_of m ρ c main_v6 (by decide))).trans (W9_of m ρ c main_v6 (by decide))).trans (W8_of m ρ c main_v6 (by decide))).trans (v6_made h)),
      (k c _ (mem_uc main_v7 (by decide))).trans (((((W12_of m ρ c main_v7 (by decide)).trans (W11_of m ρ c main_v7 (by decide))).trans (W10_of m ρ c main_v7 (by decide))).trans (W9_of m ρ c main_v7 (by decide))).trans (v7_made h)),
      (k c _ (mem_uc main_v8 (by decide))).trans ((((W12_of m ρ c main_v8 (by decide)).trans (W11_of m ρ c main_v8 (by decide))).trans (W10_of m ρ c main_v8 (by decide))).trans (v8_made h)),
      (k c _ (mem_uc main_v9 (by decide))).trans (((W12_of m ρ c main_v9 (by decide)).trans (W11_of m ρ c main_v9 (by decide))).trans (v9_made h)),
      (k c _ (mem_uc main_v10 (by decide))).trans ((W12_of m ρ c main_v10 (by decide)).trans (v10_made h)),
      (k c _ (mem_uc main_v11 (by decide))).trans (v11_made h),
      (k c _ (mem_uc main_arg0 (by decide))).trans (W12_main_arg0 m ρ c),
      (k c _ (mem_uc main_arg1 (by decide))).trans (W12_main_arg1 m ρ c),
      (k c _ (mem_uc main_arg2 (by decide))).trans (W12_main_arg2 m ρ c),
      (k c _ (mem_uc main_arg3 (by decide))).trans (W12_main_arg3 m ρ c),
      (k c _ (mem_uc main_arg4 (by decide))).trans (W12_main_arg4 m ρ c),
      (k c _ (mem_uc main_arg5 (by decide))).trans (W12_main_arg5 m ρ c),
      (k c _ (mem_uc main_arg6 (by decide))).trans (W12_main_arg6 m ρ c),
      (k c _ (mem_uc main_arg7 (by decide))).trans (W12_main_arg7 m ρ c),
      (k c _ (mem_uc main_arg8 (by decide))).trans (W12_main_arg8 m ρ c),
      (k c _ (mem_uc main_arg9 (by decide))).trans (W12_main_arg9 m ρ c),
      (k c _ (mem_uc main_arg10 (by decide))).trans (W12_main_arg10 m ρ c),
      (k c _ (mem_uc main_arg11 (by decide))).trans (W12_main_arg11 m ρ c)⟩) (contents m ρ)

end Proj
-- ==== Proof.ProjRef.lean ====
/- The reference of the third program, result by result. -/
module

public import proofs.«01_k».proof.Proof.FfnRef
public import proofs.«01_k».proof.Proof.ProjMath
public import proofs.«01_k».proof.Proof.Gen.Reference3Ideal.Read

@[expose] public section

set_option maxRecDepth 16384

noncomputable section

namespace Proj

open Idealize.ShloMosaic hiding ix0 ix1 ix2 ix3 ix4 ix5 ix6 eq_ix2 eq_ix3 eq_ix4 eq_ix5
open Idealize.ShloMosaic.ValueIdx Finset
open Ffn (e2 e3 eq2 eq3 sum_fin ofBits_one)
open Cert.Reference3Ideal Cert.Reference3Ideal.Read

variable (a : PArgs)

/-- The arguments as arrays. -/
abbrev N : FVec Ideal S2048x2048 .bf16 := e2 .bf16 a.n
abbrev P : FVec Ideal S2048x256 .f32 := e2 .f32 a.p
abbrev Wg : FVec Ideal S2048x2048 .bf16 := e2 .bf16 a.wg
abbrev Wp : FVec Ideal S4x256x512 .bf16 := e3 .bf16 a.wp
abbrev Dh : FVec Ideal S2048x2048 .f32 := e2 .f32 a.dh
abbrev U : FVec Ideal S2048x2048 .bf16 := e2 .bf16 a.u
abbrev Wz : FVec Ideal S2048x4096 .bf16 := e2 .bf16 a.wz
abbrev Wx : FVec Ideal S2048x6144 .bf16 := e2 .bf16 a.wx
abbrev Wd : FVec Ideal S2048x128 .bf16 := e2 .bf16 a.wd
abbrev Dz : FVec Ideal S2048x4096 .bf16 := e2 .bf16 a.dz
abbrev Dx : FVec Ideal S2048x6144 .bf16 := e2 .bf16 a.dx
abbrev Dd : FVec Ideal S2048x128 .bf16 := e2 .bf16 a.dd

theorem val_gp (i : S2048x2048.Idx) : val_main_v1 (F := Ideal) (N a) (Wg a) i = a.gp (i 0).val (i 1).val := by
  rw [val_main_v1_apply]
  exact sum_fin (G := fun k => a.n (i 0).val k * a.wg k (i 1).val) fun k => congrArg₂ _ (val_main_v0_apply _ _) rfl

theorem val_gate (i : S2048x2048.Idx) : val_main_v7 (F := Ideal) (N a) (Wg a) i = Ffn.logistic (a.gp (i 0).val (i 1).val) := by
  rw [val_main_v7_apply, val_main_v6_apply, val_main_cst_0_apply, val_main_v5_apply, val_main_v4_apply, val_main_cst_apply,
    val_main_v3_apply, val_main_v2_apply, val_gp, ofBits_one]
  rfl

theorem val_slope (i : S2048x2048.Idx) : val_main_v10 (F := Ideal) (N a) (Wg a) i
    = Ffn.logistic (a.gp (i 0).val (i 1).val) * (1 - Ffn.logistic (a.gp (i 0).val (i 1).val)) := by
  rw [val_main_v10_apply, val_main_v9_apply, val_main_v8_apply, val_main_cst_1_apply, val_gate, ofBits_one]
  rfl

theorem val_wp (i : S256x2048.Idx) : val_main_v12 (F := Ideal) (Wp a) i = a.wp ((i 1).val / 512) (i 0).val ((i 1).val % 512) := by
  have h0 : (i 0).val < 256 := (i 0).isLt
  have h1 : (i 1).val < 2048 := (i 1).isLt
  rw [val_main_v12_apply, val_main_v11_apply]
  exact eq3 (f := a.wp) (show ((i 0).val * 2048 + (i 1).val) / 512 % 4 = (i 1).val / 512 by omega)
    (show ((i 0).val * 2048 + (i 1).val) / 2048 = (i 0).val by omega)
    (show ((i 0).val * 2048 + (i 1).val) % 512 = (i 1).val % 512 by omega)

theorem val_pp (i : S2048x2048.Idx) : val_main_v13 (F := Ideal) (P a) (Wp a) i = a.pp (i 0).val (i 1).val := by
  rw [val_main_v13_apply]
  exact sum_fin (G := fun k => a.p (i 0).val k * a.wp ((i 1).val / 512) k ((i 1).val % 512)) fun k => congrArg₂ _ rfl (val_wp a _)

theorem val_dpp (i : S2048x2048.Idx) : val_main_v15 (F := Ideal) (N a) (Wg a) (Dh a) i = a.dpp (i 0).val (i 1).val := by
  rw [val_main_v15_apply, val_gate]
  exact mul_comm _ _

theorem val_dgp (i : S2048x2048.Idx) : val_main_v22 (F := Ideal) (N a) (P a) (Wg a) (Wp a) (Dh a) i = a.dgp (i 0).val (i 1).val := by
  rw [val_main_v22_apply, val_main_v16_apply, val_pp, val_slope]
  exact (mul_assoc _ _ _).symm

/-- The gradient of the block's input. -/
theorem ref_dn : val_main_v26 (F := Ideal) (N a) (P a) (Wg a) (Wp a) (Dh a) = e2 .f32 a.dn := by
  funext i
  rw [val_main_v26_apply]
  exact sum_fin (G := fun k => a.dgp (i 0).val k * a.wg (i 1).val k) fun k => congrArg₂ _ (val_dgp a _) rfl

/-- The gradient of the gate's weights. -/
theorem ref_dwg : val_main_v25 (F := Ideal) (N a) (P a) (Wg a) (Wp a) (Dh a) = e2 .bf16 a.dwg := by
  funext i
  rw [val_main_v25_apply, val_main_v24_apply, val_main_v23_apply, Ideal.truncf_def]
  exact sum_fin (G := fun k => a.n k (i 0).val * a.dgp k (i 1).val) fun k =>
    (congrArg₂ _ (val_dgp a _) (val_main_v0_apply _ _)).trans (mul_comm _ _)

/-- The gradient of the embeddings' weights. -/
theorem ref_dwp : val_main_v21 (F := Ideal) (N a) (P a) (Wg a) (Dh a) = e3 .bf16 a.dwp := by
  funext i
  have h0 : (i 0).val < 4 := (i 0).isLt
  have h1 : (i 1).val < 256 := (i 1).isLt
  have h2 : (i 2).val < 512 := (i 2).isLt
  rw [val_main_v21_apply, val_main_v20_apply, val_main_v19_apply, val_main_v18_apply, val_main_v17_apply, Ideal.truncf_def]
  refine sum_fin (G := fun k => a.p k (i 1).val * a.dpp k ((i 0).val * 512 + (i 2).val)) fun k => ?_
  refine (congrArg₂ _ (val_dpp a _) rfl).trans ((mul_comm _ _).trans (congrArg₂ _ ?_ ?_))
  · exact eq2 (f := a.p) rfl (show (((i 1).val * 4 + (i 0).val) * 512 + (i 2).val) / 2048 = (i 1).val by omega)
  · exact eq2 (f := a.dpp) rfl (show (((i 1).val * 4 + (i 0).val) * 512 + (i 2).val) % 2048 = (i 0).val * 512 + (i 2).val by omega)

theorem ref_z : val_main_v28 (F := Ideal) (U a) (Wz a) = e2 .f32 a.z := by
  funext i
  rw [val_main_v28_apply]
  exact sum_fin (G := fun k => a.u (i 0).val k * a.wz k (i 1).val) fun k => congrArg₂ _ (val_main_v27_apply _ _) rfl

theorem ref_xbc : val_main_v30 (F := Ideal) (U a) (Wx a) = e2 .f32 a.xbc := by
  funext i
  rw [val_main_v30_apply]
  exact sum_fin (G := fun k => a.u (i 0).val k * a.wx k (i 1).val) fun k => congrArg₂ _ (val_main_v29_apply _ _) rfl

theorem ref_dt : val_main_v32 (F := Ideal) (U a) (Wd a) = e2 .f32 a.dt := by
  funext i
  rw [val_main_v32_apply]
  exact sum_fin (G := fun k => a.u (i 0).val k * a.wd k (i 1).val) fun k => congrArg₂ _ (val_main_v31_apply _ _) rfl

theorem ref_dwz : val_main_v44 (F := Ideal) (U a) (Dz a) = e2 .bf16 a.dwz := by
  funext i
  rw [val_main_v44_apply, val_main_v43_apply, val_main_v42_apply, Ideal.truncf_def]
  exact sum_fin (G := fun k => a.u k (i 0).val * a.dz k (i 1).val) fun k =>
    (congrArg₂ _ (val_main_v33_apply _ _) (val_main_v27_apply _ _)).trans (mul_comm _ _)

theorem ref_dwx : val_main_v41 (F := Ideal) (U a) (Dx a) = e2 .bf16 a.dwx := by
  funext i
  rw [val_main_v41_apply, val_main_v40_apply, val_main_v39_apply, Ideal.truncf_def]
  exact sum_fin (G := fun k => a.u k (i 0).val * a.dx k (i 1).val) fun k =>
    (congrArg₂ _ (val_main_v34_apply _ _) (val_main_v29_apply _ _)).trans (mul_comm _ _)

theorem ref_dwd : val_main_v38 (F := Ideal) (U a) (Dd a) = e2 .bf16 a.dwd := by
  funext i
  rw [val_main_v38_apply, val_main_v37_apply, val_main_v36_apply, Ideal.truncf_def]
  exact sum_fin (G := fun k => a.u k (i 0).val * a.dd k (i 1).val) fun k =>
    (congrArg₂ _ (val_main_v35_apply _ _) (val_main_v31_apply _ _)).trans (mul_comm _ _)

end Proj
-- ==== Proof.ProjClaim.lean ====
/- The third program's claim: it leaves what its reference leaves, whatever the arguments. -/
module

public import proofs.«01_k».proof.Defs
public import proofs.«01_k».proof.Proof.ProjRun
public import proofs.«01_k».proof.Proof.ProjRef
public import proofs.«01_k».proof.Proof.FfnPre

@[expose] public section

set_option maxRecDepth 16384

noncomputable section

namespace Proj

open Idealize.ShloMosaic Idealize.ShloMosaic.TcCoe Idealize.SL.Sem

/-- Any memory holds some arguments. -/
theorem holds (m : (ℓ : Loc Cert.Kernel3Ideal.nD Cert.Kernel3Ideal.τ Cert.Kernel3Ideal.sig) → Buf (Elt Ideal) ℓ) (c : Dev Cert.Kernel3Ideal.nD) : ∃ a, Holds m c a :=
  ⟨⟨Ffn.entry2 (m ((c : Thread Cert.Kernel3Ideal.nD Cert.Kernel3Ideal.τ).loc Cert.Kernel3Ideal.main_arg0)), Ffn.entry2 (m ((c : Thread Cert.Kernel3Ideal.nD Cert.Kernel3Ideal.τ).loc Cert.Kernel3Ideal.main_arg1)), Ffn.entry2 (m ((c : Thread Cert.Kernel3Ideal.nD Cert.Kernel3Ideal.τ).loc Cert.Kernel3Ideal.main_arg2)), Ffn.entry3 (m ((c : Thread Cert.Kernel3Ideal.nD Cert.Kernel3Ideal.τ).loc Cert.Kernel3Ideal.main_arg3)), Ffn.entry2 (m ((c : Thread Cert.Kernel3Ideal.nD Cert.Kernel3Ideal.τ).loc Cert.Kernel3Ideal.main_arg4)), Ffn.entry2 (m ((c : Thread Cert.Kernel3Ideal.nD Cert.Kernel3Ideal.τ).loc Cert.Kernel3Ideal.main_arg5)), Ffn.entry2 (m ((c : Thread Cert.Kernel3Ideal.nD Cert.Kernel3Ideal.τ).loc Cert.Kernel3Ideal.main_arg6)), Ffn.entry2 (m ((c : Thread Cert.Kernel3Ideal.nD Cert.Kernel3Ideal.τ).loc Cert.Kernel3Ideal.main_arg7)), Ffn.entry2 (m ((c : Thread Cert.Kernel3Ideal.nD Cert.Kernel3Ideal.τ).loc Cert.Kernel3Ideal.main_arg8)), Ffn.entry2 (m ((c : Thread Cert.Kernel3Ideal.nD Cert.Kernel3Ideal.τ).loc Cert.Kernel3Ideal.main_arg9)), Ffn.entry2 (m ((c : Thread Cert.Kernel3Ideal.nD Cert.Kernel3Ideal.τ).loc Cert.Kernel3Ideal.main_arg10)), Ffn.entry2 (m ((c : Thread Cert.Kernel3Ideal.nD Cert.Kernel3Ideal.τ).loc Cert.Kernel3Ideal.main_arg11))⟩,
    ⟨Ffn.eq_e2 _ _, Ffn.eq_e2 _ _, Ffn.eq_e2 _ _, Ffn.eq_e3 _ _, Ffn.eq_e2 _ _, Ffn.eq_e2 _ _, Ffn.eq_e2 _ _, Ffn.eq_e2 _ _, Ffn.eq_e2 _ _, Ffn.eq_e2 _ _, Ffn.eq_e2 _ _, Ffn.eq_e2 _ _⟩⟩

theorem reference_frame : Cert.quiescent_Reference3Ideal (hReference3Ideal := Cert.Reference3Ideal.Gen.facts) := fun m ρ _ =>
  (θ_run _ _ _).mono (fun r h => ⟨fun c => (h c).2.2.2.2.2.2.2.2.2, sem_eq_zero_of_no_sems rfl r.2⟩) (Cert.Reference3Ideal.Value.run m ρ)

theorem algebraic : Cert.algebraic_Kernel3Ideal_Reference3Ideal (hKernel3Ideal := Cert.Kernel3Ideal.Gen.facts) (hReference3Ideal := Cert.Reference3Ideal.Gen.facts) := by
  intro m g m' g' _ hm
  refine ⟨fun c => Cert.Reference3Ideal.Read.val_main_v26 (F := Ideal) (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)),
    fun c => Cert.Reference3Ideal.Read.val_main_v25 (F := Ideal) (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)),
    fun c => Cert.Reference3Ideal.Read.val_main_v21 (F := Ideal) (m (c.tc.loc Cert.Kernel3Ideal.main_arg0)) (m (c.tc.loc Cert.Kernel3Ideal.main_arg1)) (m (c.tc.loc Cert.Kernel3Ideal.main_arg2)) (m (c.tc.loc Cert.Kernel3Ideal.main_arg4)),
    fun c => Cert.Reference3Ideal.Read.val_main_v28 (F := Ideal) (m (c.tc.loc Cert.Kernel3Ideal.main_arg5)) (m (c.tc.loc Cert.Kernel3Ideal.main_arg6)),
    fun c => Cert.Reference3Ideal.Read.val_main_v30 (F := Ideal) (m (c.tc.loc Cert.Kernel3Ideal.main_arg5)) (m (c.tc.loc Cert.Kernel3Ideal.main_arg7)),
    fun c => Cert.Reference3Ideal.Read.val_main_v32 (F := Ideal) (m (c.tc.loc Cert.Kernel3Ideal.main_arg5)) (m (c.tc.loc Cert.Kernel3Ideal.main_arg8)),
    fun c => Cert.Reference3Ideal.Read.val_main_v44 (F := Ideal) (m (c.tc.loc Cert.Kernel3Ideal.main_arg5)) (m (c.tc.loc Cert.Kernel3Ideal.main_arg9)),
    fun c => Cert.Reference3Ideal.Read.val_main_v41 (F := Ideal) (m (c.tc.loc Cert.Kernel3Ideal.main_arg5)) (m (c.tc.loc Cert.Kernel3Ideal.main_arg10)),
    fun c => Cert.Reference3Ideal.Read.val_main_v38 (F := Ideal) (m (c.tc.loc Cert.Kernel3Ideal.main_arg5)) (m (c.tc.loc Cert.Kernel3Ideal.main_arg11)), ?_, ?_⟩
  · refine (θ_run _ _ _).mono (fun r h c => ?_) (results (m := m) (ρ := g))
    obtain ⟨a, H⟩ := holds m c
    obtain ⟨h0, h1, h2, h3, h4, h5, h6, h7, h8, k⟩ := h c a H
    refine ⟨h0.trans ?_, h1.trans ?_, h2.trans ?_, h3.trans ?_, h4.trans ?_, h5.trans ?_, h6.trans ?_, h7.trans ?_, h8.trans ?_, k⟩
    · beta_reduce
      rw [H.n, H.p, H.wg, H.wp, H.dh]
      exact (ref_dn a).symm
    · beta_reduce
      rw [H.n, H.p, H.wg, H.wp, H.dh]
      exact (ref_dwg a).symm
    · beta_reduce
      rw [H.n, H.p, H.wg, H.dh]
      exact (ref_dwp a).symm
    · beta_reduce
      rw [H.u, H.wz]
      exact (ref_z a).symm
    · beta_reduce
      rw [H.u, H.wx]
      exact (ref_xbc a).symm
    · beta_reduce
      rw [H.u, H.wd]
      exact (ref_dt a).symm
    · beta_reduce
      rw [H.u, H.dz]
      exact (ref_dwz a).symm
    · beta_reduce
      rw [H.u, H.dx]
      exact (ref_dwx a).symm
    · beta_reduce
      rw [H.u, H.dd]
      exact (ref_dwd a).symm
  · refine (θ_run _ _ _).mono (fun r h c => ?_) (Cert.Reference3Ideal.Value.run m' g')
    obtain ⟨h0, h1, h2, h3, h4, h5, h6, h7, h8, k⟩ := h c
    obtain ⟨e0, e1, e2, e3, e4, e5, e6, e7, e8, e9, e10, e11⟩ := hm c
    refine ⟨(h0.trans (Cert.Reference3Ideal.Read.val_main_v26_eq (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)))).trans ?_,
      (h1.trans (Cert.Reference3Ideal.Read.val_main_v25_eq (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)))).trans ?_,
      (h2.trans (Cert.Reference3Ideal.Read.val_main_v21_eq (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg4)))).trans ?_,
      (h3.trans (Cert.Reference3Ideal.Read.val_main_v28_eq (F := Ideal) (m' (c.tc.loc Cert.Reference3Ideal.main_arg5)) (m' (c.tc.loc Cert.Reference3Ideal.main_arg6)))).trans ?_,
      (h4.trans (Cert.Reference3Ideal.Read.val_main_v30_eq (F := Ideal) (m' (c.tc.loc Cert.Reference3Ideal.main_arg5)) (m' (c.tc.loc Cert.Reference3Ideal.main_arg7)))).trans ?_,
      (h5.trans (Cert.Reference3Ideal.Read.val_main_v32_eq (F := Ideal) (m' (c.tc.loc Cert.Reference3Ideal.main_arg5)) (m' (c.tc.loc Cert.Reference3Ideal.main_arg8)))).trans ?_,
      (h6.trans (Cert.Reference3Ideal.Read.val_main_v44_eq (F := Ideal) (m' (c.tc.loc Cert.Reference3Ideal.main_arg5)) (m' (c.tc.loc Cert.Reference3Ideal.main_arg9)))).trans ?_,
      (h7.trans (Cert.Reference3Ideal.Read.val_main_v41_eq (F := Ideal) (m' (c.tc.loc Cert.Reference3Ideal.main_arg5)) (m' (c.tc.loc Cert.Reference3Ideal.main_arg10)))).trans ?_,
      (h8.trans (Cert.Reference3Ideal.Read.val_main_v38_eq (F := Ideal) (m' (c.tc.loc Cert.Reference3Ideal.main_arg5)) (m' (c.tc.loc Cert.Reference3Ideal.main_arg11)))).trans ?_, k⟩
    · beta_reduce
      rw [e0, e1, e2, e3, e4]
    · beta_reduce
      rw [e0, e1, e2, e3, e4]
    · beta_reduce
      rw [e0, e1, e2, e4]
    · beta_reduce
      rw [e5, e6]
    · beta_reduce
      rw [e5, e7]
    · beta_reduce
      rw [e5, e8]
    · beta_reduce
      rw [e5, e9]
    · beta_reduce
      rw [e5, e10]
    · beta_reduce
      rw [e5, e11]

end Proj
-- ==== Proof.MixMath.lean ====
/- The mixers' projections out and the recurrent mixer's projections in, forward and backward, as functions of natural numbers. -/
module

public import Idealize.ShloMosaic.PureOps.Ideal

@[expose] public section

noncomputable section

namespace Mix

open Idealize.ShloMosaic Finset

/-- The arguments. Of the recurrent mixer: its input `u`, the weights `wx` and `wy` of its projections (in two chips' parts), what
    it projects out `y`, the weights `wo`, the layer's input `h`, and the gradients `dh`, `dx`, `dy` of the layer's result and of
    the two projections. Of the state-space mixer: what it projects out `yn`, the weights `wb`, the gradient `db`. -/
structure MArgs where
  u : ℕ → ℕ → EReal
  wx : ℕ → ℕ → ℕ → EReal
  wy : ℕ → ℕ → ℕ → EReal
  y : ℕ → ℕ → EReal
  wo : ℕ → ℕ → EReal
  h : ℕ → ℕ → EReal
  dh : ℕ → ℕ → EReal
  dx : ℕ → ℕ → EReal
  dy : ℕ → ℕ → EReal
  yn : ℕ → ℕ → EReal
  wb : ℕ → ℕ → EReal
  db : ℕ → ℕ → EReal

namespace MArgs
variable (a : MArgs)

/-- The recurrent mixer's projections in. -/
def px (i j : ℕ) : EReal := ∑ k ∈ range 2048, a.u i k * a.wx (j / 1024) k (j % 1024)
def py (i j : ℕ) : EReal := ∑ k ∈ range 2048, a.u i k * a.wy (j / 1024) k (j % 1024)
/-- Its projection out, added to the layer's input. -/
def out (i j : ℕ) : EReal := (∑ k ∈ range 2048, a.y i k * a.wo k j) + a.h i j
/-- The gradients of its output's weights, of what it projects out, and of its projections' weights. -/
def dwo (i j : ℕ) : EReal := ∑ k ∈ range 2048, a.y k i * a.dh k j
def dout (i j : ℕ) : EReal := ∑ k ∈ range 2048, a.dh i k * a.wo j k
def dwx (s i j : ℕ) : EReal := ∑ k ∈ range 2048, a.u k i * a.dx k (s * 1024 + j)
def dwy (s i j : ℕ) : EReal := ∑ k ∈ range 2048, a.u k i * a.dy k (s * 1024 + j)
/-- The same of the state-space mixer's projection out. -/
def dwb (i j : ℕ) : EReal := ∑ k ∈ range 2048, a.yn k i * a.db k j
def dyn (i j : ℕ) : EReal := ∑ k ∈ range 2048, a.db i k * a.wb j k

end MArgs

end Mix
-- ==== Proof.MixLift.lean ====
/- What each call of the fourth program makes of its blocks: the products of the mixers' projections. -/
module

public import proofs.«01_k».proof.Proof.FfnLift
public import proofs.«01_k».proof.Proof.Gen.Kernel4Ideal.Skeleton
public import Idealize.ShloMosaic.Lib.Pointwise

@[expose] public section

set_option maxRecDepth 16384

noncomputable section

namespace Mix

open Idealize.ShloMosaic hiding ix0 ix1 ix2 ix3 ix4 ix5 ix6 eq_ix2 eq_ix3 eq_ix4 eq_ix5
open Idealize.ShloMosaic.ValueIdx Finset
open Ffn Cert.Kernel4Ideal Cert.Kernel4Ideal.Gen

variable (f g h : ℕ → ℕ → EReal) (w : ℕ → ℕ → ℕ → EReal)

/-- A product with a part of the weights; the next call has the same text. -/
theorem pay_x : k0_pay1 (F := Ideal) (e3 .bf16 w) (e2 .bf16 f) = e2 .f32 fun i j => ∑ k ∈ range 2048, f i k * w 0 k j := by
  funext j
  idx_vars j
  unfold k0_pay1
  pointwise
  simp only [e2, e3, Finset.sum_range]
  simp

theorem pay_y : k1_pay1 (F := Ideal) (e3 .bf16 w) (e2 .bf16 f) = e2 .f32 fun i j => ∑ k ∈ range 2048, f i k * w 0 k j := pay_x f w

theorem pay_out : k2_pay1 (F := Ideal) (e2 .bf16 g) (e2 .bf16 f) (e2 .f32 h) = e2 .f32 fun i j => (∑ k ∈ range 2048, f i k * g k j) + h i j := by
  funext j
  idx_vars j
  unfold k2_pay1
  pointwise
  simp only [e2, e3, Finset.sum_range]
  simp

/-- The gradient of an output projection's weights; a later call has the same text. -/
theorem pay_out_dw : k3_pay1 (F := Ideal) (e2 .f32 g) (e2 .bf16 f) = e2 .bf16 fun i j => ∑ k ∈ range 2048, f k i * g k j := by
  funext j
  idx_vars j
  unfold k3_pay1
  pointwise
  simp only [e2, e3, Finset.sum_range]
  simp

theorem pay_ssd_dw : k7_pay1 (F := Ideal) (e2 .f32 g) (e2 .bf16 f) = e2 .bf16 fun i j => ∑ k ∈ range 2048, f k i * g k j := pay_out_dw f g

/-- The gradient of an output projection's input; a later call has the same text. -/
theorem pay_out_dx : k4_pay1 (F := Ideal) (e2 .bf16 g) (e2 .f32 f) = e2 .f32 fun i j => ∑ k ∈ range 2048, f i k * g j k := by
  funext j
  idx_vars j
  unfold k4_pay1
  pointwise
  simp only [e2, e3, Finset.sum_range]
  simp

theorem pay_ssd_dx : k8_pay1 (F := Ideal) (e2 .bf16 g) (e2 .f32 f) = e2 .f32 fun i j => ∑ k ∈ range 2048, f i k * g j k := pay_out_dx f g

/-- The gradient of a part of the weights; the next call has the same text. -/
theorem pay_x_dw : k5_pay1 (F := Ideal) (e2 .bf16 g) (e2 .bf16 f) = e3 .bf16 fun _ i j => ∑ k ∈ range 2048, f k i * g k j := by
  funext j
  idx_vars j
  unfold k5_pay1
  pointwise
  simp only [e2, e3, Finset.sum_range]
  simp

theorem pay_y_dw : k6_pay1 (F := Ideal) (e2 .bf16 g) (e2 .bf16 f) = e3 .bf16 fun _ i j => ∑ k ∈ range 2048, f k i * g k j := pay_x_dw f g

end Mix
-- ==== Proof.MixRegions.lean ====
/- The array each call of the fourth program writes, from the arrays it reads. -/
module

public import proofs.«01_k».proof.Proof.FfnRegions
public import proofs.«01_k».proof.Proof.MixLift
public import proofs.«01_k».proof.Proof.Gen.Kernel4Ideal.Frame
public import Idealize.ShloMosaic.Lib.Pipeline.ValueKit

@[expose] public section

set_option maxRecDepth 16384

noncomputable section

namespace Mix

open Idealize.ShloMosaic hiding ix0 ix1 ix2 ix3 ix4 ix5 ix6 eq_ix2 eq_ix3 eq_ix4 eq_ix5
open Idealize.ShloMosaic.ValueIdx Finset
open Ffn (e2 e3 eq2 eq3 off2 off3)
open Cert.Kernel4Ideal Cert.Kernel4Ideal.Gen Idealize.SL.Sem
open Idealize.ShloMosaic.TcCoe

variable (V : (c : Dev nD) → (b : Ref sig .tc) → Buf (Elt Ideal) ((c : Thread nD τ).loc b)) (c : Dev nD)
variable {f g h : ℕ → ℕ → EReal} {w : ℕ → ℕ → ℕ → EReal}

/- Which block of its array a window shows at point `t`. -/

theorem at0_0 : ∀ t : Fin grid0.N, win0_0.index t 0 = t.val / 2 ∧ win0_0.index t 1 = 0 := by decide +kernel
theorem at0_1 : ∀ t : Fin grid0.N, win0_1.index t 0 = t.val % 2 ∧ win0_1.index t 1 = 0 ∧ win0_1.index t 2 = 0 := by decide +kernel
theorem at0_2 : ∀ t : Fin grid0.N, win0_2.index t 0 = t.val / 2 ∧ win0_2.index t 1 = t.val % 2 := by decide +kernel
theorem at1_0 : ∀ t : Fin grid1.N, win1_0.index t 0 = t.val / 2 ∧ win1_0.index t 1 = 0 := by decide +kernel
theorem at1_1 : ∀ t : Fin grid1.N, win1_1.index t 0 = t.val % 2 ∧ win1_1.index t 1 = 0 ∧ win1_1.index t 2 = 0 := by decide +kernel
theorem at1_2 : ∀ t : Fin grid1.N, win1_2.index t 0 = t.val / 2 ∧ win1_2.index t 1 = t.val % 2 := by decide +kernel
theorem at2_0 : ∀ t : Fin grid2.N, win2_0.index t 0 = t.val / 2 ∧ win2_0.index t 1 = 0 := by decide +kernel
theorem at2_1 : ∀ t : Fin grid2.N, win2_1.index t 0 = 0 ∧ win2_1.index t 1 = t.val % 2 := by decide +kernel
theorem at2_2 : ∀ t : Fin grid2.N, win2_2.index t 0 = t.val / 2 ∧ win2_2.index t 1 = t.val % 2 := by decide +kernel
theorem at2_3 : ∀ t : Fin grid2.N, win2_3.index t 0 = t.val / 2 ∧ win2_3.index t 1 = t.val % 2 := by decide +kernel
theorem at3_0 : ∀ t : Fin grid3.N, win3_0.index t 0 = 0 ∧ win3_0.index t 1 = t.val / 2 := by decide +kernel
theorem at3_1 : ∀ t : Fin grid3.N, win3_1.index t 0 = 0 ∧ win3_1.index t 1 = t.val % 2 := by decide +kernel
theorem at3_2 : ∀ t : Fin grid3.N, win3_2.index t 0 = t.val / 2 ∧ win3_2.index t 1 = t.val % 2 := by decide +kernel
theorem at4_0 : ∀ t : Fin grid4.N, win4_0.index t 0 = t.val / 2 ∧ win4_0.index t 1 = 0 := by decide +kernel
theorem at4_1 : ∀ t : Fin grid4.N, win4_1.index t 0 = t.val % 2 ∧ win4_1.index t 1 = 0 := by decide +kernel
theorem at4_2 : ∀ t : Fin grid4.N, win4_2.index t 0 = t.val / 2 ∧ win4_2.index t 1 = t.val % 2 := by decide +kernel
theorem at5_0 : ∀ t : Fin grid5.N, win5_0.index t 0 = 0 ∧ win5_0.index t 1 = t.val / 2 := by decide +kernel
theorem at5_1 : ∀ t : Fin grid5.N, win5_1.index t 0 = 0 ∧ win5_1.index t 1 = t.val % 2 := by decide +kernel
theorem at5_2 : ∀ t : Fin grid5.N, win5_2.index t 0 = t.val % 2 ∧ win5_2.index t 1 = t.val / 2 ∧ win5_2.index t 2 = 0 := by decide +kernel
theorem at6_0 : ∀ t : Fin grid6.N, win6_0.index t 0 = 0 ∧ win6_0.index t 1 = t.val / 2 := by decide +kernel
theorem at6_1 : ∀ t : Fin grid6.N, win6_1.index t 0 = 0 ∧ win6_1.index t 1 = t.val % 2 := by decide +kernel
theorem at6_2 : ∀ t : Fin grid6.N, win6_2.index t 0 = t.val % 2 ∧ win6_2.index t 1 = t.val / 2 ∧ win6_2.index t 2 = 0 := by decide +kernel
theorem at7_0 : ∀ t : Fin grid7.N, win7_0.index t 0 = 0 ∧ win7_0.index t 1 = t.val / 2 := by decide +kernel
theorem at7_1 : ∀ t : Fin grid7.N, win7_1.index t 0 = 0 ∧ win7_1.index t 1 = t.val % 2 := by decide +kernel
theorem at7_2 : ∀ t : Fin grid7.N, win7_2.index t 0 = t.val / 2 ∧ win7_2.index t 1 = t.val % 2 := by decide +kernel
theorem at8_0 : ∀ t : Fin grid8.N, win8_0.index t 0 = t.val / 4 ∧ win8_0.index t 1 = 0 := by decide +kernel
theorem at8_1 : ∀ t : Fin grid8.N, win8_1.index t 0 = t.val % 4 ∧ win8_1.index t 1 = 0 := by decide +kernel
theorem at8_2 : ∀ t : Fin grid8.N, win8_2.index t 0 = t.val / 4 ∧ win8_2.index t 1 = t.val % 4 := by decide +kernel

/-- The recurrence's input, by weights whose columns two chips' parts hold side by side. -/
theorem arr_x (h0 : (V c main_arg0 : FVec Ideal S2048x2048 .bf16) = e2 .bf16 f)
    (h1 : (V c main_arg1 : FVec Ideal S2x2048x1024 .bf16) = e3 .bf16 w) :
    ((dat0 V c).arrAt 2 cfg0.N : FVec Ideal S2048x2048 .f32) = e2 .f32 fun i j => ∑ k ∈ range 2048, f i k * w (j / 1024) k (j % 1024) := by
  refine (dat0 V c).arrAt_eq_of_covers 2 _ (by decide +kernel) fun t hf' y => ?_
  blk_simp
  rw [after0_2]
  have x0 : (iblk0 V c 0 t : FVec Ideal S1024x2048 .bf16) = e2 .bf16 fun i k => f (t.val / 2 * 1024 + i) k := by
    obtain ⟨a0, a1⟩ := at0_0 t
    funext j
    refine (congrFun h0 (((cfg0.win 0).blk t).view.emb j)).trans (eq2 (f := f) ?_ ?_)
    · blk_simp [a0] <;> omega
    · blk_simp [a1] <;> omega
  have x1 : (iblk0 V c 1 t : FVec Ideal S1x2048x1024 .bf16) = e3 .bf16 fun _ k j => w (t.val % 2) k j := by
    obtain ⟨a0, a1, a2⟩ := at0_1 t
    funext j
    refine (congrFun h1 (((cfg0.win 1).blk t).view.emb j)).trans (eq3 (f := w) ?_ ?_ ?_)
    · blk_simp [a0] <;> omega
    · blk_simp [a1] <;> omega
    · blk_simp [a2] <;> omega
  obtain ⟨o0, o1⟩ := at0_2 t
  rw [x0, x1]
  unfold out0_2
  rw [View.canon_cons_unit_zero off2, View.ld_unit_zero (S := S1x2048x1024) off3, View.ld_unit_zero (S := S1024x2048) off2]
  rw [pay_x]
  have y0 : (y 0).val < 1024 := (y 0).isLt
  have y1 : (y 1).val < 1024 := (y 1).isLt
  refine Finset.sum_congr (M := EReal) rfl fun k hk => ?_
  refine congrArg₂ _ (eq2 (f := f) ?_ rfl) (eq3 (f := w) ?_ rfl ?_)
  · blk_simp [o0] <;> omega
  · blk_simp [o1] <;> omega
  · blk_simp [o1] <;> omega

/-- The gate's input, by weights whose columns two chips' parts hold side by side. -/
theorem arr_y (h0 : (V c main_arg0 : FVec Ideal S2048x2048 .bf16) = e2 .bf16 f)
    (h1 : (V c main_arg2 : FVec Ideal S2x2048x1024 .bf16) = e3 .bf16 w) :
    ((dat1 V c).arrAt 2 cfg1.N : FVec Ideal S2048x2048 .f32) = e2 .f32 fun i j => ∑ k ∈ range 2048, f i k * w (j / 1024) k (j % 1024) := by
  refine (dat1 V c).arrAt_eq_of_covers 2 _ (by decide +kernel) fun t hf' y => ?_
  blk_simp
  rw [after1_2]
  have x0 : (iblk1 V c 0 t : FVec Ideal S1024x2048 .bf16) = e2 .bf16 fun i k => f (t.val / 2 * 1024 + i) k := by
    obtain ⟨a0, a1⟩ := at1_0 t
    funext j
    refine (congrFun h0 (((cfg1.win 0).blk t).view.emb j)).trans (eq2 (f := f) ?_ ?_)
    · blk_simp [a0] <;> omega
    · blk_simp [a1] <;> omega
  have x1 : (iblk1 V c 1 t : FVec Ideal S1x2048x1024 .bf16) = e3 .bf16 fun _ k j => w (t.val % 2) k j := by
    obtain ⟨a0, a1, a2⟩ := at1_1 t
    funext j
    refine (congrFun h1 (((cfg1.win 1).blk t).view.emb j)).trans (eq3 (f := w) ?_ ?_ ?_)
    · blk_simp [a0] <;> omega
    · blk_simp [a1] <;> omega
    · blk_simp [a2] <;> omega
  obtain ⟨o0, o1⟩ := at1_2 t
  rw [x0, x1]
  unfold out1_2
  rw [View.canon_cons_unit_zero off2, View.ld_unit_zero (S := S1x2048x1024) off3, View.ld_unit_zero (S := S1024x2048) off2]
  rw [pay_y]
  have y0 : (y 0).val < 1024 := (y 0).isLt
  have y1 : (y 1).val < 1024 := (y 1).isLt
  refine Finset.sum_congr (M := EReal) rfl fun k hk => ?_
  refine congrArg₂ _ (eq2 (f := f) ?_ rfl) (eq3 (f := w) ?_ rfl ?_)
  · blk_simp [o0] <;> omega
  · blk_simp [o1] <;> omega
  · blk_simp [o1] <;> omega

/-- The recurrent mixer's output projection, added to the layer's input. -/
theorem arr_out (h0 : (V c main_arg3 : FVec Ideal S2048x2048 .bf16) = e2 .bf16 f)
    (h1 : (V c main_arg4 : FVec Ideal S2048x2048 .bf16) = e2 .bf16 g)
    (h2 : (V c main_arg5 : FVec Ideal S2048x2048 .f32) = e2 .f32 h) :
    ((dat2 V c).arrAt 3 cfg2.N : FVec Ideal S2048x2048 .f32) = e2 .f32 fun i j => (∑ k ∈ range 2048, f i k * g k j) + h i j := by
  refine (dat2 V c).arrAt_eq_of_covers 3 _ (by decide +kernel) fun t hf' y => ?_
  blk_simp
  rw [after2_3]
  have x0 : (iblk2 V c 0 t : FVec Ideal S1024x2048 .bf16) = e2 .bf16 fun i k => f (t.val / 2 * 1024 + i) k := by
    obtain ⟨a0, a1⟩ := at2_0 t
    funext j
    refine (congrFun h0 (((cfg2.win 0).blk t).view.emb j)).trans (eq2 (f := f) ?_ ?_)
    · blk_simp [a0] <;> omega
    · blk_simp [a1] <;> omega
  have x1 : (iblk2 V c 1 t : FVec Ideal S2048x1024 .bf16) = e2 .bf16 fun k j => g k (t.val % 2 * 1024 + j) := by
    obtain ⟨a0, a1⟩ := at2_1 t
    funext j
    refine (congrFun h1 (((cfg2.win 1).blk t).view.emb j)).trans (eq2 (f := g) ?_ ?_)
    · blk_simp [a0] <;> omega
    · blk_simp [a1] <;> omega
  have x2 : (iblk2 V c 2 t : FVec Ideal S1024x1024 .f32) = e2 .f32 fun i j => h (t.val / 2 * 1024 + i) (t.val % 2 * 1024 + j) := by
    obtain ⟨a0, a1⟩ := at2_2 t
    funext j
    refine (congrFun h2 (((cfg2.win 2).blk t).view.emb j)).trans (eq2 (f := h) ?_ ?_)
    · blk_simp [a0] <;> omega
    · blk_simp [a1] <;> omega
  obtain ⟨o0, o1⟩ := at2_3 t
  rw [x0, x1, x2]
  unfold out2_3
  rw [View.canon_cons_unit_zero off2, View.ld_unit_zero (S := S2048x1024) off2, View.ld_unit_zero (S := S1024x2048) off2, View.ld_unit_zero (S := S1024x1024) off2]
  rw [pay_out]
  have y0 : (y 0).val < 1024 := (y 0).isLt
  have y1 : (y 1).val < 1024 := (y 1).isLt
  refine congrArg₂ _ (Finset.sum_congr (M := EReal) rfl fun k hk => congrArg₂ _ (eq2 (f := f) ?_ rfl) (eq2 (f := g) rfl ?_)) (eq2 (f := h) ?_ ?_)
  · blk_simp [o0] <;> omega
  · blk_simp [o1] <;> omega
  · blk_simp [o0] <;> omega
  · blk_simp [o1] <;> omega

/-- The gradient of the recurrent mixer's output weights. -/
theorem arr_out_dw (h0 : (V c main_arg3 : FVec Ideal S2048x2048 .bf16) = e2 .bf16 f)
    (h1 : (V c main_arg6 : FVec Ideal S2048x2048 .f32) = e2 .f32 g) :
    ((dat3 V c).arrAt 2 cfg3.N : FVec Ideal S2048x2048 .bf16) = e2 .bf16 fun i j => ∑ k ∈ range 2048, f k i * g k j := by
  refine (dat3 V c).arrAt_eq_of_covers 2 _ (by decide +kernel) fun t hf' y => ?_
  blk_simp
  rw [after3_2]
  have x0 : (iblk3 V c 0 t : FVec Ideal S2048x1024 .bf16) = e2 .bf16 fun k i => f k (t.val / 2 * 1024 + i) := by
    obtain ⟨a0, a1⟩ := at3_0 t
    funext j
    refine (congrFun h0 (((cfg3.win 0).blk t).view.emb j)).trans (eq2 (f := f) ?_ ?_)
    · blk_simp [a0] <;> omega
    · blk_simp [a1] <;> omega
  have x1 : (iblk3 V c 1 t : FVec Ideal S2048x1024 .f32) = e2 .f32 fun k j => g k (t.val % 2 * 1024 + j) := by
    obtain ⟨a0, a1⟩ := at3_1 t
    funext j
    refine (congrFun h1 (((cfg3.win 1).blk t).view.emb j)).trans (eq2 (f := g) ?_ ?_)
    · blk_simp [a0] <;> omega
    · blk_simp [a1] <;> omega
  obtain ⟨o0, o1⟩ := at3_2 t
  rw [x0, x1]
  unfold out3_2
  rw [View.canon_cons_unit_zero off2, View.ld_unit_zero (S := S2048x1024) off2, View.ld_unit_zero (S := S2048x1024) off2]
  rw [pay_out_dw]
  have y0 : (y 0).val < 1024 := (y 0).isLt
  have y1 : (y 1).val < 1024 := (y 1).isLt
  refine Finset.sum_congr (M := EReal) rfl fun k hk => ?_
  refine congrArg₂ _ (eq2 (f := f) rfl ?_) (eq2 (f := g) rfl ?_)
  · blk_simp [o0] <;> omega
  · blk_simp [o1] <;> omega

/-- The gradient of the recurrent mixer's result. -/
theorem arr_out_dx (h0 : (V c main_arg6 : FVec Ideal S2048x2048 .f32) = e2 .f32 f)
    (h1 : (V c main_arg4 : FVec Ideal S2048x2048 .bf16) = e2 .bf16 g) :
    ((dat4 V c).arrAt 2 cfg4.N : FVec Ideal S2048x2048 .f32) = e2 .f32 fun i j => ∑ k ∈ range 2048, f i k * g j k := by
  refine (dat4 V c).arrAt_eq_of_covers 2 _ (by decide +kernel) fun t hf' y => ?_
  blk_simp
  rw [after4_2]
  have x0 : (iblk4 V c 0 t : FVec Ideal S1024x2048 .f32) = e2 .f32 fun i k => f (t.val / 2 * 1024 + i) k := by
    obtain ⟨a0, a1⟩ := at4_0 t
    funext j
    refine (congrFun h0 (((cfg4.win 0).blk t).view.emb j)).trans (eq2 (f := f) ?_ ?_)
    · blk_simp [a0] <;> omega
    · blk_simp [a1] <;> omega
  have x1 : (iblk4 V c 1 t : FVec Ideal S1024x2048 .bf16) = e2 .bf16 fun j k => g (t.val % 2 * 1024 + j) k := by
    obtain ⟨a0, a1⟩ := at4_1 t
    funext j
    refine (congrFun h1 (((cfg4.win 1).blk t).view.emb j)).trans (eq2 (f := g) ?_ ?_)
    · blk_simp [a0] <;> omega
    · blk_simp [a1] <;> omega
  obtain ⟨o0, o1⟩ := at4_2 t
  rw [x0, x1]
  unfold out4_2
  rw [View.canon_cons_unit_zero off2, View.ld_unit_zero (S := S1024x2048) off2, View.ld_unit_zero (S := S1024x2048) off2]
  rw [pay_out_dx]
  have y0 : (y 0).val < 1024 := (y 0).isLt
  have y1 : (y 1).val < 1024 := (y 1).isLt
  refine Finset.sum_congr (M := EReal) rfl fun k hk => ?_
  refine congrArg₂ _ (eq2 (f := f) ?_ rfl) (eq2 (f := g) ?_ rfl)
  · blk_simp [o0] <;> omega
  · blk_simp [o1] <;> omega

/-- The gradient of the weights of x, in the two chips' parts. -/
theorem arr_x_dw (h0 : (V c main_arg0 : FVec Ideal S2048x2048 .bf16) = e2 .bf16 f)
    (h1 : (V c main_arg7 : FVec Ideal S2048x2048 .bf16) = e2 .bf16 g) :
    ((dat5 V c).arrAt 2 cfg5.N : FVec Ideal S2x2048x1024 .bf16) = e3 .bf16 fun s i j => ∑ k ∈ range 2048, f k i * g k (s * 1024 + j) := by
  refine (dat5 V c).arrAt_eq_of_covers 2 _ (by decide +kernel) fun t hf' y => ?_
  blk_simp
  rw [after5_2]
  have x0 : (iblk5 V c 0 t : FVec Ideal S2048x1024 .bf16) = e2 .bf16 fun k i => f k (t.val / 2 * 1024 + i) := by
    obtain ⟨a0, a1⟩ := at5_0 t
    funext j
    refine (congrFun h0 (((cfg5.win 0).blk t).view.emb j)).trans (eq2 (f := f) ?_ ?_)
    · blk_simp [a0] <;> omega
    · blk_simp [a1] <;> omega
  have x1 : (iblk5 V c 1 t : FVec Ideal S2048x1024 .bf16) = e2 .bf16 fun k j => g k (t.val % 2 * 1024 + j) := by
    obtain ⟨a0, a1⟩ := at5_1 t
    funext j
    refine (congrFun h1 (((cfg5.win 1).blk t).view.emb j)).trans (eq2 (f := g) ?_ ?_)
    · blk_simp [a0] <;> omega
    · blk_simp [a1] <;> omega
  obtain ⟨o0, o1, o2⟩ := at5_2 t
  rw [x0, x1]
  unfold out5_2
  rw [View.canon_cons_unit_zero off3, View.ld_unit_zero (S := S2048x1024) off2, View.ld_unit_zero (S := S2048x1024) off2]
  rw [pay_x_dw]
  have y0 : (y 0).val < 1 := (y 0).isLt
  have y1 : (y 1).val < 1024 := (y 1).isLt
  have y2 : (y 2).val < 1024 := (y 2).isLt
  refine Finset.sum_congr (M := EReal) rfl fun k hk => ?_
  refine congrArg₂ _ (eq2 (f := f) rfl ?_) (eq2 (f := g) rfl ?_)
  · blk_simp [o1] <;> omega
  · blk_simp [o0, o2] <;> omega

/-- The gradient of the weights of y, in the two chips' parts. -/
theorem arr_y_dw (h0 : (V c main_arg0 : FVec Ideal S2048x2048 .bf16) = e2 .bf16 f)
    (h1 : (V c main_arg8 : FVec Ideal S2048x2048 .bf16) = e2 .bf16 g) :
    ((dat6 V c).arrAt 2 cfg6.N : FVec Ideal S2x2048x1024 .bf16) = e3 .bf16 fun s i j => ∑ k ∈ range 2048, f k i * g k (s * 1024 + j) := by
  refine (dat6 V c).arrAt_eq_of_covers 2 _ (by decide +kernel) fun t hf' y => ?_
  blk_simp
  rw [after6_2]
  have x0 : (iblk6 V c 0 t : FVec Ideal S2048x1024 .bf16) = e2 .bf16 fun k i => f k (t.val / 2 * 1024 + i) := by
    obtain ⟨a0, a1⟩ := at6_0 t
    funext j
    refine (congrFun h0 (((cfg6.win 0).blk t).view.emb j)).trans (eq2 (f := f) ?_ ?_)
    · blk_simp [a0] <;> omega
    · blk_simp [a1] <;> omega
  have x1 : (iblk6 V c 1 t : FVec Ideal S2048x1024 .bf16) = e2 .bf16 fun k j => g k (t.val % 2 * 1024 + j) := by
    obtain ⟨a0, a1⟩ := at6_1 t
    funext j
    refine (congrFun h1 (((cfg6.win 1).blk t).view.emb j)).trans (eq2 (f := g) ?_ ?_)
    · blk_simp [a0] <;> omega
    · blk_simp [a1] <;> omega
  obtain ⟨o0, o1, o2⟩ := at6_2 t
  rw [x0, x1]
  unfold out6_2
  rw [View.canon_cons_unit_zero off3, View.ld_unit_zero (S := S2048x1024) off2, View.ld_unit_zero (S := S2048x1024) off2]
  rw [pay_y_dw]
  have y0 : (y 0).val < 1 := (y 0).isLt
  have y1 : (y 1).val < 1024 := (y 1).isLt
  have y2 : (y 2).val < 1024 := (y 2).isLt
  refine Finset.sum_congr (M := EReal) rfl fun k hk => ?_
  refine congrArg₂ _ (eq2 (f := f) rfl ?_) (eq2 (f := g) rfl ?_)
  · blk_simp [o1] <;> omega
  · blk_simp [o0, o2] <;> omega

/-- The gradient of the state-space mixer's output weights. -/
theorem arr_ssd_dw (h0 : (V c main_arg9 : FVec Ideal S2048x4096 .bf16) = e2 .bf16 f)
    (h1 : (V c main_arg11 : FVec Ideal S2048x2048 .f32) = e2 .f32 g) :
    ((dat7 V c).arrAt 2 cfg7.N : FVec Ideal S4096x2048 .bf16) = e2 .bf16 fun i j => ∑ k ∈ range 2048, f k i * g k j := by
  refine (dat7 V c).arrAt_eq_of_covers 2 _ (by decide +kernel) fun t hf' y => ?_
  blk_simp
  rw [after7_2]
  have x0 : (iblk7 V c 0 t : FVec Ideal S2048x1024 .bf16) = e2 .bf16 fun k i => f k (t.val / 2 * 1024 + i) := by
    obtain ⟨a0, a1⟩ := at7_0 t
    funext j
    refine (congrFun h0 (((cfg7.win 0).blk t).view.emb j)).trans (eq2 (f := f) ?_ ?_)
    · blk_simp [a0] <;> omega
    · blk_simp [a1] <;> omega
  have x1 : (iblk7 V c 1 t : FVec Ideal S2048x1024 .f32) = e2 .f32 fun k j => g k (t.val % 2 * 1024 + j) := by
    obtain ⟨a0, a1⟩ := at7_1 t
    funext j
    refine (congrFun h1 (((cfg7.win 1).blk t).view.emb j)).trans (eq2 (f := g) ?_ ?_)
    · blk_simp [a0] <;> omega
    · blk_simp [a1] <;> omega
  obtain ⟨o0, o1⟩ := at7_2 t
  rw [x0, x1]
  unfold out7_2
  rw [View.canon_cons_unit_zero off2, View.ld_unit_zero (S := S2048x1024) off2, View.ld_unit_zero (S := S2048x1024) off2]
  rw [pay_ssd_dw]
  have y0 : (y 0).val < 1024 := (y 0).isLt
  have y1 : (y 1).val < 1024 := (y 1).isLt
  refine Finset.sum_congr (M := EReal) rfl fun k hk => ?_
  refine congrArg₂ _ (eq2 (f := f) rfl ?_) (eq2 (f := g) rfl ?_)
  · blk_simp [o0] <;> omega
  · blk_simp [o1] <;> omega

/-- The gradient of the state-space mixer's result. -/
theorem arr_ssd_dx (h0 : (V c main_arg11 : FVec Ideal S2048x2048 .f32) = e2 .f32 f)
    (h1 : (V c main_arg10 : FVec Ideal S4096x2048 .bf16) = e2 .bf16 g) :
    ((dat8 V c).arrAt 2 cfg8.N : FVec Ideal S2048x4096 .f32) = e2 .f32 fun i j => ∑ k ∈ range 2048, f i k * g j k := by
  refine (dat8 V c).arrAt_eq_of_covers 2 _ (by decide +kernel) fun t hf' y => ?_
  blk_simp
  rw [after8_2]
  have x0 : (iblk8 V c 0 t : FVec Ideal S1024x2048 .f32) = e2 .f32 fun i k => f (t.val / 4 * 1024 + i) k := by
    obtain ⟨a0, a1⟩ := at8_0 t
    funext j
    refine (congrFun h0 (((cfg8.win 0).blk t).view.emb j)).trans (eq2 (f := f) ?_ ?_)
    · blk_simp [a0] <;> omega
    · blk_simp [a1] <;> omega
  have x1 : (iblk8 V c 1 t : FVec Ideal S1024x2048 .bf16) = e2 .bf16 fun j k => g (t.val % 4 * 1024 + j) k := by
    obtain ⟨a0, a1⟩ := at8_1 t
    funext j
    refine (congrFun h1 (((cfg8.win 1).blk t).view.emb j)).trans (eq2 (f := g) ?_ ?_)
    · blk_simp [a0] <;> omega
    · blk_simp [a1] <;> omega
  obtain ⟨o0, o1⟩ := at8_2 t
  rw [x0, x1]
  unfold out8_2
  rw [View.canon_cons_unit_zero off2, View.ld_unit_zero (S := S1024x2048) off2, View.ld_unit_zero (S := S1024x2048) off2]
  rw [pay_ssd_dx]
  have y0 : (y 0).val < 1024 := (y 0).isLt
  have y1 : (y 1).val < 1024 := (y 1).isLt
  refine Finset.sum_congr (M := EReal) rfl fun k hk => ?_
  refine congrArg₂ _ (eq2 (f := f) ?_ rfl) (eq2 (f := g) ?_ rfl)
  · blk_simp [o0] <;> omega
  · blk_simp [o1] <;> omega

end Mix
-- ==== Proof.MixRun.lean ====
/- What the fourth program leaves in memory: every call's array, followed through the nine calls. -/
module

public import proofs.«01_k».proof.Proof.MixMath
public import proofs.«01_k».proof.Proof.MixRegions

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The program runs, and every device's buffers end with the contents followed through the calls. -/
theorem contents : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.Kernel4Ideal.Gen

namespace Mix

open Idealize.ShloMosaic Idealize.ShloMosaic.TcCoe Idealize.SL.Sem
open Ffn (e2 e3)
open Cert.Kernel4Ideal Cert.Kernel4Ideal.Gen

variable (m : (ℓ : Loc nD τ sig) → Buf (Elt Ideal) ℓ) (ρ : Dev nD → PrngReg) (c : Dev nD) (a : MArgs)

/-- The arguments in memory are `a`'s. -/
structure Holds : Prop where
  u : (m ((c : Thread nD τ).loc main_arg0) : FVec Ideal S2048x2048 .bf16) = e2 .bf16 a.u
  wx : (m ((c : Thread nD τ).loc main_arg1) : FVec Ideal S2x2048x1024 .bf16) = e3 .bf16 a.wx
  wy : (m ((c : Thread nD τ).loc main_arg2) : FVec Ideal S2x2048x1024 .bf16) = e3 .bf16 a.wy
  y : (m ((c : Thread nD τ).loc main_arg3) : FVec Ideal S2048x2048 .bf16) = e2 .bf16 a.y
  wo : (m ((c : Thread nD τ).loc main_arg4) : FVec Ideal S2048x2048 .bf16) = e2 .bf16 a.wo
  h : (m ((c : Thread nD τ).loc main_arg5) : FVec Ideal S2048x2048 .f32) = e2 .f32 a.h
  dh : (m ((c : Thread nD τ).loc main_arg6) : FVec Ideal S2048x2048 .f32) = e2 .f32 a.dh
  dx : (m ((c : Thread nD τ).loc main_arg7) : FVec Ideal S2048x2048 .bf16) = e2 .bf16 a.dx
  dy : (m ((c : Thread nD τ).loc main_arg8) : FVec Ideal S2048x2048 .bf16) = e2 .bf16 a.dy
  yn : (m ((c : Thread nD τ).loc main_arg9) : FVec Ideal S2048x4096 .bf16) = e2 .bf16 a.yn
  wb : (m ((c : Thread nD τ).loc main_arg10) : FVec Ideal S4096x2048 .bf16) = e2 .bf16 a.wb
  db : (m ((c : Thread nD τ).loc main_arg11) : FVec Ideal S2048x2048 .f32) = e2 .f32 a.db

variable {m ρ c a}

theorem v0_made (h : Holds m c a) : (W1 m ρ c (Proc.devRef .tc main_v0) : FVec Ideal S2048x2048 .f32) = e2 .f32 a.px :=
  (W1_arr m ρ c 2).trans (arr_x (V0 m ρ) c h.u h.wx)
theorem v1_made (h : Holds m c a) : (W2 m ρ c (Proc.devRef .tc main_v1) : FVec Ideal S2048x2048 .f32) = e2 .f32 a.py :=
  (W2_arr m ρ c 2).trans (arr_y (V1 m ρ) c ((W1_args m ρ c main_arg0 (by decide)).trans h.u) ((W1_args m ρ c main_arg2 (by decide)).trans h.wy))
theorem v2_made (h : Holds m c a) : (W3 m ρ c (Proc.devRef .tc main_v2) : FVec Ideal S2048x2048 .f32) = e2 .f32 a.out :=
  (W3_arr m ρ c 3).trans (arr_out (V2 m ρ) c ((W2_args m ρ c main_arg3 (by decide)).trans h.y) ((W2_args m ρ c main_arg4 (by decide)).trans h.wo) ((W2_args m ρ c main_arg5 (by decide)).trans h.h))
theorem v3_made (h : Holds m c a) : (W4 m ρ c (Proc.devRef .tc main_v3) : FVec Ideal S2048x2048 .bf16) = e2 .bf16 a.dwo :=
  (W4_arr m ρ c 2).trans (arr_out_dw (V3 m ρ) c ((W3_args m ρ c main_arg3 (by decide)).trans h.y) ((W3_args m ρ c main_arg6 (by decide)).trans h.dh))
theorem v4_made (h : Holds m c a) : (W5 m ρ c (Proc.devRef .tc main_v4) : FVec Ideal S2048x2048 .f32) = e2 .f32 a.dout :=
  (W5_arr m ρ c 2).trans (arr_out_dx (V4 m ρ) c ((W4_args m ρ c main_arg6 (by decide)).trans h.dh) ((W4_args m ρ c main_arg4 (by decide)).trans h.wo))
theorem v5_made (h : Holds m c a) : (W6 m ρ c (Proc.devRef .tc main_v5) : FVec Ideal S2x2048x1024 .bf16) = e3 .bf16 a.dwx :=
  (W6_arr m ρ c 2).trans (arr_x_dw (V5 m ρ) c ((W5_args m ρ c main_arg0 (by decide)).trans h.u) ((W5_args m ρ c main_arg7 (by decide)).trans h.dx))
theorem v6_made (h : Holds m c a) : (W7 m ρ c (Proc.devRef .tc main_v6) : FVec Ideal S2x2048x1024 .bf16) = e3 .bf16 a.dwy :=
  (W7_arr m ρ c 2).trans (arr_y_dw (V6 m ρ) c ((W6_args m ρ c main_arg0 (by decide)).trans h.u) ((W6_args m ρ c main_arg8 (by decide)).trans h.dy))
theorem v7_made (h : Holds m c a) : (W8 m ρ c (Proc.devRef .tc main_v7) : FVec Ideal S4096x2048 .bf16) = e2 .bf16 a.dwb :=
  (W8_arr m ρ c 2).trans (arr_ssd_dw (V7 m ρ) c ((W7_args m ρ c main_arg9 (by decide)).trans h.yn) ((W7_args m ρ c main_arg11 (by decide)).trans h.db))
theorem v8_made (h : Holds m c a) : (W9 m ρ c (Proc.devRef .tc main_v8) : FVec Ideal S2048x4096 .f32) = e2 .f32 a.dyn :=
  (W9_arr m ρ c 2).trans (arr_ssd_dx (V8 m ρ) c ((W8_args m ρ c main_arg11 (by decide)).trans h.db) ((W8_args m ρ c main_arg10 (by decide)).trans h.wb))

/-- The program's results, and its arguments unchanged. -/
theorem results : θ_run defs (onTc (τ := τ) (main (F := Ideal))) ⟨m, fun _ => 0, ρ⟩ (fun r => ∀ c : Dev nD, ∀ a, Holds m c a →
      (r.2.mem ((c.tc : Thread nD τ).loc main_v0) : FVec Ideal S2048x2048 .f32) = e2 .f32 a.px
      ∧ (r.2.mem ((c.tc : Thread nD τ).loc main_v1) : FVec Ideal S2048x2048 .f32) = e2 .f32 a.py
      ∧ (r.2.mem ((c.tc : Thread nD τ).loc main_v2) : FVec Ideal S2048x2048 .f32) = e2 .f32 a.out
      ∧ (r.2.mem ((c.tc : Thread nD τ).loc main_v4) : FVec Ideal S2048x2048 .f32) = e2 .f32 a.dout
      ∧ (r.2.mem ((c.tc : Thread nD τ).loc main_v3) : FVec Ideal S2048x2048 .bf16) = e2 .bf16 a.dwo
      ∧ (r.2.mem ((c.tc : Thread nD τ).loc main_v5) : FVec Ideal S2x2048x1024 .bf16) = e3 .bf16 a.dwx
      ∧ (r.2.mem ((c.tc : Thread nD τ).loc main_v6) : FVec Ideal S2x2048x1024 .bf16) = e3 .bf16 a.dwy
      ∧ (r.2.mem ((c.tc : Thread nD τ).loc main_v8) : FVec Ideal S2048x4096 .f32) = e2 .f32 a.dyn
      ∧ (r.2.mem ((c.tc : Thread nD τ).loc main_v7) : FVec Ideal S4096x2048 .bf16) = e2 .bf16 a.dwb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r k c a h =>
    ⟨(k c _ (mem_uc main_v0 (by decide))).trans (((((((((W9_of m ρ c main_v0 (by decide)).trans (W8_of m ρ c main_v0 (by decide))).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide))).trans (v0_made h)),
      (k c _ (mem_uc main_v1 (by decide))).trans ((((((((W9_of m ρ c main_v1 (by decide)).trans (W8_of m ρ c main_v1 (by decide))).trans (W7_of m ρ c main_v1 (by decide))).trans (W6_of m ρ c main_v1 (by decide))).trans (W5_of m ρ c main_v1 (by decide))).trans (W4_of m ρ c main_v1 (by decide))).trans (W3_of m ρ c main_v1 (by decide))).trans (v1_made h)),
      (k c _ (mem_uc main_v2 (by decide))).trans (((((((W9_of m ρ c main_v2 (by decide)).trans (W8_of m ρ c main_v2 (by decide))).trans (W7_of m ρ c main_v2 (by decide))).trans (W6_of m ρ c main_v2 (by decide))).trans (W5_of m ρ c main_v2 (by decide))).trans (W4_of m ρ c main_v2 (by decide))).trans (v2_made h)),
      (k c _ (mem_uc main_v4 (by decide))).trans (((((W9_of m ρ c main_v4 (by decide)).trans (W8_of m ρ c main_v4 (by decide))).trans (W7_of m ρ c main_v4 (by decide))).trans (W6_of m ρ c main_v4 (by decide))).trans (v4_made h)),
      (k c _ (mem_uc main_v3 (by decide))).trans ((((((W9_of m ρ c main_v3 (by decide)).trans (W8_of m ρ c main_v3 (by decide))).trans (W7_of m ρ c main_v3 (by decide))).trans (W6_of m ρ c main_v3 (by decide))).trans (W5_of m ρ c main_v3 (by decide))).trans (v3_made h)),
      (k c _ (mem_uc main_v5 (by decide))).trans ((((W9_of m ρ c main_v5 (by decide)).trans (W8_of m ρ c main_v5 (by decide))).trans (W7_of m ρ c main_v5 (by decide))).trans (v5_made h)),
      (k c _ (mem_uc main_v6 (by decide))).trans (((W9_of m ρ c main_v6 (by decide)).trans (W8_of m ρ c main_v6 (by decide))).trans (v6_made h)),
      (k c _ (mem_uc main_v8 (by decide))).trans (v8_made h),
      (k c _ (mem_uc main_v7 (by decide))).trans ((W9_of m ρ c main_v7 (by decide)).trans (v7_made h)),
      (k c _ (mem_uc main_arg0 (by decide))).trans (W9_main_arg0 m ρ c),
      (k c _ (mem_uc main_arg1 (by decide))).trans (W9_main_arg1 m ρ c),
      (k c _ (mem_uc main_arg2 (by decide))).trans (W9_main_arg2 m ρ c),
      (k c _ (mem_uc main_arg3 (by decide))).trans (W9_main_arg3 m ρ c),
      (k c _ (mem_uc main_arg4 (by decide))).trans (W9_main_arg4 m ρ c),
      (k c _ (mem_uc main_arg5 (by decide))).trans (W9_main_arg5 m ρ c),
      (k c _ (mem_uc main_arg6 (by decide))).trans (W9_main_arg6 m ρ c),
      (k c _ (mem_uc main_arg7 (by decide))).trans (W9_main_arg7 m ρ c),
      (k c _ (mem_uc main_arg8 (by decide))).trans (W9_main_arg8 m ρ c),
      (k c _ (mem_uc main_arg9 (by decide))).trans (W9_main_arg9 m ρ c),
      (k c _ (mem_uc main_arg10 (by decide))).trans (W9_main_arg10 m ρ c),
      (k c _ (mem_uc main_arg11 (by decide))).trans (W9_main_arg11 m ρ c)⟩) (contents m ρ)

end Mix
-- ==== Proof.MixRef.lean ====
/- The reference of the fourth program, result by result. -/
module

public import proofs.«01_k».proof.Proof.FfnRef
public import proofs.«01_k».proof.Proof.MixMath
public import proofs.«01_k».proof.Proof.Gen.Reference4Ideal.Read

@[expose] public section

set_option maxRecDepth 16384

noncomputable section

namespace Mix

open Idealize.ShloMosaic hiding ix0 ix1 ix2 ix3 ix4 ix5 ix6 eq_ix2 eq_ix3 eq_ix4 eq_ix5
open Idealize.ShloMosaic.ValueIdx Finset
open Ffn (e2 e3 eq2 eq3 sum_fin)
open Cert.Reference4Ideal Cert.Reference4Ideal.Read

variable (a : MArgs)

theorem val_wx (i : S2048x2048.Idx) : val_main_v2 (F := Ideal) (e3 .bf16 a.wx) i = a.wx ((i 1).val / 1024) (i 0).val ((i 1).val % 1024) := by
  have h0 : (i 0).val < 2048 := (i 0).isLt
  have h1 : (i 1).val < 2048 := (i 1).isLt
  rw [val_main_v2_apply, val_main_v1_apply]
  exact eq3 (f := a.wx) (show ((i 0).val * 2048 + (i 1).val) / 1024 % 2 = (i 1).val / 1024 by omega)
    (show ((i 0).val * 2048 + (i 1).val) / 2048 = (i 0).val by omega)
    (show ((i 0).val * 2048 + (i 1).val) % 1024 = (i 1).val % 1024 by omega)

theorem ref_px : val_main_v3 (F := Ideal) (e2 .bf16 a.u) (e3 .bf16 a.wx) = e2 .f32 a.px := by
  funext i
  rw [val_main_v3_apply]
  exact sum_fin (G := fun k => a.u (i 0).val k * a.wx ((i 1).val / 1024) k ((i 1).val % 1024)) fun k =>
    congrArg₂ _ (val_main_v0_apply _ _) (val_wx a _)

theorem val_wy (i : S2048x2048.Idx) : val_main_v6 (F := Ideal) (e3 .bf16 a.wy) i = a.wy ((i 1).val / 1024) (i 0).val ((i 1).val % 1024) := by
  have h0 : (i 0).val < 2048 := (i 0).isLt
  have h1 : (i 1).val < 2048 := (i 1).isLt
  rw [val_main_v6_apply, val_main_v5_apply]
  exact eq3 (f := a.wy) (show ((i 0).val * 2048 + (i 1).val) / 1024 % 2 = (i 1).val / 1024 by omega)
    (show ((i 0).val * 2048 + (i 1).val) / 2048 = (i 0).val by omega)
    (show ((i 0).val * 2048 + (i 1).val) % 1024 = (i 1).val % 1024 by omega)

theorem ref_py : val_main_v7 (F := Ideal) (e2 .bf16 a.u) (e3 .bf16 a.wy) = e2 .f32 a.py := by
  funext i
  rw [val_main_v7_apply]
  exact sum_fin (G := fun k => a.u (i 0).val k * a.wy ((i 1).val / 1024) k ((i 1).val % 1024)) fun k =>
    congrArg₂ _ (val_main_v4_apply _ _) (val_wy a _)

theorem ref_out : val_main_v10 (F := Ideal) (e2 .bf16 a.y) (e2 .bf16 a.wo) (e2 .f32 a.h) = e2 .f32 a.out := by
  funext i
  rw [val_main_v10_apply, val_main_v9_apply]
  refine (add_comm (G := EReal) _ _).trans (congrArg₂ (fun x y : EReal => x + y) ?_ rfl)
  exact sum_fin (G := fun k => a.y (i 0).val k * a.wo k (i 1).val) fun k => congrArg₂ _ (val_main_v8_apply _ _) rfl

theorem ref_dout : val_main_v14 (F := Ideal) (e2 .bf16 a.wo) (e2 .f32 a.dh) = e2 .f32 a.dout := by
  funext i
  rw [val_main_v14_apply]
  exact sum_fin (G := fun k => a.dh (i 0).val k * a.wo (i 1).val k) fun k => rfl

theorem ref_dyn : val_main_v32 (F := Ideal) (e2 .bf16 a.wb) (e2 .f32 a.db) = e2 .f32 a.dyn := by
  funext i
  rw [val_main_v32_apply]
  exact sum_fin (G := fun k => a.db (i 0).val k * a.wb (i 1).val k) fun k => rfl

theorem ref_dwo : val_main_v13 (F := Ideal) (e2 .bf16 a.y) (e2 .f32 a.dh) = e2 .bf16 a.dwo := by
  funext i
  rw [val_main_v13_apply, val_main_v12_apply, val_main_v11_apply, Ideal.truncf_def]
  exact sum_fin (G := fun k => a.y k (i 0).val * a.dh k (i 1).val) fun k =>
    (congrArg₂ _ rfl (val_main_v8_apply _ _)).trans (mul_comm _ _)

theorem ref_dwb : val_main_v31 (F := Ideal) (e2 .bf16 a.yn) (e2 .f32 a.db) = e2 .bf16 a.dwb := by
  funext i
  rw [val_main_v31_apply, val_main_v30_apply, val_main_v29_apply, Ideal.truncf_def]
  exact sum_fin (G := fun k => a.yn k (i 0).val * a.db k (i 1).val) fun k =>
    (congrArg₂ _ rfl (val_main_v27_apply _ _)).trans (mul_comm _ _)

theorem ref_dwx : val_main_v26 (F := Ideal) (e2 .bf16 a.u) (e2 .bf16 a.dx) = e3 .bf16 a.dwx := by
  funext i
  have h0 : (i 0).val < 2 := (i 0).isLt
  have h1 : (i 1).val < 2048 := (i 1).isLt
  have h2 : (i 2).val < 1024 := (i 2).isLt
  rw [val_main_v26_apply, val_main_v25_apply, val_main_v24_apply, val_main_v23_apply, val_main_v22_apply, Ideal.truncf_def]
  refine sum_fin (G := fun k => a.u k (i 1).val * a.dx k ((i 0).val * 1024 + (i 2).val)) fun k => ?_
  refine (congrArg₂ _ (val_main_v15_apply _ _) (val_main_v0_apply _ _)).trans ((mul_comm _ _).trans (congrArg₂ _ ?_ ?_))
  · exact eq2 (f := a.u) rfl (show (((i 1).val * 2 + (i 0).val) * 1024 + (i 2).val) / 2048 = (i 1).val by omega)
  · exact eq2 (f := a.dx) rfl (show (((i 1).val * 2 + (i 0).val) * 1024 + (i 2).val) % 2048 = (i 0).val * 1024 + (i 2).val by omega)

theorem ref_dwy : val_main_v21 (F := Ideal) (e2 .bf16 a.u) (e2 .bf16 a.dy) = e3 .bf16 a.dwy := by
  funext i
  have h0 : (i 0).val < 2 := (i 0).isLt
  have h1 : (i 1).val < 2048 := (i 1).isLt
  have h2 : (i 2).val < 1024 := (i 2).isLt
  rw [val_main_v21_apply, val_main_v20_apply, val_main_v19_apply, val_main_v18_apply, val_main_v17_apply, Ideal.truncf_def]
  refine sum_fin (G := fun k => a.u k (i 1).val * a.dy k ((i 0).val * 1024 + (i 2).val)) fun k => ?_
  refine (congrArg₂ _ (val_main_v16_apply _ _) (val_main_v4_apply _ _)).trans ((mul_comm _ _).trans (congrArg₂ _ ?_ ?_))
  · exact eq2 (f := a.u) rfl (show (((i 1).val * 2 + (i 0).val) * 1024 + (i 2).val) / 2048 = (i 1).val by omega)
  · exact eq2 (f := a.dy) rfl (show (((i 1).val * 2 + (i 0).val) * 1024 + (i 2).val) % 2048 = (i 0).val * 1024 + (i 2).val by omega)

end Mix
-- ==== Proof.MixClaim.lean ====
/- The fourth program's claim: it leaves what its reference leaves, whatever the arguments. -/
module

public import proofs.«01_k».proof.Defs
public import proofs.«01_k».proof.Proof.MixRun
public import proofs.«01_k».proof.Proof.MixRef
public import proofs.«01_k».proof.Proof.FfnPre

@[expose] public section

set_option maxRecDepth 16384

noncomputable section

namespace Mix

open Idealize.ShloMosaic Idealize.ShloMosaic.TcCoe Idealize.SL.Sem

/-- Any memory holds some arguments. -/
theorem holds (m : (ℓ : Loc Cert.Kernel4Ideal.nD Cert.Kernel4Ideal.τ Cert.Kernel4Ideal.sig) → Buf (Elt Ideal) ℓ) (c : Dev Cert.Kernel4Ideal.nD) : ∃ a, Holds m c a :=
  ⟨⟨Ffn.entry2 (m ((c : Thread Cert.Kernel4Ideal.nD Cert.Kernel4Ideal.τ).loc Cert.Kernel4Ideal.main_arg0)), Ffn.entry3 (m ((c : Thread Cert.Kernel4Ideal.nD Cert.Kernel4Ideal.τ).loc Cert.Kernel4Ideal.main_arg1)), Ffn.entry3 (m ((c : Thread Cert.Kernel4Ideal.nD Cert.Kernel4Ideal.τ).loc Cert.Kernel4Ideal.main_arg2)), Ffn.entry2 (m ((c : Thread Cert.Kernel4Ideal.nD Cert.Kernel4Ideal.τ).loc Cert.Kernel4Ideal.main_arg3)), Ffn.entry2 (m ((c : Thread Cert.Kernel4Ideal.nD Cert.Kernel4Ideal.τ).loc Cert.Kernel4Ideal.main_arg4)), Ffn.entry2 (m ((c : Thread Cert.Kernel4Ideal.nD Cert.Kernel4Ideal.τ).loc Cert.Kernel4Ideal.main_arg5)), Ffn.entry2 (m ((c : Thread Cert.Kernel4Ideal.nD Cert.Kernel4Ideal.τ).loc Cert.Kernel4Ideal.main_arg6)), Ffn.entry2 (m ((c : Thread Cert.Kernel4Ideal.nD Cert.Kernel4Ideal.τ).loc Cert.Kernel4Ideal.main_arg7)), Ffn.entry2 (m ((c : Thread Cert.Kernel4Ideal.nD Cert.Kernel4Ideal.τ).loc Cert.Kernel4Ideal.main_arg8)), Ffn.entry2 (m ((c : Thread Cert.Kernel4Ideal.nD Cert.Kernel4Ideal.τ).loc Cert.Kernel4Ideal.main_arg9)), Ffn.entry2 (m ((c : Thread Cert.Kernel4Ideal.nD Cert.Kernel4Ideal.τ).loc Cert.Kernel4Ideal.main_arg10)), Ffn.entry2 (m ((c : Thread Cert.Kernel4Ideal.nD Cert.Kernel4Ideal.τ).loc Cert.Kernel4Ideal.main_arg11))⟩,
    ⟨Ffn.eq_e2 _ _, Ffn.eq_e3 _ _, Ffn.eq_e3 _ _, Ffn.eq_e2 _ _, Ffn.eq_e2 _ _, Ffn.eq_e2 _ _, Ffn.eq_e2 _ _, Ffn.eq_e2 _ _, Ffn.eq_e2 _ _, Ffn.eq_e2 _ _, Ffn.eq_e2 _ _, Ffn.eq_e2 _ _⟩⟩

theorem reference_frame : Cert.quiescent_Reference4Ideal (hReference4Ideal := Cert.Reference4Ideal.Gen.facts) := fun m ρ _ =>
  (θ_run _ _ _).mono (fun r h => ⟨fun c => (h c).2.2.2.2.2.2.2.2.2, sem_eq_zero_of_no_sems rfl r.2⟩) (Cert.Reference4Ideal.Value.run m ρ)

theorem algebraic : Cert.algebraic_Kernel4Ideal_Reference4Ideal (hKernel4Ideal := Cert.Kernel4Ideal.Gen.facts) (hReference4Ideal := Cert.Reference4Ideal.Gen.facts) := by
  intro m g m' g' _ hm
  refine ⟨fun c => Cert.Reference4Ideal.Read.val_main_v3 (F := Ideal) (m (c.tc.loc Cert.Kernel4Ideal.main_arg0)) (m (c.tc.loc Cert.Kernel4Ideal.main_arg1)),
    fun c => Cert.Reference4Ideal.Read.val_main_v7 (F := Ideal) (m (c.tc.loc Cert.Kernel4Ideal.main_arg0)) (m (c.tc.loc Cert.Kernel4Ideal.main_arg2)),
    fun c => Cert.Reference4Ideal.Read.val_main_v10 (F := Ideal) (m (c.tc.loc Cert.Kernel4Ideal.main_arg3)) (m (c.tc.loc Cert.Kernel4Ideal.main_arg4)) (m (c.tc.loc Cert.Kernel4Ideal.main_arg5)),
    fun c => Cert.Reference4Ideal.Read.val_main_v14 (F := Ideal) (m (c.tc.loc Cert.Kernel4Ideal.main_arg4)) (m (c.tc.loc Cert.Kernel4Ideal.main_arg6)),
    fun c => Cert.Reference4Ideal.Read.val_main_v13 (F := Ideal) (m (c.tc.loc Cert.Kernel4Ideal.main_arg3)) (m (c.tc.loc Cert.Kernel4Ideal.main_arg6)),
    fun c => Cert.Reference4Ideal.Read.val_main_v26 (F := Ideal) (m (c.tc.loc Cert.Kernel4Ideal.main_arg0)) (m (c.tc.loc Cert.Kernel4Ideal.main_arg7)),
    fun c => Cert.Reference4Ideal.Read.val_main_v21 (F := Ideal) (m (c.tc.loc Cert.Kernel4Ideal.main_arg0)) (m (c.tc.loc Cert.Kernel4Ideal.main_arg8)),
    fun c => Cert.Reference4Ideal.Read.val_main_v32 (F := Ideal) (m (c.tc.loc Cert.Kernel4Ideal.main_arg10)) (m (c.tc.loc Cert.Kernel4Ideal.main_arg11)),
    fun c => Cert.Reference4Ideal.Read.val_main_v31 (F := Ideal) (m (c.tc.loc Cert.Kernel4Ideal.main_arg9)) (m (c.tc.loc Cert.Kernel4Ideal.main_arg11)), ?_, ?_⟩
  · refine (θ_run _ _ _).mono (fun r h c => ?_) (results (m := m) (ρ := g))
    obtain ⟨a, H⟩ := holds m c
    obtain ⟨h0, h1, h2, h3, h4, h5, h6, h7, h8, k⟩ := h c a H
    refine ⟨h0.trans ?_, h1.trans ?_, h2.trans ?_, h3.trans ?_, h4.trans ?_, h5.trans ?_, h6.trans ?_, h7.trans ?_, h8.trans ?_, k⟩
    · beta_reduce
      rw [H.u, H.wx]
      exact (ref_px a).symm
    · beta_reduce
      rw [H.u, H.wy]
      exact (ref_py a).symm
    · beta_reduce
      rw [H.y, H.wo, H.h]
      exact (ref_out a).symm
    · beta_reduce
      rw [H.wo, H.dh]
      exact (ref_dout a).symm
    · beta_reduce
      rw [H.y, H.dh]
      exact (ref_dwo a).symm
    · beta_reduce
      rw [H.u, H.dx]
      exact (ref_dwx a).symm
    · beta_reduce
      rw [H.u, H.dy]
      exact (ref_dwy a).symm
    · beta_reduce
      rw [H.wb, H.db]
      exact (ref_dyn a).symm
    · beta_reduce
      rw [H.yn, H.db]
      exact (ref_dwb a).symm
  · refine (θ_run _ _ _).mono (fun r h c => ?_) (Cert.Reference4Ideal.Value.run m' g')
    obtain ⟨h0, h1, h2, h3, h4, h5, h6, h7, h8, k⟩ := h c
    obtain ⟨e0, e1, e2, e3, e4, e5, e6, e7, e8, e9, e10, e11⟩ := hm c
    refine ⟨(h0.trans (Cert.Reference4Ideal.Read.val_main_v3_eq (F := Ideal) (m' (c.tc.loc Cert.Reference4Ideal.main_arg0)) (m' (c.tc.loc Cert.Reference4Ideal.main_arg1)))).trans ?_,
      (h1.trans (Cert.Reference4Ideal.Read.val_main_v7_eq (F := Ideal) (m' (c.tc.loc Cert.Reference4Ideal.main_arg0)) (m' (c.tc.loc Cert.Reference4Ideal.main_arg2)))).trans ?_,
      (h2.trans (Cert.Reference4Ideal.Read.val_main_v10_eq (F := Ideal) (m' (c.tc.loc Cert.Reference4Ideal.main_arg3)) (m' (c.tc.loc Cert.Reference4Ideal.main_arg4)) (m' (c.tc.loc Cert.Reference4Ideal.main_arg5)))).trans ?_,
      (h3.trans (Cert.Reference4Ideal.Read.val_main_v14_eq (F := Ideal) (m' (c.tc.loc Cert.Reference4Ideal.main_arg4)) (m' (c.tc.loc Cert.Reference4Ideal.main_arg6)))).trans ?_,
      (h4.trans (Cert.Reference4Ideal.Read.val_main_v13_eq (F := Ideal) (m' (c.tc.loc Cert.Reference4Ideal.main_arg3)) (m' (c.tc.loc Cert.Reference4Ideal.main_arg6)))).trans ?_,
      (h5.trans (Cert.Reference4Ideal.Read.val_main_v26_eq (F := Ideal) (m' (c.tc.loc Cert.Reference4Ideal.main_arg0)) (m' (c.tc.loc Cert.Reference4Ideal.main_arg7)))).trans ?_,
      (h6.trans (Cert.Reference4Ideal.Read.val_main_v21_eq (F := Ideal) (m' (c.tc.loc Cert.Reference4Ideal.main_arg0)) (m' (c.tc.loc Cert.Reference4Ideal.main_arg8)))).trans ?_,
      (h7.trans (Cert.Reference4Ideal.Read.val_main_v32_eq (F := Ideal) (m' (c.tc.loc Cert.Reference4Ideal.main_arg10)) (m' (c.tc.loc Cert.Reference4Ideal.main_arg11)))).trans ?_,
      (h8.trans (Cert.Reference4Ideal.Read.val_main_v31_eq (F := Ideal) (m' (c.tc.loc Cert.Reference4Ideal.main_arg9)) (m' (c.tc.loc Cert.Reference4Ideal.main_arg11)))).trans ?_, k⟩
    · beta_reduce
      rw [e0, e1]
    · beta_reduce
      rw [e0, e2]
    · beta_reduce
      rw [e3, e4, e5]
    · beta_reduce
      rw [e4, e6]
    · beta_reduce
      rw [e3, e6]
    · beta_reduce
      rw [e0, e7]
    · beta_reduce
      rw [e0, e8]
    · beta_reduce
      rw [e10, e11]
    · beta_reduce
      rw [e9, e11]

end Mix
-- ==== Proof.PartSum.lean ====
/- Sums over 5632 places taken in four parts of 1408, one part at each of four consecutive points. -/
module

public import proofs.«01_k».proof.Proof.FfnLift

@[expose] public section

noncomputable section

namespace PartSum

open Idealize.ShloMosaic Finset
open Ffn (e2 e2_congr)

/-- The sum over one part more. -/
theorem sum_part (F : ℕ → EReal) (q : ℕ) :
    (∑ k ∈ range (q * 1408), F k) + (∑ k ∈ range 1408, F (q * 1408 + k)) = ∑ k ∈ range ((q + 1) * 1408), F k := by
  rw [Nat.succ_mul, Finset.sum_range_add]

theorem sum_first (F : ℕ → EReal) (q : ℕ) (hq : q = 0) : (∑ k ∈ range 1408, F (q * 1408 + k)) = ∑ k ∈ range ((q + 1) * 1408), F k := by
  subst hq
  rw [← sum_part, Nat.zero_mul, Finset.sum_range_zero, zero_add]

variable {N m n : ℕ} (S : (t : ℕ) → t < N → FVec Ideal (⟨2, ![m, n]⟩ : Shape) .f32) (T : ℕ → ℕ → ℕ → ℕ → EReal)

/-- What four consecutive points keep, if the first leaves its part of the sum and each later one adds its part to what the one before
    it left: the sum over the parts so far. -/
theorem kept (hT : ∀ t, t % 4 ≠ 0 → T (t - 1) = T t)
    (h0 : ∀ t ht, t % 4 = 0 → S t ht = e2 .f32 fun i j => ∑ k ∈ range 1408, T t i j (t % 4 * 1408 + k))
    (h1 : ∀ t ht hp, 1 ≤ t % 4 ∧ t % 4 ≤ 2 → ∀ s, S (t - 1) hp = e2 .f32 s →
      S t ht = e2 .f32 fun i j => s i j + ∑ k ∈ range 1408, T t i j (t % 4 * 1408 + k)) (t : ℕ) :
    ∀ ht, t % 4 ≤ 2 → S t ht = e2 .f32 fun i j => ∑ k ∈ range ((t % 4 + 1) * 1408), T t i j k := by
  have first : ∀ t ht, t % 4 = 0 → S t ht = e2 .f32 fun i j => ∑ k ∈ range ((t % 4 + 1) * 1408), T t i j k := fun t ht h =>
    (h0 t ht h).trans (e2_congr fun i _ j _ => sum_first (T t i j) (t % 4) h)
  induction t with
  | zero => exact fun ht _ => first 0 ht rfl
  | succ t ih =>
    intro ht h2
    by_cases h : (t + 1) % 4 = 0
    · exact first _ ht h
    · refine (h1 (t + 1) ht (Nat.lt_of_succ_lt ht) ⟨Nat.one_le_iff_ne_zero.2 h, h2⟩ _ (ih _ (by omega))).trans
        (e2_congr fun i _ j _ => ?_)
      have e1 : t % 4 + 1 = (t + 1) % 4 := by omega
      have e2 : T t = T (t + 1) := hT (t + 1) h
      rw [e1, e2]
      exact sum_part (T (t + 1) i j) ((t + 1) % 4)

/-- The last of the four points adds the last part. -/
theorem total (hT : ∀ t, t % 4 ≠ 0 → T (t - 1) = T t) (t : ℕ) (h3 : t % 4 = 3) (i j : ℕ) :
    (∑ k ∈ range (((t - 1) % 4 + 1) * 1408), T (t - 1) i j k) + (∑ k ∈ range 1408, T t i j (t % 4 * 1408 + k))
      = ∑ k ∈ range 5632, T t i j k := by
  have e1 : (t - 1) % 4 + 1 = t % 4 := by omega
  rw [e1, hT t (by omega)]
  refine (sum_part (T t i j) (t % 4)).trans ?_
  rw [h3]

end PartSum
-- ==== Proof.DownRun.lean ====
/- The fifth program: the product is taken in four parts, added up one point after the other in an array kept between the points,
   and the last of the four points adds what comes in beside the product. -/
module

public import proofs.«01_k».proof.Proof.FfnRegions
public import proofs.«01_k».proof.Proof.PartSum
public import proofs.«01_k».proof.Proof.Gen.Kernel5Ideal.Value
public import Idealize.ShloMosaic.Lib.Pipeline.ValueKit

@[expose] public section

set_option maxRecDepth 16384

noncomputable section

namespace Down

open Idealize.ShloMosaic hiding ix0 ix1 ix2 ix3 ix4 ix5 ix6 eq_ix2 eq_ix3 eq_ix4 eq_ix5
open Idealize.ShloMosaic.ValueIdx Finset
open Ffn (e2 e2_congr eq2 off2)
open Cert.Kernel5Ideal Cert.Kernel5Ideal.Gen Cert.Kernel5Ideal.Value Idealize.SL.Sem
open Idealize.ShloMosaic.TcCoe

/- What a point computes from what it reads. -/

section body
variable (f g h s : ℕ → ℕ → EReal)

theorem part : k0_pay1 (F := Ideal) (e2 .bf16 g) (e2 .bf16 f) = e2 .f32 fun i j => ∑ k ∈ range 1408, f i k * g k j := by
  funext j
  idx_vars j
  unfold k0_pay1
  pointwise
  simp only [e2, Finset.sum_range]
  simp

theorem first : k0_pay2 (F := Ideal) (e2 .bf16 g) (e2 .bf16 f) = e2 .f32 fun i j => ∑ k ∈ range 1408, f i k * g k j := by
  unfold k0_pay2
  exact (shapeCast_self _ _).trans (part f g)

theorem next : k0_pay3 (F := Ideal) (e2 .bf16 g) (e2 .bf16 f) (e2 .f32 s)
    = e2 .f32 fun i j => s i j + ∑ k ∈ range 1408, f i k * g k j := by
  unfold k0_pay3
  refine (shapeCast_self _ _).trans ?_
  rw [part]
  rfl

theorem last : k0_pay4 (F := Ideal) (e2 .bf16 g) (e2 .bf16 f) (e2 .f32 s) (e2 .f32 h)
    = e2 .f32 fun i j => s i j + (∑ k ∈ range 1408, f i k * g k j) + h i j := by
  unfold k0_pay4
  rw [part]
  rfl

end body

/- What a point leaves in the kept array, and what the last of four writes. -/

variable (m : (ℓ : Loc nD τ sig) → Buf (Elt Ideal) ℓ) (c : Dev nD)

theorem kept_first (t : Fin cfg0.N) (h0 : t.val % 4 = 0) :
    (outsAt0 m c t.val t.isLt).2 = k0_pay2 (iblk m c 1 t) (iblk m c 0 t) := by
  rw [outsAt0_A m c t h0 (by omega) (by omega)]
  dsimp only
  unfold sout0_A_0
  rw [View.read_writes_eq_canon _ _ _ (scover0_A_0 c _ _ _ _ _ _ _ _ _ _ _ _ _ _ _ _ _)]
  unfold kernelRun0_A
  dsimp only
  sl_unfold_words
  refine (View.canon_cons_unit_zero off2 _ _ _).trans ?_
  simp only [View.readAt_eq_ld, (hs0_0 t).read_unread, (hs0_1 t).read_unread, View.ld_unit_zero (S := S1024x1408) off2,
    View.ld_unit_zero (S := S1408x1024) off2]

theorem kept_next (t : Fin cfg0.N) (h1 : 1 ≤ t.val % 4 ∧ t.val % 4 ≤ 2) :
    (outsAt0 m c t.val t.isLt).2 = k0_pay3 (iblk m c 1 t) (iblk m c 0 t) (outsAt0 m c (t.val - 1) (by have := t.isLt; omega)).2 := by
  rw [outsAt0_B m c t (by omega) h1 (by omega)]
  dsimp only
  unfold sout0_B_0
  rw [View.read_writes_eq_canon _ _ _ (scover0_B_0 c _ _ _ _ _ _ _ _ _ _ _ _ _ _ _ _ _ _)]
  unfold kernelRun0_B
  dsimp only
  sl_unfold_words
  refine (View.canon_cons_unit_zero off2 _ _ _).trans ?_
  simp only [View.readAt_eq_ld, (hs0_0 t).read_unread, (hs0_1 t).read_unread, (Memref.isWhole_whole (κ := .tc) cc0_scratch0).read_unread,
    View.ld_unit_zero (S := S1024x1408) off2, View.ld_unit_zero (S := S1408x1024) off2, View.ld_unit_zero (S := S1024x1024) off2]

theorem written (t : Fin cfg0.N) (h2 : t.val % 4 = 3) :
    (outsAt0 m c t.val t.isLt).1
      = k0_pay4 (iblk m c 1 t) (iblk m c 0 t) (outsAt0 m c (t.val - 1) (by have := t.isLt; omega)).2 (iblk m c 2 t) := by
  rw [outsAt0_C m c t (by omega) (by omega) h2]
  dsimp only
  unfold out0_C_3
  rw [View.read_writes_eq_canon _ _ _ (cover0_C_3 c _ _ _ _ _ _ _ _ _ _ _ _ _ _ _ _ _ _)]
  unfold kernelRun0_C
  dsimp only
  sl_unfold_words
  refine (View.canon_cons_unit_zero off2 _ _ _).trans ?_
  simp only [View.readAt_eq_ld, (hs0_0 t).read_unread, (hs0_1 t).read_unread, (hs0_2 t).read_unread,
    (Memref.isWhole_whole (κ := .tc) cc0_scratch0).read_unread,
    View.ld_unit_zero (S := S1024x1408) off2, View.ld_unit_zero (S := S1408x1024) off2, View.ld_unit_zero (S := S1024x1024) off2]

/- The blocks the points read: point `t` works on rows `t / 8`, columns `t / 4 % 2` and the part `t % 4` of the sum. -/

theorem at0 : ∀ t : Fin grid0.N, win0_0.index t 0 = t.val / 8 ∧ win0_0.index t 1 = t.val % 4 := by decide +kernel
theorem at1 : ∀ t : Fin grid0.N, win0_1.index t 0 = t.val % 4 ∧ win0_1.index t 1 = t.val / 4 % 2 := by decide +kernel
theorem at2 : ∀ t : Fin grid0.N, win0_2.index t 0 = t.val / 8 ∧ win0_2.index t 1 = t.val / 4 % 2 := by decide +kernel
theorem at3 : ∀ t : Fin grid0.N, win0_3.index t 0 = t.val / 8 ∧ win0_3.index t 1 = t.val / 4 % 2 := by decide +kernel

variable (f g h : ℕ → ℕ → EReal)

/-- The three arguments in memory. -/
structure Holds : Prop where
  act : m ((c : Thread nD τ).loc main_arg0) = e2 .bf16 f
  w : m ((c : Thread nD τ).loc main_arg1) = e2 .bf16 g
  h : m ((c : Thread nD τ).loc main_arg2) = e2 .f32 h

variable {m c f g h}

theorem read_act (H : Holds m c f g h) (t : Fin cfg0.N) :
    (iblk m c 0 t : FVec Ideal S1024x1408 .bf16) = e2 .bf16 fun i k => f (t.val / 8 * 1024 + i) (t.val % 4 * 1408 + k) := by
  funext j
  obtain ⟨a0, a1⟩ := at0 t
  show V m c main_arg0 (((cfg0.win 0).blk t).view.emb j) = _
  rw [V_main_arg0, H.act]
  refine eq2 (f := f) ?_ ?_
  · blk_simp [a0] <;> omega
  · blk_simp [a1] <;> omega

theorem read_w (H : Holds m c f g h) (t : Fin cfg0.N) :
    (iblk m c 1 t : FVec Ideal S1408x1024 .bf16) = e2 .bf16 fun k j => g (t.val % 4 * 1408 + k) (t.val / 4 % 2 * 1024 + j) := by
  funext j
  obtain ⟨a0, a1⟩ := at1 t
  show V m c main_arg1 (((cfg0.win 1).blk t).view.emb j) = _
  rw [V_main_arg1, H.w]
  refine eq2 (f := g) ?_ ?_
  · blk_simp [a0] <;> omega
  · blk_simp [a1] <;> omega

theorem read_h (H : Holds m c f g h) (t : Fin cfg0.N) :
    (iblk m c 2 t : FVec Ideal S1024x1024 .f32) = e2 .f32 fun i j => h (t.val / 8 * 1024 + i) (t.val / 4 % 2 * 1024 + j) := by
  funext j
  obtain ⟨a0, a1⟩ := at2 t
  show V m c main_arg2 (((cfg0.win 2).blk t).view.emb j) = _
  rw [V_main_arg2, H.h]
  refine eq2 (f := h) ?_ ?_
  · blk_simp [a0] <;> omega
  · blk_simp [a1] <;> omega

/-- The terms of the sum that a point's block of the product takes. -/
def term (f g : ℕ → ℕ → EReal) (n i j k : ℕ) : EReal := f (n / 8 * 1024 + i) k * g k (n / 4 % 2 * 1024 + j)

theorem term_pred (t : ℕ) (ht : t % 4 ≠ 0) : term f g (t - 1) = term f g t := by
  have e1 : (t - 1) / 8 = t / 8 := by omega
  have e2 : (t - 1) / 4 = t / 4 := by omega
  unfold term
  rw [e1, e2]

/-- The kept array after each of a block's first three points: the sum over the parts so far. -/
theorem kept (H : Holds m c f g h) (t : ℕ) (ht : t < cfg0.N) (h2 : t % 4 ≤ 2) : (outsAt0 m c t ht).2
    = e2 .f32 fun i j => ∑ k ∈ range ((t % 4 + 1) * 1408), term f g t i j k := by
  refine PartSum.kept (fun t ht => (outsAt0 m c t ht).2) (term f g) term_pred (fun t ht h0 => ?_) (fun t ht hp h1 s hs => ?_) t ht h2
  · refine (kept_first m c ⟨t, ht⟩ h0).trans ?_
    rw [read_act H, read_w H, first]
    rfl
  · refine (kept_next m c ⟨t, ht⟩ h1).trans ?_
    rw [read_act H, read_w H, hs, next]
    rfl

/-- What the last of a block's four points writes. -/
theorem written_eq (H : Holds m c f g h) (t : Fin cfg0.N) (h3 : t.val % 4 = 3) : (outsAt0 m c t.val t.isLt).1
    = e2 .f32 fun i j => (∑ k ∈ range 5632, f (t.val / 8 * 1024 + i) k * g k (t.val / 4 % 2 * 1024 + j))
        + h (t.val / 8 * 1024 + i) (t.val / 4 % 2 * 1024 + j) := by
  rw [written m c t h3, kept H (t.val - 1) _ (by omega), read_act H, read_w H, read_h H, last]
  refine e2_congr fun i _ j _ => congrArg₂ (fun x y : EReal => x + y) ?_ rfl
  exact PartSum.total (term f g) term_pred t.val h3 i j

/-- The array the program leaves. -/
theorem arr_out (H : Holds m c f g h) : ((dats m 0 c).arrAt 3 cfg0.N : FVec Ideal S2048x2048 .f32)
    = e2 .f32 fun i j => (∑ k ∈ range 5632, f i k * g k j) + h i j := by
  refine (dats m 0 c).arrAt_eq_of_covers 3 _ (by decide +kernel) fun t hf y => ?_
  have h3 : t.val % 4 = 3 := (flush0_3 t).mp hf
  blk_simp
  rw [after0_3]
  obtain ⟨o0, o1⟩ := at3 t
  rw [written_eq H t h3]
  have y0 : (y 0).val < 1024 := (y 0).isLt
  have y1 : (y 1).val < 1024 := (y 1).isLt
  refine congrArg₂ (fun x y : EReal => x + y) (Finset.sum_congr (M := EReal) rfl fun k hk => congrArg₂ _ ?_ ?_) ?_
  · refine eq2 (f := f) ?_ rfl
    blk_simp [o0] <;> omega
  · refine eq2 (f := g) rfl ?_
    blk_simp [o1] <;> omega
  · refine eq2 (f := h) ?_ ?_
    · blk_simp [o0] <;> omega
    · blk_simp [o1] <;> omega

end Down
-- ==== Proof.DownClaim.lean ====
/- The fifth program's claim: it leaves what its reference leaves, whatever the arguments. -/
module

public import proofs.«01_k».proof.Defs
public import proofs.«01_k».proof.Proof.DownRun
public import proofs.«01_k».proof.Proof.FfnRef
public import proofs.«01_k».proof.Proof.FfnPre
public import proofs.«01_k».proof.Proof.Gen.Reference5Ideal.Read

@[expose] public section

set_option maxRecDepth 16384

noncomputable section

namespace Down

open Idealize.ShloMosaic Idealize.ShloMosaic.TcCoe Idealize.SL.Sem
open Ffn (e2 sum_fin)

/-- The reference: what comes in, and the product with the weights beside it. -/
theorem ref_out (f g h : ℕ → ℕ → EReal) : Cert.Reference5Ideal.Read.val_main_v2 (F := Ideal) (e2 .bf16 f) (e2 .bf16 g) (e2 .f32 h)
    = e2 .f32 fun i j => (∑ k ∈ Finset.range 5632, f i k * g k j) + h i j := by
  funext i
  rw [Cert.Reference5Ideal.Read.val_main_v2_apply, Cert.Reference5Ideal.Read.val_main_v1_apply]
  refine (add_comm (G := EReal) _ _).trans (congrArg₂ (fun x y : EReal => x + y) ?_ rfl)
  exact sum_fin (G := fun k => f (i 0).val k * g k (i 1).val) fun k =>
    congrArg₂ _ (Cert.Reference5Ideal.Read.val_main_v0_apply _ _) rfl

/-- Any memory holds some arguments. -/
theorem holds (m : (ℓ : Loc Cert.Kernel5Ideal.nD Cert.Kernel5Ideal.τ Cert.Kernel5Ideal.sig) → Buf (Elt Ideal) ℓ)
    (c : Dev Cert.Kernel5Ideal.nD) : ∃ f g h, Holds m c f g h :=
  ⟨Ffn.entry2 (m ((c : Thread Cert.Kernel5Ideal.nD Cert.Kernel5Ideal.τ).loc Cert.Kernel5Ideal.main_arg0)),
    Ffn.entry2 (m ((c : Thread Cert.Kernel5Ideal.nD Cert.Kernel5Ideal.τ).loc Cert.Kernel5Ideal.main_arg1)),
    Ffn.entry2 (m ((c : Thread Cert.Kernel5Ideal.nD Cert.Kernel5Ideal.τ).loc Cert.Kernel5Ideal.main_arg2)),
    ⟨Ffn.eq_e2 _ _, Ffn.eq_e2 _ _, Ffn.eq_e2 _ _⟩⟩

theorem reference_frame : Cert.quiescent_Reference5Ideal (hReference5Ideal := Cert.Reference5Ideal.Gen.facts) := fun m ρ _ =>
  (θ_run _ _ _).mono (fun r h => ⟨fun c => (h c).2, sem_eq_zero_of_no_sems rfl r.2⟩) (Cert.Reference5Ideal.Value.run m ρ)

theorem algebraic : Cert.algebraic_Kernel5Ideal_Reference5Ideal (hKernel5Ideal := Cert.Kernel5Ideal.Gen.facts) (hReference5Ideal := Cert.Reference5Ideal.Gen.facts) := by
  intro m g m' g' _ hm
  refine ⟨fun c => Cert.Reference5Ideal.Read.val_main_v2 (F := Ideal) (m (c.tc.loc Cert.Kernel5Ideal.main_arg0)) (m (c.tc.loc Cert.Kernel5Ideal.main_arg1)) (m (c.tc.loc Cert.Kernel5Ideal.main_arg2)), ?_, ?_⟩
  · refine (θ_run _ _ _).mono (fun r h c => ?_) (Cert.Kernel5Ideal.Value.run m g)
    obtain ⟨x, w, b, H⟩ := holds m c
    obtain ⟨h0, k⟩ := h c
    refine ⟨h0.trans ((Cert.Kernel5Ideal.Value.final3 m c).symm.trans ((arr_out H).trans ?_)), k⟩
    beta_reduce
    rw [H.act, H.w, H.h]
    exact (ref_out x w b).symm
  · refine (θ_run _ _ _).mono (fun r h c => ?_) (Cert.Reference5Ideal.Value.run m' g')
    obtain ⟨h0, k⟩ := h c
    obtain ⟨e0, e1, e2⟩ := hm c
    refine ⟨(h0.trans (Cert.Reference5Ideal.Read.val_main_v2_eq (F := Ideal) (m' (c.tc.loc Cert.Reference5Ideal.main_arg0)) (m' (c.tc.loc Cert.Reference5Ideal.main_arg1)) (m' (c.tc.loc Cert.Reference5Ideal.main_arg2)))).trans ?_, k⟩
    beta_reduce
    rw [e0, e1, e2]

end Down
-- ==== Proof.GateDx.lean ====
/- The sixth program: the gradient of the feed-forward block's input through the gate. The sum runs over the four chips' parts of the
   weights, one part at each of four consecutive points, added up in an array kept between the points. -/
module

public import proofs.«01_k».proof.Proof.FfnRegions
public import proofs.«01_k».proof.Proof.PartSum
public import proofs.«01_k».proof.Proof.Gen.Kernel6Ideal.Value
public import Idealize.ShloMosaic.Lib.Pipeline.ValueKit

@[expose] public section

set_option maxRecDepth 16384

noncomputable section

namespace GateDx

open Idealize.ShloMosaic hiding ix0 ix1 ix2 ix3 ix4 ix5 ix6 eq_ix2 eq_ix3 eq_ix4 eq_ix5
open Idealize.ShloMosaic.ValueIdx Finset
open Ffn (e2 e3 e2_congr eq2 eq3 off2 off3)
open Cert.Kernel6Ideal Cert.Kernel6Ideal.Gen Cert.Kernel6Ideal.Value Idealize.SL.Sem
open Idealize.ShloMosaic.TcCoe

/- What a point computes from what it reads. -/

section body
variable (f s : ℕ → ℕ → EReal) (w : ℕ → ℕ → ℕ → EReal)

theorem part : k0_pay1 (F := Ideal) (e3 .bf16 w) (e2 .bf16 f) = e2 .f32 fun i j => ∑ k ∈ range 1408, f i k * w 0 j k := by
  funext j
  idx_vars j
  unfold k0_pay1
  pointwise
  simp only [e2, e3, Finset.sum_range]
  simp

theorem first : k0_pay2 (F := Ideal) (e3 .bf16 w) (e2 .bf16 f) = e2 .f32 fun i j => ∑ k ∈ range 1408, f i k * w 0 j k := by
  unfold k0_pay2
  exact (shapeCast_self _ _).trans (part f w)

theorem last : k0_pay4 (F := Ideal) (e3 .bf16 w) (e2 .bf16 f) (e2 .f32 s)
    = e2 .f32 fun i j => s i j + ∑ k ∈ range 1408, f i k * w 0 j k := by
  unfold k0_pay4
  rw [part]
  rfl

theorem next : k0_pay3 (F := Ideal) (e3 .bf16 w) (e2 .bf16 f) (e2 .f32 s)
    = e2 .f32 fun i j => s i j + ∑ k ∈ range 1408, f i k * w 0 j k :=
  (shapeCast_self _ _).trans (last f s w)

end body

/- The gradient, and the terms of its sum in a point's block. -/

section terms
variable (f : ℕ → ℕ → EReal) (w : ℕ → ℕ → ℕ → EReal)

/-- The gradient of the input: the sum over all columns, 1408 of each chip. -/
def dx (i j : ℕ) : EReal := ∑ k ∈ range 5632, f i k * w (k / 1408) j (k % 1408)

/-- The terms of the sum that a point's block of the gradient takes. -/
def term (t i j k : ℕ) : EReal := f (t / 8 * 1024 + i) k * w (k / 1408) (t / 4 % 2 * 1024 + j) (k % 1408)

theorem term_pred (t : ℕ) (ht : t % 4 ≠ 0) : term f w (t - 1) = term f w t := by
  have e1 : (t - 1) / 8 = t / 8 := by omega
  have e2 : (t - 1) / 4 = t / 4 := by omega
  unfold term
  rw [e1, e2]

theorem sum_term (t i j : ℕ) :
    (∑ k ∈ range 1408, f (t / 8 * 1024 + i) (t % 4 * 1408 + k) * w (t % 4) (t / 4 % 2 * 1024 + j) k)
      = ∑ k ∈ range 1408, term f w t i j (t % 4 * 1408 + k) := by
  refine Finset.sum_congr (M := EReal) rfl fun k hk => ?_
  have hk := Finset.mem_range.1 hk
  unfold term
  rw [show (t % 4 * 1408 + k) / 1408 = t % 4 by omega, show (t % 4 * 1408 + k) % 1408 = k by omega]

theorem total_term (t : ℕ) (h3 : t % 4 = 3) (i j : ℕ) :
    (∑ k ∈ range (((t - 1) % 4 + 1) * 1408), term f w (t - 1) i j k)
        + (∑ k ∈ range 1408, f (t / 8 * 1024 + i) (t % 4 * 1408 + k) * w (t % 4) (t / 4 % 2 * 1024 + j) k)
      = ∑ k ∈ range 5632, term f w t i j k := by
  rw [sum_term]
  exact PartSum.total (term f w) (term_pred f w) t h3 i j

variable {f w}

theorem sum_block {t i j i' j' : ℕ} (h0 : t / 8 * 1024 + i = i') (h1 : t / 4 % 2 * 1024 + j = j') :
    (∑ k ∈ range 5632, term f w t i j k) = dx f w i' j' := by
  subst h0 h1
  unfold term dx
  rfl

end terms

/- What a point leaves in the kept array, and what the last of four writes. -/

variable (m : (ℓ : Loc nD τ sig) → Buf (Elt Ideal) ℓ) (c : Dev nD)

theorem kept_first (t : Fin cfg0.N) (h0 : t.val % 4 = 0) :
    (outsAt0 m c t.val t.isLt).2 = k0_pay2 (iblk m c 1 t) (iblk m c 0 t) := by
  rw [outsAt0_A m c t h0 (by omega) (by omega)]
  dsimp only
  unfold sout0_A_0
  rw [View.read_writes_eq_canon _ _ _ (scover0_A_0 c _ _ _ _ _ _ _ _ _ _ _ _ _ _)]
  unfold kernelRun0_A
  dsimp only
  sl_unfold_words
  refine (View.canon_cons_unit_zero off2 _ _ _).trans ?_
  simp only [View.readAt_eq_ld, (hs0_0 t).read_unread, (hs0_1 t).read_unread, View.ld_unit_zero (S := S1024x1408) off2, View.ld_unit_zero (S := S1x1024x1408) off3]

theorem kept_next (t : Fin cfg0.N) (h1 : 1 ≤ t.val % 4 ∧ t.val % 4 ≤ 2) :
    (outsAt0 m c t.val t.isLt).2 = k0_pay3 (iblk m c 1 t) (iblk m c 0 t) (outsAt0 m c (t.val - 1) (by have := t.isLt; omega)).2 := by
  rw [outsAt0_B m c t (by omega) h1 (by omega)]
  dsimp only
  unfold sout0_B_0
  rw [View.read_writes_eq_canon _ _ _ (scover0_B_0 c _ _ _ _ _ _ _ _ _ _ _ _ _ _ _)]
  unfold kernelRun0_B
  dsimp only
  sl_unfold_words
  refine (View.canon_cons_unit_zero off2 _ _ _).trans ?_
  simp only [View.readAt_eq_ld, (hs0_0 t).read_unread, (hs0_1 t).read_unread, (Memref.isWhole_whole (κ := .tc) cc0_scratch0).read_unread,
    View.ld_unit_zero (S := S1024x1408) off2, View.ld_unit_zero (S := S1x1024x1408) off3, View.ld_unit_zero (S := S1024x1024) off2]

theorem written (t : Fin cfg0.N) (h2 : t.val % 4 = 3) :
    (outsAt0 m c t.val t.isLt).1
      = k0_pay4 (iblk m c 1 t) (iblk m c 0 t) (outsAt0 m c (t.val - 1) (by have := t.isLt; omega)).2 := by
  rw [outsAt0_C m c t (by omega) (by omega) h2]
  dsimp only
  unfold out0_C_2
  rw [View.read_writes_eq_canon _ _ _ (cover0_C_2 c _ _ _ _ _ _ _ _ _ _ _ _ _ _ _)]
  unfold kernelRun0_C
  dsimp only
  sl_unfold_words
  refine (View.canon_cons_unit_zero off2 _ _ _).trans ?_
  simp only [View.readAt_eq_ld, (hs0_0 t).read_unread, (hs0_1 t).read_unread, (Memref.isWhole_whole (κ := .tc) cc0_scratch0).read_unread,
    View.ld_unit_zero (S := S1024x1408) off2, View.ld_unit_zero (S := S1x1024x1408) off3, View.ld_unit_zero (S := S1024x1024) off2]

/- The blocks the points read: point `t` works on rows `t / 8`, columns `t / 4 % 2` and the part `t % 4` of the sum, which is one chip's. -/

theorem at0 : ∀ t : Fin grid0.N, win0_0.index t 0 = t.val / 8 ∧ win0_0.index t 1 = t.val % 4 := by decide +kernel
theorem at1 : ∀ t : Fin grid0.N, win0_1.index t 0 = t.val % 4 ∧ win0_1.index t 1 = t.val / 4 % 2 ∧ win0_1.index t 2 = 0 := by decide +kernel
theorem at2 : ∀ t : Fin grid0.N, win0_2.index t 0 = t.val / 8 ∧ win0_2.index t 1 = t.val / 4 % 2 := by decide +kernel

variable (f : ℕ → ℕ → EReal) (w : ℕ → ℕ → ℕ → EReal)

/-- The arguments in memory. -/
structure Holds : Prop where
  d : m ((c : Thread nD τ).loc main_arg0) = e2 .bf16 f
  w : m ((c : Thread nD τ).loc main_arg1) = e3 .bf16 w

variable {m c f w}

theorem read_d (H : Holds m c f w) (t : Fin cfg0.N) :
    (iblk m c 0 t : FVec Ideal S1024x1408 .bf16) = e2 .bf16 fun i k => f (t.val / 8 * 1024 + i) (t.val % 4 * 1408 + k) := by
  funext j
  obtain ⟨a0, a1⟩ := at0 t
  show V m c main_arg0 (((cfg0.win 0).blk t).view.emb j) = _
  rw [V_main_arg0, H.d]
  refine eq2 (f := f) ?_ ?_
  · blk_simp [a0] <;> omega
  · blk_simp [a1] <;> omega

theorem read_w (H : Holds m c f w) (t : Fin cfg0.N) :
    (iblk m c 1 t : FVec Ideal S1x1024x1408 .bf16) = e3 .bf16 fun _ j k => w (t.val % 4) (t.val / 4 % 2 * 1024 + j) k := by
  funext j
  have hj : (j 0).val < 1 := (j 0).isLt
  obtain ⟨a0, a1, a2⟩ := at1 t
  show V m c main_arg1 (((cfg0.win 1).blk t).view.emb j) = _
  rw [V_main_arg1, H.w]
  refine eq3 (f := w) ?_ ?_ ?_
  · blk_simp [a0] <;> omega
  · blk_simp [a1] <;> omega
  · blk_simp [a2] <;> omega

/-- The kept array after each of a block's first three points: the sum over the parts so far. -/
theorem kept (H : Holds m c f w) (t : ℕ) (ht : t < cfg0.N) (h2 : t % 4 ≤ 2) : (outsAt0 m c t ht).2
    = e2 .f32 fun i j => ∑ k ∈ range ((t % 4 + 1) * 1408), term f w t i j k := by
  refine PartSum.kept (fun t ht => (outsAt0 m c t ht).2) (term f w) (term_pred f w) (fun t ht h0 => ?_) (fun t ht hp h1 s hs => ?_) t ht h2
  · refine (kept_first m c ⟨t, ht⟩ h0).trans ?_
    rw [read_d H, read_w H, first]
    exact e2_congr fun i _ j _ => sum_term f w t i j
  · refine (kept_next m c ⟨t, ht⟩ h1).trans ?_
    rw [read_d H, read_w H, hs, next]
    exact e2_congr fun i _ j _ => congrArg (fun x : EReal => s i j + x) (sum_term f w t i j)

/-- What the last of a block's four points writes. -/
theorem written_eq (H : Holds m c f w) (t : Fin cfg0.N) (h3 : t.val % 4 = 3) : (outsAt0 m c t.val t.isLt).1
    = e2 .f32 fun i j => ∑ k ∈ range 5632, term f w t.val i j k := by
  rw [written m c t h3, kept H (t.val - 1) _ (by omega), read_d H, read_w H, last]
  refine e2_congr fun i _ j _ => ?_
  exact total_term f w t.val h3 i j

/-- The array the program leaves. -/
theorem arr_out (H : Holds m c f w) : ((dats m 0 c).arrAt 2 cfg0.N : FVec Ideal S2048x2048 .f32)
    = e2 .f32 fun i j => dx f w i j := by
  refine (dats m 0 c).arrAt_eq_of_covers 2 _ (by decide +kernel) fun t hf y => ?_
  have h3 : t.val % 4 = 3 := (flush0_2 t).mp hf
  blk_simp
  rw [after0_2]
  obtain ⟨o0, o1⟩ := at2 t
  rw [written_eq H t h3]
  have y0 : (y 0).val < 1024 := (y 0).isLt
  have y1 : (y 1).val < 1024 := (y 1).isLt
  refine sum_block ?_ ?_
  · blk_simp [o0] <;> omega
  · blk_simp [o1] <;> omega

end GateDx
-- ==== Proof.UpDx.lean ====
/- The seventh program: the gradient of the feed-forward block's input through the up weights, added to the one through the gate. A point's
   part of the sum has the sixth program's text; the last of a block's four points adds the other gradient. -/
module

public import proofs.«01_k».proof.Proof.GateDx
public import proofs.«01_k».proof.Proof.Gen.Kernel7Ideal.Value
public import Idealize.ShloMosaic.Lib.Pipeline.ValueKit

@[expose] public section

set_option maxRecDepth 16384

noncomputable section

namespace UpDx

open Idealize.ShloMosaic hiding ix0 ix1 ix2 ix3 ix4 ix5 ix6 eq_ix2 eq_ix3 eq_ix4 eq_ix5
open Idealize.ShloMosaic.ValueIdx Finset
open Ffn (e2 e3 e2_congr eq2 eq3 off2 off3)
open Cert.Kernel7Ideal Cert.Kernel7Ideal.Gen Cert.Kernel7Ideal.Value Idealize.SL.Sem
open Idealize.ShloMosaic.TcCoe

open GateDx (term term_pred sum_term total_term sum_block dx)

section body
variable (f h s : ℕ → ℕ → EReal) (w : ℕ → ℕ → ℕ → EReal)

theorem first : k0_pay2 (F := Ideal) (e3 .bf16 w) (e2 .bf16 f) = e2 .f32 fun i j => ∑ k ∈ range 1408, f i k * w 0 j k := GateDx.first f w

theorem next : k0_pay3 (F := Ideal) (e3 .bf16 w) (e2 .bf16 f) (e2 .f32 s)
    = e2 .f32 fun i j => s i j + ∑ k ∈ range 1408, f i k * w 0 j k := GateDx.next f s w

theorem last : k0_pay4 (F := Ideal) (e3 .bf16 w) (e2 .bf16 f) (e2 .f32 s) (e2 .f32 h)
    = e2 .f32 fun i j => s i j + (∑ k ∈ range 1408, f i k * w 0 j k) + h i j :=
  congrArg (fun x => addf x (e2 .f32 h)) (GateDx.last f s w)

end body

/- What a point leaves in the kept array, and what the last of four writes. -/

variable (m : (ℓ : Loc nD τ sig) → Buf (Elt Ideal) ℓ) (c : Dev nD)

theorem kept_first (t : Fin cfg0.N) (h0 : t.val % 4 = 0) :
    (outsAt0 m c t.val t.isLt).2 = k0_pay2 (iblk m c 1 t) (iblk m c 0 t) := by
  rw [outsAt0_A m c t h0 (by omega) (by omega)]
  dsimp only
  unfold sout0_A_0
  rw [View.read_writes_eq_canon _ _ _ (scover0_A_0 c _ _ _ _ _ _ _ _ _ _ _ _ _ _ _ _ _)]
  unfold kernelRun0_A
  dsimp only
  sl_unfold_words
  refine (View.canon_cons_unit_zero off2 _ _ _).trans ?_
  simp only [View.readAt_eq_ld, (hs0_0 t).read_unread, (hs0_1 t).read_unread, View.ld_unit_zero (S := S1024x1408) off2, View.ld_unit_zero (S := S1x1024x1408) off3]

theorem kept_next (t : Fin cfg0.N) (h1 : 1 ≤ t.val % 4 ∧ t.val % 4 ≤ 2) :
    (outsAt0 m c t.val t.isLt).2 = k0_pay3 (iblk m c 1 t) (iblk m c 0 t) (outsAt0 m c (t.val - 1) (by have := t.isLt; omega)).2 := by
  rw [outsAt0_B m c t (by omega) h1 (by omega)]
  dsimp only
  unfold sout0_B_0
  rw [View.read_writes_eq_canon _ _ _ (scover0_B_0 c _ _ _ _ _ _ _ _ _ _ _ _ _ _ _ _ _ _)]
  unfold kernelRun0_B
  dsimp only
  sl_unfold_words
  refine (View.canon_cons_unit_zero off2 _ _ _).trans ?_
  simp only [View.readAt_eq_ld, (hs0_0 t).read_unread, (hs0_1 t).read_unread, (Memref.isWhole_whole (κ := .tc) cc0_scratch0).read_unread,
    View.ld_unit_zero (S := S1024x1408) off2, View.ld_unit_zero (S := S1x1024x1408) off3, View.ld_unit_zero (S := S1024x1024) off2]

theorem written (t : Fin cfg0.N) (h2 : t.val % 4 = 3) :
    (outsAt0 m c t.val t.isLt).1
      = k0_pay4 (iblk m c 1 t) (iblk m c 0 t) (outsAt0 m c (t.val - 1) (by have := t.isLt; omega)).2 (iblk m c 2 t) := by
  rw [outsAt0_C m c t (by omega) (by omega) h2]
  dsimp only
  unfold out0_C_3
  rw [View.read_writes_eq_canon _ _ _ (cover0_C_3 c _ _ _ _ _ _ _ _ _ _ _ _ _ _ _ _ _ _)]
  unfold kernelRun0_C
  dsimp only
  sl_unfold_words
  refine (View.canon_cons_unit_zero off2 _ _ _).trans ?_
  simp only [View.readAt_eq_ld, (hs0_0 t).read_unread, (hs0_1 t).read_unread, (hs0_2 t).read_unread, (Memref.isWhole_whole (κ := .tc) cc0_scratch0).read_unread,
    View.ld_unit_zero (S := S1024x1408) off2, View.ld_unit_zero (S := S1x1024x1408) off3, View.ld_unit_zero (S := S1024x1024) off2]

/- The blocks the points read: point `t` works on rows `t / 8`, columns `t / 4 % 2` and the part `t % 4` of the sum, which is one chip's. -/

theorem at0 : ∀ t : Fin grid0.N, win0_0.index t 0 = t.val / 8 ∧ win0_0.index t 1 = t.val % 4 := by decide +kernel
theorem at1 : ∀ t : Fin grid0.N, win0_1.index t 0 = t.val % 4 ∧ win0_1.index t 1 = t.val / 4 % 2 ∧ win0_1.index t 2 = 0 := by decide +kernel
theorem at2 : ∀ t : Fin grid0.N, win0_2.index t 0 = t.val / 8 ∧ win0_2.index t 1 = t.val / 4 % 2 := by decide +kernel
theorem at3 : ∀ t : Fin grid0.N, win0_3.index t 0 = t.val / 8 ∧ win0_3.index t 1 = t.val / 4 % 2 := by decide +kernel

variable (f : ℕ → ℕ → EReal) (w : ℕ → ℕ → ℕ → EReal) (h : ℕ → ℕ → EReal)

/-- The arguments in memory. -/
structure Holds : Prop where
  d : m ((c : Thread nD τ).loc main_arg0) = e2 .bf16 f
  w : m ((c : Thread nD τ).loc main_arg1) = e3 .bf16 w
  h : m ((c : Thread nD τ).loc main_arg2) = e2 .f32 h

variable {m c f w h}

theorem read_d (H : Holds m c f w h) (t : Fin cfg0.N) :
    (iblk m c 0 t : FVec Ideal S1024x1408 .bf16) = e2 .bf16 fun i k => f (t.val / 8 * 1024 + i) (t.val % 4 * 1408 + k) := by
  funext j
  obtain ⟨a0, a1⟩ := at0 t
  show V m c main_arg0 (((cfg0.win 0).blk t).view.emb j) = _
  rw [V_main_arg0, H.d]
  refine eq2 (f := f) ?_ ?_
  · blk_simp [a0] <;> omega
  · blk_simp [a1] <;> omega

theorem read_w (H : Holds m c f w h) (t : Fin cfg0.N) :
    (iblk m c 1 t : FVec Ideal S1x1024x1408 .bf16) = e3 .bf16 fun _ j k => w (t.val % 4) (t.val / 4 % 2 * 1024 + j) k := by
  funext j
  have hj : (j 0).val < 1 := (j 0).isLt
  obtain ⟨a0, a1, a2⟩ := at1 t
  show V m c main_arg1 (((cfg0.win 1).blk t).view.emb j) = _
  rw [V_main_arg1, H.w]
  refine eq3 (f := w) ?_ ?_ ?_
  · blk_simp [a0] <;> omega
  · blk_simp [a1] <;> omega
  · blk_simp [a2] <;> omega

theorem read_h (H : Holds m c f w h) (t : Fin cfg0.N) :
    (iblk m c 2 t : FVec Ideal S1024x1024 .f32) = e2 .f32 fun i j => h (t.val / 8 * 1024 + i) (t.val / 4 % 2 * 1024 + j) := by
  funext j
  obtain ⟨a0, a1⟩ := at2 t
  show V m c main_arg2 (((cfg0.win 2).blk t).view.emb j) = _
  rw [V_main_arg2, H.h]
  refine eq2 (f := h) ?_ ?_
  · blk_simp [a0] <;> omega
  · blk_simp [a1] <;> omega

/-- The kept array after each of a block's first three points: the sum over the parts so far. -/
theorem kept (H : Holds m c f w h) (t : ℕ) (ht : t < cfg0.N) (h2 : t % 4 ≤ 2) : (outsAt0 m c t ht).2
    = e2 .f32 fun i j => ∑ k ∈ range ((t % 4 + 1) * 1408), term f w t i j k := by
  refine PartSum.kept (fun t ht => (outsAt0 m c t ht).2) (term f w) (term_pred f w) (fun t ht h0 => ?_) (fun t ht hp h1 s hs => ?_) t ht h2
  · refine (kept_first m c ⟨t, ht⟩ h0).trans ?_
    rw [read_d H, read_w H, first]
    exact e2_congr fun i _ j _ => sum_term f w t i j
  · refine (kept_next m c ⟨t, ht⟩ h1).trans ?_
    rw [read_d H, read_w H, hs, next]
    exact e2_congr fun i _ j _ => congrArg (fun x : EReal => s i j + x) (sum_term f w t i j)

/-- What the last of a block's four points writes. -/
theorem written_eq (H : Holds m c f w h) (t : Fin cfg0.N) (h3 : t.val % 4 = 3) : (outsAt0 m c t.val t.isLt).1
    = e2 .f32 fun i j => (∑ k ∈ range 5632, term f w t.val i j k) + h (t.val / 8 * 1024 + i) (t.val / 4 % 2 * 1024 + j) := by
  rw [written m c t h3, kept H (t.val - 1) _ (by omega), read_d H, read_w H, read_h H, last]
  refine e2_congr fun i _ j _ => congrArg (fun x : EReal => x + h (t.val / 8 * 1024 + i) (t.val / 4 % 2 * 1024 + j)) ?_
  exact total_term f w t.val h3 i j

/-- The array the program leaves. -/
theorem arr_out (H : Holds m c f w h) : ((dats m 0 c).arrAt 3 cfg0.N : FVec Ideal S2048x2048 .f32)
    = e2 .f32 fun i j => dx f w i j + h i j := by
  refine (dats m 0 c).arrAt_eq_of_covers 3 _ (by decide +kernel) fun t hf y => ?_
  have h3 : t.val % 4 = 3 := (flush0_3 t).mp hf
  blk_simp
  rw [after0_3]
  obtain ⟨o0, o1⟩ := at3 t
  rw [written_eq H t h3]
  have y0 : (y 0).val < 1024 := (y 0).isLt
  have y1 : (y 1).val < 1024 := (y 1).isLt
  refine congrArg₂ (fun x y : EReal => x + y) (sum_block ?_ ?_) ?_
  · blk_simp [o0] <;> omega
  · blk_simp [o1] <;> omega
  · refine eq2 (f := h) ?_ ?_
    · blk_simp [o0] <;> omega
    · blk_simp [o1] <;> omega

end UpDx
-- ==== Proof.DxClaim.lean ====
/- The claims of the sixth and the seventh program: they leave what their references leave, whatever the arguments. -/
module

public import proofs.«01_k».proof.Defs
public import proofs.«01_k».proof.Proof.UpDx
public import proofs.«01_k».proof.Proof.FfnRef
public import proofs.«01_k».proof.Proof.FfnPre
public import proofs.«01_k».proof.Proof.Gen.Reference6Ideal.Read
public import proofs.«01_k».proof.Proof.Gen.Reference7Ideal.Read

@[expose] public section

set_option maxRecDepth 16384

noncomputable section

open Idealize.ShloMosaic Idealize.ShloMosaic.TcCoe Idealize.SL.Sem
open Ffn (e2 e3 sum_fin eq3)

namespace GateDx

open Cert.Reference6Ideal Cert.Reference6Ideal.Read

theorem val_w (w : ℕ → ℕ → ℕ → EReal) (i : S2048x5632.Idx) :
    val_main_v3 (F := Ideal) (e3 .bf16 w) i = w ((i 1).val / 1408) (i 0).val ((i 1).val % 1408) := by
  have h0 : (i 0).val < 2048 := (i 0).isLt
  have h1 : (i 1).val < 5632 := (i 1).isLt
  rw [val_main_v3_apply, val_main_v2_apply]
  refine (val_main_v1_apply _ _).trans (eq3 (f := w) (show ((i 0).val * 5632 + (i 1).val) / 1408 % 4 = (i 1).val / 1408 by omega)
    (show ((i 0).val * 5632 + (i 1).val) / 5632 = (i 0).val by omega)
    (show ((i 0).val * 5632 + (i 1).val) % 1408 = (i 1).val % 1408 by omega))

/-- The reference: the gradient of a product with the joined parts. -/
theorem ref_out (f : ℕ → ℕ → EReal) (w : ℕ → ℕ → ℕ → EReal) : val_main_v6 (F := Ideal) (e2 .bf16 f) (e3 .bf16 w) = e2 .f32 (dx f w) := by
  funext i
  rw [val_main_v6_apply]
  exact sum_fin (G := fun k => f (i 0).val k * w (k / 1408) (i 1).val (k % 1408)) fun k =>
    congrArg₂ _ (val_main_v5_apply _ _) (val_w w _)

end GateDx

/-- The seventh program's reference: the same gradient, added to the other one. -/
theorem UpDx.ref_out (f h : ℕ → ℕ → EReal) (w : ℕ → ℕ → ℕ → EReal) :
    Cert.Reference7Ideal.Read.val_main_v7 (F := Ideal) (e2 .bf16 f) (e3 .bf16 w) (e2 .f32 h) = e2 .f32 fun i j => GateDx.dx f w i j + h i j := by
  funext i
  rw [Cert.Reference7Ideal.Read.val_main_v7_apply]
  exact (add_comm (G := EReal) _ _).trans (congrArg₂ (fun x y : EReal => x + y) (congrFun (GateDx.ref_out f w) i) rfl)

namespace GateDx

/-- Any memory holds some arguments. -/
theorem holds (m : (ℓ : Loc Cert.Kernel6Ideal.nD Cert.Kernel6Ideal.τ Cert.Kernel6Ideal.sig) → Buf (Elt Ideal) ℓ) (c : Dev Cert.Kernel6Ideal.nD) : ∃ f w, Holds m c f w :=
  ⟨Ffn.entry2 (m ((c : Thread Cert.Kernel6Ideal.nD Cert.Kernel6Ideal.τ).loc Cert.Kernel6Ideal.main_arg0)),
    Ffn.entry3 (m ((c : Thread Cert.Kernel6Ideal.nD Cert.Kernel6Ideal.τ).loc Cert.Kernel6Ideal.main_arg1)),
    ⟨Ffn.eq_e2 _ _, Ffn.eq_e3 _ _⟩⟩

theorem reference_frame : Cert.quiescent_Reference6Ideal (hReference6Ideal := Cert.Reference6Ideal.Gen.facts) := fun m ρ _ =>
  (θ_run _ _ _).mono (fun r h => ⟨fun c => (h c).2, sem_eq_zero_of_no_sems rfl r.2⟩) (Cert.Reference6Ideal.Value.run m ρ)

theorem algebraic : Cert.algebraic_Kernel6Ideal_Reference6Ideal (hKernel6Ideal := Cert.Kernel6Ideal.Gen.facts) (hReference6Ideal := Cert.Reference6Ideal.Gen.facts) := by
  intro m g m' g' _ hm
  refine ⟨fun c => Cert.Reference6Ideal.Read.val_main_v6 (F := Ideal) (m (c.tc.loc Cert.Kernel6Ideal.main_arg0)) (m (c.tc.loc Cert.Kernel6Ideal.main_arg1)), ?_, ?_⟩
  · refine (θ_run _ _ _).mono (fun r q c => ?_) (Cert.Kernel6Ideal.Value.run m g)
    obtain ⟨f, w, H⟩ := holds m c
    obtain ⟨h0, k⟩ := q c
    refine ⟨h0.trans ((Cert.Kernel6Ideal.Value.final2 m c).symm.trans ((arr_out H).trans ?_)), k⟩
    beta_reduce
    rw [H.d, H.w]
    exact (ref_out f w).symm
  · refine (θ_run _ _ _).mono (fun r h c => ?_) (Cert.Reference6Ideal.Value.run m' g')
    obtain ⟨h0, k⟩ := h c
    obtain ⟨e0, e1⟩ := hm c
    refine ⟨(h0.trans (Cert.Reference6Ideal.Read.val_main_v6_eq (F := Ideal) (m' (c.tc.loc Cert.Reference6Ideal.main_arg0)) (m' (c.tc.loc Cert.Reference6Ideal.main_arg1)))).trans ?_, k⟩
    beta_reduce
    rw [e0, e1]

end GateDx

namespace UpDx

/-- Any memory holds some arguments. -/
theorem holds (m : (ℓ : Loc Cert.Kernel7Ideal.nD Cert.Kernel7Ideal.τ Cert.Kernel7Ideal.sig) → Buf (Elt Ideal) ℓ) (c : Dev Cert.Kernel7Ideal.nD) : ∃ f w h, Holds m c f w h :=
  ⟨Ffn.entry2 (m ((c : Thread Cert.Kernel7Ideal.nD Cert.Kernel7Ideal.τ).loc Cert.Kernel7Ideal.main_arg0)),
    Ffn.entry3 (m ((c : Thread Cert.Kernel7Ideal.nD Cert.Kernel7Ideal.τ).loc Cert.Kernel7Ideal.main_arg1)),
    Ffn.entry2 (m ((c : Thread Cert.Kernel7Ideal.nD Cert.Kernel7Ideal.τ).loc Cert.Kernel7Ideal.main_arg2)),
    ⟨Ffn.eq_e2 _ _, Ffn.eq_e3 _ _, Ffn.eq_e2 _ _⟩⟩

theorem reference_frame : Cert.quiescent_Reference7Ideal (hReference7Ideal := Cert.Reference7Ideal.Gen.facts) := fun m ρ _ =>
  (θ_run _ _ _).mono (fun r h => ⟨fun c => (h c).2, sem_eq_zero_of_no_sems rfl r.2⟩) (Cert.Reference7Ideal.Value.run m ρ)

theorem algebraic : Cert.algebraic_Kernel7Ideal_Reference7Ideal (hKernel7Ideal := Cert.Kernel7Ideal.Gen.facts) (hReference7Ideal := Cert.Reference7Ideal.Gen.facts) := by
  intro m g m' g' _ hm
  refine ⟨fun c => Cert.Reference7Ideal.Read.val_main_v7 (F := Ideal) (m (c.tc.loc Cert.Kernel7Ideal.main_arg0)) (m (c.tc.loc Cert.Kernel7Ideal.main_arg1)) (m (c.tc.loc Cert.Kernel7Ideal.main_arg2)), ?_, ?_⟩
  · refine (θ_run _ _ _).mono (fun r q c => ?_) (Cert.Kernel7Ideal.Value.run m g)
    obtain ⟨f, w, h, H⟩ := holds m c
    obtain ⟨h0, k⟩ := q c
    refine ⟨h0.trans ((Cert.Kernel7Ideal.Value.final3 m c).symm.trans ((arr_out H).trans ?_)), k⟩
    beta_reduce
    rw [H.d, H.w, H.h]
    exact (ref_out f h w).symm
  · refine (θ_run _ _ _).mono (fun r h c => ?_) (Cert.Reference7Ideal.Value.run m' g')
    obtain ⟨h0, k⟩ := h c
    obtain ⟨e0, e1, e2⟩ := hm c
    refine ⟨(h0.trans (Cert.Reference7Ideal.Read.val_main_v7_eq (F := Ideal) (m' (c.tc.loc Cert.Reference7Ideal.main_arg0)) (m' (c.tc.loc Cert.Reference7Ideal.main_arg1)) (m' (c.tc.loc Cert.Reference7Ideal.main_arg2)))).trans ?_, k⟩
    beta_reduce
    rw [e0, e1, e2]

end UpDx
-- ==== Proof.Body.lean ====
/- One step of the backward kernel written once for all four pairs of heads: what a grid point computes from the blocks it
   reads (`Blk`), as functions of the pair. -/
module

public import proofs.«01_k».proof.Proof.Lift

@[expose] public section

set_option maxRecDepth 16384

noncomputable section

namespace Ssd

open Idealize.ShloMosaic Cert.KernelIdeal Cert.KernelIdeal.Gen

variable {F : FTy → Type} [FloatOps F]

/-- What one grid point reads: a chunk's inputs of one group of heads, the chunk's result `y`, the states before and after
    the chunk, and the state gradient `ds` that the later chunks left. -/
structure Blk (F : FTy → Type) where
  xs : FVec F S128x512 .f32
  B : FVec F S128x128 .f32
  C : FVec F S128x128 .f32
  dt : FVec F S128x128 .f32
  al : FVec F S1x128 .f32
  dy : FVec F S128x512 .f32
  y : FVec F S128x512 .f32
  sin : FVec F S128x512 .f32
  sout : FVec F S128x512 .f32
  dsk : FVec F S1x512 .f32
  ds : FVec F S128x512 .f32

theorem slices_head {e : ℕ} (h : e < 8) : S128x128.Slices ![0, e] S128x1 := ⟨rfl, fun b => by
  fin_cases b
  · exact Nat.le_refl 128
  · show e + 1 ≤ 128; omega⟩
theorem slices_row {e : ℕ} (h : e < 128) : S128x128.Slices ![e, 0] S1x128 := ⟨rfl, fun b => by
  fin_cases b
  · show e + 1 ≤ 128; omega
  · exact Nat.le_refl 128⟩
theorem slices_pair {r : ℕ} (h : r < 4) : S128x512.Slices ![0, 128 * r] S128x128 := ⟨rfl, fun b => by
  fin_cases b
  · exact Nat.le_refl 128
  · show 128 * r + 128 ≤ 512; omega⟩
theorem slices_skip {r : ℕ} (h : r < 4) : S1x512.Slices ![0, 128 * r] S1x128 := ⟨rfl, fun b => by
  fin_cases b
  · exact Nat.le_refl 1
  · show 128 * r + 128 ≤ 512; omega⟩

/-- The zero matrix. -/
def zero : FVec F S128x128 .f32 := broadcast S128x128 (Scalar.ofBits .f32 0x00000000#32)
/-- Lane `e` of a matrix, along every lane. -/
def hd (v : FVec F S128x128 .f32) (e : ℕ) (h : e < 8) : FVec F S128x128 .f32 :=
  broadcastTo S128x128 (shapeCast S128x1 (extractStridedSlice S128x1 ![0, e] v (slices_head h)) shapeCasts_S128x1_S128x1) broadcasts_S128x1_S128x128
/-- The first head's lanes of a pair. -/
def lo : IVec S128x128 1 := cmpi .slt (iota .tc S128x128 32 [1] iota_S128x128_d1_w32) (broadcast S128x128 64#32)
/-- A number per head, along the lanes of its head. -/
def par (v : FVec F S128x128 .f32) (r : ℕ) (h : r < 4) : FVec F S128x128 .f32 :=
  select lo (hd v (2 * r) (by omega)) (hd v (2 * r + 1) (by omega))
/-- The pair's columns. -/
def col (v : FVec F S128x512 .f32) (r : ℕ) (h : r < 4) : FVec F S128x128 .f32 := extractStridedSlice S128x128 ![0, 128 * r] v (slices_pair h)
/-- A row along all rows. -/
def row (v : FVec F S1x128 .f32) : FVec F S128x128 .f32 := broadcastTo S128x128 v broadcasts_S1x128_S128x128
def bf (v : FVec F S128x128 .f32) : FVec F S128x128 .bf16 := truncf .bf16 v bitsLt_bf16_f32
def nn (a b : FVec F S128x128 .bf16) : FVec F S128x128 .f32 :=
  matmul dot_S128x128_S128x128_S128x128_1_0_0_1_n_n none a b (constant S128x128 .f32 0x00000000#32)
def nt (a b : FVec F S128x128 .bf16) : FVec F S128x128 .f32 :=
  matmul dot_S128x128_S128x128_S128x128_1_1_0_0_n_n none a b (constant S128x128 .f32 0x00000000#32)
def tn (a b : FVec F S128x128 .bf16) : FVec F S128x128 .f32 :=
  matmul dot_S128x128_S128x128_S128x128_0_0_1_1_n_n none a b (constant S128x128 .f32 0x00000000#32)
/-- The sums of the rows, on lane `e`. -/
def onLane (v : FVec F S128x128 .f32) (e : ℕ) : FVec F S128x128 .f32 :=
  select (cmpi .eq (iota .tc S128x128 32 [1] iota_S128x128_d1_w32) (broadcast S128x128 (BitVec.ofNat 32 e)))
    (broadcastTo S128x128 (shapeCast S128x1 (shapeCast S128x1 (multiReduction .add [1] S128 v 0x00000000#32 reduces_S128x128_S128 (.inl rfl) rfl)
      shapeCasts_S128_S128x1) shapeCasts_S128x1_S128x1) broadcasts_S128x1_S128x128) zero
/-- Each head's sums of a pair's columns, added on the head's lane. -/
def hsum (acc v : FVec F S128x128 .f32) (r : ℕ) : FVec F S128x128 .f32 :=
  addf (addf acc (onLane (select lo v zero) (2 * r))) (onLane (select lo zero v) (2 * r + 1))
/-- The sums of the columns, on the last row. -/
def onLast (v : FVec F S128x128 .f32) : FVec F S128x128 .f32 :=
  select (cmpi .eq (iota .tc S128x128 32 [0] iota_S128x128_d0_w32) (broadcast S128x128 127#32))
    (broadcastTo S128x128 (shapeCast S1x128 (shapeCast S1x128 (multiReduction .add [0] S128 v 0x00000000#32 reduces_S128x128_S128_2 (.inl rfl) rfl)
      shapeCasts_S128_S1x128) shapeCasts_S1x128_S1x128) broadcasts_S1x128_S128x128) zero

namespace Blk
variable (b : Blk F)

def an : FVec F S1x128 .f32 := k0_pay3 b.al
def cs : FVec F S128x128 .f32 := k0_pay5 b.dt b.al
def csT : FVec F S128x128 .f32 := k0_pay6 b.dt b.al
def bg : FVec F S128x128 .bf16 := bf b.B
def cg : FVec F S128x128 .bf16 := bf b.C
def cb : FVec F S128x128 .f32 := nt b.cg b.bg
/-- One head's decay between two tokens of the chunk. -/
def lm (e : ℕ) (h : e < 8) : FVec F S128x128 .f32 :=
  select k0_pay4 (exp (minimumf (subf (hd b.cs e h) (row (extractStridedSlice S1x128 ![e, 0] b.csT (slices_row (by omega))))) zero)) zero

section
variable (r : ℕ) (h : r < 4)
def x : FVec F S128x128 .f32 := mulf (col b.xs r h) (par b.dt r h)
def last : FVec F S1x128 .f32 := extractStridedSlice S1x128 ![127, 0] (par b.cs r h) (slices_row (by omega))
def dec : FVec F S128x128 .f32 := exp (subf (row (b.last r h)) (par b.cs r h))
def xp : FVec F S128x128 .bf16 := bf (b.x r h)
def xd : FVec F S128x128 .bf16 := bf (mulf (b.x r h) (b.dec r h))
def dyp : FVec F S128x128 .bf16 := bf (col b.dy r h)
def dye : FVec F S128x128 .bf16 := bf (mulf (exp (par b.cs r h)) (col b.dy r h))
def dym0 : FVec F S128x128 .bf16 := select lo (b.dyp r h) (broadcast S128x128 (Scalar.ofBits .bf16 0x0000#16))
def dym1 : FVec F S128x128 .bf16 := select lo (broadcast S128x128 (Scalar.ofBits .bf16 0x0000#16)) (b.dyp r h)
def dcb (acc : FVec F S128x128 .f32) : FVec F S128x128 .f32 :=
  addf (addf acc (mulf (nt (b.dym0 r h) (b.xp r h)) (b.lm (2 * r) (by omega)))) (mulf (nt (b.dym1 r h) (b.xp r h)) (b.lm (2 * r + 1) (by omega)))
def dsb : FVec F S128x128 .bf16 := bf (col b.ds r h)
/-- The gradient of the pair's `x`. -/
def dxp : FVec F S128x128 .f32 :=
  addf (addf (addf zero (tn (bf (mulf b.cb (b.lm (2 * r) (by omega)))) (b.dym0 r h))) (tn (bf (mulf b.cb (b.lm (2 * r + 1) (by omega)))) (b.dym1 r h)))
    (mulf (b.dec r h) (nn b.bg (b.dsb r h)))
def dcg (acc : FVec F S128x128 .f32) : FVec F S128x128 .f32 := addf acc (nt (b.dye r h) (bf (col b.sin r h)))
def dbg (acc : FVec F S128x128 .f32) : FVec F S128x128 .f32 := addf acc (nt (b.xd r h) (b.dsb r h))
/-- The state gradient the chunk leaves. -/
def nds : FVec F S128x128 .f32 := addf (mulf (row (exp (b.last r h))) (col b.ds r h)) (tn b.cg (b.dye r h))
def dxs : FVec F S128x128 .f32 :=
  addf (mulf (b.dxp r h) (par b.dt r h)) (mulf (col b.dy r h) (row (extractStridedSlice S1x128 ![0, 128 * r] b.dsk (slices_skip h))))
def dcs (acc : FVec F S128x128 .f32) : FVec F S128x128 .f32 :=
  hsum (hsum acc (subf (mulf (col b.y r h) (extf .f32 (b.dyp r h) bitsLt_bf16_f32)) (mulf (extf .f32 (b.xp r h) bitsLt_bf16_f32) (b.dxp r h))) r)
    (onLast (mulf (col b.sout r h) (col b.ds r h))) r
def ddx (acc : FVec F S128x128 .f32) : FVec F S128x128 .f32 := hsum acc (mulf (b.dxp r h) (col b.xs r h)) r
end

/-- Four pairs side by side. -/
def wide (f : (r : ℕ) → r < 4 → FVec F S128x128 .f32) : FVec F S128x512 .f32 :=
  concatenate S128x512 1 [⟨S128x128, f 0 (by decide)⟩, ⟨S128x128, f 1 (by decide)⟩, ⟨S128x128, f 2 (by decide)⟩, ⟨S128x128, f 3 (by decide)⟩]
    concatenates_S128x128_S128x128_S128x128_S128x128_S128x512_d1
/-- Four pairs added up. -/
def over (f : (r : ℕ) → r < 4 → FVec F S128x128 .f32 → FVec F S128x128 .f32) : FVec F S128x128 .f32 :=
  f 3 (by decide) (f 2 (by decide) (f 1 (by decide) (f 0 (by decide) zero)))

def ndsAll : FVec F S128x512 .f32 := wide b.nds
def dxsAll : FVec F S128x512 .f32 := wide b.dxs
def dcbAll : FVec F S128x128 .f32 := over b.dcb
def dBAll : FVec F S128x128 .f32 := addf (over b.dbg) (tn (bf b.dcbAll) b.cg)
def dCAll : FVec F S128x128 .f32 := addf (over b.dcg) (nn (bf b.dcbAll) b.bg)
def dcsAll : FVec F S128x128 .f32 := over b.dcs
def dadt : FVec F S128x128 .f32 := k0_pay177 b.dcsAll
def ddtAll : FVec F S128x128 .f32 := addf (mulf (row b.an) b.dadt) (over b.ddx)
def dalAll : FVec F S1x128 .f32 :=
  mulf (shapeCast S1x128 (multiReduction .add [0] S128 (mulf b.dadt b.dt) 0x00000000#32 reduces_S128x128_S128_2 (.inl rfl) rfl) shapeCasts_S128_S1x128) b.an
end Blk

end Ssd
-- ==== Proof.Step.lean ====
/- What a grid point leaves in each output block and in the carried state gradient, as the functions of Body.lean at the
   blocks it reads. -/
module

public import proofs.«01_k».proof.Proof.Body
public import proofs.«01_k».proof.Proof.Gen.KernelIdeal.Value

@[expose] public section

set_option maxRecDepth 16384

noncomputable section

namespace Ssd

open Idealize.ShloMosaic Cert.KernelIdeal Cert.KernelIdeal.Gen Cert.KernelIdeal.Value Idealize.SL.Sem
open Idealize.ShloMosaic.Pipeline

variable {F : FTy → Type} [FloatOps F]
variable (m : (ℓ : Loc nD τ sig) → Buf (Elt F) ℓ)

/-- The blocks point `t` reads, with the state gradient `ds` it finds. -/
def blkAt (c : Dev nD) (t : Fin cfg0.N) (ds : FVec F S128x512 .f32) : Blk F where
  xs := iblk m c 0 t
  B := iblk m c 1 t
  C := iblk m c 2 t
  dt := iblk m c 3 t
  al := iblk m c 4 t
  dy := iblk m c 5 t
  y := k0_pay27 (iblk m c 6 t)
  sin := shapeCast S128x512 (iblk m c 7 t : FVec F S1x128x512 .f32) shapeCasts_S1x128x512_S128x512
  sout := shapeCast S128x512 (iblk m c 8 t : FVec F S1x128x512 .f32) shapeCasts_S1x128x512_S128x512
  dsk := iblk m c 9 t
  ds := ds

theorem off2 : (![0, 0] : Fin 2 → ℕ) = fun _ => 0 := funext fun b => by fin_cases b <;> rfl
theorem off3 : (![0, 0, 0] : Fin 3 → ℕ) = fun _ => 0 := funext fun b => by fin_cases b <;> rfl

theorem dxs_A (c : Dev nD) (t : Fin cfg0.N) (h0 : t.val % 16 = 0) (h2 : ¬1 ≤ t.val % 16) :
    (outsAt0 m c t.val t.isLt).1 = (blkAt m c t k0_pay2).dxsAll := by
  rw [outsAt0_A m c t h0 h0 h2]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (k0_pay2 : FVec F S128x512 .f32) = ds
  exact congr (congr (congr (congrArg k0_pay173 rfl) rfl) rfl) rfl

theorem dB_A (c : Dev nD) (t : Fin cfg0.N) (h0 : t.val % 16 = 0) (h2 : ¬1 ≤ t.val % 16) :
    (outsAt0 m c t.val t.isLt).2.1 = (blkAt m c t k0_pay2).dBAll := by
  rw [outsAt0_A m c t h0 h0 h2]
  dsimp only
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (k0_pay2 : FVec F S128x512 .f32) = ds
  rfl

theorem dC_A (c : Dev nD) (t : Fin cfg0.N) (h0 : t.val % 16 = 0) (h2 : ¬1 ≤ t.val % 16) :
    (outsAt0 m c t.val t.isLt).2.2.1 = (blkAt m c t k0_pay2).dCAll := by
  rw [outsAt0_A m c t h0 h0 h2]
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (k0_pay2 : FVec F S128x512 .f32) = ds
  rfl

theorem ddt_A (c : Dev nD) (t : Fin cfg0.N) (h0 : t.val % 16 = 0) (h2 : ¬1 ≤ t.val % 16) :
    (outsAt0 m c t.val t.isLt).2.2.2.1 = (blkAt m c t k0_pay2).ddtAll := by
  rw [outsAt0_A m c t h0 h0 h2]
  dsimp only
  unfold out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (k0_pay2 : FVec F S128x512 .f32) = ds
  rfl

theorem dal_A (c : Dev nD) (t : Fin cfg0.N) (h0 : t.val % 16 = 0) (h2 : ¬1 ≤ t.val % 16) :
    (outsAt0 m c t.val t.isLt).2.2.2.2.1 = (blkAt m c t k0_pay2).dalAll := by
  rw [outsAt0_A m c t h0 h0 h2]
  dsimp only
  unfold out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (k0_pay2 : FVec F S128x512 .f32) = ds
  rfl

theorem nds_A (c : Dev nD) (t : Fin cfg0.N) (h0 : t.val % 16 = 0) (h2 : ¬1 ≤ t.val % 16) :
    (outsAt0 m c t.val t.isLt).2.2.2.2.2 = (blkAt m c t k0_pay2).ndsAll := by
  rw [outsAt0_A m c t h0 h0 h2]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (k0_pay2 : FVec F S128x512 .f32) = ds
  unfold k0_pay172
  refine (shapeCast_self _ _).trans ?_
  rfl

theorem dxs_B (c : Dev nD) (t : Fin cfg0.N) (h0 : ¬t.val % 16 = 0) (h2 : 1 ≤ t.val % 16) :
    (outsAt0 m c t.val t.isLt).1 = (blkAt m c t (outsAt0 m c (t.val - 1) (by omega)).2.2.2.2.2).dxsAll := by
  rw [outsAt0_B m c t h0 h0 h2]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (outsAt0 m c (t.val - 1) _).2.2.2.2.2 = ds
  exact congr (congr (congr (congrArg k0_pay173 rfl) rfl) rfl) rfl

theorem dB_B (c : Dev nD) (t : Fin cfg0.N) (h0 : ¬t.val % 16 = 0) (h2 : 1 ≤ t.val % 16) :
    (outsAt0 m c t.val t.isLt).2.1 = (blkAt m c t (outsAt0 m c (t.val - 1) (by omega)).2.2.2.2.2).dBAll := by
  rw [outsAt0_B m c t h0 h0 h2]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (outsAt0 m c (t.val - 1) _).2.2.2.2.2 = ds
  rfl

theorem dC_B (c : Dev nD) (t : Fin cfg0.N) (h0 : ¬t.val % 16 = 0) (h2 : 1 ≤ t.val % 16) :
    (outsAt0 m c t.val t.isLt).2.2.1 = (blkAt m c t (outsAt0 m c (t.val - 1) (by omega)).2.2.2.2.2).dCAll := by
  rw [outsAt0_B m c t h0 h0 h2]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (outsAt0 m c (t.val - 1) _).2.2.2.2.2 = ds
  rfl

theorem ddt_B (c : Dev nD) (t : Fin cfg0.N) (h0 : ¬t.val % 16 = 0) (h2 : 1 ≤ t.val % 16) :
    (outsAt0 m c t.val t.isLt).2.2.2.1 = (blkAt m c t (outsAt0 m c (t.val - 1) (by omega)).2.2.2.2.2).ddtAll := by
  rw [outsAt0_B m c t h0 h0 h2]
  dsimp only
  unfold out0_B_13
  rw [View.read_writes_eq_canon _ _ _ (cover0_B_13 c _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (outsAt0 m c (t.val - 1) _).2.2.2.2.2 = ds
  rfl

theorem dal_B (c : Dev nD) (t : Fin cfg0.N) (h0 : ¬t.val % 16 = 0) (h2 : 1 ≤ t.val % 16) :
    (outsAt0 m c t.val t.isLt).2.2.2.2.1 = addf (outsAt0 m c (t.val - 1) (by omega)).2.2.2.2.1 (blkAt m c t (outsAt0 m c (t.val - 1) (by omega)).2.2.2.2.2).dalAll := by
  rw [outsAt0_B m c t h0 h0 h2]
  dsimp only
  unfold out0_B_14
  rw [View.read_writes_eq_canon _ _ _ (cover0_B_14 c _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (outsAt0 m c (t.val - 1) _).2.2.2.2.2 = ds
  unfold k0_pay1
  dsimp only
  rw [shapeCast_self]
  rfl

theorem nds_B (c : Dev nD) (t : Fin cfg0.N) (h0 : ¬t.val % 16 = 0) (h2 : 1 ≤ t.val % 16) :
    (outsAt0 m c t.val t.isLt).2.2.2.2.2 = (blkAt m c t (outsAt0 m c (t.val - 1) (by omega)).2.2.2.2.2).ndsAll := by
  rw [outsAt0_B m c t h0 h0 h2]
  dsimp only
  unfold sout0_B_0
  rw [View.read_writes_eq_canon _ _ _ (scover0_B_0 c _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  refine (View.canon_cons_unit_zero off2 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_14 t).read_unread, (Memref.isWhole_whole (κ := .tc) cc0_scratch0).read_unread, View.ld_unit_zero (S := S128x512) off2, View.ld_unit_zero (S := S128x128) off2, View.ld_unit_zero (S := S1x128) off2,
    View.ld_unit_zero (S := S1x512) off2, View.ld_unit_zero (S := S1x128x512) off3, View.readCov_unit_zero (S := S128x512) _ off2]
  unfold blkAt
  generalize iblk m c 0 t = x0; generalize iblk m c 1 t = x1; generalize iblk m c 2 t = x2; generalize iblk m c 3 t = x3; generalize iblk m c 4 t = x4
  generalize iblk m c 5 t = x5; generalize iblk m c 6 t = x6; generalize iblk m c 7 t = x7; generalize iblk m c 8 t = x8; generalize iblk m c 9 t = x9
  generalize (outsAt0 m c (t.val - 1) _).2.2.2.2.2 = ds
  unfold k0_pay172
  refine (shapeCast_self _ _).trans ?_
  rfl

end Ssd
-- ==== Proof.HostIn.lean ====
/- What the host hands the backward kernel beside the arguments: the forward result `y` and the states entering the chunks, as
   the reference's own arrays. -/
module

public import proofs.«01_k».proof.Proof.Gen.KernelIdeal.Value
public import proofs.«01_k».proof.Proof.Gen.ReferenceIdeal.Read
public import Idealize.ShloMosaic.Lib.StableHlo.ReadAt

@[expose] public section

set_option maxRecDepth 16384

noncomputable section

namespace Ssd

open Idealize.ShloMosaic Cert.KernelIdeal Cert.KernelIdeal.Gen Idealize.SL.Sem
open Idealize.ShloMosaic.TcCoe

variable {F : FTy → Type} [FloatOps F]
variable (m : (ℓ : Loc nD τ sig) → Buf (Elt F) ℓ)

/-- The host's operations before the call. -/
abbrev hostLine : List (HloOp τ sig (Elt F)) :=
  List.flatten [hostOps0, hostOps0_1, hostOps0_2, hostOps0_3, hostOps0_4, hostOps0_5, hostOps0_6, hostOps0_7, hostOps0_8]

theorem upto_v53 (c : Dev nD) : StableHlo.upto hostLine (fun b => m (c, b)) 64 (Proc.devRef .tc main_v53)
    = Cert.ReferenceIdeal.Read.val_main_v55 (F := F) := by
  after_reads_simp
  rfl

theorem upto_v55 (c : Dev nD) : StableHlo.upto hostLine (fun b => m (c, b)) 64 (Proc.devRef .tc main_v55)
    = Cert.ReferenceIdeal.Read.val_main_v57 (F := F) (m ((c : Thread nD τ).loc main_arg1)) (m ((c : Thread nD τ).loc main_arg2)) := by
  after_reads_simp
  rfl

theorem V_sin (c : Dev nD) : V m c main_v83
    = shapeCast S16x128x4096 (transpose S16x128x8x8x64 [0, 4, 1, 2, 3] (Cert.ReferenceIdeal.Read.val_main_v76 (F := F)
        (m ((c : Thread nD τ).loc main_arg0)) (m ((c : Thread nD τ).loc main_arg1)) (m ((c : Thread nD τ).loc main_arg2)))
        transposes_S16x8x8x64x128_S16x128x8x8x64_0_4_1_2_3) shapeCasts_S16x128x8x8x64_S16x128x4096 := by
  after_reads_simp
  rw [upto_v53, upto_v55]
  rfl

theorem V_y (c : Dev nD) : V m c main_v84
    = shapeCast S2048x4096 (Cert.ReferenceIdeal.Read.val_main_v84 (F := F)
        (m ((c : Thread nD τ).loc main_arg0)) (m ((c : Thread nD τ).loc main_arg1)) (m ((c : Thread nD τ).loc main_arg2)))
        shapeCasts_S16x128x8x8x64_S2048x4096 := by
  after_reads_simp
  rw [upto_v53, upto_v55]
  rfl

end Ssd
-- ==== Proof.BodyMath.lean ====
/- One step of the backward kernel over the real numbers: at the blocks of chunk `c` and group `g`, the functions of Body.lean
   are the gradients of Math.lean. A pair `r` has heads `2 r` and `2 r + 1`; its column `j` is column `128 r + j` of the group,
   which is column `(128 r + j) % 64` of head `(128 r + j) / 64`. -/
module

public import proofs.«01_k».proof.Proof.Math
public import proofs.«01_k».proof.Proof.Body

@[expose] public section

set_option maxRecDepth 16384

noncomputable section

namespace Ssd

open Idealize.ShloMosaic Cert.KernelIdeal Cert.KernelIdeal.Gen Finset

/- Sums over a pair's columns. -/

theorem sum_fst (F : ℕ → ℕ → ℝ) (r : ℕ) :
    (∑ k ∈ range 128, if k < 64 then F ((128 * r + k) / 64) ((128 * r + k) % 64) else 0) = ∑ p ∈ range 64, F (2 * r) p := by
  rw [show (128 : ℕ) = 64 + 64 from rfl, sum_range_add]
  have h2 : (∑ x ∈ range 64, if 64 + x < 64 then F ((128 * r + (64 + x)) / 64) ((128 * r + (64 + x)) % 64) else 0) = 0 :=
    sum_eq_zero fun x _ => if_neg (by omega)
  rw [h2, add_zero]
  refine sum_congr rfl fun k hk => ?_
  have := mem_range.mp hk
  rw [if_pos this, show (128 * r + k) / 64 = 2 * r by omega, show (128 * r + k) % 64 = k by omega]
theorem sum_snd (F : ℕ → ℕ → ℝ) (r : ℕ) :
    (∑ k ∈ range 128, if k < 64 then 0 else F ((128 * r + k) / 64) ((128 * r + k) % 64)) = ∑ p ∈ range 64, F (2 * r + 1) p := by
  rw [show (128 : ℕ) = 64 + 64 from rfl, sum_range_add]
  have h2 : (∑ x ∈ range 64, if x < 64 then 0 else F ((128 * r + x) / 64) ((128 * r + x) % 64)) = 0 :=
    sum_eq_zero fun x hx => if_pos (mem_range.mp hx)
  rw [h2, zero_add]
  refine sum_congr rfl fun k hk => ?_
  have := mem_range.mp hk
  rw [if_neg (by omega), show (128 * r + (64 + k)) / 64 = 2 * r + 1 by omega, show (128 * r + (64 + k)) % 64 = k by omega]
theorem sum_both (F : ℕ → ℕ → ℝ) (r : ℕ) :
    (∑ k ∈ range 128, F ((128 * r + k) / 64) ((128 * r + k) % 64)) = (∑ p ∈ range 64, F (2 * r) p) + ∑ p ∈ range 64, F (2 * r + 1) p := by
  rw [← sum_fst, ← sum_snd, ← sum_add_distrib]
  exact sum_congr rfl fun k _ => by split_ifs <;> simp
/-- Four pairs of heads are the eight heads. -/
theorem eight (S : ℕ → ℝ) : 0 + (S (2 * 0) + S (2 * 0 + 1)) + (S (2 * 1) + S (2 * 1 + 1)) + (S (2 * 2) + S (2 * 2 + 1)) + (S (2 * 3) + S (2 * 3 + 1))
    = ∑ e ∈ range 8, S e := by
  simp only [sum_range_succ, sum_range_zero]; ring
/-- A number per head, on the heads' lanes. -/
theorem lanes (S : ℕ → ℝ) (e : ℕ) :
    ((((((((0 + if e = 0 then S 0 else 0) + if e = 1 then S 1 else 0) + if e = 2 then S 2 else 0) + if e = 3 then S 3 else 0)
      + if e = 4 then S 4 else 0) + if e = 5 then S 5 else 0) + if e = 6 then S 6 else 0) + if e = 7 then S 7 else 0)
      = if e < 8 then S e else 0 := by
  by_cases h : e < 8
  · interval_cases e <;> simp
  · rw [if_neg h]
    simp only [show e ≠ 0 by omega, show e ≠ 1 by omega, show e ≠ 2 by omega, show e ≠ 3 by omega, show e ≠ 4 by omega,
      show e ≠ 5 by omega, show e ≠ 6 by omega, show e ≠ 7 by omega, if_false, add_zero]

/- The operations of Body.lean on real matrices. -/
section
variable (f g : ℕ → ℕ → ℝ)

theorem zero_eq : (zero : FVec Ideal S128x128 .f32) = up2 fun _ _ => 0 := zero_up2
theorem hd_up2 {e : ℕ} (h : e < 8) : hd (up2 f : FVec Ideal S128x128 .f32) e h = up2 fun i _ => f i e := by
  unfold hd
  rw [slice_up2, shapeCast_self, col_up2 _ (by decide)]
  exact up2_congr fun i _ j _ => by simp
theorem par_up2 {r : ℕ} (h : r < 4) : par (up2 f : FVec Ideal S128x128 .f32) r h = up2 fun i j => f i ((128 * r + j) / 64) := by
  unfold par lo
  rw [hd_up2, hd_up2, lane_lt_bit2, select_up2]
  refine up2_congr fun i _ j hj => ?_
  split_ifs
  · congr 1; omega
  · congr 1; omega
theorem col_up2' {r : ℕ} (h : r < 4) (F : ℕ → ℕ → ℕ → ℝ) :
    col (up2 fun i j => F i (j / 64) (j % 64) : FVec Ideal S128x512 .f32) r h = up2 fun i j => F i ((128 * r + j) / 64) ((128 * r + j) % 64) := by
  unfold col
  rw [slice_up2]
  exact up2_congr fun i _ j _ => by simp
theorem row_up2' : row (up2 f : FVec Ideal S1x128 .f32) = up2 fun _ j => f 0 j := row_up2 _ (by decide) _
theorem bf_up2 : bf (up2 f : FVec Ideal S128x128 .f32) = up2 f := rfl
theorem nn_up2 : nn (up2 f : FVec Ideal S128x128 .bf16) (up2 g) = up2 fun i j => ∑ k ∈ range 128, f i k * g k j := matmul_nn f g _
theorem nt_up2 : nt (up2 f : FVec Ideal S128x128 .bf16) (up2 g) = up2 fun i j => ∑ k ∈ range 128, f i k * g j k := matmul_nt f g _
theorem tn_up2 : tn (up2 f : FVec Ideal S128x128 .bf16) (up2 g) = up2 fun i j => ∑ k ∈ range 128, f k i * g k j := matmul_tn f g _
theorem onLane_up2 {e : ℕ} (h : e < 128) :
    onLane (up2 f : FVec Ideal S128x128 .f32) e = up2 fun i j => if j = e then ∑ k ∈ range 128, f i k else 0 := by
  unfold onLane
  rw [rowsum_up2, shapeCast_self, col_up2 _ (by decide), lane_eq_bit2 e h, zero_eq, select_up2]
theorem onLast_up2 : onLast (up2 f : FVec Ideal S128x128 .f32) = up2 fun i j => if i = 127 then ∑ k ∈ range 128, f k j else 0 := by
  unfold onLast
  rw [colsum_up2, shapeCast_self, row_up2 _ (by decide), row_eq_bit2 127 (by decide), zero_eq, select_up2]
theorem hsum_up2 {r : ℕ} (h : r < 4) (F : ℕ → ℕ → ℕ → ℝ) :
    hsum (up2 f : FVec Ideal S128x128 .f32) (up2 fun i j => F i ((128 * r + j) / 64) ((128 * r + j) % 64)) r
      = up2 fun i j => (f i j + if j = 2 * r then ∑ p ∈ range 64, F i (2 * r) p else 0) + if j = 2 * r + 1 then ∑ p ∈ range 64, F i (2 * r + 1) p else 0 := by
  unfold hsum lo
  rw [lane_lt_bit2, zero_eq, select_up2, select_up2, onLane_up2 _ (by omega), onLane_up2 _ (by omega), addf_up2, addf_up2]
  exact up2_congr fun i _ j _ => by rw [sum_fst (F i), sum_snd (F i)]
end

/-- A chunk's blocks of one group as real matrices; nothing is known of the state after the last chunk, which its gradient 0 multiplies. -/
structure Reads (a : Args) (c g : ℕ) (b : Blk Ideal) : Prop where
  dt_nonneg : ∀ l < 128, ∀ e < 8, 0 ≤ a.dt c l g e
  xs : b.xs = up2 fun l j => a.xs c l g (j / 64) (j % 64)
  B : b.B = up2 fun l n => a.B c l g n
  C : b.C = up2 fun l n => a.C c l g n
  dt : b.dt = up2 fun l e => a.dt c l g e
  al : b.al = up2 fun _ e => a.al g e
  dy : b.dy = up2 fun l j => a.dy c l g (j / 64) (j % 64)
  y : b.y = up2 fun l j => a.y c l g (j / 64) (j % 64)
  sin : b.sin = up2 fun n j => a.sin c g (j / 64) (j % 64) n
  sout : ∃ so : ℕ → ℕ → ℕ → ℝ, b.sout = up2 (fun n j => so n (j / 64) (j % 64)) ∧ (c < 15 → ∀ n e p, so n e p = a.sin (c + 1) g e p n)
  dsk : b.dsk = up2 fun _ j => a.dk g (j / 64) (j % 64)
  ds : b.ds = up2 fun n j => a.D c g (j / 64) (j % 64) n

namespace Reads
variable {a : Args} {c g : ℕ} {b : Blk Ideal} (H : Reads a c g b)
include H

theorem an : b.an = up2 fun _ e => a.A g e := by
  unfold Blk.an k0_pay3
  rw [H.al]
  dsimp only
  rw [exp_up2, zero_up2, subf_up2]
  exact up2_congr fun _ _ _ _ => by rw [Args.A]; ring
theorem cs : b.cs = up2 fun l e => a.cs c g e l := by
  unfold Blk.cs k0_pay5 k0_pay4
  dsimp only
  rw [show k0_pay3 b.al = b.an from rfl, H.an, H.dt, row_up2 _ (by decide), mulf_up2, ge_bit2, num_bit2, matmul_nn]
  refine up2_congr fun i _ j _ => sum_congr rfl fun k _ => ?_
  split_ifs <;> ring
theorem csT : b.csT = up2 fun e l => a.cs c g e l := by
  unfold Blk.csT k0_pay6
  dsimp only
  rw [show k0_pay5 b.dt b.al = b.cs from rfl, H.cs, transpose_up2]
theorem cg : b.cg = up2 fun l n => a.C c l g n := by rw [Blk.cg, H.C, bf_up2]
theorem bg : b.bg = up2 fun l n => a.B c l g n := by rw [Blk.bg, H.B, bf_up2]
theorem cb : b.cb = up2 fun l s => a.CB c g l s := by rw [Blk.cb, H.cg, H.bg, nt_up2]; rfl
theorem lm {e : ℕ} (h : e < 8) : b.lm e h = up2 fun l s => a.Lm c g e l s := by
  unfold Blk.lm k0_pay4
  dsimp only
  rw [H.cs, H.csT, hd_up2, slice_up2, row_up2', subf_up2, zero_eq, minimumf_up2, exp_up2, ge_bit2, select_up2]
  refine up2_congr fun l _ s _ => ?_
  rw [Args.Lm]
  split_ifs with hs
  · simp only [Matrix.cons_val_zero, Matrix.cons_val_one, add_zero, zero_add]
    rw [min_eq_left]
    have := a.cs_anti (c := c) (g := g) (e := e) (fun j hj => H.dt_nonneg j hj e h) hs
    linarith
  · rfl

variable {r : ℕ} (h : r < 4)
theorem x : b.x r h = up2 fun l j => a.X c l g ((128 * r + j) / 64) ((128 * r + j) % 64) := by
  rw [Blk.x, H.xs, H.dt, col_up2' h (fun l e p => a.xs c l g e p), par_up2, mulf_up2]; rfl
theorem last : b.last r h = up2 fun _ j => a.tot c g ((128 * r + j) / 64) := by
  rw [Blk.last, H.cs, par_up2, slice_up2]
  exact up2_congr fun i hi j _ => by
    simp only [Matrix.cons_val_zero, Matrix.cons_val_one, zero_add, show i = 0 by omega]; rfl
theorem dec : b.dec r h = up2 fun l j => a.dec c g ((128 * r + j) / 64) l := by
  rw [Blk.dec, H.last, H.cs, par_up2, row_up2', subf_up2, exp_up2]; rfl
theorem xp : b.xp r h = up2 fun l j => a.X c l g ((128 * r + j) / 64) ((128 * r + j) % 64) := by rw [Blk.xp, H.x, bf_up2]
theorem xd : b.xd r h = up2 fun l j => a.dec c g ((128 * r + j) / 64) l * a.X c l g ((128 * r + j) / 64) ((128 * r + j) % 64) := by
  rw [Blk.xd, H.x, H.dec, mulf_up2, bf_up2]; exact up2_congr fun _ _ _ _ => mul_comm _ _
theorem dy' : col b.dy r h = up2 fun l j => a.dy c l g ((128 * r + j) / 64) ((128 * r + j) % 64) := by
  rw [H.dy, col_up2' h (fun l e p => a.dy c l g e p)]
theorem dyp : b.dyp r h = up2 fun l j => a.dy c l g ((128 * r + j) / 64) ((128 * r + j) % 64) := by rw [Blk.dyp, H.dy', bf_up2]
theorem dye : b.dye r h = up2 fun l j => a.dy c l g ((128 * r + j) / 64) ((128 * r + j) % 64) * Real.exp (a.cs c g ((128 * r + j) / 64) l) := by
  rw [Blk.dye, H.dy', H.cs, par_up2, exp_up2, mulf_up2, bf_up2]; exact up2_congr fun _ _ _ _ => mul_comm _ _
theorem dym0 : b.dym0 r h = up2 fun l j => if j < 64 then a.dy c l g ((128 * r + j) / 64) ((128 * r + j) % 64) else 0 := by
  rw [Blk.dym0, H.dyp, lo, lane_lt_bit2, zero_up2_bf16, select_up2]
theorem dym1 : b.dym1 r h = up2 fun l j => if j < 64 then 0 else a.dy c l g ((128 * r + j) / 64) ((128 * r + j) % 64) := by
  rw [Blk.dym1, H.dyp, lo, lane_lt_bit2, zero_up2_bf16, select_up2]
theorem dcb (f : ℕ → ℕ → ℝ) : b.dcb r h (up2 f) = up2 fun l s =>
    f l s + a.P c g (2 * r) l s * a.Lm c g (2 * r) l s + a.P c g (2 * r + 1) l s * a.Lm c g (2 * r + 1) l s := by
  rw [Blk.dcb, H.dym0, H.dym1, H.xp, nt_up2, nt_up2, H.lm, H.lm, mulf_up2, mulf_up2, addf_up2, addf_up2]
  refine up2_congr fun l _ s _ => ?_
  simp only [ite_mul, zero_mul]
  rw [sum_fst (fun e p => a.dy c l g e p * a.X c s g e p), sum_snd (fun e p => a.dy c l g e p * a.X c s g e p)]
  rfl
theorem dsb : b.dsb r h = up2 fun n j => a.D c g ((128 * r + j) / 64) ((128 * r + j) % 64) n := by
  rw [Blk.dsb, H.ds, col_up2' h (fun n e p => a.D c g e p n), bf_up2]
theorem dxp : b.dxp r h = up2 fun l j => a.dX c l g ((128 * r + j) / 64) ((128 * r + j) % 64) := by
  rw [Blk.dxp, H.cb, H.dym0, H.dym1, H.lm, H.lm, mulf_up2, mulf_up2, bf_up2, bf_up2, tn_up2, tn_up2, H.dec, H.bg, H.dsb, nn_up2, mulf_up2,
    zero_eq, addf_up2, addf_up2, addf_up2]
  refine up2_congr fun s _ j hj => ?_
  rw [Args.dX, Args.BD, zero_add, add_comm]
  congr 1
  · exact congrArg _ (sum_congr rfl fun _ _ => mul_comm _ _)
  · rw [← sum_add_distrib]
    refine sum_congr rfl fun l _ => ?_
    split_ifs
    · rw [show (128 * r + j) / 64 = 2 * r by omega]; ring
    · rw [show (128 * r + j) / 64 = 2 * r + 1 by omega]; ring
theorem dcg (f : ℕ → ℕ → ℝ) : b.dcg r h (up2 f) = up2 fun l n => f l n
      + ((∑ p ∈ range 64, a.dy c l g (2 * r) p * Real.exp (a.cs c g (2 * r) l) * a.sin c g (2 * r) p n)
        + ∑ p ∈ range 64, a.dy c l g (2 * r + 1) p * Real.exp (a.cs c g (2 * r + 1) l) * a.sin c g (2 * r + 1) p n) := by
  rw [Blk.dcg, H.dye, H.sin, col_up2' h (fun n e p => a.sin c g e p n), bf_up2, nt_up2, addf_up2]
  exact up2_congr fun l _ n _ => by rw [sum_both (fun e p => a.dy c l g e p * Real.exp (a.cs c g e l) * a.sin c g e p n)]
theorem dbg (f : ℕ → ℕ → ℝ) : b.dbg r h (up2 f) = up2 fun s n => f s n
      + ((∑ p ∈ range 64, a.D c g (2 * r) p n * (a.dec c g (2 * r) s * a.X c s g (2 * r) p))
        + ∑ p ∈ range 64, a.D c g (2 * r + 1) p n * (a.dec c g (2 * r + 1) s * a.X c s g (2 * r + 1) p)) := by
  rw [Blk.dbg, H.xd, H.dsb, nt_up2, addf_up2]
  refine up2_congr fun s _ n _ => ?_
  rw [← sum_both (fun e p => a.D c g e p n * (a.dec c g e s * a.X c s g e p))]
  exact congrArg _ (sum_congr rfl fun _ _ => mul_comm _ _)
theorem nds (hc : c < 16) : b.nds r h = up2 fun n j => a.G c g ((128 * r + j) / 64) ((128 * r + j) % 64) n := by
  rw [Blk.nds, H.last, exp_up2, row_up2', H.ds, col_up2' h (fun n e p => a.D c g e p n), mulf_up2, H.cg, H.dye, tn_up2, addf_up2]
  refine up2_congr fun n _ j _ => ?_
  rw [a.G_rec hc, Args.W]
  exact congrArg _ (sum_congr rfl fun _ _ => mul_comm _ _)
theorem dxs : b.dxs r h = up2 fun l j => a.dxs c l g ((128 * r + j) / 64) ((128 * r + j) % 64) := by
  rw [Blk.dxs, H.dxp, H.dt, par_up2, mulf_up2, H.dy', H.dsk, slice_up2, row_up2', mulf_up2, addf_up2]
  refine up2_congr fun l _ j _ => ?_
  simp only [Matrix.cons_val_zero, Matrix.cons_val_one, zero_add]
  rw [Args.dxs, add_comm]
theorem dcs (hc : c < 16) (f : ℕ → ℕ → ℝ) : b.dcs r h (up2 f) = up2 fun l j => f l j + (if j = 2 * r then a.dcs c g (2 * r) l else 0)
      + if j = 2 * r + 1 then a.dcs c g (2 * r + 1) l else 0 := by
  obtain ⟨so, hso, hs⟩ := H.sout
  rw [Blk.dcs, H.y, col_up2' h (fun l e p => a.y c l g e p), H.dyp, H.xp, H.dxp, extf_up2, extf_up2, mulf_up2, mulf_up2, subf_up2,
    hsum_up2 _ h (fun l e p => a.y c l g e p * a.dy c l g e p - a.X c l g e p * a.dX c l g e p), hso, col_up2' h (fun n e p => so n e p), H.ds,
    col_up2' h (fun n e p => a.D c g e p n), mulf_up2, onLast_up2,
    hsum_up2 _ h (fun l e p => if l = 127 then ∑ k ∈ range 128, so k e p * a.D c g e p k else 0)]
  refine up2_congr fun l _ j _ => ?_
  have hD : ∀ e, (∑ p ∈ range 64, if l = 127 then ∑ k ∈ range 128, so k e p * a.D c g e p k else 0)
      = if l = 127 then ∑ p ∈ range 64, ∑ n ∈ range 128, a.sin (c + 1) g e p n * a.D c g e p n else 0 := fun e => by
    split_ifs
    · refine sum_congr rfl fun p _ => sum_congr rfl fun n _ => ?_
      rcases Nat.lt_or_ge c 15 with h15 | h15
      · rw [hs h15]
      · rw [show c = 15 by omega, a.D_last, mul_zero, mul_zero]
    · simp
  rw [hD, hD, Args.dcs, Args.dcs]
  split_ifs <;> first | omega | ring
theorem ddx (f : ℕ → ℕ → ℝ) : b.ddx r h (up2 f) = up2 fun l j => f l j + (if j = 2 * r then ∑ p ∈ range 64, a.xs c l g (2 * r) p * a.dX c l g (2 * r) p else 0)
      + if j = 2 * r + 1 then ∑ p ∈ range 64, a.xs c l g (2 * r + 1) p * a.dX c l g (2 * r + 1) p else 0 := by
  rw [Blk.ddx, H.dxp, H.xs, col_up2' h (fun l e p => a.xs c l g e p), mulf_up2, hsum_up2 _ h (fun l e p => a.dX c l g e p * a.xs c l g e p)]
  exact up2_congr fun l _ j _ => by simp only [mul_comm]
omit H

theorem wide_up2 {f : (r : ℕ) → r < 4 → FVec Ideal S128x128 .f32} (F : ℕ → ℕ → ℕ → ℝ)
    (hf : ∀ r h, f r h = up2 fun i j => F i ((128 * r + j) / 64) ((128 * r + j) % 64)) : Blk.wide f = up2 fun i j => F i (j / 64) (j % 64) := by
  rw [Blk.wide, hf, hf, hf, hf, concat_up2 (fun r i j => F i ((128 * r + j) / 64) ((128 * r + j) % 64))]
  exact up2_congr fun i _ j _ => by rw [Nat.div_add_mod]
include H

theorem ndsAll (hc : c < 16) : b.ndsAll = up2 fun n j => a.G c g (j / 64) (j % 64) n := wide_up2 (fun n e p => a.G c g e p n) fun _ h => H.nds h hc
theorem dxsAll : b.dxsAll = up2 fun l j => a.dxs c l g (j / 64) (j % 64) := wide_up2 (fun l e p => a.dxs c l g e p) fun _ h => H.dxs h
theorem dcbAll : b.dcbAll = up2 fun l s => a.dcb c g l s := by
  rw [Blk.dcbAll, Blk.over, zero_eq, H.dcb, H.dcb, H.dcb, H.dcb]
  exact up2_congr fun l _ s _ => by simp only [Args.dcb, sum_range_succ, sum_range_zero]
theorem dBAll : b.dBAll = up2 fun s n => a.dB c s g n := by
  rw [Blk.dBAll, Blk.over, zero_eq, H.dbg, H.dbg, H.dbg, H.dbg, H.dcbAll, bf_up2, H.cg, tn_up2, addf_up2]
  exact up2_congr fun s _ n _ => congrArg (· + _) (eight fun e => ∑ p ∈ range 64, a.D c g e p n * (a.dec c g e s * a.X c s g e p))
theorem dCAll : b.dCAll = up2 fun l n => a.dC c l g n := by
  rw [Blk.dCAll, Blk.over, zero_eq, H.dcg, H.dcg, H.dcg, H.dcg, H.dcbAll, bf_up2, H.bg, nn_up2, addf_up2]
  exact up2_congr fun l _ n _ => congrArg (· + _) (eight fun e => ∑ p ∈ range 64, a.dy c l g e p * Real.exp (a.cs c g e l) * a.sin c g e p n)
theorem dcsAll (hc : c < 16) : b.dcsAll = up2 fun l e => if e < 8 then a.dcs c g e l else 0 := by
  rw [Blk.dcsAll, Blk.over, zero_eq, H.dcs _ hc, H.dcs _ hc, H.dcs _ hc, H.dcs _ hc]
  exact up2_congr fun l _ e _ => lanes (fun e => a.dcs c g e l) e
theorem dadt (hc : c < 16) : b.dadt = up2 fun l e => if e < 8 then a.dadt c g e l else 0 := by
  unfold Blk.dadt k0_pay177
  dsimp only
  rw [H.dcsAll hc, le_bit2, num_bit2, matmul_nn]
  refine up2_congr fun l _ e _ => ?_
  by_cases he : e < 8
  · simp only [if_pos he, ite_mul, one_mul, zero_mul]; rfl
  · simp only [if_neg he, mul_zero, sum_const_zero]
theorem ddtAll (hc : c < 16) : b.ddtAll = up2 fun l e => if e < 8 then a.ddt c l g e else 0 := by
  rw [Blk.ddtAll, H.an, row_up2', H.dadt hc, mulf_up2, Blk.over, zero_eq, H.ddx, H.ddx, H.ddx, H.ddx, addf_up2]
  refine up2_congr fun l _ e _ => ?_
  have := lanes (fun e => ∑ p ∈ range 64, a.xs c l g e p * a.dX c l g e p) e
  refine (congrArg _ this).trans ?_
  split_ifs
  · rfl
  · ring
theorem dalAll (hc : c < 16) : b.dalAll = up2 fun _ e => if e < 8 then (∑ l ∈ range 128, a.dadt c g e l * a.dt c l g e) * a.A g e else 0 := by
  rw [Blk.dalAll, H.dadt hc, H.dt, mulf_up2, colsum_up2, H.an, mulf_up2]
  refine up2_congr fun _ _ e _ => ?_
  by_cases he : e < 8
  · simp only [if_pos he]
  · simp only [if_neg he, zero_mul, sum_const_zero]

end Reads

end Ssd
-- ==== Proof.Blocks.lean ====
/- The blocks a grid point of the backward kernel reads, as pieces of the arguments over the reals: point `t` works on group
   `t / 16` of the heads and on chunk `15 - t % 16`. -/
module

public import proofs.«01_k».proof.Proof.Step
public import proofs.«01_k».proof.Proof.HostIn
public import proofs.«01_k».proof.Proof.BodyMath
public import proofs.«01_k».proof.Proof.RefFwd
public import Idealize.ShloMosaic.Lib.Pipeline.ValueKit

@[expose] public section

set_option maxRecDepth 16384

noncomputable section

namespace Ssd

open Idealize.ShloMosaic hiding ix0 ix1 ix2 ix3 ix4 ix5 ix6 eq_ix2 eq_ix3 eq_ix4 eq_ix5
open Idealize.ShloMosaic.ValueIdx Finset
open Cert.KernelIdeal Cert.KernelIdeal.Gen Cert.KernelIdeal.Value Idealize.SL.Sem
open Idealize.ShloMosaic.TcCoe

/- Which block of its array a window shows at point `t`. -/

theorem at0 : ∀ t : Fin grid0.N, win0_0.index t 0 = 15 - t.val % 16 ∧ win0_0.index t 1 = t.val / 16 := by decide +kernel
theorem at1 : ∀ t : Fin grid0.N, win0_1.index t 0 = 15 - t.val % 16 ∧ win0_1.index t 1 = 32 + t.val / 16 := by decide +kernel
theorem at2 : ∀ t : Fin grid0.N, win0_2.index t 0 = 15 - t.val % 16 ∧ win0_2.index t 1 = 40 + t.val / 16 := by decide +kernel
theorem at3 : ∀ t : Fin grid0.N, win0_3.index t 0 = 15 - t.val % 16 ∧ win0_3.index t 1 = t.val / 16 := by decide +kernel
theorem at4 : ∀ t : Fin grid0.N, win0_4.index t 0 = 0 ∧ win0_4.index t 1 = t.val / 16 := by decide +kernel
theorem at5 : ∀ t : Fin grid0.N, win0_5.index t 0 = 15 - t.val % 16 ∧ win0_5.index t 1 = t.val / 16 := by decide +kernel
theorem at6 : ∀ t : Fin grid0.N, win0_6.index t 0 = 15 - t.val % 16 ∧ win0_6.index t 1 = t.val / 16 := by decide +kernel
theorem at7 : ∀ t : Fin grid0.N, win0_7.index t 0 = 15 - t.val % 16 ∧ win0_7.index t 1 = 0 ∧ win0_7.index t 2 = t.val / 16 := by decide +kernel
theorem at8 : ∀ t : Fin grid0.N, win0_8.index t 0 = min (15 - t.val % 16 + 1) 15 ∧ win0_8.index t 1 = 0 ∧ win0_8.index t 2 = t.val / 16 := by decide +kernel
theorem at9 : ∀ t : Fin grid0.N, win0_9.index t 0 = 0 ∧ win0_9.index t 1 = t.val / 16 := by decide +kernel
theorem at10 : ∀ t : Fin grid0.N, win0_10.index t 0 = 15 - t.val % 16 ∧ win0_10.index t 1 = t.val / 16 := by decide +kernel
theorem at11 : ∀ t : Fin grid0.N, win0_11.index t 0 = 15 - t.val % 16 ∧ win0_11.index t 1 = t.val / 16 := by decide +kernel
theorem at12 : ∀ t : Fin grid0.N, win0_12.index t 0 = 15 - t.val % 16 ∧ win0_12.index t 1 = t.val / 16 := by decide +kernel
theorem at13 : ∀ t : Fin grid0.N, win0_13.index t 0 = 15 - t.val % 16 ∧ win0_13.index t 1 = t.val / 16 := by decide +kernel
theorem at14 : ∀ t : Fin grid0.N, win0_14.index t 0 = 0 ∧ win0_14.index t 1 = t.val / 16 := by decide +kernel

variable (m : (ℓ : Loc nD τ sig) → Buf (Elt Ideal) ℓ) (c : Dev nD) (a : Args)

/-- The five arguments in memory are arrays of real numbers, and `dt` is not negative. -/
structure Holds : Prop where
  h0 : m ((c : Thread nD τ).loc main_arg0) = A0 a
  h1 : m ((c : Thread nD τ).loc main_arg1) = A1 a
  h2 : m ((c : Thread nD τ).loc main_arg2) = A2 a
  h3 : m ((c : Thread nD τ).loc main_arg3) = A3 a
  h4 : m ((c : Thread nD τ).loc main_arg4) = A4 a
  dt : ∀ i < 2048, ∀ j < 1024, 0 ≤ a.x1 i j

variable {m c a}

theorem read_xs (h : Holds m c a) (t : Fin cfg0.N) :
    (iblk m c 0 t : FVec Ideal S128x512 .f32) = up2 (φ := .f32) fun l j => a.xs (15 - t.val % 16) l (t.val / 16) (j / 64) (j % 64) := by
  funext j
  obtain ⟨e0, e1⟩ := at0 t
  show V m c main_arg0 (((cfg0.win 0).blk t).view.emb j) = _
  rw [V_main_arg0, h.h0]
  refine coe2 (f := a.x0) ?_ ?_
  · blk_simp [e0]; omega
  · blk_simp [e1]; omega

theorem read_B (h : Holds m c a) (t : Fin cfg0.N) :
    (iblk m c 1 t : FVec Ideal S128x128 .f32) = up2 (φ := .f32) fun l n => a.B (15 - t.val % 16) l (t.val / 16) n := by
  funext j
  obtain ⟨e0, e1⟩ := at1 t
  show V m c main_arg0 (((cfg0.win 1).blk t).view.emb j) = _
  rw [V_main_arg0, h.h0]
  refine coe2 (f := a.x0) ?_ ?_
  · blk_simp [e0]; omega
  · blk_simp [e1]; omega

theorem read_C (h : Holds m c a) (t : Fin cfg0.N) :
    (iblk m c 2 t : FVec Ideal S128x128 .f32) = up2 (φ := .f32) fun l n => a.C (15 - t.val % 16) l (t.val / 16) n := by
  funext j
  obtain ⟨e0, e1⟩ := at2 t
  show V m c main_arg0 (((cfg0.win 2).blk t).view.emb j) = _
  rw [V_main_arg0, h.h0]
  refine coe2 (f := a.x0) ?_ ?_
  · blk_simp [e0]; omega
  · blk_simp [e1]; omega

theorem read_dt (h : Holds m c a) (t : Fin cfg0.N) :
    (iblk m c 3 t : FVec Ideal S128x128 .f32) = up2 (φ := .f32) fun l e => a.dt (15 - t.val % 16) l (t.val / 16) e := by
  funext j
  obtain ⟨e0, e1⟩ := at3 t
  show V m c main_arg1 (((cfg0.win 3).blk t).view.emb j) = _
  rw [V_main_arg1, h.h1]
  refine coe2 (f := a.x1) ?_ ?_
  · blk_simp [e0]; omega
  · blk_simp [e1]; omega

theorem read_al (h : Holds m c a) (t : Fin cfg0.N) :
    (iblk m c 4 t : FVec Ideal S1x128 .f32) = up2 (φ := .f32) fun _ e => a.al (t.val / 16) e := by
  funext j
  obtain ⟨e0, e1⟩ := at4 t
  show V m c main_arg2 (((cfg0.win 4).blk t).view.emb j) = _
  rw [V_main_arg2, h.h2]
  refine coe2 (f := a.x2) ?_ ?_
  · blk_simp [e0]
  · blk_simp [e1]; omega

theorem read_dy (h : Holds m c a) (t : Fin cfg0.N) :
    (iblk m c 5 t : FVec Ideal S128x512 .f32) = up2 (φ := .f32) fun l j => a.dy (15 - t.val % 16) l (t.val / 16) (j / 64) (j % 64) := by
  funext j
  obtain ⟨e0, e1⟩ := at5 t
  show V m c main_arg3 (((cfg0.win 5).blk t).view.emb j) = _
  rw [V_main_arg3, h.h3]
  refine coe2 (f := a.x3) ?_ ?_
  · blk_simp [e0]; omega
  · blk_simp [e1]; omega

theorem read_dk (h : Holds m c a) (t : Fin cfg0.N) :
    (iblk m c 9 t : FVec Ideal S1x512 .f32) = up2 (φ := .f32) fun _ j => a.dk (t.val / 16) (j / 64) (j % 64) := by
  funext j
  obtain ⟨e0, e1⟩ := at9 t
  show V m c main_arg4 (((cfg0.win 9).blk t).view.emb j) = _
  rw [V_main_arg4, h.h4]
  refine coe2 (f := a.x4) ?_ ?_
  · blk_simp [e0]
  · blk_simp [e1]; omega

/-- The forward result the host hands the call, at a row and a column. -/
theorem V_y_at (h : Holds m c a) (i : S2048x4096.Idx) :
    (V m c main_v84 : FVec Ideal S2048x4096 .f32) i
      = ((a.y ((i 0).val / 128) ((i 0).val % 128) ((i 1).val / 512) ((i 1).val / 64 % 8) ((i 1).val % 64) : ℝ) : EReal) := by
  rw [V_y, h.h0, h.h1, h.h2]
  have b0 : (i 0).val < 2048 := (i 0).isLt
  have b1 : (i 1).val < 4096 := (i 1).isLt
  refine (shapeCast_apply _ shapeCasts_S16x128x8x8x64_S2048x4096 i
    (ix5 ⟨(i 0).val / 128, by omega⟩ ⟨(i 0).val % 128, by omega⟩ ⟨(i 1).val / 512, by omega⟩ ⟨(i 1).val / 64 % 8, by omega⟩
      ⟨(i 1).val % 64, by omega⟩) ?_).trans (r84 a _)
  rewrite [Shape.rowMajor_val_five, Shape.rowMajor_val_two]
  show ((((i 0).val / 128 * 128 + (i 0).val % 128) * 8 + (i 1).val / 512) * 8 + (i 1).val / 64 % 8) * 64 + (i 1).val % 64
    = (i 0).val * 4096 + (i 1).val
  omega

/-- The states entering the chunks the host hands the call, at a chunk, a state and a column. -/
theorem V_sin_at (h : Holds m c a) (i : S16x128x4096.Idx) :
    (V m c main_v83 : FVec Ideal S16x128x4096 .f32) i
      = ((a.sin (i 0).val ((i 2).val / 512) ((i 2).val / 64 % 8) ((i 2).val % 64) (i 1).val : ℝ) : EReal) := by
  rw [V_sin, h.h0, h.h1, h.h2]
  have b2 : (i 2).val < 4096 := (i 2).isLt
  refine (shapeCast_apply _ shapeCasts_S16x128x8x8x64_S16x128x4096 i
    (ix5 (i 0) (i 1) ⟨(i 2).val / 512, by omega⟩ ⟨(i 2).val / 64 % 8, by omega⟩ ⟨(i 2).val % 64, by omega⟩) ?_).trans ?_
  · rewrite [Shape.rowMajor_val_five, Shape.rowMajor_val_three]
    show ((((i 0).val * 128 + (i 1).val) * 8 + (i 2).val / 512) * 8 + (i 2).val / 64 % 8) * 64 + (i 2).val % 64
      = ((i 0).val * 128 + (i 1).val) * 4096 + (i 2).val
    omega
  · exact (transpose_apply [0, 4, 1, 2, 3] _ transposes_S16x8x8x64x128_S16x128x8x8x64_0_4_1_2_3 _
      (ix5 (i 0) ⟨(i 2).val / 512, by omega⟩ ⟨(i 2).val / 64 % 8, by omega⟩ ⟨(i 2).val % 64, by omega⟩ (i 1))
      fun b => match b with | ⟨0, _⟩ => rfl | ⟨1, _⟩ => rfl | ⟨2, _⟩ => rfl | ⟨3, _⟩ => rfl | ⟨4, _⟩ => rfl).trans (r76 a _)

theorem coe5i {f : ℕ → ℕ → ℕ → ℕ → ℕ → ℝ} {i j k l n i' j' k' l' n' : ℕ} (hi : i = i') (hj : j = j') (hk : k = k') (hl : l = l')
    (hn : n = n') : ((f i j k l n : ℝ) : EReal) = ((f i' j' k' l' n' : ℝ) : EReal) := by
  rw [hi, hj, hk, hl, hn]

theorem read_y (h : Holds m c a) (t : Fin cfg0.N) :
    (iblk m c 6 t : FVec Ideal S128x512 .f32) = up2 (φ := .f32) fun l j => a.y (15 - t.val % 16) l (t.val / 16) (j / 64) (j % 64) := by
  funext j
  obtain ⟨e0, e1⟩ := at6 t
  show V m c main_v84 (((cfg0.win 6).blk t).view.emb j) = _
  rw [V_y_at h]
  have b0 : (j 0).val < 128 := (j 0).isLt
  have b1 : (j 1).val < 512 := (j 1).isLt
  refine coe5i (f := a.y) ?_ ?_ ?_ ?_ ?_
  · blk_simp [e0]; omega
  · blk_simp [e0]; omega
  · blk_simp [e1]; omega
  · blk_simp [e1]; omega
  · blk_simp [e1]; omega

theorem sin_at (h : Holds m c a) (t : Fin cfg0.N) (k : S1x128x512.Idx) :
    (iblk m c 7 t : FVec Ideal S1x128x512 .f32) k
      = ((a.sin (15 - t.val % 16) (t.val / 16) ((k 2).val / 64) ((k 2).val % 64) (k 1).val : ℝ) : EReal) := by
  obtain ⟨e0, e1, e2⟩ := at7 t
  show V m c main_v83 (((cfg0.win 7).blk t).view.emb k) = _
  rw [V_sin_at h]
  have b0 : (k 0).val < 1 := (k 0).isLt
  have b2 : (k 2).val < 512 := (k 2).isLt
  refine coe5i (f := a.sin) ?_ ?_ ?_ ?_ ?_
  · blk_simp [e0]
  · blk_simp [e2]; omega
  · blk_simp [e2]; omega
  · blk_simp [e2]; omega
  · blk_simp [e1]

theorem read_sin (h : Holds m c a) (t : Fin cfg0.N) :
    shapeCast S128x512 (iblk m c 7 t : FVec Ideal S1x128x512 .f32) shapeCasts_S1x128x512_S128x512
      = up2 (φ := .f32) fun n j => a.sin (15 - t.val % 16) (t.val / 16) (j / 64) (j % 64) n := by
  funext j
  refine (shapeCast_apply _ shapeCasts_S1x128x512_S128x512 j (ix3 0 (j 0) (j 1)) ?_).trans (sin_at h t _)
  rewrite [Shape.rowMajor_val_three, Shape.rowMajor_val_two]
  show ((0 : ℕ) * 128 + (j 0).val) * 512 + (j 1).val = (j 0).val * 512 + (j 1).val
  omega

theorem sout_at (h : Holds m c a) (t : Fin cfg0.N) (k : S1x128x512.Idx) :
    (iblk m c 8 t : FVec Ideal S1x128x512 .f32) k
      = ((a.sin (min (15 - t.val % 16 + 1) 15) (t.val / 16) ((k 2).val / 64) ((k 2).val % 64) (k 1).val : ℝ) : EReal) := by
  obtain ⟨e0, e1, e2⟩ := at8 t
  show V m c main_v83 (((cfg0.win 8).blk t).view.emb k) = _
  rw [V_sin_at h]
  have b0 : (k 0).val < 1 := (k 0).isLt
  have b2 : (k 2).val < 512 := (k 2).isLt
  refine coe5i (f := a.sin) ?_ ?_ ?_ ?_ ?_
  · blk_simp [e0]
  · blk_simp [e2]; omega
  · blk_simp [e2]; omega
  · blk_simp [e2]; omega
  · blk_simp [e1]

theorem read_sout (h : Holds m c a) (t : Fin cfg0.N) :
    shapeCast S128x512 (iblk m c 8 t : FVec Ideal S1x128x512 .f32) shapeCasts_S1x128x512_S128x512
      = up2 (φ := .f32) fun n j => a.sin (min (15 - t.val % 16 + 1) 15) (t.val / 16) (j / 64) (j % 64) n := by
  funext j
  refine (shapeCast_apply _ shapeCasts_S1x128x512_S128x512 j (ix3 0 (j 0) (j 1)) ?_).trans (sout_at h t _)
  rewrite [Shape.rowMajor_val_three, Shape.rowMajor_val_two]
  show ((0 : ℕ) * 128 + (j 0).val) * 512 + (j 1).val = (j 0).val * 512 + (j 1).val
  omega

end Ssd
-- ==== Proof.Reads.lean ====
/- Every grid point of the backward kernel computes on the right blocks, once it finds the right state gradient. -/
module

public import proofs.«01_k».proof.Proof.Blocks
public import Idealize.ShloMosaic.Lib.Pipeline.ValueKit

@[expose] public section

set_option maxRecDepth 16384

noncomputable section

namespace Ssd

open Idealize.ShloMosaic hiding ix0 ix1 ix2 ix3 ix4 ix5 ix6 eq_ix2 eq_ix3 eq_ix4 eq_ix5
open Idealize.ShloMosaic.ValueIdx Finset
open Cert.KernelIdeal Cert.KernelIdeal.Gen Cert.KernelIdeal.Value Idealize.SL.Sem
open Idealize.ShloMosaic.TcCoe

variable {m : (ℓ : Loc nD τ sig) → Buf (Elt Ideal) ℓ} {c : Dev nD} {a : Args}

theorem reads_dt (h : Holds m c a) (t : Fin cfg0.N) :
    ∀ l < 128, ∀ e < 8, 0 ≤ a.dt (15 - t.val % 16) l (t.val / 16) e := by
  intro l hl e he
  have hN := lt_of_lt_of_eq t.isLt N_0
  unfold Args.dt
  exact h.dt _ (by omega) _ (by omega)

theorem reads_y (h : Holds m c a) (t : Fin cfg0.N) (ds : FVec Ideal S128x512 .f32) :
    (blkAt m c t ds).y = up2 (φ := .f32) fun l j => a.y (15 - t.val % 16) l (t.val / 16) (j / 64) (j % 64) := by
  unfold blkAt
  exact (congrArg k0_pay27 (read_y h t)).trans (shapeCast_self _ _)

theorem reads_sout (h : Holds m c a) (t : Fin cfg0.N) (ds : FVec Ideal S128x512 .f32) :
    ∃ so : ℕ → ℕ → ℕ → ℝ, (blkAt m c t ds).sout = up2 (φ := .f32) (fun n j => so n (j / 64) (j % 64))
      ∧ (15 - t.val % 16 < 15 → ∀ n e p, so n e p = a.sin (15 - t.val % 16 + 1) (t.val / 16) e p n) := by
  refine ⟨fun n e p => a.sin (min (15 - t.val % 16 + 1) 15) (t.val / 16) e p n, ?_, fun hc n e p => ?_⟩
  · unfold blkAt
    exact read_sout h t
  have : min (15 - t.val % 16 + 1) 15 = 15 - t.val % 16 + 1 := by omega
  rw [this]

set_option maxHeartbeats 2000000 in
/-- What a grid point reads, given the state gradient it finds. -/
theorem reads (h : Holds m c a) (t : Fin cfg0.N) (ds : FVec Ideal S128x512 .f32)
    (hds : ds = up2 (φ := .f32) fun n j => a.D (15 - t.val % 16) (t.val / 16) (j / 64) (j % 64) n) :
    Reads a (15 - t.val % 16) (t.val / 16) (blkAt m c t ds) := by
  refine Reads.mk (reads_dt h t) ?_ ?_ ?_ ?_ ?_ ?_ (reads_y h t ds) ?_ (reads_sout h t ds) ?_ hds
  · unfold blkAt; exact read_xs h t
  · unfold blkAt; exact read_B h t
  · unfold blkAt; exact read_C h t
  · unfold blkAt; exact read_dt h t
  · unfold blkAt; exact read_al h t
  · unfold blkAt; exact read_dy h t
  · unfold blkAt; exact read_sin h t
  · unfold blkAt; exact read_dk h t

end Ssd
-- ==== Proof.Carry.lean ====
/- What every grid point of the backward kernel leaves: by induction on the points, the state gradient it finds is the one of
   Math.lean, hence so is all it writes; the decay gradient is summed over a group's points. -/
module

public import proofs.«01_k».proof.Proof.Reads
public import Idealize.ShloMosaic.Lib.Pipeline.ValueKit

@[expose] public section

set_option maxRecDepth 16384

noncomputable section

namespace Ssd

open Idealize.ShloMosaic hiding ix0 ix1 ix2 ix3 ix4 ix5 ix6 eq_ix2 eq_ix3 eq_ix4 eq_ix5
open Idealize.ShloMosaic.ValueIdx Finset
open Cert.KernelIdeal Cert.KernelIdeal.Gen Cert.KernelIdeal.Value Idealize.SL.Sem
open Idealize.ShloMosaic.TcCoe

variable {m : (ℓ : Loc nD τ sig) → Buf (Elt Ideal) ℓ} {c : Dev nD} {a : Args}

/-- What point `t` leaves, if it finds the state gradient `ds`. -/
structure Leaves (m : (ℓ : Loc nD τ sig) → Buf (Elt Ideal) ℓ) (c : Dev nD) (a : Args) (t : Fin cfg0.N) (ds : FVec Ideal S128x512 .f32) : Prop where
  reads : Reads a (15 - t.val % 16) (t.val / 16) (blkAt m c t ds)
  dxs : (outsAt0 m c t.val t.isLt).1 = (blkAt m c t ds).dxsAll
  dB : (outsAt0 m c t.val t.isLt).2.1 = (blkAt m c t ds).dBAll
  dC : (outsAt0 m c t.val t.isLt).2.2.1 = (blkAt m c t ds).dCAll
  ddt : (outsAt0 m c t.val t.isLt).2.2.2.1 = (blkAt m c t ds).ddtAll
  dalA : t.val % 16 = 0 → (outsAt0 m c t.val t.isLt).2.2.2.2.1 = (blkAt m c t ds).dalAll
  dalB : 1 ≤ t.val % 16 → (outsAt0 m c t.val t.isLt).2.2.2.2.1
    = addf (outsAt0 m c (t.val - 1) (by have := t.isLt; omega)).2.2.2.2.1 (blkAt m c t ds).dalAll
  nds : (outsAt0 m c t.val t.isLt).2.2.2.2.2 = (blkAt m c t ds).ndsAll

/-- The first point of a group starts from no gradient. -/
theorem leaves_first (h : Holds m c a) (t : Fin cfg0.N) (h0 : t.val % 16 = 0) : Leaves m c a t k0_pay2 := by
  have h2 : ¬1 ≤ t.val % 16 := by omega
  refine ⟨reads h t _ ?_, dxs_A m c t h0 h2, dB_A m c t h0 h2, dC_A m c t h0 h2, ddt_A m c t h0 h2, fun _ => dal_A m c t h0 h2,
    fun h1 => absurd h1 h2, nds_A m c t h0 h2⟩
  refine (shapeCast_self _ _).trans (zero_up2.trans ?_)
  funext j
  show ((0 : ℝ) : EReal) = ((a.D (15 - t.val % 16) (t.val / 16) ((j 1).val / 64) ((j 1).val % 64) (j 0).val : ℝ) : EReal)
  rw [h0, Nat.sub_zero, a.D_last]

/-- A later point starts from the gradient its predecessor left. -/
theorem leaves_next (h : Holds m c a) (t : Fin cfg0.N) (h1 : 1 ≤ t.val % 16) (hp : t.val - 1 < cfg0.N)
    (hn : (outsAt0 m c (t.val - 1) hp).2.2.2.2.2
      = up2 (φ := .f32) fun n j => a.G (15 - (t.val - 1) % 16) ((t.val - 1) / 16) (j / 64) (j % 64) n) :
    Leaves m c a t (outsAt0 m c (t.val - 1) hp).2.2.2.2.2 := by
  have h0 : ¬t.val % 16 = 0 := by omega
  refine ⟨reads h t _ (hn.trans ?_), dxs_B m c t h0 h1, dB_B m c t h0 h1, dC_B m c t h0 h1, ddt_B m c t h0 h1, fun h => absurd h h0,
    fun _ => dal_B m c t h0 h1, nds_B m c t h0 h1⟩
  have e1 : 15 - (t.val - 1) % 16 = 15 - t.val % 16 + 1 := by omega
  have e2 : (t.val - 1) / 16 = t.val / 16 := by omega
  rw [e1, e2]
  rfl

theorem nds_of {t : Fin cfg0.N} {ds : FVec Ideal S128x512 .f32} (L : Leaves m c a t ds) :
    (outsAt0 m c t.val t.isLt).2.2.2.2.2
      = up2 (φ := .f32) fun n j => a.G (15 - t.val % 16) (t.val / 16) (j / 64) (j % 64) n :=
  L.nds.trans (L.reads.ndsAll (by omega))

theorem leaves (h : Holds m c a) : ∀ (n : ℕ) (hn : n < cfg0.N), ∃ ds, Leaves m c a ⟨n, hn⟩ ds
  | 0, hn => ⟨_, leaves_first h ⟨0, hn⟩ rfl⟩
  | n + 1, hn => by
    by_cases h1 : 1 ≤ (n + 1) % 16
    · obtain ⟨ds, L⟩ := leaves h n (Nat.lt_of_succ_lt hn)
      exact ⟨_, leaves_next h ⟨n + 1, hn⟩ h1 (Nat.lt_of_succ_lt hn) (nds_of L)⟩
    · exact ⟨_, leaves_first h ⟨n + 1, hn⟩ (by show (n + 1) % 16 = 0; omega)⟩

/-- The decay gradient of a group's first `n` points. -/
theorem dal_at (h : Holds m c a) : ∀ (n : ℕ) (hn : n < cfg0.N), (outsAt0 m c n hn).2.2.2.2.1
    = up2 (φ := .f32) fun _ e => if e < 8 then
        ∑ k ∈ range (n % 16 + 1), (∑ l ∈ range 128, a.dadt (15 - k) (n / 16) e l * a.dt (15 - k) l (n / 16) e) * a.A (n / 16) e
      else 0
  | n, hn => by
    obtain ⟨ds, L⟩ := leaves h n hn
    have hd : (blkAt m c ⟨n, hn⟩ ds).dalAll = _ := L.reads.dalAll (by show 15 - n % 16 < 16; omega)
    by_cases h1 : 1 ≤ n % 16
    · obtain ⟨p, rfl⟩ : ∃ p, n = p + 1 := ⟨n - 1, by omega⟩
      refine (L.dalB h1).trans ?_
      have ih := dal_at h p (Nat.lt_of_succ_lt hn)
      refine (congrArg₂ addf ih hd).trans ((addf_up2 _ _).trans ?_)
      have e1 : p % 16 + 1 = (p + 1) % 16 := by omega
      have e2 : p / 16 = (p + 1) / 16 := by omega
      refine congrArg up2 (funext fun _ => funext fun e => ?_)
      rw [e1, e2]
      by_cases he : e < 8
      · simp only [if_pos he]
        exact (sum_range_succ _ _).symm
      · simp only [if_neg he, add_zero]
    · have h0 : n % 16 = 0 := by omega
      refine (L.dalA h0).trans (hd.trans ?_)
      refine congrArg up2 (funext fun _ => funext fun e => ?_)
      simp only [h0, zero_add, sum_range_one]

/-- The decay gradient of a whole group. -/
theorem dal_last (h : Holds m c a) (n : ℕ) (hn : n < cfg0.N) (hl : n % 16 = 15) : (outsAt0 m c n hn).2.2.2.2.1
    = up2 (φ := .f32) fun _ e => if e < 8 then a.dal (n / 16) e else 0 := by
  rw [dal_at h n hn, hl]
  refine congrArg up2 (funext fun _ => funext fun e => if_congr Iff.rfl ?_ rfl)
  unfold Args.dal
  rw [← sum_range_reflect (fun k => ∑ l ∈ range 128, a.dadt k (n / 16) e l * a.dt k l (n / 16) e), mul_sum]
  exact sum_congr rfl fun k _ => mul_comm _ _

end Ssd
-- ==== Proof.RefBwd.lean ====
/- The reference's gradients over the reals: each lemma says what one array of the reference holds at an index, in the terms of
   Math.lean, when the five arguments are arrays of real numbers. -/
module

public import proofs.«01_k».proof.Proof.RefFwd

@[expose] public section

set_option maxRecDepth 16384

noncomputable section

namespace Ssd

open Idealize.ShloMosaic hiding ix0 ix1 ix2 ix3 ix4 ix5 ix6 eq_ix2 eq_ix3 eq_ix4 eq_ix5
open Idealize.ShloMosaic.ValueIdx Finset
open Cert.ReferenceIdeal Cert.ReferenceIdeal.Gen Cert.ReferenceIdeal.Read

theorem init_sum1 {z x : EReal} (hz : z = 0) (F : Fin 1 → EReal) (h : F 0 = x) : z + ∑ k, F k = x := by
  rw [hz, zero_add, Fintype.sum_unique]; exact h

/- Where a reshape that only adds an axis of one element reads. -/

theorem unit4 (i : S16x128x8x8.Idx) : idx_main_v94 (idx_main_v97 i 0) = i := by
  have h0 : (i 0).val < 16 := (i 0).isLt
  have h1 : (i 1).val < 128 := (i 1).isLt
  have h2 : (i 2).val < 8 := (i 2).isLt
  have h3 : (i 3).val < 8 := (i 3).isLt
  funext a
  match a with
  | ⟨0, _⟩ => exact Fin.ext (show (((((i 0).val * 128 + (i 1).val) * 8 + (i 2).val) * 8 + (i 3).val) * 1 + 0) / 8192 = (i 0).val by omega)
  | ⟨1, _⟩ => exact Fin.ext (show (((((i 0).val * 128 + (i 1).val) * 8 + (i 2).val) * 8 + (i 3).val) * 1 + 0) / 64 % 128 = (i 1).val by omega)
  | ⟨2, _⟩ => exact Fin.ext (show (((((i 0).val * 128 + (i 1).val) * 8 + (i 2).val) * 8 + (i 3).val) * 1 + 0) / 8 % 8 = (i 2).val by omega)
  | ⟨3, _⟩ => exact Fin.ext (show (((((i 0).val * 128 + (i 1).val) * 8 + (i 2).val) * 8 + (i 3).val) * 1 + 0) % 8 = (i 3).val by omega)

theorem unit17 (i : S8x8x17.Idx) : idx_main_v112 (idx_main_v117 i 0) = i := by
  have h0 : (i 0).val < 8 := (i 0).isLt
  have h1 : (i 1).val < 8 := (i 1).isLt
  have h2 : (i 2).val < 17 := (i 2).isLt
  funext a
  match a with
  | ⟨0, _⟩ => exact Fin.ext (show ((((i 0).val * 8 + (i 1).val) * 17 + (i 2).val) * 1 + 0) / 136 = (i 0).val by omega)
  | ⟨1, _⟩ => exact Fin.ext (show ((((i 0).val * 8 + (i 1).val) * 17 + (i 2).val) * 1 + 0) / 17 % 8 = (i 1).val by omega)
  | ⟨2, _⟩ => exact Fin.ext (show ((((i 0).val * 8 + (i 1).val) * 17 + (i 2).val) * 1 + 0) % 17 = (i 2).val by omega)

theorem unit17' (i : S8x8x17.Idx) : idx_main_v115 (idx_main_v116 i 0) = i := by
  have h0 : (i 0).val < 8 := (i 0).isLt
  have h1 : (i 1).val < 8 := (i 1).isLt
  have h2 : (i 2).val < 17 := (i 2).isLt
  funext a
  match a with
  | ⟨0, _⟩ => exact Fin.ext (show ((((i 0).val * 8 + (i 1).val) * 1 + 0) * 17 + (i 2).val) / 136 = (i 0).val by omega)
  | ⟨1, _⟩ => exact Fin.ext (show ((((i 0).val * 8 + (i 1).val) * 1 + 0) * 17 + (i 2).val) / 17 % 8 = (i 1).val by omega)
  | ⟨2, _⟩ => exact Fin.ext (show ((((i 0).val * 8 + (i 1).val) * 1 + 0) * 17 + (i 2).val) % 17 = (i 2).val by omega)

theorem unitTok (i : S8x8x16x128.Idx) : idx_main_v159 (idx_main_v165 i 0) = i := by
  have h0 : (i 0).val < 8 := (i 0).isLt
  have h1 : (i 1).val < 8 := (i 1).isLt
  have h2 : (i 2).val < 16 := (i 2).isLt
  have h3 : (i 3).val < 128 := (i 3).isLt
  funext a
  match a with
  | ⟨0, _⟩ => exact Fin.ext (show (((((i 0).val * 8 + (i 1).val) * 16 + (i 2).val) * 128 + (i 3).val) * 1 + 0) / 16384 = (i 0).val by omega)
  | ⟨1, _⟩ => exact Fin.ext (show (((((i 0).val * 8 + (i 1).val) * 16 + (i 2).val) * 128 + (i 3).val) * 1 + 0) / 2048 % 8 = (i 1).val by omega)
  | ⟨2, _⟩ => exact Fin.ext (show (((((i 0).val * 8 + (i 1).val) * 16 + (i 2).val) * 128 + (i 3).val) * 1 + 0) / 128 % 16 = (i 2).val by omega)
  | ⟨3, _⟩ => exact Fin.ext (show (((((i 0).val * 8 + (i 1).val) * 16 + (i 2).val) * 128 + (i 3).val) * 1 + 0) % 128 = (i 3).val by omega)

theorem unitTok' (i : S8x8x16x128.Idx) : idx_main_v162 (idx_main_v163 i 0) = i := by
  have h0 : (i 0).val < 8 := (i 0).isLt
  have h1 : (i 1).val < 8 := (i 1).isLt
  have h2 : (i 2).val < 16 := (i 2).isLt
  have h3 : (i 3).val < 128 := (i 3).isLt
  funext a
  match a with
  | ⟨0, _⟩ => exact Fin.ext (show (((((i 0).val * 8 + (i 1).val) * 16 + (i 2).val) * 1 + 0) * 128 + (i 3).val) / 16384 = (i 0).val by omega)
  | ⟨1, _⟩ => exact Fin.ext (show (((((i 0).val * 8 + (i 1).val) * 16 + (i 2).val) * 1 + 0) * 128 + (i 3).val) / 2048 % 8 = (i 1).val by omega)
  | ⟨2, _⟩ => exact Fin.ext (show (((((i 0).val * 8 + (i 1).val) * 16 + (i 2).val) * 1 + 0) * 128 + (i 3).val) / 128 % 16 = (i 2).val by omega)
  | ⟨3, _⟩ => exact Fin.ext (show (((((i 0).val * 8 + (i 1).val) * 16 + (i 2).val) * 1 + 0) * 128 + (i 3).val) % 128 = (i 3).val by omega)

theorem unitPair (i : S8x16x128x128.Idx) : idx_main_v155 (idx_main_v167 i 0) = i := by
  have h0 : (i 0).val < 8 := (i 0).isLt
  have h1 : (i 1).val < 16 := (i 1).isLt
  have h2 : (i 2).val < 128 := (i 2).isLt
  have h3 : (i 3).val < 128 := (i 3).isLt
  funext a
  match a with
  | ⟨0, _⟩ => exact Fin.ext (show (((((i 0).val * 1 + 0) * 16 + (i 1).val) * 128 + (i 2).val) * 128 + (i 3).val) / 262144 = (i 0).val by omega)
  | ⟨1, _⟩ => exact Fin.ext (show (((((i 0).val * 1 + 0) * 16 + (i 1).val) * 128 + (i 2).val) * 128 + (i 3).val) / 16384 % 16 = (i 1).val by omega)
  | ⟨2, _⟩ => exact Fin.ext (show (((((i 0).val * 1 + 0) * 16 + (i 1).val) * 128 + (i 2).val) * 128 + (i 3).val) / 128 % 128 = (i 2).val by omega)
  | ⟨3, _⟩ => exact Fin.ext (show (((((i 0).val * 1 + 0) * 16 + (i 1).val) * 128 + (i 2).val) * 128 + (i 3).val) % 128 = (i 3).val by omega)

/-- A column placed on the last of 128 places, zeros before it. -/
theorem pad_last {x : S8x8x16x1.Idx → EReal} {v : S_.Idx → EReal} (f : ℕ → ℕ → ℕ → ℝ)
    (hv : v (Shape.Idx.first h_S_) = 0) (i : S8x8x16x128.Idx)
    (hx : ∀ k : S8x8x16x1.Idx, x k = ((f (k 0).val (k 1).val (k 2).val : ℝ) : EReal)) :
    pad S8x8x16x128 ![0, 0, 0, 127] ![0, 0, 0, 0] ![0, 0, 0, 0] x v pads_S8x8x16x1_S8x8x16x128_000_000_000_12700 h_S_ i
      = ((if (i 3).val = 127 then f (i 0).val (i 1).val (i 2).val else 0 : ℝ) : EReal) := by
  by_cases h : (i 3).val = 127
  · refine (pad_apply_of_inside _ _ _ _ _ _ _ i (ix4 (i 0) (i 1) (i 2) (⟨0, by decide⟩ : Fin 1)) fun b => ?_).trans ?_
    · match b with
      | ⟨0, _⟩ => show (i 0).val = 0 + (i 0).val * 1; omega
      | ⟨1, _⟩ => show (i 1).val = 0 + (i 1).val * 1; omega
      | ⟨2, _⟩ => show (i 2).val = 0 + (i 2).val * 1; omega
      | ⟨3, _⟩ => show (i 3).val = 127 + 0 * 1; omega
    · rw [if_pos h]; exact hx _
  · refine (pad_apply_of_not_inside _ _ _ _ _ _ _ i (3 : Fin 4) fun hh => h ?_).trans ?_
    · have h3 : (i 3).val < 128 := (i 3).isLt
      have := hh.1
      change 127 ≤ (i 3).val at this; omega
    · rw [hv, if_neg h]; rfl

variable (a : Args)

theorem r89 (i : S16x128x8x8x64.Idx) :
    val_main_v89 (F := Ideal) (A3 a) i = ((a.dy (i 0).val (i 1).val (i 2).val (i 3).val (i 4).val : ℝ) : EReal) := by
  have h0 : (i 0).val < 16 := (i 0).isLt
  have h1 : (i 1).val < 128 := (i 1).isLt
  have h2 : (i 2).val < 8 := (i 2).isLt
  have h3 : (i 3).val < 8 := (i 3).isLt
  have h4 : (i 4).val < 64 := (i 4).isLt
  rw [val_main_v89_apply]
  exact coe2 (f := a.x3)
    (show (((((i 0).val * 128 + (i 1).val) * 8 + (i 2).val) * 8 + (i 3).val) * 64 + (i 4).val) / 4096 = 128 * (i 0).val + (i 1).val by omega)
    (show (((((i 0).val * 128 + (i 1).val) * 8 + (i 2).val) * 8 + (i 3).val) * 64 + (i 4).val) % 4096 = 512 * (i 2).val + 64 * (i 3).val + (i 4).val by omega)

theorem r91 (i : S16x128x8x8x64.Idx) :
    val_main_v91 (F := Ideal) (A3 a) (A4 a) i
      = ((a.dk (i 2).val (i 3).val (i 4).val * a.dy (i 0).val (i 1).val (i 2).val (i 3).val (i 4).val : ℝ) : EReal) := by
  rw [val_main_v91_apply, val_main_v90_apply, val_main_v85_apply, r10, r89]; exact (EReal.coe_mul _ _).symm

theorem r93 (i : S16x128x8x8.Idx) :
    val_main_v93 (F := Ideal) (A0 a) (A1 a) (A2 a) (A3 a) i
      = ((∑ p ∈ range 64, a.y0 (i 0).val (i 1).val (i 2).val (i 3).val p * a.dy (i 0).val (i 1).val (i 2).val (i 3).val p : ℝ) : EReal) := by
  rw [val_main_v93_apply]
  exact init_sum_real ((val_main_cst_5_apply _).trans ofBits_zero) _ _ fun k => by
    rw [val_main_v92_apply, r78, r89]; exact (EReal.coe_mul _ _).symm

theorem r99 (i : S8x8x16x128.Idx) :
    val_main_v99 (F := Ideal) (A0 a) (A1 a) (A2 a) (A3 a) i
      = (((∑ p ∈ range 64, a.y0 (i 2).val (i 3).val (i 0).val (i 1).val p * a.dy (i 2).val (i 3).val (i 0).val (i 1).val p)
          * Real.exp (a.cs (i 2).val (i 0).val (i 1).val (i 3).val) : ℝ) : EReal) := by
  rw [val_main_v99_apply, val_main_v98_apply, val_main_v97_apply, r79,
    init_sum1 ((val_main_cst_6_apply _).trans ofBits_zero) _
      (show val_main_v94 (F := Ideal) (A0 a) (A1 a) (A2 a) (A3 a) (idx_main_v97 (idx_main_v98 i) 0) = _ by
        rw [val_main_v94_apply, unit4, r93])]
  exact (EReal.coe_mul _ _).symm

theorem r100 (i : S16x8x8x64x128.Idx) :
    val_main_v100 (F := Ideal) (A1 a) (A2 a) (A3 a) i
      = ((a.dy (i 0).val (i 4).val (i 1).val (i 2).val (i 3).val * Real.exp (a.cs (i 0).val (i 1).val (i 2).val (i 4).val) : ℝ) : EReal) := by
  rw [val_main_v100_apply, val_main_v96_apply, r89, val_main_v95_apply, r81]; exact (EReal.coe_mul _ _).symm

theorem r102 (i : S16x128x8x128.Idx) :
    val_main_v102 (F := Ideal) (A0 a) (A1 a) (A2 a) (A3 a) i
      = ((∑ e ∈ range 8, ∑ p ∈ range 64, a.dy (i 0).val (i 1).val (i 2).val e p * Real.exp (a.cs (i 0).val (i 2).val e (i 1).val)
          * a.sin (i 0).val (i 2).val e p (i 3).val : ℝ) : EReal) := by
  rw [val_main_v102_apply]
  unfold val_main_v101
  rw [dot_state]
  exact double_sum _ _ fun e p => by rw [r100, r76]; exact (EReal.coe_mul _ _).symm

theorem r103 (i : S16x8x8x64x128.Idx) :
    val_main_v103 (F := Ideal) (A0 a) (A1 a) (A2 a) (A3 a) i = ((a.W (i 0).val (i 1).val (i 2).val (i 3).val (i 4).val : ℝ) : EReal) := by
  rw [val_main_v103_apply]
  exact sum_real _ (fun l => a.dy (i 0).val l (i 1).val (i 2).val (i 3).val * Real.exp (a.cs (i 0).val (i 1).val (i 2).val l) * a.C (i 0).val l (i 1).val (i 4).val)
    fun k => by rw [r100, r5]; exact (EReal.coe_mul _ _).symm

theorem r104 (i : S17x8x8x64x128.Idx) :
    val_main_v104 (F := Ideal) (A0 a) (A1 a) (A2 a) (A3 a) i = ((a.Wp (i 0).val (i 1).val (i 2).val (i 3).val (i 4).val : ℝ) : EReal) := by
  unfold val_main_v104
  by_cases h : (i 0).val < 16
  · refine (pad_apply_of_inside _ _ _ _ _ _ _ i (ix5 (⟨(i 0).val, h⟩ : Fin 16) (i 1) (i 2) (i 3) (i 4)) fun b => ?_).trans ?_
    · match b with
      | ⟨0, _⟩ => show (i 0).val = 0 + (i 0).val * 1; omega
      | ⟨1, _⟩ => show (i 1).val = 0 + (i 1).val * 1; omega
      | ⟨2, _⟩ => show (i 2).val = 0 + (i 2).val * 1; omega
      | ⟨3, _⟩ => show (i 3).val = 0 + (i 3).val * 1; omega
      | ⟨4, _⟩ => show (i 4).val = 0 + (i 4).val * 1; omega
    · rw [Args.Wp, if_pos h]; exact r103 a _
  · refine (pad_apply_of_not_inside _ _ _ _ _ _ _ i (0 : Fin 5) fun hh => h ?_).trans ?_
    · have := hh.2.2
      change ((i 0).val - 0) / 1 < 16 at this; omega
    · rw [val_main_cst_7_apply, ofBits_zero, Args.Wp, if_neg h]; rfl

theorem r105 (i : S8x8x64x128x17.Idx) :
    val_main_v105 (F := Ideal) (A0 a) (A1 a) (A2 a) (A3 a) i = ((a.Wp (i 4).val (i 0).val (i 1).val (i 2).val (i 3).val : ℝ) : EReal) := by
  rw [val_main_v105_apply, r104]

theorem r108 (i : S17x8x8x64x128.Idx) :
    val_main_v108 (F := Ideal) (A0 a) (A1 a) (A2 a) (A3 a) i = ((a.G (i 0).val (i 1).val (i 2).val (i 3).val (i 4).val : ℝ) : EReal) := by
  rw [val_main_v108_apply, val_main_v107_apply]
  exact sum_real _ (fun z => a.Wp z (i 1).val (i 2).val (i 3).val (i 4).val * a.dch (i 1).val (i 2).val z (i 0).val) fun k => by
    rw [r105, r73]; exact (EReal.coe_mul _ _).symm

theorem r110 (i : S8x8x17x17.Idx) :
    val_main_v110 (F := Ideal) (A0 a) (A1 a) (A2 a) (A3 a) i = ((a.M (i 0).val (i 1).val (i 2).val (i 3).val : ℝ) : EReal) := by
  have h106 : val_main_v106 (F := Ideal) (A0 a) (A1 a) (A2 a) (A3 a) i
      = ((∑ p ∈ range 64, ∑ n ∈ range 128, a.Wp (i 2).val (i 0).val (i 1).val p n * a.stc (i 3).val (i 0).val (i 1).val p n : ℝ) : EReal) := by
    unfold val_main_v106
    rw [dot_chunks]
    exact double_sum _ _ fun e p => by rw [r105, r51]; exact (EReal.coe_mul _ _).symm
  rw [val_main_v110_apply, select_real (r72_1 i), val_main_v109_apply, h106, r73, val_main_call4_v0_apply, val_main_call4_cst_apply, ofBits_zero]
  by_cases h : (i 3).val ≤ (i 2).val
  · rw [if_pos h]; exact (EReal.coe_mul _ _).symm
  · rw [if_neg h, a.M_of_lt (by omega)]; rfl

theorem r118 (i : S8x8x17.Idx) :
    val_main_v118 (F := Ideal) (A0 a) (A1 a) (A2 a) (A3 a) i = ((a.dcs2 (i 0).val (i 1).val (i 2).val : ℝ) : EReal) := by
  have h111 : ∀ i : S8x8x17.Idx, val_main_v111 (F := Ideal) (A0 a) (A1 a) (A2 a) (A3 a) i
      = ((∑ k ∈ range 17, a.M (i 0).val (i 1).val (i 2).val k : ℝ) : EReal) := fun i => by
    rw [val_main_v111_apply]
    exact init_sum_real ((val_main_cst_8_apply _).trans ofBits_zero) _ _ fun k => by rw [r110]
  have h114 : ∀ i : S8x8x17.Idx, val_main_v114 (F := Ideal) (A0 a) (A1 a) (A2 a) (A3 a) i
      = ((∑ z ∈ range 17, -a.M (i 0).val (i 1).val z (i 2).val : ℝ) : EReal) := fun i => by
    rw [val_main_v114_apply]
    exact init_sum_real ((val_main_cst_9_apply _).trans ofBits_zero) _ _ fun k => by
      rw [val_main_v113_apply, r110]; exact (EReal.coe_neg _).symm
  rw [val_main_v118_apply, val_main_v116_apply, val_main_v117_apply,
    init_sum1 ((val_main_cst_10_apply _).trans ofBits_zero) _
      (show val_main_v115 (F := Ideal) (A0 a) (A1 a) (A2 a) (A3 a) (idx_main_v116 i 0) = _ by rw [val_main_v115_apply, unit17', h114]),
    init_sum1 ((val_main_cst_11_apply _).trans ofBits_zero) _
      (show val_main_v112 (F := Ideal) (A0 a) (A1 a) (A2 a) (A3 a) (idx_main_v117 i 0) = _ by rw [val_main_v112_apply, unit17, h111])]
  exact (EReal.coe_add _ _).symm

theorem r119 (i : S8x8x17.Idx) :
    val_main_v119 (F := Ideal) (A0 a) (A1 a) (A2 a) (A3 a) i = ((a.dct (i 0).val (i 1).val (i 2).val : ℝ) : EReal) := by
  unfold val_main_v119 Host.reduceWindowAdd
  rw [show (val_main_call5_call0_v0 (F := Ideal)) (Shape.Idx.first h_S_) = 0 from
    (val_main_call5_call0_v0_apply _).trans ((val_main_call5_call0_cst_apply _).trans ofBits_zero)]
  exact suffix3 (n := 16) _ a.dcs2 (r118 a) _ i

theorem r123 (i : S8x8x16x128.Idx) :
    val_main_v123 (F := Ideal) (A0 a) (A1 a) (A2 a) (A3 a) i
      = ((if (i 3).val = 127 then a.dct (i 0).val (i 1).val ((i 2).val + 1) else 0 : ℝ) : EReal) := by
  unfold val_main_v123
  exact pad_last (fun g e c => a.dct g e (c + 1)) ((val_main_cst_12_apply _).trans ofBits_zero) i fun k => by
    rw [val_main_v122_apply, val_main_v121_apply, r119]
    show ((a.dct (k 0).val (k 1).val (1 + (k 2).val) : ℝ) : EReal) = _
    rw [Nat.add_comm]

theorem r126 (i : S16x8x8x64x128.Idx) :
    val_main_v126 (F := Ideal) (A0 a) (A1 a) (A2 a) (A3 a) i = ((a.D (i 0).val (i 1).val (i 2).val (i 3).val (i 4).val : ℝ) : EReal) := by
  rw [val_main_v126_apply, r108, Args.D]
  show ((a.G (1 + (i 0).val) _ _ _ _ : ℝ) : EReal) = _
  rw [Nat.add_comm]

theorem r128 (i : S16x128x8x128.Idx) :
    val_main_v128 (F := Ideal) (A0 a) (A1 a) (A2 a) (A3 a) i
      = ((∑ e ∈ range 8, ∑ p ∈ range 64, a.D (i 0).val (i 2).val e p (i 3).val
          * (a.dec (i 0).val (i 2).val e (i 1).val * a.X (i 0).val (i 1).val (i 2).val e p) : ℝ) : EReal) := by
  rw [val_main_v128_apply]
  unfold val_main_v127
  rw [dot_inputs]
  exact double_sum _ _ fun e p => by rw [r126, r47]; exact (EReal.coe_mul _ _).symm

theorem r130 (i : S16x128x8x8x64.Idx) :
    val_main_v130 (F := Ideal) (A0 a) (A1 a) (A2 a) (A3 a) i = ((a.BD (i 0).val (i 1).val (i 2).val (i 3).val (i 4).val : ℝ) : EReal) := by
  rw [val_main_v130_apply, val_main_v129_apply]
  exact sum_real _ (fun n => a.D (i 0).val (i 2).val (i 3).val (i 4).val n * a.B (i 0).val (i 1).val (i 2).val n) fun k => by
    rw [r126, r3]; exact (EReal.coe_mul _ _).symm

theorem r138 (i : S8x8x16x128.Idx) :
    val_main_v138 (F := Ideal) (A0 a) (A1 a) (A2 a) (A3 a) i
      = (((∑ p ∈ range 64, a.BD (i 2).val (i 3).val (i 0).val (i 1).val p * a.X (i 2).val (i 3).val (i 0).val (i 1).val p)
          * a.dec (i 2).val (i 0).val (i 1).val (i 3).val : ℝ) : EReal) := by
  have h134 : ∀ i : S16x128x8x8.Idx, val_main_v134 (F := Ideal) (A0 a) (A1 a) (A2 a) (A3 a) i
      = ((∑ p ∈ range 64, a.BD (i 0).val (i 1).val (i 2).val (i 3).val p * a.X (i 0).val (i 1).val (i 2).val (i 3).val p : ℝ) : EReal) := fun i => by
    rw [val_main_v134_apply]
    exact init_sum_real ((val_main_cst_13_apply _).trans ofBits_zero) _ _ fun k => by
      rw [val_main_v133_apply, r130, r15]; exact (EReal.coe_mul _ _).symm
  rw [val_main_v138_apply, val_main_v137_apply, val_main_v136_apply, r43,
    init_sum1 ((val_main_cst_14_apply _).trans ofBits_zero) _
      (show val_main_v135 (F := Ideal) (A0 a) (A1 a) (A2 a) (A3 a) (idx_main_v136 (idx_main_v137 i) 0) = _ by
        rw [val_main_v135_apply, show idx_main_v135 (idx_main_v136 (idx_main_v137 i) 0) = idx_main_v137 i from unit4 _, h134])]
  exact (EReal.coe_mul _ _).symm

theorem r143 (i : S8x8x16x128.Idx) :
    val_main_v143 (F := Ideal) (A0 a) (A1 a) (A2 a) (A3 a) i
      = ((if (i 3).val = 127 then ∑ l ∈ range 128, (∑ p ∈ range 64, a.BD (i 2).val l (i 0).val (i 1).val p * a.X (i 2).val l (i 0).val (i 1).val p)
          * a.dec (i 2).val (i 0).val (i 1).val l else 0 : ℝ) : EReal) := by
  unfold val_main_v143
  refine pad_last (fun g e c => ∑ l ∈ range 128, (∑ p ∈ range 64, a.BD c l g e p * a.X c l g e p) * a.dec c g e l)
    ((val_main_cst_16_apply _).trans ofBits_zero) i fun k => ?_
  have h0 : (k 0).val < 8 := (k 0).isLt
  have h1 : (k 1).val < 8 := (k 1).isLt
  have h2 : (k 2).val < 16 := (k 2).isLt
  have h3 : (k 3).val < 1 := (k 3).isLt
  rw [val_main_v140_apply, val_main_v139_apply,
    show idx_main_v140 k = ix3 (k 0) (k 1) (k 2) from funext fun b => by
      match b with
      | ⟨0, _⟩ => exact Fin.ext (show ((((k 0).val * 8 + (k 1).val) * 16 + (k 2).val) * 1 + (k 3).val) / 128 = (k 0).val by omega)
      | ⟨1, _⟩ => exact Fin.ext (show ((((k 0).val * 8 + (k 1).val) * 16 + (k 2).val) * 1 + (k 3).val) / 16 % 8 = (k 1).val by omega)
      | ⟨2, _⟩ => exact Fin.ext (show ((((k 0).val * 8 + (k 1).val) * 16 + (k 2).val) * 1 + (k 3).val) % 16 = (k 2).val by omega)]
  exact init_sum_real ((val_main_cst_15_apply _).trans ofBits_zero) _ _ fun l => by rw [r138]

theorem r147 (i : S8x8x16x128x128.Idx) :
    val_main_v147 (F := Ideal) (A0 a) (A1 a) (A3 a) i = ((a.P (i 2).val (i 0).val (i 1).val (i 3).val (i 4).val : ℝ) : EReal) := by
  rw [val_main_v147_apply, val_main_v146_apply]
  exact sum_real _ (fun p => a.dy (i 2).val (i 3).val (i 0).val (i 1).val p * a.X (i 2).val (i 4).val (i 0).val (i 1).val p) fun k => by
    rw [val_main_v145_apply, r89, r15]; exact (EReal.coe_mul _ _).symm

theorem r150 (i : S16x128x8x8x64.Idx) :
    val_main_v150 (F := Ideal) (A0 a) (A1 a) (A2 a) (A3 a) i = ((a.dX (i 0).val (i 1).val (i 2).val (i 3).val (i 4).val : ℝ) : EReal) := by
  have h149 : val_main_v149 (F := Ideal) (A0 a) (A1 a) (A2 a) (A3 a) i
      = ((∑ l ∈ range 128, a.dy (i 0).val l (i 2).val (i 3).val (i 4).val
          * (a.CB (i 0).val (i 2).val l (i 1).val * a.Lm (i 0).val (i 2).val (i 3).val l (i 1).val) : ℝ) : EReal) := by
    rw [val_main_v149_apply, val_main_v148_apply]
    exact sum_real _ _ fun k => by rw [val_main_v145_apply, r89, r37]; exact (EReal.coe_mul _ _).symm
  rw [val_main_v150_apply, val_main_v132_apply, val_main_v131_apply, r45, r130, h149]
  exact (congrArg (· + _) (EReal.coe_mul _ _).symm).trans (EReal.coe_add _ _).symm

theorem r157 (i : S8x8x16x128x128.Idx) :
    val_main_v157 (F := Ideal) (A0 a) (A1 a) (A2 a) (A3 a) i
      = ((a.CB (i 2).val (i 0).val (i 3).val (i 4).val * a.P (i 2).val (i 0).val (i 1).val (i 3).val (i 4).val
          * a.Lm (i 2).val (i 0).val (i 1).val (i 3).val (i 4).val : ℝ) : EReal) := by
  rw [val_main_v157_apply, select_real (r34_1 i), val_main_v156_apply, val_main_v152_apply, val_main_v151_apply, val_main_v22_apply, r21, r147, r35,
    val_main_call6_v0_apply, val_main_call6_cst_apply, ofBits_zero]
  by_cases h : (i 4).val ≤ (i 3).val
  · rw [if_pos h]
    exact (congrArg (· * _) (EReal.coe_mul _ _).symm).trans (EReal.coe_mul _ _).symm
  · rw [if_neg h, Args.Lm, if_neg h, mul_zero]; rfl

theorem r165 (i : S8x8x16x128.Idx) :
    val_main_v165 (F := Ideal) (A0 a) (A1 a) (A2 a) (A3 a) i
      = ((∑ s ∈ range 128, a.CB (i 2).val (i 0).val (i 3).val s * a.P (i 2).val (i 0).val (i 1).val (i 3).val s
          * a.Lm (i 2).val (i 0).val (i 1).val (i 3).val s : ℝ) : EReal) := by
  rw [val_main_v165_apply]
  refine init_sum1 ((val_main_cst_21_apply _).trans ofBits_zero) _
    (show val_main_v159 (F := Ideal) (A0 a) (A1 a) (A2 a) (A3 a) (idx_main_v165 i 0) = _ from ?_)
  rw [val_main_v159_apply, unitTok, val_main_v158_apply]
  exact init_sum_real ((val_main_cst_18_apply _).trans ofBits_zero) _ _ fun k => by rw [r157]

theorem r163 (i : S8x8x16x128.Idx) :
    val_main_v163 (F := Ideal) (A0 a) (A1 a) (A2 a) (A3 a) i
      = ((∑ l ∈ range 128, -(a.CB (i 2).val (i 0).val l (i 3).val * a.P (i 2).val (i 0).val (i 1).val l (i 3).val
          * a.Lm (i 2).val (i 0).val (i 1).val l (i 3).val) : ℝ) : EReal) := by
  rw [val_main_v163_apply]
  refine init_sum1 ((val_main_cst_20_apply _).trans ofBits_zero) _
    (show val_main_v162 (F := Ideal) (A0 a) (A1 a) (A2 a) (A3 a) (idx_main_v163 i 0) = _ from ?_)
  rw [val_main_v162_apply, unitTok', val_main_v161_apply]
  exact init_sum_real ((val_main_cst_19_apply _).trans ofBits_zero) _ _ fun k => by
    rw [val_main_v160_apply, r157]; exact (EReal.coe_neg _).symm

theorem r166 (i : S8x8x16x128.Idx) :
    val_main_v166 (F := Ideal) (A0 a) (A1 a) (A2 a) (A3 a) i = ((a.dcs (i 2).val (i 0).val (i 1).val (i 3).val : ℝ) : EReal) := by
  rw [val_main_v166_apply, val_main_v164_apply, val_main_v144_apply, val_main_v142_apply, val_main_v141_apply, val_main_v124_apply,
    r99, r123, r138, r143, r163, r165, a.dcs_eq (show (i 2).val < 16 from (i 2).isLt)]
  simp only [Ideal.addf_def, Ideal.hostNegf_def, Ideal.negf_def, ← EReal.coe_add, ← EReal.coe_neg]
  refine congrArg _ ?_
  ring

theorem r167 (i : S8x16x128x128.Idx) :
    val_main_v167 (F := Ideal) (A0 a) (A1 a) (A2 a) (A3 a) i = ((a.dcb (i 1).val (i 0).val (i 2).val (i 3).val : ℝ) : EReal) := by
  rw [val_main_v167_apply]
  refine init_sum1 ((val_main_cst_22_apply _).trans ofBits_zero) _
    (show val_main_v155 (F := Ideal) (A0 a) (A1 a) (A2 a) (A3 a) (idx_main_v167 i 0) = _ from ?_)
  rw [val_main_v155_apply, unitPair, val_main_v154_apply]
  exact init_sum_real ((val_main_cst_17_apply _).trans ofBits_zero) _
    (fun e => a.P (i 1).val (i 0).val e (i 2).val (i 3).val * a.Lm (i 1).val (i 0).val e (i 2).val (i 3).val) fun k => by
    rw [val_main_v153_apply, r147, r35]; exact (EReal.coe_mul _ _).symm

theorem r170 (i : S16x128x8x128.Idx) :
    val_main_v170 (F := Ideal) (A0 a) (A1 a) (A2 a) (A3 a) i = ((a.dB (i 0).val (i 1).val (i 2).val (i 3).val : ℝ) : EReal) := by
  have h169 : val_main_v169 (F := Ideal) (A0 a) (A1 a) (A2 a) (A3 a) i
      = ((∑ l ∈ range 128, a.dcb (i 0).val (i 2).val l (i 1).val * a.C (i 0).val l (i 2).val (i 3).val : ℝ) : EReal) := by
    rw [val_main_v169_apply, val_main_v168_apply]
    exact sum_real _ _ fun k => by rw [r167, r5]; exact (EReal.coe_mul _ _).symm
  rw [val_main_v170_apply, r128, h169]; exact (EReal.coe_add _ _).symm

theorem r173 (i : S16x128x8x128.Idx) :
    val_main_v173 (F := Ideal) (A0 a) (A1 a) (A2 a) (A3 a) i = ((a.dC (i 0).val (i 1).val (i 2).val (i 3).val : ℝ) : EReal) := by
  have h172 : val_main_v172 (F := Ideal) (A0 a) (A1 a) (A2 a) (A3 a) i
      = ((∑ s ∈ range 128, a.dcb (i 0).val (i 2).val (i 1).val s * a.B (i 0).val s (i 2).val (i 3).val : ℝ) : EReal) := by
    rw [val_main_v172_apply, val_main_v171_apply]
    exact sum_real _ _ fun k => by rw [r167, r3]; exact (EReal.coe_mul _ _).symm
  rw [val_main_v173_apply, r102, h172]; exact (EReal.coe_add _ _).symm

theorem r175 (i : S16x128x8x8.Idx) :
    val_main_v175 (F := Ideal) (A0 a) (A1 a) (A2 a) (A3 a) i = ((a.dadt (i 0).val (i 2).val (i 3).val (i 1).val : ℝ) : EReal) := by
  rw [val_main_v175_apply]
  unfold val_main_v174 Host.reduceWindowAdd
  rw [show (val_main_call7_call0_v0 (F := Ideal)) (Shape.Idx.first h_S_) = 0 from
    (val_main_call7_call0_v0_apply _).trans ((val_main_call7_call0_cst_apply _).trans ofBits_zero)]
  exact suffix4 (n := 127) _ (fun g e c l => a.dcs c g e l) (r166 a) _ (idx_main_v175 i)

theorem r189 (i : S16x128x8x8.Idx) :
    val_main_v189 (F := Ideal) (A0 a) (A1 a) (A2 a) (A3 a) i = ((a.ddt (i 0).val (i 1).val (i 2).val (i 3).val : ℝ) : EReal) := by
  have h183 : ∀ i : S16x128x8x8.Idx, val_main_v183 (F := Ideal) (A0 a) (A1 a) (A2 a) (A3 a) i
      = ((∑ p ∈ range 64, a.xs (i 0).val (i 1).val (i 2).val (i 3).val p * a.dX (i 0).val (i 1).val (i 2).val (i 3).val p : ℝ) : EReal) := fun i => by
    rw [val_main_v183_apply]
    exact init_sum_real ((val_main_cst_25_apply _).trans ofBits_zero) _ _ fun k => by
      rw [val_main_v182_apply, r1, r150]; exact (EReal.coe_mul _ _).symm
  rw [val_main_v189_apply, val_main_v177_apply, val_main_v176_apply, val_main_v16_apply, r12, r175, val_main_v188_apply,
    init_sum1 ((val_main_cst_26_apply _).trans ofBits_zero) _
      (show val_main_v184 (F := Ideal) (A0 a) (A1 a) (A2 a) (A3 a) (idx_main_v188 i 0) = _ by
        rw [val_main_v184_apply, show idx_main_v184 (idx_main_v188 i 0) = i from unit4 _, h183])]
  exact (congrArg (· + _) (EReal.coe_mul _ _).symm).trans (EReal.coe_add _ _).symm

theorem r191 (i : S8x8.Idx) :
    val_main_v191 (F := Ideal) (A0 a) (A1 a) (A2 a) (A3 a) i = ((a.dal (i 0).val (i 1).val : ℝ) : EReal) := by
  have h0 : (i 0).val < 8 := (i 0).isLt
  have h1 : (i 1).val < 8 := (i 1).isLt
  have h179 : val_main_v179 (F := Ideal) (A0 a) (A1 a) (A2 a) (A3 a) i
      = ((∑ c ∈ range 16, ∑ l ∈ range 128, a.dadt c (i 0).val (i 1).val l * a.dt c l (i 0).val (i 1).val : ℝ) : EReal) := by
    unfold val_main_v179
    simp only [Host.reduceAdd, Ideal.hostReduceAdd_def]
    rw [(val_main_cst_23_apply (F := Ideal) (Shape.Idx.first h_S_)).trans ofBits_zero, sum_outer _ (drop_outer _)]
    exact double_sum _ _ fun c l => by rw [val_main_v178_apply, r175, r7]; exact (EReal.coe_mul _ _).symm
  have h181 : val_main_v181 (F := Ideal) (A0 a) (A1 a) (A2 a) (A3 a) i
      = ((∑ c ∈ range 16, ∑ l ∈ range 128, a.dadt c (i 0).val (i 1).val l * a.dt c l (i 0).val (i 1).val : ℝ) : EReal) := by
    unfold val_main_v181
    simp only [Host.reduceAdd, Ideal.hostReduceAdd_def]
    rw [(val_main_cst_24_apply (F := Ideal) (Shape.Idx.first h_S_)).trans ofBits_zero, sum_outer _ (drop_outer _),
      Fintype.sum_unique, Fintype.sum_unique, val_main_v180_apply,
      show idx_main_v180 (ix4 (default : Fin 1) (default : Fin 1) (i 0) (i 1)) = i from funext fun b => by
        match b with
        | ⟨0, _⟩ => exact Fin.ext (show (((0 * 1 + 0) * 8 + (i 0).val) * 8 + (i 1).val) / 8 = (i 0).val by omega)
        | ⟨1, _⟩ => exact Fin.ext (show (((0 * 1 + 0) * 8 + (i 0).val) * 8 + (i 1).val) % 8 = (i 1).val by omega), h179]
  rw [val_main_v191_apply, val_main_v190_apply, h181, r11, Ideal.hostNegf_def, Ideal.negf_def, ← EReal.coe_neg, Ideal.mulf_def, ← EReal.coe_mul]
  refine congrArg _ ?_
  rw [Args.dal, Args.A]; ring

theorem r187 (i : S16x128x8x8x64.Idx) :
    val_main_v187 (F := Ideal) (A0 a) (A1 a) (A2 a) (A3 a) (A4 a) i = ((a.dxs (i 0).val (i 1).val (i 2).val (i 3).val (i 4).val : ℝ) : EReal) := by
  rw [val_main_v187_apply, r91, val_main_v186_apply, r150, val_main_v185_apply, val_main_v13_apply, r7, Ideal.mulf_def, ← EReal.coe_mul,
    Ideal.addf_def, ← EReal.coe_add, mul_comm (a.dk _ _ _)]
  rfl

/- The five results. -/

theorem coe5 {f : ℕ → ℕ → ℕ → ℕ → ℕ → ℝ} {x y z u v x' y' z' u' v' : ℕ} (h0 : x = x') (h1 : y = y') (h2 : z = z') (h3 : u = u') (h4 : v = v') :
    ((f x y z u v : ℝ) : EReal) = ((f x' y' z' u' v' : ℝ) : EReal) := by rw [h0, h1, h2, h3, h4]

theorem coe4 {f : ℕ → ℕ → ℕ → ℕ → ℝ} {x y z u x' y' z' u' : ℕ} (h0 : x = x') (h1 : y = y') (h2 : z = z') (h3 : u = u') :
    ((f x y z u : ℝ) : EReal) = ((f x' y' z' u' : ℝ) : EReal) := by rw [h0, h1, h2, h3]

theorem sitofp_zero : FloatOps.sitofp (F := Ideal) .f32 (0#32) = 0 := by
  show (((0#32).toInt : ℝ) : EReal) = 0
  simp

theorem r193 (i : S2048x6144.Idx) (h : (i 1).val < 4096) :
    val_main_v193 (F := Ideal) (A0 a) (A1 a) (A2 a) (A3 a) (A4 a) i
      = ((a.dxs ((i 0).val / 128) ((i 0).val % 128) ((i 1).val / 512) ((i 1).val / 64 % 8) ((i 1).val % 64) : ℝ) : EReal) := by
  unfold val_main_v193
  refine (pad_apply_of_inside _ _ _ _ _ _ _ i (ix2 (i 0) (⟨(i 1).val, h⟩ : Fin 4096)) fun b => ?_).trans ?_
  · match b with
    | ⟨0, _⟩ => show (i 0).val = 0 + (i 0).val * 1; omega
    | ⟨1, _⟩ => show (i 1).val = 0 + (i 1).val * 1; omega
  · refine (val_main_v192_apply _ _ _ _ _ _).trans ((r187 a _).trans ?_)
    have h0 : (i 0).val < 2048 := (i 0).isLt
    exact coe5 (f := a.dxs)
      (show ((i 0).val * 4096 + (i 1).val) / 524288 = (i 0).val / 128 by omega)
      (show ((i 0).val * 4096 + (i 1).val) / 4096 % 128 = (i 0).val % 128 by omega)
      (show ((i 0).val * 4096 + (i 1).val) / 512 % 8 = (i 1).val / 512 by omega)
      (show ((i 0).val * 4096 + (i 1).val) / 64 % 8 = (i 1).val / 64 % 8 by omega)
      (show ((i 0).val * 4096 + (i 1).val) % 64 = (i 1).val % 64 by omega)

theorem r194 (i : S2048x1024.Idx) :
    val_main_v194 (F := Ideal) (A0 a) (A1 a) (A2 a) (A3 a) i
      = ((a.dB ((i 0).val / 128) ((i 0).val % 128) ((i 1).val / 128) ((i 1).val % 128) : ℝ) : EReal) := by
  have h0 : (i 0).val < 2048 := (i 0).isLt
  have h1 : (i 1).val < 1024 := (i 1).isLt
  rw [val_main_v194_apply, r170]
  exact coe4 (f := a.dB)
    (show ((i 0).val * 1024 + (i 1).val) / 131072 = (i 0).val / 128 by omega)
    (show ((i 0).val * 1024 + (i 1).val) / 1024 % 128 = (i 0).val % 128 by omega)
    (show ((i 0).val * 1024 + (i 1).val) / 128 % 8 = (i 1).val / 128 by omega)
    (show ((i 0).val * 1024 + (i 1).val) % 128 = (i 1).val % 128 by omega)

theorem r195 (i : S2048x1024.Idx) :
    val_main_v195 (F := Ideal) (A0 a) (A1 a) (A2 a) (A3 a) i
      = ((a.dC ((i 0).val / 128) ((i 0).val % 128) ((i 1).val / 128) ((i 1).val % 128) : ℝ) : EReal) := by
  have h0 : (i 0).val < 2048 := (i 0).isLt
  have h1 : (i 1).val < 1024 := (i 1).isLt
  rw [val_main_v195_apply, r173]
  exact coe4 (f := a.dC)
    (show ((i 0).val * 1024 + (i 1).val) / 131072 = (i 0).val / 128 by omega)
    (show ((i 0).val * 1024 + (i 1).val) / 1024 % 128 = (i 0).val % 128 by omega)
    (show ((i 0).val * 1024 + (i 1).val) / 128 % 8 = (i 1).val / 128 by omega)
    (show ((i 0).val * 1024 + (i 1).val) % 128 = (i 1).val % 128 by omega)

theorem r196 (i : S16x128x8x128.Idx) :
    val_main_v196 (F := Ideal) (A0 a) (A1 a) (A2 a) (A3 a) i
      = ((if (i 3).val < 8 then a.ddt (i 0).val (i 1).val (i 2).val (i 3).val else 0 : ℝ) : EReal) := by
  unfold val_main_v196
  by_cases h : (i 3).val < 8
  · refine (pad_apply_of_inside _ _ _ _ _ _ _ i (ix4 (i 0) (i 1) (i 2) (⟨(i 3).val, h⟩ : Fin 8)) fun b => ?_).trans ?_
    · match b with
      | ⟨0, _⟩ => show (i 0).val = 0 + (i 0).val * 1; omega
      | ⟨1, _⟩ => show (i 1).val = 0 + (i 1).val * 1; omega
      | ⟨2, _⟩ => show (i 2).val = 0 + (i 2).val * 1; omega
      | ⟨3, _⟩ => show (i 3).val = 0 + (i 3).val * 1; omega
    · rw [if_pos h]; exact r189 a _
  · refine (pad_apply_of_not_inside _ _ _ _ _ _ _ i (3 : Fin 4) fun hh => h ?_).trans ?_
    · have := hh.2.2
      change ((i 3).val - 0) / 1 < 8 at this; omega
    · rw [val_main_call9_v0_apply, val_main_c_27_apply, sitofp_zero, if_neg h]; rfl

theorem r197 (i : S2048x1024.Idx) :
    val_main_v197 (F := Ideal) (A0 a) (A1 a) (A2 a) (A3 a) i
      = ((if (i 1).val % 128 < 8 then a.ddt ((i 0).val / 128) ((i 0).val % 128) ((i 1).val / 128) ((i 1).val % 128) else 0 : ℝ) : EReal) := by
  have h0 : (i 0).val < 2048 := (i 0).isLt
  have h1 : (i 1).val < 1024 := (i 1).isLt
  rw [val_main_v197_apply, r196]
  exact coe4 (f := fun c l g e => if e < 8 then a.ddt c l g e else 0)
    (show ((i 0).val * 1024 + (i 1).val) / 131072 = (i 0).val / 128 by omega)
    (show ((i 0).val * 1024 + (i 1).val) / 1024 % 128 = (i 0).val % 128 by omega)
    (show ((i 0).val * 1024 + (i 1).val) / 128 % 8 = (i 1).val / 128 by omega)
    (show ((i 0).val * 1024 + (i 1).val) % 128 = (i 1).val % 128 by omega)

theorem r198 (i : S8x128.Idx) :
    val_main_v198 (F := Ideal) (A0 a) (A1 a) (A2 a) (A3 a) i
      = ((if (i 1).val < 8 then a.dal (i 0).val (i 1).val else 0 : ℝ) : EReal) := by
  unfold val_main_v198
  by_cases h : (i 1).val < 8
  · refine (pad_apply_of_inside _ _ _ _ _ _ _ i (ix2 (i 0) (⟨(i 1).val, h⟩ : Fin 8)) fun b => ?_).trans ?_
    · match b with
      | ⟨0, _⟩ => show (i 0).val = 0 + (i 0).val * 1; omega
      | ⟨1, _⟩ => show (i 1).val = 0 + (i 1).val * 1; omega
    · rw [if_pos h]; exact r191 a _
  · refine (pad_apply_of_not_inside _ _ _ _ _ _ _ i (1 : Fin 2) fun hh => h ?_).trans ?_
    · have := hh.2.2
      change ((i 1).val - 0) / 1 < 8 at this; omega
    · rw [val_main_call10_v0_apply, val_main_c_28_apply, sitofp_zero, if_neg h]; rfl

theorem r199 (i : S1x1024.Idx) :
    val_main_v199 (F := Ideal) (A0 a) (A1 a) (A2 a) (A3 a) i
      = ((if (i 1).val % 128 < 8 then a.dal ((i 1).val / 128) ((i 1).val % 128) else 0 : ℝ) : EReal) := by
  have h0 : (i 0).val < 1 := (i 0).isLt
  have h1 : (i 1).val < 1024 := (i 1).isLt
  rw [val_main_v199_apply, r198]
  exact coe2 (f := fun g e => if e < 8 then a.dal g e else 0)
    (show ((i 0).val * 1024 + (i 1).val) / 128 = (i 1).val / 128 by omega)
    (show ((i 0).val * 1024 + (i 1).val) % 128 = (i 1).val % 128 by omega)

end Ssd
-- ==== Proof.Arrays.lean ====
/- The five result arrays of the backward kernel, put together from the blocks its grid points write. -/
module

public import proofs.«01_k».proof.Proof.Carry
public import proofs.«01_k».proof.Proof.RefBwd
public import Idealize.ShloMosaic.Lib.Pipeline.ValueKit

@[expose] public section

set_option maxRecDepth 16384

noncomputable section

namespace Ssd

open Idealize.ShloMosaic hiding ix0 ix1 ix2 ix3 ix4 ix5 ix6 eq_ix2 eq_ix3 eq_ix4 eq_ix5
open Idealize.ShloMosaic.ValueIdx Finset
open Cert.KernelIdeal Cert.KernelIdeal.Gen Cert.KernelIdeal.Value Idealize.SL.Sem
open Idealize.ShloMosaic.TcCoe

variable {m : (ℓ : Loc nD τ sig) → Buf (Elt Ideal) ℓ} {c : Dev nD} {a : Args}

theorem leaves_at (h : Holds m c a) (t : Fin cfg0.N) : ∃ ds, Leaves m c a t ds := leaves h t.val t.isLt

theorem arr_dxs (h : Holds m c a) (i : S2048x6144.Idx) (hi : (i 1).val < 4096) :
    ((dats m 0 c).arrAt 10 cfg0.N : FVec Ideal S2048x6144 .f32) i
      = ((a.dxs ((i 0).val / 128) ((i 0).val % 128) ((i 1).val / 512) ((i 1).val / 64 % 8) ((i 1).val % 64) : ℝ) : EReal) := by
  refine ((dats m 0 c).arrAt_apply_of_coversWhere (P := fun i => ((i 1 : Fin _) : ℕ) / 512 < 8) 10 (fun i : S2048x6144.Idx =>
    ((a.dxs ((i 0).val / 128) ((i 0).val % 128) ((i 1).val / 512) ((i 1).val / 64 % 8) ((i 1).val % 64) : ℝ) : EReal))
    (fun β => β (1 : Fin _) < 8) (by decide +kernel) (fun t hf y => ?_) (fun j => Iff.rfl) i).trans (if_pos ?_)
  · blk_simp
    rw [after0_10]
    obtain ⟨ds, L⟩ := leaves_at h t
    obtain ⟨e0, e1⟩ := at10 t
    rw [L.dxs, L.reads.dxsAll]
    have b0 : (y 0).val < 128 := (y 0).isLt
    have b1 : (y 1).val < 512 := (y 1).isLt
    refine coe5i (f := a.dxs) ?_ ?_ ?_ ?_ ?_
    · blk_simp [e0]; omega
    · blk_simp [e0]; omega
    · blk_simp [e1]; omega
    · blk_simp [e1]; omega
    · blk_simp [e1]; omega
  · show (i 1).val / 512 < 8
    omega

theorem arr_dB (h : Holds m c a) : ((dats m 0 c).arrAt 11 cfg0.N : FVec Ideal S2048x1024 .f32)
    = fun i => ((a.dB ((i 0).val / 128) ((i 0).val % 128) ((i 1).val / 128) ((i 1).val % 128) : ℝ) : EReal) := by
  refine (dats m 0 c).arrAt_eq_of_covers 11 _ (by decide +kernel) fun t hf y => ?_
  blk_simp
  rw [after0_11]
  obtain ⟨ds, L⟩ := leaves_at h t
  obtain ⟨e0, e1⟩ := at11 t
  rw [L.dB, L.reads.dBAll]
  have b0 : (y 0).val < 128 := (y 0).isLt
  have b1 : (y 1).val < 128 := (y 1).isLt
  refine coe4 (f := a.dB) ?_ ?_ ?_ ?_
  · blk_simp [e0]; omega
  · blk_simp [e0]; omega
  · blk_simp [e1]; omega
  · blk_simp [e1]; omega

theorem arr_dC (h : Holds m c a) : ((dats m 0 c).arrAt 12 cfg0.N : FVec Ideal S2048x1024 .f32)
    = fun i => ((a.dC ((i 0).val / 128) ((i 0).val % 128) ((i 1).val / 128) ((i 1).val % 128) : ℝ) : EReal) := by
  refine (dats m 0 c).arrAt_eq_of_covers 12 _ (by decide +kernel) fun t hf y => ?_
  blk_simp
  rw [after0_12]
  obtain ⟨ds, L⟩ := leaves_at h t
  obtain ⟨e0, e1⟩ := at12 t
  rw [L.dC, L.reads.dCAll]
  have b0 : (y 0).val < 128 := (y 0).isLt
  have b1 : (y 1).val < 128 := (y 1).isLt
  refine coe4 (f := a.dC) ?_ ?_ ?_ ?_
  · blk_simp [e0]; omega
  · blk_simp [e0]; omega
  · blk_simp [e1]; omega
  · blk_simp [e1]; omega

theorem arr_ddt (h : Holds m c a) : ((dats m 0 c).arrAt 13 cfg0.N : FVec Ideal S2048x1024 .f32)
    = fun i => ((if (i 1).val % 128 < 8 then a.ddt ((i 0).val / 128) ((i 0).val % 128) ((i 1).val / 128) ((i 1).val % 128) else 0 : ℝ) : EReal) := by
  refine (dats m 0 c).arrAt_eq_of_covers 13 _ (by decide +kernel) fun t hf y => ?_
  blk_simp
  rw [after0_13]
  obtain ⟨ds, L⟩ := leaves_at h t
  obtain ⟨e0, e1⟩ := at13 t
  rw [L.ddt, L.reads.ddtAll (by omega)]
  have b0 : (y 0).val < 128 := (y 0).isLt
  have b1 : (y 1).val < 128 := (y 1).isLt
  refine coe4 (f := fun k l g e => if e < 8 then a.ddt k l g e else 0) ?_ ?_ ?_ ?_
  · blk_simp [e0]; omega
  · blk_simp [e0]; omega
  · blk_simp [e1]; omega
  · blk_simp [e1]; omega

theorem arr_dal (h : Holds m c a) : ((dats m 0 c).arrAt 14 cfg0.N : FVec Ideal S1x1024 .f32)
    = fun i => ((if (i 1).val % 128 < 8 then a.dal ((i 1).val / 128) ((i 1).val % 128) else 0 : ℝ) : EReal) := by
  refine (dats m 0 c).arrAt_eq_of_covers 14 _ (by decide +kernel) fun t hf y => ?_
  have hl := (flush0_14 t).mp hf
  blk_simp
  rw [after0_14]
  obtain ⟨e0, e1⟩ := at14 t
  rw [dal_last h t.val t.isLt hl]
  have b1 : (y 1).val < 128 := (y 1).isLt
  refine coe2 (f := fun g e => if e < 8 then a.dal g e else 0) ?_ ?_
  · blk_simp [e1]; omega
  · blk_simp [e1]; omega

end Ssd
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Pre
public import proofs.«01_k».proof.Proof.FfnClaim
public import proofs.«01_k».proof.Proof.ProjClaim
public import proofs.«01_k».proof.Proof.MixClaim
public import proofs.«01_k».proof.Proof.DownClaim
public import proofs.«01_k».proof.Proof.DxClaim
public import proofs.«01_k».proof.Proof.Arrays
public import Idealize.ShloMosaic.Lib.Quiescent

@[expose] public section

noncomputable section

namespace Cert.Proof

open Idealize.ShloMosaic Idealize.SL.Sem Ssd

/-- Under the precondition every device's arguments are arrays of real numbers. -/
theorem holds_of_pre [Cert.Pre_finite.Facts] {m : (ℓ : Loc Cert.KernelIdeal.nD Cert.KernelIdeal.τ Cert.KernelIdeal.sig) → Buf (Elt Ideal) ℓ}
    (h : Cert.Pre_KernelIdeal_finite m) (c : Dev Cert.KernelIdeal.nD) : ∃ a, Holds m c a := by
  obtain ⟨r0, r1, r2, r3, r4, hn⟩ := fn_says _ _ _ _ _ (h c)
  refine ⟨⟨real2 _, real2 _, real2 _, real2 _, real2 _⟩, eq_up2_real2 _ r0, eq_up2_real2 _ r1, eq_up2_real2 _ r2, eq_up2_real2 _ r3,
    eq_up2_real2 _ r4, fun i _ j _ => ?_⟩
  exact real2_nonneg _ hn i j

section
variable {m : (ℓ : Loc Cert.KernelIdeal.nD Cert.KernelIdeal.τ Cert.KernelIdeal.sig) → Buf (Elt Ideal) ℓ} {c : Dev Cert.KernelIdeal.nD}
  {a : Args}

open Cert.KernelIdeal Cert.KernelIdeal.Gen Cert.ReferenceIdeal.Read

/- The kernel's five arrays are the reference's. -/

theorem dxs_eq (h : Holds m c a) (i : S2048x6144.Idx) (hi : (i 1).val < 4096) :
    ((dats m 0 c).arrAt 10 cfg0.N : FVec Ideal S2048x6144 .f32) i = val_main_v193 (F := Ideal) (m (c.tc.loc main_arg0)) (m (c.tc.loc main_arg1))
      (m (c.tc.loc main_arg2)) (m (c.tc.loc main_arg3)) (m (c.tc.loc main_arg4)) i := by
  rw [h.h0, h.h1, h.h2, h.h3, h.h4]
  exact (arr_dxs h i hi).trans (r193 a i hi).symm

theorem dB_eq (h : Holds m c a) : ((dats m 0 c).arrAt 11 cfg0.N : FVec Ideal S2048x1024 .f32)
    = val_main_v194 (F := Ideal) (m (c.tc.loc main_arg0)) (m (c.tc.loc main_arg1)) (m (c.tc.loc main_arg2)) (m (c.tc.loc main_arg3)) := by
  rw [h.h0, h.h1, h.h2, h.h3]
  exact (arr_dB h).trans (funext fun i => (r194 a i).symm)

theorem dC_eq (h : Holds m c a) : ((dats m 0 c).arrAt 12 cfg0.N : FVec Ideal S2048x1024 .f32)
    = val_main_v195 (F := Ideal) (m (c.tc.loc main_arg0)) (m (c.tc.loc main_arg1)) (m (c.tc.loc main_arg2)) (m (c.tc.loc main_arg3)) := by
  rw [h.h0, h.h1, h.h2, h.h3]
  exact (arr_dC h).trans (funext fun i => (r195 a i).symm)

theorem ddt_eq (h : Holds m c a) : ((dats m 0 c).arrAt 13 cfg0.N : FVec Ideal S2048x1024 .f32)
    = val_main_v197 (F := Ideal) (m (c.tc.loc main_arg0)) (m (c.tc.loc main_arg1)) (m (c.tc.loc main_arg2)) (m (c.tc.loc main_arg3)) := by
  rw [h.h0, h.h1, h.h2, h.h3]
  exact (arr_ddt h).trans (funext fun i => (r197 a i).symm)

theorem dal_eq (h : Holds m c a) : ((dats m 0 c).arrAt 14 cfg0.N : FVec Ideal S1x1024 .f32)
    = val_main_v199 (F := Ideal) (m (c.tc.loc main_arg0)) (m (c.tc.loc main_arg1)) (m (c.tc.loc main_arg2)) (m (c.tc.loc main_arg3)) := by
  rw [h.h0, h.h1, h.h2, h.h3]
  exact (arr_dal h).trans (funext fun i => (r199 a i).symm)

end

theorem reference_frame : Cert.quiescent_ReferenceIdeal (hReferenceIdeal := Cert.ReferenceIdeal.Gen.facts) := fun m ρ _ =>
  (θ_run _ _ _).mono (fun r h => ⟨fun c => (h c).2.2.2.2.2, sem_eq_zero_of_no_sems rfl r.2⟩) (Cert.ReferenceIdeal.Value.run m ρ)

theorem reference_frame_pre : Cert.quiescent_ReferenceIdeal_pre_finite (hReferenceIdeal := Cert.ReferenceIdeal.Gen.facts) (hPre_finite := pre_facts) :=
  fun m ρ _ => (θ_run _ _ _).mono (fun r h => ⟨fun c => (h c).2.2.2.2.2, sem_eq_zero_of_no_sems rfl r.2⟩) (Cert.ReferenceIdeal.Value.run m ρ)

theorem algebraic [hP : Cert.Pre_finite.Facts] [hO : Cert.On_written.Facts] :
    Cert.algebraic_KernelIdeal_ReferenceIdeal_on_written_pre_finite (hKernelIdeal := Cert.KernelIdeal.Gen.facts)
      (hReferenceIdeal := Cert.ReferenceIdeal.Gen.facts) := by
  intro m g m' g' hpre hm
  refine ⟨fun c => Cert.ReferenceIdeal.Read.val_main_v193 (F := Ideal) (m (c.tc.loc Cert.KernelIdeal.main_arg0))
      (m (c.tc.loc Cert.KernelIdeal.main_arg1)) (m (c.tc.loc Cert.KernelIdeal.main_arg2)) (m (c.tc.loc Cert.KernelIdeal.main_arg3))
      (m (c.tc.loc Cert.KernelIdeal.main_arg4)),
    fun c => Cert.ReferenceIdeal.Read.val_main_v194 (F := Ideal) (m (c.tc.loc Cert.KernelIdeal.main_arg0))
      (m (c.tc.loc Cert.KernelIdeal.main_arg1)) (m (c.tc.loc Cert.KernelIdeal.main_arg2)) (m (c.tc.loc Cert.KernelIdeal.main_arg3)),
    fun c => Cert.ReferenceIdeal.Read.val_main_v195 (F := Ideal) (m (c.tc.loc Cert.KernelIdeal.main_arg0))
      (m (c.tc.loc Cert.KernelIdeal.main_arg1)) (m (c.tc.loc Cert.KernelIdeal.main_arg2)) (m (c.tc.loc Cert.KernelIdeal.main_arg3)),
    fun c => Cert.ReferenceIdeal.Read.val_main_v197 (F := Ideal) (m (c.tc.loc Cert.KernelIdeal.main_arg0))
      (m (c.tc.loc Cert.KernelIdeal.main_arg1)) (m (c.tc.loc Cert.KernelIdeal.main_arg2)) (m (c.tc.loc Cert.KernelIdeal.main_arg3)),
    fun c => Cert.ReferenceIdeal.Read.val_main_v199 (F := Ideal) (m (c.tc.loc Cert.KernelIdeal.main_arg0))
      (m (c.tc.loc Cert.KernelIdeal.main_arg1)) (m (c.tc.loc Cert.KernelIdeal.main_arg2)) (m (c.tc.loc Cert.KernelIdeal.main_arg3)), ?_, ?_⟩
  · refine (θ_run _ _ _).mono (fun r h c => ?_) (Cert.KernelIdeal.Value.run_blocks m g)
    obtain ⟨h0, h1, h2, h3, h4, k⟩ := h c
    obtain ⟨a, H⟩ := holds_of_pre hpre c
    exact ⟨fun i hi => (congrFun h0 i).trans (dxs_eq H i (on_col _ _ _ _ _ i hi)), fun i _ => congrFun (h1.trans (dB_eq H)) i,
      fun i _ => congrFun (h2.trans (dC_eq H)) i, fun i _ => congrFun (h3.trans (ddt_eq H)) i,
      fun i _ => congrFun (h4.trans (dal_eq H)) i, k⟩
  · refine (θ_run _ _ _).mono (fun r h c => ?_) (Cert.ReferenceIdeal.Value.run m' g')
    obtain ⟨h0, h1, h2, h3, h4, k⟩ := h c
    obtain ⟨e0, e1, e2, e3, e4⟩ := hm c
    have a0 : StableHlo.launchContents m' c (Proc.devRef .tc Cert.ReferenceIdeal.main_arg0) = m (c.tc.loc Cert.KernelIdeal.main_arg0) := e0
    have a1 : StableHlo.launchContents m' c (Proc.devRef .tc Cert.ReferenceIdeal.main_arg1) = m (c.tc.loc Cert.KernelIdeal.main_arg1) := e1
    have a2 : StableHlo.launchContents m' c (Proc.devRef .tc Cert.ReferenceIdeal.main_arg2) = m (c.tc.loc Cert.KernelIdeal.main_arg2) := e2
    have a3 : StableHlo.launchContents m' c (Proc.devRef .tc Cert.ReferenceIdeal.main_arg3) = m (c.tc.loc Cert.KernelIdeal.main_arg3) := e3
    have a4 : StableHlo.launchContents m' c (Proc.devRef .tc Cert.ReferenceIdeal.main_arg4) = m (c.tc.loc Cert.KernelIdeal.main_arg4) := e4
    rw [Cert.ReferenceIdeal.Read.val_main_v193_eq, a0, a1, a2, a3, a4] at h0
    rw [Cert.ReferenceIdeal.Read.val_main_v194_eq, a0, a1, a2, a3] at h1
    rw [Cert.ReferenceIdeal.Read.val_main_v195_eq, a0, a1, a2, a3] at h2
    rw [Cert.ReferenceIdeal.Read.val_main_v197_eq, a0, a1, a2, a3] at h3
    rw [Cert.ReferenceIdeal.Read.val_main_v199_eq, a0, a1, a2, a3] at h4
    exact ⟨fun i _ => congrFun h0 i, fun i _ => congrFun h1 i, fun i _ => congrFun h2 i, fun i _ => congrFun h3 i,
      fun i _ => congrFun h4 i, k⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, pre_facts, Ffn.pre_facts, on_facts,
  fun m ρ _ => Cert.Kernel.Gen.frame m ρ, fun m ρ _ => Cert.KernelIdeal.Gen.frame m ρ, fun m ρ _ => Cert.KernelIdeal.Gen.frame m ρ,
  reference_frame, reference_frame_pre,
  fun m ρ _ => Cert.Kernel2.Gen.frame m ρ, fun m ρ _ => Cert.Kernel2Ideal.Gen.frame m ρ, fun m ρ _ => Cert.Kernel2Ideal.Gen.frame m ρ,
  Ffn.reference_frame, Ffn.reference_frame_pre,
  fun m ρ _ => Cert.Kernel3.Gen.frame m ρ, fun m ρ _ => Cert.Kernel3Ideal.Gen.frame m ρ, Proj.reference_frame,
  fun m ρ _ => Cert.Kernel4.Gen.frame m ρ, fun m ρ _ => Cert.Kernel4Ideal.Gen.frame m ρ, Mix.reference_frame,
  fun m ρ _ => Cert.Kernel5.Gen.frame m ρ, fun m ρ _ => Cert.Kernel5Ideal.Gen.frame m ρ, Down.reference_frame,
  fun m ρ _ => Cert.Kernel6.Gen.frame m ρ, fun m ρ _ => Cert.Kernel6Ideal.Gen.frame m ρ, GateDx.reference_frame,
  fun m ρ _ => Cert.Kernel7.Gen.frame m ρ, fun m ρ _ => Cert.Kernel7Ideal.Gen.frame m ρ, UpDx.reference_frame,
  trivial, algebraic (hP := pre_facts) (hO := on_facts), trivial, Ffn.algebraic (hP := Ffn.pre_facts), trivial, Proj.algebraic,
  trivial, Mix.algebraic, trivial, Down.algebraic, trivial, GateDx.algebraic, trivial, UpDx.algebraic⟩

end Cert.Proof

end
